-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v49) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v36) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v9) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)) →
    ∃ (v0 : (c : Dev Cert.Kernel11Ideal.nD) → Buf (Elt Ideal) ((c.tc : Thread Cert.Kernel11Ideal.nD Cert.Kernel11Ideal.τ).loc Cert.Kernel11Ideal.main_v34_0)) (v1 : (c : Dev Cert.Kernel11Ideal.nD) → Buf (Elt Ideal) ((c.tc : Thread Cert.Kernel11Ideal.nD Cert.Kernel11Ideal.τ).loc Cert.Kernel11Ideal.main_v34_1)) (v2 : (c : Dev Cert.Kernel11Ideal.nD) → Buf (Elt Ideal) ((c.tc : Thread Cert.Kernel11Ideal.nD Cert.Kernel11Ideal.τ).loc Cert.Kernel11Ideal.main_v34_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v34_0) = v0 c
          ∧ r.2.mem ((c.tc : Thread Cert.Kernel11Ideal.nD Cert.Kernel11Ideal.τ).loc Cert.Kernel11Ideal.main_v34_1) = v1 c
          ∧ r.2.mem ((c.tc : Thread Cert.Kernel11Ideal.nD Cert.Kernel11Ideal.τ).loc Cert.Kernel11Ideal.main_v34_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v106) = v0 c
          ∧ r.2.mem ((c.tc : Thread Cert.Reference11Ideal.nD Cert.Reference11Ideal.τ).loc Cert.Reference11Ideal.main_v108) = v1 c
          ∧ r.2.mem ((c.tc : Thread Cert.Reference11Ideal.nD Cert.Reference11Ideal.τ).loc Cert.Reference11Ideal.main_v110) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite_qk.lean ====
abbrev S2x4096x12x128 : Shape := ⟨4, ![2, 4096, 12, 128]⟩
abbrev S2x4096x12x64 : Shape := ⟨4, ![2, 4096, 12, 64]⟩
abbrev S2x4096x64 : Shape := ⟨3, ![2, 4096, 64]⟩
abbrev S2x256x12x128 : Shape := ⟨4, ![2, 256, 12, 128]⟩
abbrev S2x256x12x64 : Shape := ⟨4, ![2, 256, 12, 64]⟩
abbrev S2x256x64 : Shape := ⟨3, ![2, 256, 64]⟩
abbrev S_ : Shape := ⟨0, ![]⟩

class Facts : Prop where
  bcast_S_S2x4096x12x128 : S_.BroadcastsInDim S2x4096x12x128 (![] : Fin 0 → Fin S2x4096x12x128.rank)
  reducesTo_S2x4096x12x128_S_d0_1_2_3 : S2x4096x12x128.ReducesTo [0, 1, 2, 3] S_
  h_S_ : 0 < S_.numel
  bcast_S_S2x4096x12x64 : S_.BroadcastsInDim S2x4096x12x64 (![] : Fin 0 → Fin S2x4096x12x64.rank)
  reducesTo_S2x4096x12x64_S_d0_1_2_3 : S2x4096x12x64.ReducesTo [0, 1, 2, 3] S_
  bcast_S_S2x4096x64 : S_.BroadcastsInDim S2x4096x64 (![] : Fin 0 → Fin S2x4096x64.rank)
  reducesTo_S2x4096x64_S_d0_1_2 : S2x4096x64.ReducesTo [0, 1, 2] S_
  bcast_S_S2x256x12x128 : S_.BroadcastsInDim S2x256x12x128 (![] : Fin 0 → Fin S2x256x12x128.rank)
  reducesTo_S2x256x12x128_S_d0_1_2_3 : S2x256x12x128.ReducesTo [0, 1, 2, 3] S_
  bcast_S_S2x256x64 : S_.BroadcastsInDim S2x256x64 (![] : Fin 0 → Fin S2x256x64.rank)
  reducesTo_S2x256x64_S_d0_1_2 : S2x256x64.ReducesTo [0, 1, 2] S_

variable [Facts]

def fn_part1 {F : FTy → Type} [FloatOps F] (main_arg7 : FVec F S2x256x12x128 .f32) (main_arg8 : FVec F S2x256x64 .f32) (main_v3 : IVec S_ 1) (main_v7 : IVec S_ 1) (main_v11 : IVec S_ 1) (main_v15 : IVec S_ 1) : IVec S_ 1 :=
  let main_v16 : FVec F S2x256x12x128 .f32 := Host.absf main_arg7
  let main_cst_6 : FVec F S_ .f32 := constant S_ .f32 0x7F800000#32
  let main_v17 : FVec F S2x256x12x128 .f32 := broadcastInDim S2x256x12x128 ![] bcast_S_S2x256x12x128 main_cst_6
  let main_v18 : IVec S2x256x12x128 1 := cmpf .olt main_v16 main_v17
  let main_c_7 : IVec S_ 1 := constantI S_ 1 1#1
  let main_v19 : IVec S_ 1 := (fun x v => Host.reduce IntOp.andi x v reducesTo_S2x256x12x128_S_d0_1_2_3 h_S_) main_v18 main_c_7
  let main_v20 : FVec F S2x256x64 .f32 := Host.absf main_arg8
  let main_cst_8 : FVec F S_ .f32 := constant S_ .f32 0x7F800000#32
  let main_v21 : FVec F S2x256x64 .f32 := broadcastInDim S2x256x64 ![] bcast_S_S2x256x64 main_cst_8
  let main_v22 : IVec S2x256x64 1 := cmpf .olt main_v20 main_v21
  let main_c_9 : IVec S_ 1 := constantI S_ 1 1#1
  let main_v23 : IVec S_ 1 := (fun x v => Host.reduce IntOp.andi x v reducesTo_S2x256x64_S_d0_1_2 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S2x4096x12x128 .f32) (main_arg1 : FVec F S2x4096x12x64 .f32) (main_arg2 : FVec F S2x4096x12x128 .f32) (main_arg3 : FVec F S2x4096x64 .f32) (main_arg4 : FVec F S2x4096x12x128 .f32) (main_arg5 : FVec F S2x256x12x128 .f32) (main_arg6 : FVec F S2x256x12x64 .f32) (main_arg7 : FVec F S2x256x12x128 .f32) (main_arg8 : FVec F S2x256x64 .f32) (main_arg9 : FVec F S2x256x12x128 .f32) : IVec S_ 1 :=
  let main_v0 : FVec F S2x4096x12x128 .f32 := Host.absf main_arg0
  let main_cst : FVec F S_ .f32 := constant S_ .f32 0x7F800000#32
  let main_v1 : FVec F S2x4096x12x128 .f32 := broadcastInDim S2x4096x12x128 ![] bcast_S_S2x4096x12x128 main_cst
  let main_v2 : IVec S2x4096x12x128 1 := cmpf .olt main_v0 main_v1
  let main_c : IVec S_ 1 := constantI S_ 1 1#1
  let main_v3 : IVec S_ 1 := (fun x v => Host.reduce IntOp.andi x v reducesTo_S2x4096x12x128_S_d0_1_2_3 h_S_) main_v2 main_c
  let main_v4 : FVec F S2x4096x12x64 .f32 := Host.absf main_arg1
  let main_cst_0 : FVec F S_ .f32 := constant S_ .f32 0x7F800000#32
  let main_v5 : FVec F S2x4096x12x64 .f32 := broadcastInDim S2x4096x12x64 ![] bcast_S_S2x4096x12x64 main_cst_0
  let main_v6 : IVec S2x4096x12x64 1 := cmpf .olt main_v4 main_v5
  let main_c_1 : IVec S_ 1 := constantI S_ 1 1#1
  let main_v7 : IVec S_ 1 := (fun x v => Host.reduce IntOp.andi x v reducesTo_S2x4096x12x64_S_d0_1_2_3 h_S_) main_v6 main_c_1
  let main_v8 : FVec F S2x4096x12x128 .f32 := Host.absf main_arg2
  let main_cst_2 : FVec F S_ .f32 := constant S_ .f32 0x7F800000#32
  let main_v9 : FVec F S2x4096x12x128 .f32 := broadcastInDim S2x4096x12x128 ![] bcast_S_S2x4096x12x128 main_cst_2
  let main_v10 : IVec S2x4096x12x128 1 := cmpf .olt main_v8 main_v9
  let main_c_3 : IVec S_ 1 := constantI S_ 1 1#1
  let main_v11 : IVec S_ 1 := (fun x v => Host.reduce IntOp.andi x v reducesTo_S2x4096x12x128_S_d0_1_2_3 h_S_) main_v10 main_c_3
  let main_v12 : FVec F S2x4096x64 .f32 := Host.absf main_arg3
  let main_cst_4 : FVec F S_ .f32 := constant S_ .f32 0x7F800000#32
  let main_v13 : FVec F S2x4096x64 .f32 := broadcastInDim S2x4096x64 ![] bcast_S_S2x4096x64 main_cst_4
  let main_v14 : IVec S2x4096x64 1 := cmpf .olt main_v12 main_v13
  let main_c_5 : IVec S_ 1 := constantI S_ 1 1#1
  let main_v15 : IVec S_ 1 := (fun x v => Host.reduce IntOp.andi x v reducesTo_S2x4096x64_S_d0_1_2 h_S_) main_v14 main_c_5
  fn_part1 (F := F) main_arg7 main_arg8 main_v3 main_v7 main_v11 main_v15
-- ==== Kernel.lean ====
abbrev S2x4096x12x128 : Shape := ⟨4, ![2, 4096, 12, 128]⟩
abbrev S2x4096x12x64 : Shape := ⟨4, ![2, 4096, 12, 64]⟩
abbrev S2x4096x64 : Shape := ⟨3, ![2, 4096, 64]⟩
abbrev S2x256x12x128 : Shape := ⟨4, ![2, 256, 12, 128]⟩
abbrev S2x256x12x64 : Shape := ⟨4, ![2, 256, 12, 64]⟩
abbrev S2x256x64 : Shape := ⟨3, ![2, 256, 64]⟩
abbrev S8192x12x128 : Shape := ⟨3, ![8192, 12, 128]⟩
abbrev S512x12x128 : Shape := ⟨3, ![512, 12, 128]⟩
abbrev S8704x12x128 : Shape := ⟨3, ![8704, 12, 128]⟩
abbrev S8192x12x64 : Shape := ⟨3, ![8192, 12, 64]⟩
abbrev S512x12x64 : Shape := ⟨3, ![512, 12, 64]⟩
abbrev S8704x12x64 : Shape := ⟨3, ![8704, 12, 64]⟩
abbrev S_ : Shape := ⟨0, ![]⟩
abbrev S8704x12x192 : Shape := ⟨3, ![8704, 12, 192]⟩
abbrev S8704x12x256 : Shape := ⟨3, ![8704, 12, 256]⟩
abbrev S8704x3072 : Shape := ⟨2, ![8704, 3072]⟩
abbrev S8192x64 : Shape := ⟨2, ![8192, 64]⟩
abbrev S512x64 : Shape := ⟨2, ![512, 64]⟩
abbrev S8704x64 : Shape := ⟨2, ![8704, 64]⟩
abbrev S8704x1x64 : Shape := ⟨3, ![8704, 1, 64]⟩
abbrev S8192x1536 : Shape := ⟨2, ![8192, 1536]⟩
abbrev S1024x256 : Shape := ⟨2, ![1024, 256]⟩
abbrev S4096x256 : Shape := ⟨2, ![4096, 256]⟩
abbrev S256x256 : Shape := ⟨2, ![256, 256]⟩
abbrev S1024x128 : Shape := ⟨2, ![1024, 128]⟩
abbrev S1024x4352 : Shape := ⟨2, ![1024, 4352]⟩
abbrev S512x256 : Shape := ⟨2, ![512, 256]⟩
abbrev S1024x512 : Shape := ⟨2, ![1024, 512]⟩
abbrev S1024 : Shape := ⟨1, ![1024]⟩
abbrev S1024x1 : Shape := ⟨2, ![1024, 1]⟩

abbrev nBuf : Space → Nat
  | .hbm => 57
  | .vmem => 16
  | .smem => 0
  | _ => 0

abbrev bufTy : (tb : Table) → Fin (tcTables nBuf tb) → BufTy
  | .hbm, ⟨0, _⟩ => ⟨S2x4096x12x128, .f32⟩
  | .hbm, ⟨1, _⟩ => ⟨S2x4096x12x64, .f32⟩
  | .hbm, ⟨2, _⟩ => ⟨S2x4096x12x128, .f32⟩
  | .hbm, ⟨3, _⟩ => ⟨S2x4096x64, .f32⟩
  | .hbm, ⟨4, _⟩ => ⟨S2x4096x12x128, .f32⟩
  | .hbm, ⟨5, _⟩ => ⟨S2x256x12x128, .f32⟩
  | .hbm, ⟨6, _⟩ => ⟨S2x256x12x64, .f32⟩
  | .hbm, ⟨7, _⟩ => ⟨S2x256x12x128, .f32⟩
  | .hbm, ⟨8, _⟩ => ⟨S2x256x64, .f32⟩
  | .hbm, ⟨9, _⟩ => ⟨S2x256x12x128, .f32⟩
  | .hbm, ⟨10, _⟩ => ⟨S8192x12x128, .f32⟩
  | .hbm, ⟨11, _⟩ => ⟨S512x12x128, .f32⟩
  | .hbm, ⟨12, _⟩ => ⟨S8704x12x128, .f32⟩
  | .hbm, ⟨13, _⟩ => ⟨S8192x12x64, .f32⟩
  | .hbm, ⟨14, _⟩ => ⟨S512x12x64, .f32⟩
  | .hbm, ⟨15, _⟩ => ⟨S8704x12x64, .f32⟩
  | .hbm, ⟨16, _⟩ => ⟨S_, .f32⟩
  | .hbm, ⟨17, _⟩ => ⟨S8704x12x64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8704x12x128, .f32⟩
  | .hbm, ⟨22, _⟩ => ⟨S8704x12x128, .f32⟩
  | .hbm, ⟨23, _⟩ => ⟨S8704x12x128, .f32⟩
  | .hbm, ⟨24, _⟩ => ⟨S8704x12x128, .f32⟩
  | .hbm, ⟨25, _⟩ => ⟨S_, .f32⟩
  | .hbm, ⟨26, _⟩ => ⟨S8704x12x64, .f32⟩
  | .hbm, ⟨27, _⟩ => ⟨S8704x12x64, .f32⟩
  | .hbm, ⟨28, _⟩ => ⟨S8704x12x64, .f32⟩
  | .hbm, ⟨29, _⟩ => ⟨S8704x12x64, .f32⟩
  | .hbm, ⟨30, _⟩ => ⟨S8704x12x192, .f32⟩
  | .hbm, ⟨31, _⟩ => ⟨S8704x12x256, .f32⟩
  | .hbm, ⟨32, _⟩ => ⟨S8704x3072, .f32⟩
  | .hbm, ⟨33, _⟩ => ⟨S8704x3072, .bf16⟩
  | .hbm, ⟨34, _⟩ => ⟨S8192x12x128, .f32⟩
  | .hbm, ⟨35, _⟩ => ⟨S512x12x128, .f32⟩
  | .hbm, ⟨36, _⟩ => ⟨S8704x12x128, .f32⟩
  | .hbm, ⟨37, _⟩ => ⟨S8192x64, .f32⟩
  | .hbm, ⟨38, _⟩ => ⟨S512x64, .f32⟩
  | .hbm, ⟨39, _⟩ => ⟨S8704x64, .f32⟩
  | .hbm, ⟨40, _⟩ => ⟨S_, .f32⟩
  | .hbm, ⟨41, _⟩ => ⟨S8704x12x64, .f32⟩
  | .hbm, ⟨42, _⟩ => ⟨S8704x1x64, .f32⟩
  | .hbm, ⟨43, _⟩ => ⟨S8704x12x64, .f32⟩
  | .hbm, ⟨44, _⟩ => ⟨S8704x12x192, .f32⟩
  | .hbm, ⟨45, _⟩ => ⟨S8704x12x256, .f32⟩
  | .hbm, ⟨46, _⟩ => ⟨S8704x3072, .f32⟩
  | .hbm, ⟨47, _⟩ => ⟨S8704x3072, .bf16⟩
  | .hbm, ⟨48, _⟩ => ⟨S8192x12x128, .f32⟩
  | .hbm, ⟨49, _⟩ => ⟨S512x12x128, .f32⟩
  | .hbm, ⟨50, _⟩ => ⟨S8704x12x128, .f32⟩
  | .hbm, ⟨51, _⟩ => ⟨S_, .f32⟩
  | .hbm, ⟨52, _⟩ => ⟨S8704x12x128, .f32⟩
  | .hbm, ⟨53, _⟩ => ⟨S8704x12x256, .f32⟩
  | .hbm, ⟨54, _⟩ => ⟨S8704x3072, .f32⟩
  | .hbm, ⟨55, _⟩ => ⟨S8704x3072, .bf16⟩
  | .hbm, ⟨56, _⟩ => ⟨S8192x1536, .bf16⟩
  | .local _ .vmem, ⟨0, _⟩ => ⟨S1024x256, .bf16⟩
  | .local _ .vmem, ⟨1, _⟩ => ⟨S1024x256, .bf16⟩
  | .local _ .vmem, ⟨2, _⟩ => ⟨S4096x256, .bf16⟩
  | .local _ .vmem, ⟨3, _⟩ => ⟨S4096x256, .bf16⟩
  | .local _ .vmem, ⟨4, _⟩ => ⟨S256x256, .bf16⟩
  | .local _ .vmem, ⟨5, _⟩ => ⟨S256x256, .bf16⟩
  | .local _ .vmem, ⟨6, _⟩ => ⟨S4096x256, .bf16⟩
  | .local _ .vmem, ⟨7, _⟩ => ⟨S4096x256, .bf16⟩
  | .local _ .vmem, ⟨8, _⟩ => ⟨S256x256, .bf16⟩
  | .local _ .vmem, ⟨9, _⟩ => ⟨S256x256, .bf16⟩
  | .local _ .vmem, ⟨10, _⟩ => ⟨S1024x128, .bf16⟩
  | .local _ .vmem, ⟨11, _⟩ => ⟨S1024x128, .bf16⟩
  | .local _ .vmem, ⟨12, _⟩ => ⟨S1024x4352, .f32⟩
  | .local _ .vmem, ⟨13, _⟩ => ⟨S1024x128, .f32⟩
  | .local _ .vmem, ⟨14, _⟩ => ⟨S1024x4352, .f32⟩
  | .local _ .vmem, ⟨15, _⟩ => ⟨S1024x128, .f32⟩
  | _, _ => ⟨S2x4096x12x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![97], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c0_i32 : BitVec 32 := 0#32
  let c95_i32 : BitVec 32 := 95#32
  let v0 : BitVec 32 := Scalar.maxsi c0_i32 arg0
  let v1 : BitVec 32 := Scalar.minsi c95_i32 v0
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c12_i32 : BitVec 32 := 12#32
  let v19 : BitVec 32 := Scalar.divsi v18 c12_i32
  let c0_i32_5 : BitVec 32 := 0#32
  let v20 : BitVec 1 := Scalar.cmpi .sgt v18 c0_i32_5
  let v21 : BitVec 32 := Scalar.extui v20
  let c0_i32_6 : BitVec 32 := 0#32
  let v22 : BitVec 1 := Scalar.cmpi .slt v18 c0_i32_6
  let v23 : BitVec 32 := Scalar.extui v22
  let v24 : BitVec 32 := Scalar.subi v21 v23
  let c0_i32_7 : BitVec 32 := 0#32
  let v25 : BitVec 1 := Scalar.cmpi .sgt c12_i32 c0_i32_7
  let v26 : BitVec 32 := Scalar.extui v25
  let c0_i32_8 : BitVec 32 := 0#32
  let v27 : BitVec 1 := Scalar.cmpi .slt c12_i32 c0_i32_8
  let v28 : BitVec 32 := Scalar.extui v27
  let v29 : BitVec 32 := Scalar.subi v26 v28
  let v30 : BitVec 1 := Scalar.cmpi .ne v24 v29
  let v31 : BitVec 32 := Scalar.remsi v18 c12_i32
  let c0_i32_9 : BitVec 32 := 0#32
  let v32 : BitVec 1 := Scalar.cmpi .ne v31 c0_i32_9
  let v33 : BitVec 1 := Scalar.andi v30 v32
  let c1_i32_10 : BitVec 32 := 1#32
  let v34 : BitVec 32 := Scalar.subi v19 c1_i32_10
  let v35 : BitVec 32 := Scalar.select v33 v34 v19
  let c12_i32_11 : BitVec 32 := 12#32
  let c0_i32_12 : BitVec 32 := 0#32
  let v36 : BitVec 1 := Scalar.cmpi .eq c12_i32_11 c0_i32_12
  let c1_i32_13 : BitVec 32 := 1#32
  let v37 : BitVec 32 := Scalar.select v36 c1_i32_13 c12_i32_11
  let v38 : BitVec 32 := Scalar.remsi v18 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c4_i32_17 : BitVec 32 := 4#32
  let c0_i32_18 : BitVec 32 := 0#32
  let v46 : BitVec 1 := Scalar.cmpi .eq c4_i32_17 c0_i32_18
  let c1_i32_19 : BitVec 32 := 1#32
  let v47 : BitVec 32 := Scalar.select v46 c1_i32_19 c4_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c4_i32_23 : BitVec 32 := 4#32
  let v56 : BitVec 32 := Scalar.muli v35 c4_i32_23
  let v57 : BitVec 32 := Scalar.addi v56 v55
  let c0_i32_24 : BitVec 32 := 0#32
  ![v57.toNat, v45.toNat]

def cc0_transform_1 (i : grid0.Coords) : Fin 2 → Nat :=
  let arg0 : BitVec 32 := BitVec.ofNat 32 (i 0).val
  let c0_i32 : BitVec 32 := 0#32
  let c95_i32 : BitVec 32 := 95#32
  let v0 : BitVec 32 := Scalar.maxsi c0_i32 arg0
  let v1 : BitVec 32 := Scalar.minsi c95_i32 v0
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c12_i32 : BitVec 32 := 12#32
  let v19 : BitVec 32 := Scalar.divsi v18 c12_i32
  let c0_i32_5 : BitVec 32 := 0#32
  let v20 : BitVec 1 := Scalar.cmpi .sgt v18 c0_i32_5
  let v21 : BitVec 32 := Scalar.extui v20
  let c0_i32_6 : BitVec 32 := 0#32
  let v22 : BitVec 1 := Scalar.cmpi .slt v18 c0_i32_6
  let v23 : BitVec 32 := Scalar.extui v22
  let v24 : BitVec 32 := Scalar.subi v21 v23
  let c0_i32_7 : BitVec 32 := 0#32
  let v25 : BitVec 1 := Scalar.cmpi .sgt c12_i32 c0_i32_7
  let v26 : BitVec 32 := Scalar.extui v25
  let c0_i32_8 : BitVec 32 := 0#32
  let v27 : BitVec 1 := Scalar.cmpi .slt c12_i32 c0_i32_8
  let v28 : BitVec 32 := Scalar.extui v27
  let v29 : BitVec 32 := Scalar.subi v26 v28
  let v30 : BitVec 1 := Scalar.cmpi .ne v24 v29
  let v31 : BitVec 32 := Scalar.remsi v18 c12_i32
  let c0_i32_9 : BitVec 32 := 0#32
  let v32 : BitVec 1 := Scalar.cmpi .ne v31 c0_i32_9
  let v33 : BitVec 1 := Scalar.andi v30 v32
  let c1_i32_10 : BitVec 32 := 1#32
  let v34 : BitVec 32 := Scalar.subi v19 c1_i32_10
  let v35 : BitVec 32 := Scalar.select v33 v34 v19
  let c12_i32_11 : BitVec 32 := 12#32
  let c0_i32_12 : BitVec 32 := 0#32
  let v36 : BitVec 1 := Scalar.cmpi .eq c12_i32_11 c0_i32_12
  let c1_i32_13 : BitVec 32 := 1#32
  let v37 : BitVec 32 := Scalar.select v36 c1_i32_13 c12_i32_11
  let v38 : BitVec 32 := Scalar.remsi v18 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c4_i32_17 : BitVec 32 := 4#32
  let c0_i32_18 : BitVec 32 := 0#32
  let v46 : BitVec 1 := Scalar.cmpi .eq c4_i32_17 c0_i32_18
  let c1_i32_19 : BitVec 32 := 1#32
  let v47 : BitVec 32 := Scalar.select v46 c1_i32_19 c4_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  ![v35.toNat, v45.toNat]

def cc0_transform_2 (i : grid0.Coords) : Fin 2 → Nat :=
  let arg0 : BitVec 32 := BitVec.ofNat 32 (i 0).val
  let c0_i32 : BitVec 32 := 0#32
  let c95_i32 : BitVec 32 := 95#32
  let v0 : BitVec 32 := Scalar.maxsi c0_i32 arg0
  let v1 : BitVec 32 := Scalar.minsi c95_i32 v0
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c12_i32 : BitVec 32 := 12#32
  let v19 : BitVec 32 := Scalar.divsi v18 c12_i32
  let c0_i32_5 : BitVec 32 := 0#32
  let v20 : BitVec 1 := Scalar.cmpi .sgt v18 c0_i32_5
  let v21 : BitVec 32 := Scalar.extui v20
  let c0_i32_6 : BitVec 32 := 0#32
  let v22 : BitVec 1 := Scalar.cmpi .slt v18 c0_i32_6
  let v23 : BitVec 32 := Scalar.extui v22
  let v24 : BitVec 32 := Scalar.subi v21 v23
  let c0_i32_7 : BitVec 32 := 0#32
  let v25 : BitVec 1 := Scalar.cmpi .sgt c12_i32 c0_i32_7
  let v26 : BitVec 32 := Scalar.extui v25
  let c0_i32_8 : BitVec 32 := 0#32
  let v27 : BitVec 1 := Scalar.cmpi .slt c12_i32 c0_i32_8
  let v28 : BitVec 32 := Scalar.extui v27
  let v29 : BitVec 32 := Scalar.subi v26 v28
  let v30 : BitVec 1 := Scalar.cmpi .ne v24 v29
  let v31 : BitVec 32 := Scalar.remsi v18 c12_i32
  let c0_i32_9 : BitVec 32 := 0#32
  let v32 : BitVec 1 := Scalar.cmpi .ne v31 c0_i32_9
  let v33 : BitVec 1 := Scalar.andi v30 v32
  let c1_i32_10 : BitVec 32 := 1#32
  let v34 : BitVec 32 := Scalar.subi v19 c1_i32_10
  let v35 : BitVec 32 := Scalar.select v33 v34 v19
  let c12_i32_11 : BitVec 32 := 12#32
  let c0_i32_12 : BitVec 32 := 0#32
  let v36 : BitVec 1 := Scalar.cmpi .eq c12_i32_11 c0_i32_12
  let c1_i32_13 : BitVec 32 := 1#32
  let v37 : BitVec 32 := Scalar.select v36 c1_i32_13 c12_i32_11
  let v38 : BitVec 32 := Scalar.remsi v18 v37
  let c0_i32_14 : BitVec 32 := 0#32
  let v39 : BitVec 1 := Scalar.cmpi .ne v38 c0_i32_14
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let v43 : BitVec 1 := Scalar.andi v42 v39
  let v44 : BitVec 32 := Scalar.addi v38 v37
  let v45 : BitVec 32 := Scalar.select v43 v44 v38
  let c4_i32_17 : BitVec 32 := 4#32
  let c0_i32_18 : BitVec 32 := 0#32
  let v46 : BitVec 1 := Scalar.cmpi .eq c4_i32_17 c0_i32_18
  let c1_i32_19 : BitVec 32 := 1#32
  let v47 : BitVec 32 := Scalar.select v46 c1_i32_19 c4_i32_17
  let v48 : BitVec 32 := Scalar.remsi v1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c32_i32 : BitVec 32 := 32#32
  let v56 : BitVec 32 := Scalar.addi c32_i32 v35
  let c0_i32_23 : BitVec 32 := 0#32
  ![v56.toNat, v45.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c95_i32 : BitVec 32 := 95#32
  let v1 : BitVec 32 := Scalar.maxsi c0_i32 v0
  let v2 : BitVec 32 := Scalar.minsi c95_i32 v1
  let c4_i32 : BitVec 32 := 4#32
  let v3 : BitVec 32 := Scalar.divsi v2 c4_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4_i32 c0_i32_2
  let v10 : BitVec 32 := Scalar.extui v9
  let c0_i32_3 : BitVec 32 := 0#32
  let v11 : BitVec 1 := Scalar.cmpi .slt c4_i32 c0_i32_3
  let v12 : BitVec 32 := Scalar.extui v11
  let v13 : BitVec 32 := Scalar.subi v10 v12
  let v14 : BitVec 1 := Scalar.cmpi .ne v8 v13
  let v15 : BitVec 32 := Scalar.remsi v2 c4_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c12_i32 : BitVec 32 := 12#32
  let v20 : BitVec 32 := Scalar.divsi v19 c12_i32
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c0_i32_8 : BitVec 32 := 0#32
  let v26 : BitVec 1 := Scalar.cmpi .sgt c12_i32 c0_i32_8
  let v27 : BitVec 32 := Scalar.extui v26
  let c0_i32_9 : BitVec 32 := 0#32
  let v28 : BitVec 1 := Scalar.cmpi .slt c12_i32 c0_i32_9
  let v29 : BitVec 32 := Scalar.extui v28
  let v30 : BitVec 32 := Scalar.subi v27 v29
  let v31 : BitVec 1 := Scalar.cmpi .ne v25 v30
  let v32 : BitVec 32 := Scalar.remsi v19 c12_i32
  let c0_i32_10 : BitVec 32 := 0#32
  let v33 : BitVec 1 := Scalar.cmpi .ne v32 c0_i32_10
  let v34 : BitVec 1 := Scalar.andi v31 v33
  let c1_i32_11 : BitVec 32 := 1#32
  let v35 : BitVec 32 := Scalar.subi v20 c1_i32_11
  let v36 : BitVec 32 := Scalar.select v34 v35 v20
  let c12_i32_12 : BitVec 32 := 12#32
  let c0_i32_13 : BitVec 32 := 0#32
  let v37 : BitVec 1 := Scalar.cmpi .eq c12_i32_12 c0_i32_13
  let c1_i32_14 : BitVec 32 := 1#32
  let v38 : BitVec 32 := Scalar.select v37 c1_i32_14 c12_i32_12
  let v39 : BitVec 32 := Scalar.remsi v19 v38
  let c0_i32_15 : BitVec 32 := 0#32
  let v40 : BitVec 1 := Scalar.cmpi .ne v39 c0_i32_15
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let v44 : BitVec 1 := Scalar.andi v43 v40
  let v45 : BitVec 32 := Scalar.addi v39 v38
  let v46 : BitVec 32 := Scalar.select v44 v45 v39
  let c4_i32_18 : BitVec 32 := 4#32
  let c0_i32_19 : BitVec 32 := 0#32
  let v47 : BitVec 1 := Scalar.cmpi .eq c4_i32_18 c0_i32_19
  let c1_i32_20 : BitVec 32 := 1#32
  let v48 : BitVec 32 := Scalar.select v47 c1_i32_20 c4_i32_18
  let v49 : BitVec 32 := Scalar.remsi v2 v48
  let c0_i32_21 : BitVec 32 := 0#32
  let v50 : BitVec 1 := Scalar.cmpi .ne v49 c0_i32_21
  let c0_i32_22 : BitVec 32 := 0#32
  let v51 : BitVec 1 := Scalar.cmpi .slt v49 c0_i32_22
  let c0_i32_23 : BitVec 32 := 0#32
  let v52 : BitVec 1 := Scalar.cmpi .slt v48 c0_i32_23
  let v53 : BitVec 1 := Scalar.xori v51 v52
  let v54 : BitVec 1 := Scalar.andi v53 v50
  let v55 : BitVec 32 := Scalar.addi v49 v48
  let v56 : BitVec 32 := Scalar.select v54 v55 v49
  let c0_i32_24 : BitVec 32 := 0#32
  ![v36.toNat, v46.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c95_i32 : BitVec 32 := 95#32
  let v1 : BitVec 32 := Scalar.maxsi c0_i32 v0
  let v2 : BitVec 32 := Scalar.minsi c95_i32 v1
  let c4_i32 : BitVec 32 := 4#32
  let v3 : BitVec 32 := Scalar.divsi v2 c4_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4_i32 c0_i32_2
  let v10 : BitVec 32 := Scalar.extui v9
  let c0_i32_3 : BitVec 32 := 0#32
  let v11 : BitVec 1 := Scalar.cmpi .slt c4_i32 c0_i32_3
  let v12 : BitVec 32 := Scalar.extui v11
  let v13 : BitVec 32 := Scalar.subi v10 v12
  let v14 : BitVec 1 := Scalar.cmpi .ne v8 v13
  let v15 : BitVec 32 := Scalar.remsi v2 c4_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c12_i32 : BitVec 32 := 12#32
  let v20 : BitVec 32 := Scalar.divsi v19 c12_i32
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c0_i32_8 : BitVec 32 := 0#32
  let v26 : BitVec 1 := Scalar.cmpi .sgt c12_i32 c0_i32_8
  let v27 : BitVec 32 := Scalar.extui v26
  let c0_i32_9 : BitVec 32 := 0#32
  let v28 : BitVec 1 := Scalar.cmpi .slt c12_i32 c0_i32_9
  let v29 : BitVec 32 := Scalar.extui v28
  let v30 : BitVec 32 := Scalar.subi v27 v29
  let v31 : BitVec 1 := Scalar.cmpi .ne v25 v30
  let v32 : BitVec 32 := Scalar.remsi v19 c12_i32
  let c0_i32_10 : BitVec 32 := 0#32
  let v33 : BitVec 1 := Scalar.cmpi .ne v32 c0_i32_10
  let v34 : BitVec 1 := Scalar.andi v31 v33
  let c1_i32_11 : BitVec 32 := 1#32
  let v35 : BitVec 32 := Scalar.subi v20 c1_i32_11
  let v36 : BitVec 32 := Scalar.select v34 v35 v20
  let c12_i32_12 : BitVec 32 := 12#32
  let c0_i32_13 : BitVec 32 := 0#32
  let v37 : BitVec 1 := Scalar.cmpi .eq c12_i32_12 c0_i32_13
  let c1_i32_14 : BitVec 32 := 1#32
  let v38 : BitVec 32 := Scalar.select v37 c1_i32_14 c12_i32_12
  let v39 : BitVec 32 := Scalar.remsi v19 v38
  let c0_i32_15 : BitVec 32 := 0#32
  let v40 : BitVec 1 := Scalar.cmpi .ne v39 c0_i32_15
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let v44 : BitVec 1 := Scalar.andi v43 v40
  let v45 : BitVec 32 := Scalar.addi v39 v38
  let v46 : BitVec 32 := Scalar.select v44 v45 v39
  let c4_i32_18 : BitVec 32 := 4#32
  let c0_i32_19 : BitVec 32 := 0#32
  let v47 : BitVec 1 := Scalar.cmpi .eq c4_i32_18 c0_i32_19
  let c1_i32_20 : BitVec 32 := 1#32
  let v48 : BitVec 32 := Scalar.select v47 c1_i32_20 c4_i32_18
  let v49 : BitVec 32 := Scalar.remsi v2 v48
  let c0_i32_21 : BitVec 32 := 0#32
  let v50 : BitVec 1 := Scalar.cmpi .ne v49 c0_i32_21
  let c0_i32_22 : BitVec 32 := 0#32
  let v51 : BitVec 1 := Scalar.cmpi .slt v49 c0_i32_22
  let c0_i32_23 : BitVec 32 := 0#32
  let v52 : BitVec 1 := Scalar.cmpi .slt v48 c0_i32_23
  let v53 : BitVec 1 := Scalar.xori v51 v52
  let v54 : BitVec 1 := Scalar.andi v53 v50
  let v55 : BitVec 32 := Scalar.addi v49 v48
  let v56 : BitVec 32 := Scalar.select v54 v55 v49
  let c32_i32 : BitVec 32 := 32#32
  let v57 : BitVec 32 := Scalar.addi c32_i32 v36
  let c0_i32_24 : BitVec 32 := 0#32
  ![v57.toNat, v46.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c95_i32 : BitVec 32 := 95#32
  let v1 : BitVec 32 := Scalar.maxsi c0_i32 v0
  let v2 : BitVec 32 := Scalar.minsi c95_i32 v1
  let c4_i32 : BitVec 32 := 4#32
  let v3 : BitVec 32 := Scalar.divsi v2 c4_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4_i32 c0_i32_2
  let v10 : BitVec 32 := Scalar.extui v9
  let c0_i32_3 : BitVec 32 := 0#32
  let v11 : BitVec 1 := Scalar.cmpi .slt c4_i32 c0_i32_3
  let v12 : BitVec 32 := Scalar.extui v11
  let v13 : BitVec 32 := Scalar.subi v10 v12
  let v14 : BitVec 1 := Scalar.cmpi .ne v8 v13
  let v15 : BitVec 32 := Scalar.remsi v2 c4_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c12_i32 : BitVec 32 := 12#32
  let v20 : BitVec 32 := Scalar.divsi v19 c12_i32
  let c0_i32_6 : BitVec 32 := 0#32
  let v21 : BitVec 1 := Scalar.cmpi .sgt v19 c0_i32_6
  let v22 : BitVec 32 := Scalar.extui v21
  let c0_i32_7 : BitVec 32 := 0#32
  let v23 : BitVec 1 := Scalar.cmpi .slt v19 c0_i32_7
  let v24 : BitVec 32 := Scalar.extui v23
  let v25 : BitVec 32 := Scalar.subi v22 v24
  let c0_i32_8 : BitVec 32 := 0#32
  let v26 : BitVec 1 := Scalar.cmpi .sgt c12_i32 c0_i32_8
  let v27 : BitVec 32 := Scalar.extui v26
  let c0_i32_9 : BitVec 32 := 0#32
  let v28 : BitVec 1 := Scalar.cmpi .slt c12_i32 c0_i32_9
  let v29 : BitVec 32 := Scalar.extui v28
  let v30 : BitVec 32 := Scalar.subi v27 v29
  let v31 : BitVec 1 := Scalar.cmpi .ne v25 v30
  let v32 : BitVec 32 := Scalar.remsi v19 c12_i32
  let c0_i32_10 : BitVec 32 := 0#32
  let v33 : BitVec 1 := Scalar.cmpi .ne v32 c0_i32_10
  let v34 : BitVec 1 := Scalar.andi v31 v33
  let c1_i32_11 : BitVec 32 := 1#32
  let v35 : BitVec 32 := Scalar.subi v20 c1_i32_11
  let v36 : BitVec 32 := Scalar.select v34 v35 v20
  let c12_i32_12 : BitVec 32 := 12#32
  let c0_i32_13 : BitVec 32 := 0#32
  let v37 : BitVec 1 := Scalar.cmpi .eq c12_i32_12 c0_i32_13
  let c1_i32_14 : BitVec 32 := 1#32
  let v38 : BitVec 32 := Scalar.select v37 c1_i32_14 c12_i32_12
  let v39 : BitVec 32 := Scalar.remsi v19 v38
  let c0_i32_15 : BitVec 32 := 0#32
  let v40 : BitVec 1 := Scalar.cmpi .ne v39 c0_i32_15
  let c0_i32_16 : BitVec 32 := 0#32
  let v41 : BitVec 1 := Scalar.cmpi .slt v39 c0_i32_16
  let c0_i32_17 : BitVec 32 := 0#32
  let v42 : BitVec 1 := Scalar.cmpi .slt v38 c0_i32_17
  let v43 : BitVec 1 := Scalar.xori v41 v42
  let v44 : BitVec 1 := Scalar.andi v43 v40
  let v45 : BitVec 32 := Scalar.addi v39 v38
  let v46 : BitVec 32 := Scalar.select v44 v45 v39
  let c4_i32_18 : BitVec 32 := 4#32
  let c0_i32_19 : BitVec 32 := 0#32
  let v47 : BitVec 1 := Scalar.cmpi .eq c4_i32_18 c0_i32_19
  let c1_i32_20 : BitVec 32 := 1#32
  let v48 : BitVec 32 := Scalar.select v47 c1_i32_20 c4_i32_18
  let v49 : BitVec 32 := Scalar.remsi v2 v48
  let c0_i32_21 : BitVec 32 := 0#32
  let v50 : BitVec 1 := Scalar.cmpi .ne v49 c0_i32_21
  let c0_i32_22 : BitVec 32 := 0#32
  let v51 : BitVec 1 := Scalar.cmpi .slt v49 c0_i32_22
  let c0_i32_23 : BitVec 32 := 0#32
  let v52 : BitVec 1 := Scalar.cmpi .slt v48 c0_i32_23
  let v53 : BitVec 1 := Scalar.xori v51 v52
  let v54 : BitVec 1 := Scalar.andi v53 v50
  let v55 : BitVec 32 := Scalar.addi v49 v48
  let v56 : BitVec 32 := Scalar.select v54 v55 v49
  let c4_i32_24 : BitVec 32 := 4#32
  let v57 : BitVec 32 := Scalar.muli v36 c4_i32_24
  let v58 : BitVec 32 := Scalar.addi v57 v56
  let c0_i32_25 : BitVec 32 := 0#32
  ![v58.toNat, v46.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2x4096x12x128 : Shape := ⟨4, ![2, 4096, 12, 128]⟩
abbrev S2x4096x12x64 : Shape := ⟨4, ![2, 4096, 12, 64]⟩
abbrev S2x4096x64 : Shape := ⟨3, ![2, 4096, 64]⟩
abbrev S2x256x12x128 : Shape := ⟨4, ![2, 256, 12, 128]⟩
abbrev S2x256x12x64 : Shape := ⟨4, ![2, 256, 12, 64]⟩
abbrev S2x256x64 : Shape := ⟨3, ![2, 256, 64]⟩
abbrev S2x4352x12x128 : Shape := ⟨4, ![2, 4352, 12, 128]⟩
abbrev S2x4352x64 : Shape := ⟨3, ![2, 4352, 64]⟩
abbrev S2x12x4096x4352 : Shape := ⟨4, ![2, 12, 4096, 4352]⟩
abbrev S2x4352x4096x12 : Shape := ⟨4, ![2, 4352, 4096, 12]⟩
abbrev S_ : Shape := ⟨0, ![]⟩
abbrev S2x12x4096 : Shape := ⟨3, ![2, 12, 4096]⟩
abbrev S2x12x4096x1 : Shape := ⟨4, ![2, 12, 4096, 1]⟩
abbrev S2x12x128x4096 : Shape := ⟨4, ![2, 12, 128, 4096]⟩
abbrev S8192x1536 : Shape := ⟨2, ![8192, 1536]⟩

abbrev nBuf : Space → Nat
  | .hbm => 38
  | .vmem => 0
  | .smem => 0
  | _ => 0

abbrev bufTy : (tb : Table) → Fin (tcTables nBuf tb) → BufTy
  | .hbm, ⟨0, _⟩ => ⟨S2x4096x12x128, .f32⟩
  | .hbm, ⟨1, _⟩ => ⟨S2x4096x12x64, .f32⟩
  | .hbm, ⟨2, _⟩ => ⟨S2x4096x12x128, .f32⟩
  | .hbm, ⟨3, _⟩ => ⟨S2x4096x64, .f32⟩
  | .hbm, ⟨4, _⟩ => ⟨S2x4096x12x128, .f32⟩
  | .hbm, ⟨5, _⟩ => ⟨S2x256x12x128, .f32⟩
  | .hbm, ⟨6, _⟩ => ⟨S2x256x12x64, .f32⟩
  | .hbm, ⟨7, _⟩ => ⟨S2x256x12x128, .f32⟩
  | .hbm, ⟨8, _⟩ => ⟨S2x256x64, .f32⟩
  | .hbm, ⟨9, _⟩ => ⟨S2x256x12x128, .f32⟩
  | .hbm, ⟨10, _⟩ => ⟨S2x4352x12x128, .f32⟩
  | .hbm, ⟨11, _⟩ => ⟨S2x4352x64, .f32⟩
  | .hbm, ⟨12, _⟩ => ⟨S2x4352x12x128, .f32⟩
  | .hbm, ⟨13, _⟩ => ⟨S2x12x4096x4352, .f32⟩
  | .hbm, ⟨14, _⟩ => ⟨S2x4352x4096x12, .f32⟩
  | .hbm, ⟨15, _⟩ => ⟨S2x12x4096x4352, .f32⟩
  | .hbm, ⟨16, _⟩ => ⟨S2x12x4096x4352, .f32⟩
  | .hbm, ⟨17, _⟩ => ⟨S_, .f32⟩
  | .hbm, ⟨18, _⟩ => ⟨S2x12x4096x4352, .f32⟩
  | .hbm, ⟨19, _⟩ => ⟨S2x12x4096x4352, .f32⟩
  | .hbm, ⟨20, _⟩ => ⟨S_, .f32⟩
  | .hbm, ⟨21, _⟩ => ⟨S2x12x4096, .f32⟩
  | .hbm, ⟨22, _⟩ => ⟨S_, .f32⟩
  | .hbm, ⟨23, _⟩ => ⟨S2x12x4096, .f32⟩
  | .hbm, ⟨24, _⟩ => ⟨S2x12x4096, .f32⟩
  | .hbm, ⟨25, _⟩ => ⟨S2x12x4096x1, .f32⟩
  | .hbm, ⟨26, _⟩ => ⟨S2x12x4096x4352, .f32⟩
  | .hbm, ⟨27, _⟩ => ⟨S2x12x4096x4352, .f32⟩
  | .hbm, ⟨28, _⟩ => ⟨S2x12x4096x4352, .f32⟩
  | .hbm, ⟨29, _⟩ => ⟨S_, .f32⟩
  | .hbm, ⟨30, _⟩ => ⟨S2x12x4096, .f32⟩
  | .hbm, ⟨31, _⟩ => ⟨S2x12x4096x1, .f32⟩
  | .hbm, ⟨32, _⟩ => ⟨S2x12x4096x4352, .f32⟩
  | .hbm, ⟨33, _⟩ => ⟨S2x12x4096x4352, .f32⟩
  | .hbm, ⟨34, _⟩ => ⟨S2x12x128x4096, .f32⟩
  | .hbm, ⟨35, _⟩ => ⟨S2x4096x12x128, .f32⟩
  | .hbm, ⟨36, _⟩ => ⟨S8192x1536, .f32⟩
  | .hbm, ⟨37, _⟩ => ⟨S8192x1536, .bf16⟩
  | _, _ => ⟨S2x4096x12x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel2.lean ====
abbrev S8704x4096 : Shape := ⟨2, ![8704, 4096]⟩
abbrev S2x4096x16384 : Shape := ⟨3, ![2, 4096, 16384]⟩
abbrev S8704x8192 : Shape := ⟨2, ![8704, 8192]⟩
abbrev S1088x4096 : Shape := ⟨2, ![1088, 4096]⟩
abbrev S1x512x512 : Shape := ⟨3, ![1, 512, 512]⟩
abbrev S1088x512 : Shape := ⟨2, ![1088, 512]⟩
abbrev S4096x512 : Shape := ⟨2, ![4096, 512]⟩
abbrev S512x512 : Shape := ⟨2, ![512, 512]⟩

abbrev nBuf : Space → Nat
  | .hbm => 4
  | .vmem => 12
  | .smem => 0
  | _ => 0

abbrev bufTy : (tb : Table) → Fin (tcTables nBuf tb) → BufTy
  | .hbm, ⟨0, _⟩ => ⟨S8704x4096, .f32⟩
  | .hbm, ⟨1, _⟩ => ⟨S2x4096x16384, .f32⟩
  | .hbm, ⟨2, _⟩ => ⟨S8704x4096, .bf16⟩
  | .hbm, ⟨3, _⟩ => ⟨S8704x8192, .bf16⟩
  | .local _ .vmem, ⟨0, _⟩ => ⟨S1088x4096, .bf16⟩
  | .local _ .vmem, ⟨1, _⟩ => ⟨S1088x4096, .bf16⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1088x512, .bf16⟩
  | .local _ .vmem, ⟨7, _⟩ => ⟨S1088x512, .bf16⟩
  | .local _ .vmem, ⟨8, _⟩ => ⟨S4096x512, .bf16⟩
  | .local _ .vmem, ⟨9, _⟩ => ⟨S4096x512, .bf16⟩
  | .local _ .vmem, ⟨10, _⟩ => ⟨S4096x512, .bf16⟩
  | .local _ .vmem, ⟨11, _⟩ => ⟨S4096x512, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![17, 8], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_mult1 (i : grid0.Coords) : BitVec 32 :=
  let arg1 : BitVec 32 := BitVec.ofNat 32 (i 1).val
  let c7_i32 : BitVec 32 := 7#32
  let v0 : BitVec 32 := Scalar.minsi arg1 c7_i32
  let c512_i32 : BitVec 32 := 512#32
  let v35 : BitVec 32 := Scalar.muli v0 c512_i32
  v35
def k0_off1 (i : grid0.Coords) : Fin 2 → Nat :=
  let arg1 : BitVec 32 := BitVec.ofNat 32 (i 1).val
  let c7_i32 : BitVec 32 := 7#32
  let v0 : BitVec 32 := Scalar.minsi arg1 c7_i32
  let c512_i32 : BitVec 32 := 512#32
  let v35 : BitVec 32 := Scalar.muli v0 c512_i32
  let v36 : BitVec 32 := v35
  let v37 : Index := Scalar.indexCast v36
  let c0_18 : Index := 0#32
  ![v37.toNat, 0]
def k0_mult2 (i : grid0.Coords) : BitVec 32 :=
  let arg1 : BitVec 32 := BitVec.ofNat 32 (i 1).val
  let c7_i32 : BitVec 32 := 7#32
  let v0 : BitVec 32 := Scalar.minsi arg1 c7_i32
  let c512_i32_22 : BitVec 32 := 512#32
  let v44 : BitVec 32 := Scalar.muli v0 c512_i32_22
  v44
def k0_cond2 (i : grid0.Coords) : BitVec 1 :=
  let arg0 : BitVec 32 := BitVec.ofNat 32 (i 0).val
  let c2_i32 : BitVec 32 := 2#32
  let c0_i32_1 : BitVec 32 := 0#32
  let v4 : BitVec 1 := Scalar.cmpi .eq c2_i32 c0_i32_1
  let c1_i32 : BitVec 32 := 1#32
  let v5 : BitVec 32 := Scalar.select v4 c1_i32 c2_i32
  let v6 : BitVec 32 := Scalar.remsi arg0 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_5 : BitVec 32 := 1#32
  let v14 : BitVec 1 := Scalar.cmpi .eq v13 c1_i32_5
  let v15 : BitVec 32 := Scalar.extui v14
  let c0_i32_6 : BitVec 32 := 0#32
  let v16 : BitVec 1 := Scalar.cmpi .ne v15 c0_i32_6
  v16

def k0_mult3 (i : grid0.Coords) : BitVec 32 :=
  let arg1 : BitVec 32 := BitVec.ofNat 32 (i 1).val
  let c7_i32 : BitVec 32 := 7#32
  let v0 : BitVec 32 := Scalar.minsi arg1 c7_i32
  let c512_i32 : BitVec 32 := 512#32
  let v46 : BitVec 32 := Scalar.muli v0 c512_i32
  v46
def k0_off2 (i : grid0.Coords) : Fin 2 → Nat :=
  let arg1 : BitVec 32 := BitVec.ofNat 32 (i 1).val
  let c7_i32 : BitVec 32 := 7#32
  let v0 : BitVec 32 := Scalar.minsi arg1 c7_i32
  let c512_i32 : BitVec 32 := 512#32
  let v46 : BitVec 32 := Scalar.muli v0 c512_i32
  let v47 : BitVec 32 := v46
  let v48 : Index := Scalar.indexCast v47
  let c0_27 : Index := 0#32
  ![v48.toNat, 0]
def k0_mult4 (i : grid0.Coords) : BitVec 32 :=
  let arg1 : BitVec 32 := BitVec.ofNat 32 (i 1).val
  let c7_i32 : BitVec 32 := 7#32
  let v0 : BitVec 32 := Scalar.minsi arg1 c7_i32
  let c512_i32_31 : BitVec 32 := 512#32
  let v55 : BitVec 32 := Scalar.muli v0 c512_i32_31
  v55
def k0_cond3 (i : grid0.Coords) : BitVec 1 :=
  let arg0 : BitVec 32 := BitVec.ofNat 32 (i 0).val
  let c0_i32_7 : BitVec 32 := 0#32
  let v17 : BitVec 1 := Scalar.cmpi .sgt arg0 c0_i32_7
  let c2_i32_8 : BitVec 32 := 2#32
  let c0_i32_9 : BitVec 32 := 0#32
  let v18 : BitVec 1 := Scalar.cmpi .eq c2_i32_8 c0_i32_9
  let c1_i32_10 : BitVec 32 := 1#32
  let v19 : BitVec 32 := Scalar.select v18 c1_i32_10 c2_i32_8
  let v20 : BitVec 32 := Scalar.remsi arg0 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c0_i32_14 : BitVec 32 := 0#32
  let v28 : BitVec 1 := Scalar.cmpi .eq v27 c0_i32_14
  let v29 : BitVec 1 := Scalar.andi v17 v28
  let v30 : BitVec 32 := Scalar.extui v29
  let c0_i32_15 : BitVec 32 := 0#32
  let v31 : BitVec 1 := Scalar.cmpi .ne v30 c0_i32_15
  v31

def k0_mult5 (i : grid0.Coords) : BitVec 32 :=
  let arg1 : BitVec 32 := BitVec.ofNat 32 (i 1).val
  let c7_i32 : BitVec 32 := 7#32
  let v0 : BitVec 32 := Scalar.minsi arg1 c7_i32
  let c512_i32 : BitVec 32 := 512#32
  let v46 : BitVec 32 := Scalar.muli v0 c512_i32
  v46
def k0_off3 (i : grid0.Coords) : Fin 2 → Nat :=
  let arg1 : BitVec 32 := BitVec.ofNat 32 (i 1).val
  let c7_i32 : BitVec 32 := 7#32
  let v0 : BitVec 32 := Scalar.minsi arg1 c7_i32
  let c512_i32 : BitVec 32 := 512#32
  let v46 : BitVec 32 := Scalar.muli v0 c512_i32
  let v47 : BitVec 32 := v46
  let v48 : Index := Scalar.indexCast v47
  let c0_27 : Index := 0#32
  ![v48.toNat, 0]
def k0_mult6 (i : grid0.Coords) : BitVec 32 :=
  let arg1 : BitVec 32 := BitVec.ofNat 32 (i 1).val
  let c7_i32 : BitVec 32 := 7#32
  let v0 : BitVec 32 := Scalar.minsi arg1 c7_i32
  let c512_i32_31 : BitVec 32 := 512#32
  let v55 : BitVec 32 := Scalar.muli v0 c512_i32_31
  v55
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c15_i32 : BitVec 32 := 15#32
  let v1 : BitVec 32 := Scalar.minsi arg0 c15_i32
  let c0_i32 : BitVec 32 := 0#32
  let v2 : BitVec 32 := Scalar.addi c0_i32 v1
  let c0_i32_0 : BitVec 32 := 0#32
  let c0_i32_1 : BitVec 32 := 0#32
  ![c0_i32_0.toNat, v0.toNat, v2.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c15_i32 : BitVec 32 := 15#32
  let v1 : BitVec 32 := Scalar.minsi arg0 c15_i32
  let c16_i32 : BitVec 32 := 16#32
  let v2 : BitVec 32 := Scalar.addi c16_i32 v1
  let c0_i32 : BitVec 32 := 0#32
  let c0_i32_0 : BitVec 32 := 0#32
  ![c0_i32.toNat, v0.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8704x4096 : Shape := ⟨2, ![8704, 4096]⟩
abbrev S2x4096x16384 : Shape := ⟨3, ![2, 4096, 16384]⟩
abbrev S1x4096x16384 : Shape := ⟨3, ![1, 4096, 16384]⟩
abbrev S4096x16384 : Shape := ⟨2, ![4096, 16384]⟩
abbrev S8704x16384 : Shape := ⟨2, ![8704, 16384]⟩
abbrev S8704x8192 : Shape := ⟨2, ![8704, 8192]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S2x4096x16384, .f32⟩
  | .hbm, ⟨2, _⟩ => ⟨S1x4096x16384, .f32⟩
  | .hbm, ⟨3, _⟩ => ⟨S4096x16384, .f32⟩
  | .hbm, ⟨4, _⟩ => ⟨S8704x16384, .f32⟩
  | .hbm, ⟨5, _⟩ => ⟨S8704x8192, .f32⟩
  | .hbm, ⟨6, _⟩ => ⟨S8704x8192, .f32⟩
  | .hbm, ⟨7, _⟩ => ⟨S8704x8192, .f32⟩
  | .hbm, ⟨8, _⟩ => ⟨S8704x8192, .f32⟩
  | .hbm, ⟨9, _⟩ => ⟨S_, .f32⟩
  | .hbm, ⟨10, _⟩ => ⟨S8704x8192, .f32⟩
  | .hbm, ⟨11, _⟩ => ⟨S8704x8192, .f32⟩
  | .hbm, ⟨12, _⟩ => ⟨S_, .f32⟩
  | .hbm, ⟨13, _⟩ => ⟨S8704x8192, .f32⟩
  | .hbm, ⟨14, _⟩ => ⟨S8704x8192, .f32⟩
  | .hbm, ⟨15, _⟩ => ⟨S8704x8192, .f32⟩
  | .hbm, ⟨16, _⟩ => ⟨S8704x8192, .f32⟩
  | .hbm, ⟨17, _⟩ => ⟨S8704x8192, .bf16⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Kernel3.lean ====
abbrev S8704x8192 : Shape := ⟨2, ![8704, 8192]⟩
abbrev S8704x4096 : Shape := ⟨2, ![8704, 4096]⟩
abbrev S2x8x36864 : Shape := ⟨3, ![2, 8, 36864]⟩
abbrev S2x8192x4096 : Shape := ⟨3, ![2, 8192, 4096]⟩
abbrev S144x1x4096 : Shape := ⟨3, ![144, 1, 4096]⟩
abbrev S512x8192 : Shape := ⟨2, ![512, 8192]⟩
abbrev S512x512 : Shape := ⟨2, ![512, 512]⟩
abbrev S1x1x512 : Shape := ⟨3, ![1, 1, 512]⟩
abbrev S1x1024x512 : Shape := ⟨3, ![1, 1024, 512]⟩
abbrev S8192x512 : Shape := ⟨2, ![8192, 512]⟩
abbrev S1024x512 : Shape := ⟨2, ![1024, 512]⟩
abbrev S1x512 : Shape := ⟨2, ![1, 512]⟩

abbrev nBuf : Space → Nat
  | .hbm => 7
  | .vmem => 12
  | .smem => 0
  | _ => 0

abbrev bufTy : (tb : Table) → Fin (tcTables nBuf tb) → BufTy
  | .hbm, ⟨0, _⟩ => ⟨S8704x8192, .f32⟩
  | .hbm, ⟨1, _⟩ => ⟨S8704x4096, .f32⟩
  | .hbm, ⟨2, _⟩ => ⟨S2x8x36864, .f32⟩
  | .hbm, ⟨3, _⟩ => ⟨S2x8192x4096, .f32⟩
  | .hbm, ⟨4, _⟩ => ⟨S144x1x4096, .f32⟩
  | .hbm, ⟨5, _⟩ => ⟨S8704x8192, .bf16⟩
  | .hbm, ⟨6, _⟩ => ⟨S8704x4096, .f32⟩
  | .local _ .vmem, ⟨0, _⟩ => ⟨S512x8192, .bf16⟩
  | .local _ .vmem, ⟨1, _⟩ => ⟨S512x8192, .bf16⟩
  | .local _ .vmem, ⟨2, _⟩ => ⟨S512x512, .f32⟩
  | .local _ .vmem, ⟨3, _⟩ => ⟨S512x512, .f32⟩
  | .local _ .vmem, ⟨4, _⟩ => ⟨S1x1x512, .f32⟩
  | .local _ .vmem, ⟨5, _⟩ => ⟨S1x1x512, .f32⟩
  | .local _ .vmem, ⟨6, _⟩ => ⟨S1x1024x512, .f32⟩
  | .local _ .vmem, ⟨7, _⟩ => ⟨S1x1024x512, .f32⟩
  | .local _ .vmem, ⟨8, _⟩ => ⟨S512x512, .f32⟩
  | .local _ .vmem, ⟨9, _⟩ => ⟨S512x512, .f32⟩
  | .local _ .vmem, ⟨10, _⟩ => ⟨S8192x512, .bf16⟩
  | .local _ .vmem, ⟨11, _⟩ => ⟨S8192x512, .bf16⟩
  | _, _ => ⟨S8704x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![9, 17], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_mult1 (i : grid0.Coords) : BitVec 32 :=
  let arg1 : BitVec 32 := BitVec.ofNat 32 (i 1).val
  let c7_i32 : BitVec 32 := 7#32
  let v0 : BitVec 32 := Scalar.minsi arg1 c7_i32
  let c1024_i32 : BitVec 32 := 1024#32
  let v35 : BitVec 32 := Scalar.muli v0 c1024_i32
  v35
def k0_off1 (i : grid0.Coords) : Fin 2 → Nat :=
  let arg1 : BitVec 32 := BitVec.ofNat 32 (i 1).val
  let c7_i32 : BitVec 32 := 7#32
  let v0 : BitVec 32 := Scalar.minsi arg1 c7_i32
  let c1024_i32 : BitVec 32 := 1024#32
  let v35 : BitVec 32 := Scalar.muli v0 c1024_i32
  let v36 : BitVec 32 := v35
  let v37 : Index := Scalar.indexCast v36
  let c0_18 : Index := 0#32
  ![v37.toNat, 0]
def k0_cond2 (i : grid0.Coords) : BitVec 1 :=
  let arg0 : BitVec 32 := BitVec.ofNat 32 (i 0).val
  let c2_i32 : BitVec 32 := 2#32
  let c0_i32_1 : BitVec 32 := 0#32
  let v4 : BitVec 1 := Scalar.cmpi .eq c2_i32 c0_i32_1
  let c1_i32 : BitVec 32 := 1#32
  let v5 : BitVec 32 := Scalar.select v4 c1_i32 c2_i32
  let v6 : BitVec 32 := Scalar.remsi arg0 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_5 : BitVec 32 := 1#32
  let v14 : BitVec 1 := Scalar.cmpi .eq v13 c1_i32_5
  let v15 : BitVec 32 := Scalar.extui v14
  let c0_i32_6 : BitVec 32 := 0#32
  let v16 : BitVec 1 := Scalar.cmpi .ne v15 c0_i32_6
  v16

def k0_mult2 (i : grid0.Coords) : BitVec 32 :=
  let arg1 : BitVec 32 := BitVec.ofNat 32 (i 1).val
  let c7_i32 : BitVec 32 := 7#32
  let v0 : BitVec 32 := Scalar.minsi arg1 c7_i32
  let c1024_i32 : BitVec 32 := 1024#32
  let v48 : BitVec 32 := Scalar.muli v0 c1024_i32
  v48
def k0_off2 (i : grid0.Coords) : Fin 2 → Nat :=
  let arg1 : BitVec 32 := BitVec.ofNat 32 (i 1).val
  let c7_i32 : BitVec 32 := 7#32
  let v0 : BitVec 32 := Scalar.minsi arg1 c7_i32
  let c1024_i32 : BitVec 32 := 1024#32
  let v48 : BitVec 32 := Scalar.muli v0 c1024_i32
  let v49 : BitVec 32 := v48
  let v50 : Index := Scalar.indexCast v49
  let c0_30 : Index := 0#32
  ![v50.toNat, 0]
def k0_cond3 (i : grid0.Coords) : BitVec 1 :=
  let arg0 : BitVec 32 := BitVec.ofNat 32 (i 0).val
  let c0_i32_7 : BitVec 32 := 0#32
  let v17 : BitVec 1 := Scalar.cmpi .sgt arg0 c0_i32_7
  let c2_i32_8 : BitVec 32 := 2#32
  let c0_i32_9 : BitVec 32 := 0#32
  let v18 : BitVec 1 := Scalar.cmpi .eq c2_i32_8 c0_i32_9
  let c1_i32_10 : BitVec 32 := 1#32
  let v19 : BitVec 32 := Scalar.select v18 c1_i32_10 c2_i32_8
  let v20 : BitVec 32 := Scalar.remsi arg0 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c0_i32_14 : BitVec 32 := 0#32
  let v28 : BitVec 1 := Scalar.cmpi .eq v27 c0_i32_14
  let v29 : BitVec 1 := Scalar.andi v17 v28
  let v30 : BitVec 32 := Scalar.extui v29
  let c0_i32_15 : BitVec 32 := 0#32
  let v31 : BitVec 1 := Scalar.cmpi .ne v30 c0_i32_15
  v31

def k0_mult3 (i : grid0.Coords) : BitVec 32 :=
  let arg1 : BitVec 32 := BitVec.ofNat 32 (i 1).val
  let c7_i32 : BitVec 32 := 7#32
  let v0 : BitVec 32 := Scalar.minsi arg1 c7_i32
  let c1024_i32 : BitVec 32 := 1024#32
  let v48 : BitVec 32 := Scalar.muli v0 c1024_i32
  v48
def k0_off3 (i : grid0.Coords) : Fin 2 → Nat :=
  let arg1 : BitVec 32 := BitVec.ofNat 32 (i 1).val
  let c7_i32 : BitVec 32 := 7#32
  let v0 : BitVec 32 := Scalar.minsi arg1 c7_i32
  let c1024_i32 : BitVec 32 := 1024#32
  let v48 : BitVec 32 := Scalar.muli v0 c1024_i32
  let v49 : BitVec 32 := v48
  let v50 : Index := Scalar.indexCast v49
  let c0_30 : Index := 0#32
  ![v50.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c512_i32 : BitVec 32 := 512#32
  let v2 : BitVec 32 := Scalar.muli v1 c512_i32
  let c4096_i32 : BitVec 32 := 4096#32
  let v3 : BitVec 32 := Scalar.divsi v2 c4096_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4096_i32 c0_i32_3
  let v10 : BitVec 32 := Scalar.extui v9
  let c0_i32_4 : BitVec 32 := 0#32
  let v11 : BitVec 1 := Scalar.cmpi .slt c4096_i32 c0_i32_4
  let v12 : BitVec 32 := Scalar.extui v11
  let v13 : BitVec 32 := Scalar.subi v10 v12
  let v14 : BitVec 1 := Scalar.cmpi .ne v8 v13
  let v15 : BitVec 32 := Scalar.remsi v2 c4096_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c0_i32_6 : BitVec 32 := 0#32
  let v20 : BitVec 32 := Scalar.addi c0_i32_6 v19
  let c9_i32 : BitVec 32 := 9#32
  let v21 : BitVec 32 := Scalar.muli v20 c9_i32
  let c8_i32 : BitVec 32 := 8#32
  let v22 : BitVec 32 := Scalar.addi v21 c8_i32
  let c1_i32_7 : BitVec 32 := 1#32
  let v23 : BitVec 32 := Scalar.subi arg0 c1_i32_7
  let c0_i32_8 : BitVec 32 := 0#32
  let v24 : BitVec 32 := Scalar.maxsi v23 c0_i32_8
  let c0_i32_9 : BitVec 32 := 0#32
  let c0_i32_10 : BitVec 32 := 0#32
  ![v22.toNat, c0_i32_9.toNat, v24.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c7_i32_0 : BitVec 32 := 7#32
  let v1 : BitVec 32 := Scalar.minsi arg0 c7_i32_0
  let c0_i32 : BitVec 32 := 0#32
  let c0_i32_1 : BitVec 32 := 0#32
  ![c0_i32.toNat, v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S8704x8192 : Shape := ⟨2, ![8704, 8192]⟩
abbrev S8704x4096 : Shape := ⟨2, ![8704, 4096]⟩
abbrev S2x8x36864 : Shape := ⟨3, ![2, 8, 36864]⟩
abbrev S2x8192x4096 : Shape := ⟨3, ![2, 8192, 4096]⟩
abbrev S1x8192x4096 : Shape := ⟨3, ![1, 8192, 4096]⟩
abbrev S8192x4096 : Shape := ⟨2, ![8192, 4096]⟩
abbrev S2x4096x4096 : Shape := ⟨3, ![2, 4096, 4096]⟩
abbrev S512x4096 : Shape := ⟨2, ![512, 4096]⟩
abbrev S2x256x4096 : Shape := ⟨3, ![2, 256, 4096]⟩
abbrev S1x2x4096 : Shape := ⟨3, ![1, 2, 4096]⟩
abbrev S2x4096 : Shape := ⟨2, ![2, 4096]⟩
abbrev S2x1x4096 : Shape := ⟨3, ![2, 1, 4096]⟩
abbrev S1x1x4096 : Shape := ⟨3, ![1, 1, 4096]⟩
abbrev S4096 : Shape := ⟨1, ![4096]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S8704x8192, .f32⟩
  | .hbm, ⟨1, _⟩ => ⟨S8704x4096, .f32⟩
  | .hbm, ⟨2, _⟩ => ⟨S2x8x36864, .f32⟩
  | .hbm, ⟨3, _⟩ => ⟨S2x8192x4096, .f32⟩
  | .hbm, ⟨4, _⟩ => ⟨S1x8192x4096, .f32⟩
  | .hbm, ⟨5, _⟩ => ⟨S8192x4096, .f32⟩
  | .hbm, ⟨6, _⟩ => ⟨S8704x4096, .f32⟩
  | .hbm, ⟨7, _⟩ => ⟨S8192x4096, .f32⟩
  | .hbm, ⟨8, _⟩ => ⟨S2x4096x4096, .f32⟩
  | .hbm, ⟨9, _⟩ => ⟨S512x4096, .f32⟩
  | .hbm, ⟨10, _⟩ => ⟨S2x256x4096, .f32⟩
  | .hbm, ⟨11, _⟩ => ⟨S8192x4096, .f32⟩
  | .hbm, ⟨12, _⟩ => ⟨S2x4096x4096, .f32⟩
  | .hbm, ⟨13, _⟩ => ⟨S512x4096, .f32⟩
  | .hbm, ⟨14, _⟩ => ⟨S2x256x4096, .f32⟩
  | .hbm, ⟨15, _⟩ => ⟨S1x2x4096, .f32⟩
  | .hbm, ⟨16, _⟩ => ⟨S2x4096, .f32⟩
  | .hbm, ⟨17, _⟩ => ⟨S2x1x4096, .f32⟩
  | .hbm, ⟨18, _⟩ => ⟨S1x1x4096, .f32⟩
  | .hbm, ⟨19, _⟩ => ⟨S4096, .f32⟩
  | .hbm, ⟨20, _⟩ => ⟨S1x1x4096, .f32⟩
  | .hbm, ⟨21, _⟩ => ⟨S_, .f32⟩
  | .hbm, ⟨22, _⟩ => ⟨S2x1x4096, .f32⟩
  | .hbm, ⟨23, _⟩ => ⟨S2x1x4096, .f32⟩
  | .hbm, ⟨24, _⟩ => ⟨S2x4096x4096, .f32⟩
  | .hbm, ⟨25, _⟩ => ⟨S2x4096x4096, .f32⟩
  | .hbm, ⟨26, _⟩ => ⟨S2x4096x4096, .f32⟩
  | .hbm, ⟨27, _⟩ => ⟨S_, .f32⟩
  | .hbm, ⟨28, _⟩ => ⟨S1x1x4096, .f32⟩
  | .hbm, ⟨29, _⟩ => ⟨S1x1x4096, .f32⟩
  | .hbm, ⟨30, _⟩ => ⟨S2x256x4096, .f32⟩
  | .hbm, ⟨31, _⟩ => ⟨S2x256x4096, .f32⟩
  | .hbm, ⟨32, _⟩ => ⟨S2x256x4096, .f32⟩
  | .hbm, ⟨33, _⟩ => ⟨S8192x4096, .f32⟩
  | .hbm, ⟨34, _⟩ => ⟨S512x4096, .f32⟩
  | .hbm, ⟨35, _⟩ => ⟨S8704x4096, .f32⟩
  | _, _ => ⟨S8704x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Kernel4.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S3x256x4096 : Shape := ⟨3, ![3, 256, 4096]⟩
abbrev S3 : Shape := ⟨1, ![3]⟩
abbrev S1 : Shape := ⟨1, ![1]⟩
abbrev S_ : Shape := ⟨0, ![]⟩
abbrev S1x256x4096 : Shape := ⟨3, ![1, 256, 4096]⟩
abbrev S256 : Shape := ⟨1, ![256]⟩
abbrev S256x1 : Shape := ⟨2, ![256, 1]⟩

abbrev nBuf : Space → Nat
  | .hbm => 4
  | .vmem => 4
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S1x4096, .f32⟩
  | .local _ .vmem, ⟨1, _⟩ => ⟨S256x4096, .f32⟩
  | .local _ .vmem, ⟨2, _⟩ => ⟨S256x4096, .f32⟩
  | .local _ .vmem, ⟨3, _⟩ => ⟨S3x256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c32_i32 : BitVec 32 := 32#32
  let v5 : BitVec 1 := Scalar.cmpi .slt v4 c32_i32
  let v6 : BitVec 32 := Scalar.extui v5
  let c0_i32_1 : BitVec 32 := 0#32
  let v7 : BitVec 1 := Scalar.cmpi .ne v6 c0_i32_1
  v7

def k0_off1 (i : grid0.Coords) : Fin 1 → Nat :=
  let arg0 : BitVec 32 := BitVec.ofNat 32 (i 0).val
  let c3_i32_24 : BitVec 32 := 3#32
  let v52 : BitVec 32 := Scalar.addi arg0 c3_i32_24
  let c1_i32_25 : BitVec 32 := 1#32
  let v53 : BitVec 32 := Scalar.subi v52 c1_i32_25
  let c3_i32_26 : BitVec 32 := 3#32
  let c0_i32_27 : BitVec 32 := 0#32
  let v54 : BitVec 1 := Scalar.cmpi .eq c3_i32_26 c0_i32_27
  let c1_i32_28 : BitVec 32 := 1#32
  let v55 : BitVec 32 := Scalar.select v54 c1_i32_28 c3_i32_26
  let v56 : BitVec 32 := Scalar.remsi v53 v55
  let c0_i32_30 : BitVec 32 := 0#32
  let v58 : BitVec 1 := Scalar.cmpi .slt v56 c0_i32_30
  let c0_i32_31 : BitVec 32 := 0#32
  let v59 : BitVec 1 := Scalar.cmpi .slt v55 c0_i32_31
  let v60 : BitVec 1 := Scalar.xori v58 v59
  let c0_i32_29 : BitVec 32 := 0#32
  let v57 : BitVec 1 := Scalar.cmpi .ne v56 c0_i32_29
  let v61 : BitVec 1 := Scalar.andi v60 v57
  let v62 : BitVec 32 := Scalar.addi v56 v55
  let v63 : BitVec 32 := Scalar.select v61 v62 v56
  ![v63.toNat]
def k0_off2 (i : grid0.Coords) : Fin 3 → Nat :=
  let arg0 : BitVec 32 := BitVec.ofNat 32 (i 0).val
  let c3_i32_24 : BitVec 32 := 3#32
  let v52 : BitVec 32 := Scalar.addi arg0 c3_i32_24
  let c1_i32_25 : BitVec 32 := 1#32
  let v53 : BitVec 32 := Scalar.subi v52 c1_i32_25
  let c3_i32_26 : BitVec 32 := 3#32
  let c0_i32_27 : BitVec 32 := 0#32
  let v54 : BitVec 1 := Scalar.cmpi .eq c3_i32_26 c0_i32_27
  let c1_i32_28 : BitVec 32 := 1#32
  let v55 : BitVec 32 := Scalar.select v54 c1_i32_28 c3_i32_26
  let v56 : BitVec 32 := Scalar.remsi v53 v55
  let c0_i32_30 : BitVec 32 := 0#32
  let v58 : BitVec 1 := Scalar.cmpi .slt v56 c0_i32_30
  let c0_i32_31 : BitVec 32 := 0#32
  let v59 : BitVec 1 := Scalar.cmpi .slt v55 c0_i32_31
  let v60 : BitVec 1 := Scalar.xori v58 v59
  let c0_i32_29 : BitVec 32 := 0#32
  let v57 : BitVec 1 := Scalar.cmpi .ne v56 c0_i32_29
  let v61 : BitVec 1 := Scalar.andi v60 v57
  let v62 : BitVec 32 := Scalar.addi v56 v55
  let v63 : BitVec 32 := Scalar.select v61 v62 v56
  let c0_i32_33 : BitVec 32 := 0#32
  let c0_i32_34 : BitVec 32 := 0#32
  ![v63.toNat, 0, 0]
def k0_off3 (i : grid0.Coords) : Fin 2 → Nat :=
  let arg0 : BitVec 32 := BitVec.ofNat 32 (i 0).val
  let c3_i32_24 : BitVec 32 := 3#32
  let v52 : BitVec 32 := Scalar.addi arg0 c3_i32_24
  let c1_i32_25 : BitVec 32 := 1#32
  let v53 : BitVec 32 := Scalar.subi v52 c1_i32_25
  let c256_i32_32 : BitVec 32 := 256#32
  let v64 : BitVec 32 := Scalar.muli v53 c256_i32_32
  let c0_i32_35 : BitVec 32 := 0#32
  ![v64.toNat, 0]
def k0_off4 (i : grid0.Coords) : Fin 1 → Nat :=
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  ![v17.toNat]
def k0_off5 (i : grid0.Coords) : Fin 3 → Nat :=
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c0_i32_8 : BitVec 32 := 0#32
  let c0_i32_9 : BitVec 32 := 0#32
  ![v17.toNat, 0, 0]
def k0_off6 (i : grid0.Coords) : Fin 2 → Nat :=
  let arg0 : BitVec 32 := BitVec.ofNat 32 (i 0).val
  let c256_i32 : BitVec 32 := 256#32
  let v18 : BitVec 32 := Scalar.muli arg0 c256_i32
  let c0_i32_10 : BitVec 32 := 0#32
  ![v18.toNat, 0]
def k0_off7 (i : grid0.Coords) : Fin 3 → Nat :=
  let arg0 : BitVec 32 := BitVec.ofNat 32 (i 0).val
  let c3_i32_11 : BitVec 32 := 3#32
  let c0_i32_12 : BitVec 32 := 0#32
  let v24 : BitVec 1 := Scalar.cmpi .eq c3_i32_11 c0_i32_12
  let c1_i32_13 : BitVec 32 := 1#32
  let v25 : BitVec 32 := Scalar.select v24 c1_i32_13 c3_i32_11
  let v26 : BitVec 32 := Scalar.remsi arg0 v25
  let c0_i32_15 : BitVec 32 := 0#32
  let v28 : BitVec 1 := Scalar.cmpi .slt v26 c0_i32_15
  let c0_i32_16 : BitVec 32 := 0#32
  let v29 : BitVec 1 := Scalar.cmpi .slt v25 c0_i32_16
  let v30 : BitVec 1 := Scalar.xori v28 v29
  let c0_i32_14 : BitVec 32 := 0#32
  let v27 : BitVec 1 := Scalar.cmpi .ne v26 c0_i32_14
  let v31 : BitVec 1 := Scalar.andi v30 v27
  let v32 : BitVec 32 := Scalar.addi v26 v25
  let v33 : BitVec 32 := Scalar.select v31 v32 v26
  let v34 : Index := Scalar.indexCast v33
  let c0 : Index := 0#32
  let c0_17 : Index := 0#32
  ![v34.toNat, 0, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference4Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel5.lean ====
abbrev S8192x1536 : Shape := ⟨2, ![8192, 1536]⟩
abbrev S8192x1024 : Shape := ⟨2, ![8192, 1024]⟩
abbrev S8704x4096 : Shape := ⟨2, ![8704, 4096]⟩
abbrev S2x8x36864 : Shape := ⟨3, ![2, 8, 36864]⟩
abbrev S2x4096x4096 : Shape := ⟨3, ![2, 4096, 4096]⟩
abbrev S144x1x4096 : Shape := ⟨3, ![144, 1, 4096]⟩
abbrev S8192x4096 : Shape := ⟨2, ![8192, 4096]⟩
abbrev S1024x1536 : Shape := ⟨2, ![1024, 1536]⟩
abbrev S1024x1024 : Shape := ⟨2, ![1024, 1024]⟩
abbrev S1024x512 : Shape := ⟨2, ![1024, 512]⟩
abbrev S1x1x512 : Shape := ⟨3, ![1, 1, 512]⟩
abbrev S1x512x512 : Shape := ⟨3, ![1, 512, 512]⟩
abbrev S4096x512 : Shape := ⟨2, ![4096, 512]⟩
abbrev S512x512 : Shape := ⟨2, ![512, 512]⟩
abbrev S1536x512 : Shape := ⟨2, ![1536, 512]⟩
abbrev S1x512 : Shape := ⟨2, ![1, 512]⟩

abbrev nBuf : Space → Nat
  | .hbm => 11
  | .vmem => 16
  | .smem => 0
  | _ => 0

abbrev bufTy : (tb : Table) → Fin (tcTables nBuf tb) → BufTy
  | .hbm, ⟨0, _⟩ => ⟨S8192x1536, .f32⟩
  | .hbm, ⟨1, _⟩ => ⟨S8192x1536, .f32⟩
  | .hbm, ⟨2, _⟩ => ⟨S8192x1024, .f32⟩
  | .hbm, ⟨3, _⟩ => ⟨S8704x4096, .f32⟩
  | .hbm, ⟨4, _⟩ => ⟨S2x8x36864, .f32⟩
  | .hbm, ⟨5, _⟩ => ⟨S2x4096x4096, .f32⟩
  | .hbm, ⟨6, _⟩ => ⟨S144x1x4096, .f32⟩
  | .hbm, ⟨7, _⟩ => ⟨S8192x1536, .bf16⟩
  | .hbm, ⟨8, _⟩ => ⟨S8192x1536, .bf16⟩
  | .hbm, ⟨9, _⟩ => ⟨S8192x1024, .bf16⟩
  | .hbm, ⟨10, _⟩ => ⟨S8192x4096, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .f32⟩
  | .local _ .vmem, ⟨7, _⟩ => ⟨S1024x512, .f32⟩
  | .local _ .vmem, ⟨8, _⟩ => ⟨S1x1x512, .f32⟩
  | .local _ .vmem, ⟨9, _⟩ => ⟨S1x1x512, .f32⟩
  | .local _ .vmem, ⟨10, _⟩ => ⟨S1x512x512, .f32⟩
  | .local _ .vmem, ⟨11, _⟩ => ⟨S1x512x512, .f32⟩
  | .local _ .vmem, ⟨12, _⟩ => ⟨S1024x512, .f32⟩
  | .local _ .vmem, ⟨13, _⟩ => ⟨S1024x512, .f32⟩
  | .local _ .vmem, ⟨14, _⟩ => ⟨S4096x512, .bf16⟩
  | .local _ .vmem, ⟨15, _⟩ => ⟨S4096x512, .bf16⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![9, 8], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_mult1 (i : grid0.Coords) : BitVec 32 :=
  let arg1 : BitVec 32 := BitVec.ofNat 32 (i 1).val
  let c7_i32 : BitVec 32 := 7#32
  let v0 : BitVec 32 := Scalar.minsi arg1 c7_i32
  let c512_i32 : BitVec 32 := 512#32
  let v35 : BitVec 32 := Scalar.muli v0 c512_i32
  v35
def k0_off1 (i : grid0.Coords) : Fin 2 → Nat :=
  let arg1 : BitVec 32 := BitVec.ofNat 32 (i 1).val
  let c7_i32 : BitVec 32 := 7#32
  let v0 : BitVec 32 := Scalar.minsi arg1 c7_i32
  let c512_i32 : BitVec 32 := 512#32
  let v35 : BitVec 32 := Scalar.muli v0 c512_i32
  let v36 : BitVec 32 := v35
  let v37 : Index := Scalar.indexCast v36
  let c0_18 : Index := 0#32
  ![v37.toNat, 0]
def k0_cond2 (i : grid0.Coords) : BitVec 1 :=
  let arg0 : BitVec 32 := BitVec.ofNat 32 (i 0).val
  let c2_i32 : BitVec 32 := 2#32
  let c0_i32_1 : BitVec 32 := 0#32
  let v4 : BitVec 1 := Scalar.cmpi .eq c2_i32 c0_i32_1
  let c1_i32 : BitVec 32 := 1#32
  let v5 : BitVec 32 := Scalar.select v4 c1_i32 c2_i32
  let v6 : BitVec 32 := Scalar.remsi arg0 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_5 : BitVec 32 := 1#32
  let v14 : BitVec 1 := Scalar.cmpi .eq v13 c1_i32_5
  let v15 : BitVec 32 := Scalar.extui v14
  let c0_i32_6 : BitVec 32 := 0#32
  let v16 : BitVec 1 := Scalar.cmpi .ne v15 c0_i32_6
  v16

def k0_mult2 (i : grid0.Coords) : BitVec 32 :=
  let arg1 : BitVec 32 := BitVec.ofNat 32 (i 1).val
  let c7_i32 : BitVec 32 := 7#32
  let v0 : BitVec 32 := Scalar.minsi arg1 c7_i32
  let c512_i32 : BitVec 32 := 512#32
  let v58 : BitVec 32 := Scalar.muli v0 c512_i32
  v58
def k0_off2 (i : grid0.Coords) : Fin 2 → Nat :=
  let arg1 : BitVec 32 := BitVec.ofNat 32 (i 1).val
  let c7_i32 : BitVec 32 := 7#32
  let v0 : BitVec 32 := Scalar.minsi arg1 c7_i32
  let c512_i32 : BitVec 32 := 512#32
  let v58 : BitVec 32 := Scalar.muli v0 c512_i32
  let v59 : BitVec 32 := v58
  let v60 : Index := Scalar.indexCast v59
  let c0_38 : Index := 0#32
  ![v60.toNat, 0]
def k0_cond3 (i : grid0.Coords) : BitVec 1 :=
  let arg0 : BitVec 32 := BitVec.ofNat 32 (i 0).val
  let c0_i32_7 : BitVec 32 := 0#32
  let v17 : BitVec 1 := Scalar.cmpi .sgt arg0 c0_i32_7
  let c2_i32_8 : BitVec 32 := 2#32
  let c0_i32_9 : BitVec 32 := 0#32
  let v18 : BitVec 1 := Scalar.cmpi .eq c2_i32_8 c0_i32_9
  let c1_i32_10 : BitVec 32 := 1#32
  let v19 : BitVec 32 := Scalar.select v18 c1_i32_10 c2_i32_8
  let v20 : BitVec 32 := Scalar.remsi arg0 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c0_i32_14 : BitVec 32 := 0#32
  let v28 : BitVec 1 := Scalar.cmpi .eq v27 c0_i32_14
  let v29 : BitVec 1 := Scalar.andi v17 v28
  let v30 : BitVec 32 := Scalar.extui v29
  let c0_i32_15 : BitVec 32 := 0#32
  let v31 : BitVec 1 := Scalar.cmpi .ne v30 c0_i32_15
  v31

def k0_mult3 (i : grid0.Coords) : BitVec 32 :=
  let arg1 : BitVec 32 := BitVec.ofNat 32 (i 1).val
  let c7_i32 : BitVec 32 := 7#32
  let v0 : BitVec 32 := Scalar.minsi arg1 c7_i32
  let c512_i32 : BitVec 32 := 512#32
  let v58 : BitVec 32 := Scalar.muli v0 c512_i32
  v58
def k0_off3 (i : grid0.Coords) : Fin 2 → Nat :=
  let arg1 : BitVec 32 := BitVec.ofNat 32 (i 1).val
  let c7_i32 : BitVec 32 := 7#32
  let v0 : BitVec 32 := Scalar.minsi arg1 c7_i32
  let c512_i32 : BitVec 32 := 512#32
  let v58 : BitVec 32 := Scalar.muli v0 c512_i32
  let v59 : BitVec 32 := v58
  let v60 : Index := Scalar.indexCast v59
  let c0_38 : Index := 0#32
  ![v60.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1024_i32 : BitVec 32 := 1024#32
  let v2 : BitVec 32 := Scalar.muli v1 c1024_i32
  let c4096_i32 : BitVec 32 := 4096#32
  let v3 : BitVec 32 := Scalar.divsi v2 c4096_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c4096_i32 c0_i32_3
  let v10 : BitVec 32 := Scalar.extui v9
  let c0_i32_4 : BitVec 32 := 0#32
  let v11 : BitVec 1 := Scalar.cmpi .slt c4096_i32 c0_i32_4
  let v12 : BitVec 32 := Scalar.extui v11
  let v13 : BitVec 32 := Scalar.subi v10 v12
  let v14 : BitVec 1 := Scalar.cmpi .ne v8 v13
  let v15 : BitVec 32 := Scalar.remsi v2 c4096_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c8_i32 : BitVec 32 := 8#32
  let v20 : BitVec 32 := Scalar.addi c8_i32 v19
  let c9_i32 : BitVec 32 := 9#32
  let v21 : BitVec 32 := Scalar.muli v20 c9_i32
  let c5_i32 : BitVec 32 := 5#32
  let v22 : BitVec 32 := Scalar.addi v21 c5_i32
  let c1_i32_6 : BitVec 32 := 1#32
  let v23 : BitVec 32 := Scalar.subi arg0 c1_i32_6
  let c0_i32_7 : BitVec 32 := 0#32
  let v24 : BitVec 32 := Scalar.maxsi v23 c0_i32_7
  let c0_i32_8 : BitVec 32 := 0#32
  let c0_i32_9 : BitVec 32 := 0#32
  ![v22.toNat, c0_i32_8.toNat, v24.toNat]

def cc0_transform_5 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c7_i32_0 : BitVec 32 := 7#32
  let v1 : BitVec 32 := Scalar.minsi arg0 c7_i32_0
  let c1_i32 : BitVec 32 := 1#32
  let c0_i32 : BitVec 32 := 0#32
  ![c1_i32.toNat, v0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S8192x1536 : Shape := ⟨2, ![8192, 1536]⟩
abbrev S8192x1024 : Shape := ⟨2, ![8192, 1024]⟩
abbrev S8704x4096 : Shape := ⟨2, ![8704, 4096]⟩
abbrev S2x8x36864 : Shape := ⟨3, ![2, 8, 36864]⟩
abbrev S2x4096x4096 : Shape := ⟨3, ![2, 4096, 4096]⟩
abbrev S8192x4096 : Shape := ⟨2, ![8192, 4096]⟩
abbrev S1x4096x4096 : Shape := ⟨3, ![1, 4096, 4096]⟩
abbrev S4096x4096 : Shape := ⟨2, ![4096, 4096]⟩
abbrev S1x2x4096 : Shape := ⟨3, ![1, 2, 4096]⟩
abbrev S2x4096 : Shape := ⟨2, ![2, 4096]⟩
abbrev S2x1x4096 : Shape := ⟨3, ![2, 1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x1536, .f32⟩
  | .hbm, ⟨2, _⟩ => ⟨S8192x1024, .f32⟩
  | .hbm, ⟨3, _⟩ => ⟨S8704x4096, .f32⟩
  | .hbm, ⟨4, _⟩ => ⟨S2x8x36864, .f32⟩
  | .hbm, ⟨5, _⟩ => ⟨S2x4096x4096, .f32⟩
  | .hbm, ⟨6, _⟩ => ⟨S8192x4096, .f32⟩
  | .hbm, ⟨7, _⟩ => ⟨S1x4096x4096, .f32⟩
  | .hbm, ⟨8, _⟩ => ⟨S4096x4096, .f32⟩
  | .hbm, ⟨9, _⟩ => ⟨S8192x4096, .f32⟩
  | .hbm, ⟨10, _⟩ => ⟨S2x4096x4096, .f32⟩
  | .hbm, ⟨11, _⟩ => ⟨S8192x4096, .f32⟩
  | .hbm, ⟨12, _⟩ => ⟨S2x4096x4096, .f32⟩
  | .hbm, ⟨13, _⟩ => ⟨S1x2x4096, .f32⟩
  | .hbm, ⟨14, _⟩ => ⟨S2x4096, .f32⟩
  | .hbm, ⟨15, _⟩ => ⟨S2x1x4096, .f32⟩
  | .hbm, ⟨16, _⟩ => ⟨S2x4096x4096, .f32⟩
  | .hbm, ⟨17, _⟩ => ⟨S2x4096x4096, .f32⟩
  | .hbm, ⟨18, _⟩ => ⟨S2x4096x4096, .f32⟩
  | .hbm, ⟨19, _⟩ => ⟨S8192x4096, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel6.lean ====
abbrev S8704x4096 : Shape := ⟨2, ![8704, 4096]⟩
abbrev S2x4096x6976 : Shape := ⟨3, ![2, 4096, 6976]⟩
abbrev S2x6976x4096 : Shape := ⟨3, ![2, 6976, 4096]⟩
abbrev S8704x3840 : Shape := ⟨2, ![8704, 3840]⟩
abbrev S1088x4096 : Shape := ⟨2, ![1088, 4096]⟩
abbrev S1x96x4096 : Shape := ⟨3, ![1, 96, 4096]⟩
abbrev S1088x768 : Shape := ⟨2, ![1088, 768]⟩
abbrev S768x4096 : Shape := ⟨2, ![768, 4096]⟩
abbrev S96x4096 : Shape := ⟨2, ![96, 4096]⟩

abbrev nBuf : Space → Nat
  | .hbm => 5
  | .vmem => 8
  | .smem => 0
  | _ => 0

abbrev bufTy : (tb : Table) → Fin (tcTables nBuf tb) → BufTy
  | .hbm, ⟨0, _⟩ => ⟨S8704x4096, .f32⟩
  | .hbm, ⟨1, _⟩ => ⟨S2x4096x6976, .f32⟩
  | .hbm, ⟨2, _⟩ => ⟨S8704x4096, .bf16⟩
  | .hbm, ⟨3, _⟩ => ⟨S2x6976x4096, .f32⟩
  | .hbm, ⟨4, _⟩ => ⟨S8704x3840, .f32⟩
  | .local _ .vmem, ⟨0, _⟩ => ⟨S1088x4096, .bf16⟩
  | .local _ .vmem, ⟨1, _⟩ => ⟨S1088x4096, .bf16⟩
  | .local _ .vmem, ⟨2, _⟩ => ⟨S1x96x4096, .f32⟩
  | .local _ .vmem, ⟨3, _⟩ => ⟨S1x96x4096, .f32⟩
  | .local _ .vmem, ⟨4, _⟩ => ⟨S1088x768, .f32⟩
  | .local _ .vmem, ⟨5, _⟩ => ⟨S1088x768, .f32⟩
  | .local _ .vmem, ⟨6, _⟩ => ⟨S768x4096, .bf16⟩
  | .local _ .vmem, ⟨7, _⟩ => ⟨S768x4096, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_mult1 (i : grid0.Coords) : BitVec 32 :=
  let arg1 : BitVec 32 := BitVec.ofNat 32 (i 1).val
  let c7_i32 : BitVec 32 := 7#32
  let v0 : BitVec 32 := Scalar.minsi arg1 c7_i32
  let c96_i32 : BitVec 32 := 96#32
  let v35 : BitVec 32 := Scalar.muli v0 c96_i32
  v35
def k0_off1 (i : grid0.Coords) : Fin 2 → Nat :=
  let arg1 : BitVec 32 := BitVec.ofNat 32 (i 1).val
  let c7_i32 : BitVec 32 := 7#32
  let v0 : BitVec 32 := Scalar.minsi arg1 c7_i32
  let c96_i32 : BitVec 32 := 96#32
  let v35 : BitVec 32 := Scalar.muli v0 c96_i32
  let v36 : BitVec 32 := v35
  let v37 : Index := Scalar.indexCast v36
  let c0_18 : Index := 0#32
  ![v37.toNat, 0]
def k0_cond2 (i : grid0.Coords) : BitVec 1 :=
  let arg0 : BitVec 32 := BitVec.ofNat 32 (i 0).val
  let c2_i32 : BitVec 32 := 2#32
  let c0_i32_1 : BitVec 32 := 0#32
  let v4 : BitVec 1 := Scalar.cmpi .eq c2_i32 c0_i32_1
  let c1_i32 : BitVec 32 := 1#32
  let v5 : BitVec 32 := Scalar.select v4 c1_i32 c2_i32
  let v6 : BitVec 32 := Scalar.remsi arg0 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_5 : BitVec 32 := 1#32
  let v14 : BitVec 1 := Scalar.cmpi .eq v13 c1_i32_5
  let v15 : BitVec 32 := Scalar.extui v14
  let c0_i32_6 : BitVec 32 := 0#32
  let v16 : BitVec 1 := Scalar.cmpi .ne v15 c0_i32_6
  v16

def k0_mult2 (i : grid0.Coords) : BitVec 32 :=
  let arg1 : BitVec 32 := BitVec.ofNat 32 (i 1).val
  let c7_i32 : BitVec 32 := 7#32
  let v0 : BitVec 32 := Scalar.minsi arg1 c7_i32
  let c96_i32 : BitVec 32 := 96#32
  let v40 : BitVec 32 := Scalar.muli v0 c96_i32
  v40
def k0_off2 (i : grid0.Coords) : Fin 2 → Nat :=
  let arg1 : BitVec 32 := BitVec.ofNat 32 (i 1).val
  let c7_i32 : BitVec 32 := 7#32
  let v0 : BitVec 32 := Scalar.minsi arg1 c7_i32
  let c96_i32 : BitVec 32 := 96#32
  let v40 : BitVec 32 := Scalar.muli v0 c96_i32
  let v41 : BitVec 32 := v40
  let v42 : Index := Scalar.indexCast v41
  let c0_24 : Index := 0#32
  ![v42.toNat, 0]
def k0_cond3 (i : grid0.Coords) : BitVec 1 :=
  let arg0 : BitVec 32 := BitVec.ofNat 32 (i 0).val
  let c0_i32_7 : BitVec 32 := 0#32
  let v17 : BitVec 1 := Scalar.cmpi .sgt arg0 c0_i32_7
  let c2_i32_8 : BitVec 32 := 2#32
  let c0_i32_9 : BitVec 32 := 0#32
  let v18 : BitVec 1 := Scalar.cmpi .eq c2_i32_8 c0_i32_9
  let c1_i32_10 : BitVec 32 := 1#32
  let v19 : BitVec 32 := Scalar.select v18 c1_i32_10 c2_i32_8
  let v20 : BitVec 32 := Scalar.remsi arg0 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c0_i32_14 : BitVec 32 := 0#32
  let v28 : BitVec 1 := Scalar.cmpi .eq v27 c0_i32_14
  let v29 : BitVec 1 := Scalar.andi v17 v28
  let v30 : BitVec 32 := Scalar.extui v29
  let c0_i32_15 : BitVec 32 := 0#32
  let v31 : BitVec 1 := Scalar.cmpi .ne v30 c0_i32_15
  v31

def k0_mult3 (i : grid0.Coords) : BitVec 32 :=
  let arg1 : BitVec 32 := BitVec.ofNat 32 (i 1).val
  let c7_i32 : BitVec 32 := 7#32
  let v0 : BitVec 32 := Scalar.minsi arg1 c7_i32
  let c96_i32 : BitVec 32 := 96#32
  let v40 : BitVec 32 := Scalar.muli v0 c96_i32
  v40
def k0_off3 (i : grid0.Coords) : Fin 2 → Nat :=
  let arg1 : BitVec 32 := BitVec.ofNat 32 (i 1).val
  let c7_i32 : BitVec 32 := 7#32
  let v0 : BitVec 32 := Scalar.minsi arg1 c7_i32
  let c96_i32 : BitVec 32 := 96#32
  let v40 : BitVec 32 := Scalar.muli v0 c96_i32
  let v41 : BitVec 32 := v40
  let v42 : Index := Scalar.indexCast v41
  let c0_24 : Index := 0#32
  ![v42.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.minsi arg0 c4_i32
  let c8_i32 : BitVec 32 := 8#32
  let v1 : BitVec 32 := Scalar.muli v0 c8_i32
  let c0_i32 : BitVec 32 := 0#32
  let v2 : BitVec 32 := Scalar.addi c0_i32 v1
  let c7_i32 : BitVec 32 := 7#32
  let v3 : BitVec 32 := Scalar.minsi arg1 c7_i32
  let v4 : BitVec 32 := Scalar.addi v2 v3
  let c0_i32_0 : BitVec 32 := 0#32
  let c0_i32_1 : BitVec 32 := 0#32
  let c0_i32_2 : BitVec 32 := 0#32
  ![c0_i32_0.toNat, v4.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x96x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1088x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8704x4096 : Shape := ⟨2, ![8704, 4096]⟩
abbrev S2x4096x6976 : Shape := ⟨3, ![2, 4096, 6976]⟩
abbrev S1x4096x6976 : Shape := ⟨3, ![1, 4096, 6976]⟩
abbrev S4096x6976 : Shape := ⟨2, ![4096, 6976]⟩
abbrev S4096x3840 : Shape := ⟨2, ![4096, 3840]⟩
abbrev S8704x3840 : Shape := ⟨2, ![8704, 3840]⟩

abbrev nBuf : Space → Nat
  | .hbm => 6
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S2x4096x6976, .f32⟩
  | .hbm, ⟨2, _⟩ => ⟨S1x4096x6976, .f32⟩
  | .hbm, ⟨3, _⟩ => ⟨S4096x6976, .f32⟩
  | .hbm, ⟨4, _⟩ => ⟨S4096x3840, .f32⟩
  | .hbm, ⟨5, _⟩ => ⟨S8704x3840, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S8704x4096 : Shape := ⟨2, ![8704, 4096]⟩
abbrev S2x4096x6976 : Shape := ⟨3, ![2, 4096, 6976]⟩
abbrev S2x6976x4096 : Shape := ⟨3, ![2, 6976, 4096]⟩
abbrev S8704x3072 : Shape := ⟨2, ![8704, 3072]⟩
abbrev S1088x4096 : Shape := ⟨2, ![1088, 4096]⟩
abbrev S1x64x4096 : Shape := ⟨3, ![1, 64, 4096]⟩
abbrev S1088x512 : Shape := ⟨2, ![1088, 512]⟩
abbrev S512x4096 : Shape := ⟨2, ![512, 4096]⟩
abbrev S64x4096 : Shape := ⟨2, ![64, 4096]⟩

abbrev nBuf : Space → Nat
  | .hbm => 5
  | .vmem => 8
  | .smem => 0
  | _ => 0

abbrev bufTy : (tb : Table) → Fin (tcTables nBuf tb) → BufTy
  | .hbm, ⟨0, _⟩ => ⟨S8704x4096, .f32⟩
  | .hbm, ⟨1, _⟩ => ⟨S2x4096x6976, .f32⟩
  | .hbm, ⟨2, _⟩ => ⟨S8704x4096, .bf16⟩
  | .hbm, ⟨3, _⟩ => ⟨S2x6976x4096, .f32⟩
  | .hbm, ⟨4, _⟩ => ⟨S8704x3072, .f32⟩
  | .local _ .vmem, ⟨0, _⟩ => ⟨S1088x4096, .bf16⟩
  | .local _ .vmem, ⟨1, _⟩ => ⟨S1088x4096, .bf16⟩
  | .local _ .vmem, ⟨2, _⟩ => ⟨S1x64x4096, .f32⟩
  | .local _ .vmem, ⟨3, _⟩ => ⟨S1x64x4096, .f32⟩
  | .local _ .vmem, ⟨4, _⟩ => ⟨S1088x512, .f32⟩
  | .local _ .vmem, ⟨5, _⟩ => ⟨S1088x512, .f32⟩
  | .local _ .vmem, ⟨6, _⟩ => ⟨S512x4096, .bf16⟩
  | .local _ .vmem, ⟨7, _⟩ => ⟨S512x4096, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 8], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_mult1 (i : grid0.Coords) : BitVec 32 :=
  let arg1 : BitVec 32 := BitVec.ofNat 32 (i 1).val
  let c7_i32 : BitVec 32 := 7#32
  let v0 : BitVec 32 := Scalar.minsi arg1 c7_i32
  let c64_i32 : BitVec 32 := 64#32
  let v35 : BitVec 32 := Scalar.muli v0 c64_i32
  v35
def k0_off1 (i : grid0.Coords) : Fin 2 → Nat :=
  let arg1 : BitVec 32 := BitVec.ofNat 32 (i 1).val
  let c7_i32 : BitVec 32 := 7#32
  let v0 : BitVec 32 := Scalar.minsi arg1 c7_i32
  let c64_i32 : BitVec 32 := 64#32
  let v35 : BitVec 32 := Scalar.muli v0 c64_i32
  let v36 : BitVec 32 := v35
  let v37 : Index := Scalar.indexCast v36
  let c0_18 : Index := 0#32
  ![v37.toNat, 0]
def k0_cond2 (i : grid0.Coords) : BitVec 1 :=
  let arg0 : BitVec 32 := BitVec.ofNat 32 (i 0).val
  let c2_i32 : BitVec 32 := 2#32
  let c0_i32_1 : BitVec 32 := 0#32
  let v4 : BitVec 1 := Scalar.cmpi .eq c2_i32 c0_i32_1
  let c1_i32 : BitVec 32 := 1#32
  let v5 : BitVec 32 := Scalar.select v4 c1_i32 c2_i32
  let v6 : BitVec 32 := Scalar.remsi arg0 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_5 : BitVec 32 := 1#32
  let v14 : BitVec 1 := Scalar.cmpi .eq v13 c1_i32_5
  let v15 : BitVec 32 := Scalar.extui v14
  let c0_i32_6 : BitVec 32 := 0#32
  let v16 : BitVec 1 := Scalar.cmpi .ne v15 c0_i32_6
  v16

def k0_mult2 (i : grid0.Coords) : BitVec 32 :=
  let arg1 : BitVec 32 := BitVec.ofNat 32 (i 1).val
  let c7_i32 : BitVec 32 := 7#32
  let v0 : BitVec 32 := Scalar.minsi arg1 c7_i32
  let c64_i32 : BitVec 32 := 64#32
  let v40 : BitVec 32 := Scalar.muli v0 c64_i32
  v40
def k0_off2 (i : grid0.Coords) : Fin 2 → Nat :=
  let arg1 : BitVec 32 := BitVec.ofNat 32 (i 1).val
  let c7_i32 : BitVec 32 := 7#32
  let v0 : BitVec 32 := Scalar.minsi arg1 c7_i32
  let c64_i32 : BitVec 32 := 64#32
  let v40 : BitVec 32 := Scalar.muli v0 c64_i32
  let v41 : BitVec 32 := v40
  let v42 : Index := Scalar.indexCast v41
  let c0_24 : Index := 0#32
  ![v42.toNat, 0]
def k0_cond3 (i : grid0.Coords) : BitVec 1 :=
  let arg0 : BitVec 32 := BitVec.ofNat 32 (i 0).val
  let c0_i32_7 : BitVec 32 := 0#32
  let v17 : BitVec 1 := Scalar.cmpi .sgt arg0 c0_i32_7
  let c2_i32_8 : BitVec 32 := 2#32
  let c0_i32_9 : BitVec 32 := 0#32
  let v18 : BitVec 1 := Scalar.cmpi .eq c2_i32_8 c0_i32_9
  let c1_i32_10 : BitVec 32 := 1#32
  let v19 : BitVec 32 := Scalar.select v18 c1_i32_10 c2_i32_8
  let v20 : BitVec 32 := Scalar.remsi arg0 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c0_i32_14 : BitVec 32 := 0#32
  let v28 : BitVec 1 := Scalar.cmpi .eq v27 c0_i32_14
  let v29 : BitVec 1 := Scalar.andi v17 v28
  let v30 : BitVec 32 := Scalar.extui v29
  let c0_i32_15 : BitVec 32 := 0#32
  let v31 : BitVec 1 := Scalar.cmpi .ne v30 c0_i32_15
  v31

def k0_mult3 (i : grid0.Coords) : BitVec 32 :=
  let arg1 : BitVec 32 := BitVec.ofNat 32 (i 1).val
  let c7_i32 : BitVec 32 := 7#32
  let v0 : BitVec 32 := Scalar.minsi arg1 c7_i32
  let c64_i32 : BitVec 32 := 64#32
  let v40 : BitVec 32 := Scalar.muli v0 c64_i32
  v40
def k0_off3 (i : grid0.Coords) : Fin 2 → Nat :=
  let arg1 : BitVec 32 := BitVec.ofNat 32 (i 1).val
  let c7_i32 : BitVec 32 := 7#32
  let v0 : BitVec 32 := Scalar.minsi arg1 c7_i32
  let c64_i32 : BitVec 32 := 64#32
  let v40 : BitVec 32 := Scalar.muli v0 c64_i32
  let v41 : BitVec 32 := v40
  let v42 : Index := Scalar.indexCast v41
  let c0_24 : Index := 0#32
  ![v42.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.minsi arg0 c5_i32
  let c8_i32 : BitVec 32 := 8#32
  let v1 : BitVec 32 := Scalar.muli v0 c8_i32
  let c61_i32 : BitVec 32 := 61#32
  let v2 : BitVec 32 := Scalar.addi c61_i32 v1
  let c7_i32 : BitVec 32 := 7#32
  let v3 : BitVec 32 := Scalar.minsi arg1 c7_i32
  let v4 : BitVec 32 := Scalar.addi v2 v3
  let c0_i32 : BitVec 32 := 0#32
  let c0_i32_0 : BitVec 32 := 0#32
  let c0_i32_1 : BitVec 32 := 0#32
  ![c0_i32.toNat, v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8704x4096 : Shape := ⟨2, ![8704, 4096]⟩
abbrev S2x4096x6976 : Shape := ⟨3, ![2, 4096, 6976]⟩
abbrev S1x4096x6976 : Shape := ⟨3, ![1, 4096, 6976]⟩
abbrev S4096x6976 : Shape := ⟨2, ![4096, 6976]⟩
abbrev S4096x3072 : Shape := ⟨2, ![4096, 3072]⟩
abbrev S8704x3072 : Shape := ⟨2, ![8704, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S2x4096x6976, .f32⟩
  | .hbm, ⟨2, _⟩ => ⟨S1x4096x6976, .f32⟩
  | .hbm, ⟨3, _⟩ => ⟨S4096x6976, .f32⟩
  | .hbm, ⟨4, _⟩ => ⟨S4096x3072, .f32⟩
  | .hbm, ⟨5, _⟩ => ⟨S8704x3072, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S8704x4096 : Shape := ⟨2, ![8704, 4096]⟩
abbrev S2x8x36864 : Shape := ⟨3, ![2, 8, 36864]⟩
abbrev S144x1x4096 : Shape := ⟨3, ![144, 1, 4096]⟩
abbrev S1x1x4096 : Shape := ⟨3, ![1, 1, 4096]⟩
abbrev S512x4096 : Shape := ⟨2, ![512, 4096]⟩
abbrev S3x512x4096 : Shape := ⟨3, ![3, 512, 4096]⟩
abbrev S3 : Shape := ⟨1, ![3]⟩
abbrev S1 : Shape := ⟨1, ![1]⟩
abbrev S_ : Shape := ⟨0, ![]⟩
abbrev S1x512x4096 : Shape := ⟨3, ![1, 512, 4096]⟩
abbrev S512 : Shape := ⟨1, ![512]⟩
abbrev S512x1 : Shape := ⟨2, ![512, 1]⟩
abbrev S1x4096 : Shape := ⟨2, ![1, 4096]⟩

abbrev nBuf : Space → Nat
  | .hbm => 4
  | .vmem => 7
  | .smem => 0
  | _ => 0

abbrev bufTy : (tb : Table) → Fin (tcTables nBuf tb) → BufTy
  | .hbm, ⟨0, _⟩ => ⟨S8704x4096, .f32⟩
  | .hbm, ⟨1, _⟩ => ⟨S2x8x36864, .f32⟩
  | .hbm, ⟨2, _⟩ => ⟨S144x1x4096, .f32⟩
  | .hbm, ⟨3, _⟩ => ⟨S8704x4096, .bf16⟩
  | .local _ .vmem, ⟨0, _⟩ => ⟨S1x1x4096, .f32⟩
  | .local _ .vmem, ⟨1, _⟩ => ⟨S1x1x4096, .f32⟩
  | .local _ .vmem, ⟨2, _⟩ => ⟨S1x1x4096, .f32⟩
  | .local _ .vmem, ⟨3, _⟩ => ⟨S1x1x4096, .f32⟩
  | .local _ .vmem, ⟨4, _⟩ => ⟨S512x4096, .bf16⟩
  | .local _ .vmem, ⟨5, _⟩ => ⟨S512x4096, .bf16⟩
  | .local _ .vmem, ⟨6, _⟩ => ⟨S3x512x4096, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c17_i32 : BitVec 32 := 17#32
  let v5 : BitVec 1 := Scalar.cmpi .slt v4 c17_i32
  let v6 : BitVec 32 := Scalar.extui v5
  let c0_i32_1 : BitVec 32 := 0#32
  let v7 : BitVec 1 := Scalar.cmpi .ne v6 c0_i32_1
  v7

def k0_off1 (i : grid0.Coords) : Fin 1 → Nat :=
  let arg0 : BitVec 32 := BitVec.ofNat 32 (i 0).val
  let c3_i32_29 : BitVec 32 := 3#32
  let v59 : BitVec 32 := Scalar.addi arg0 c3_i32_29
  let c1_i32_30 : BitVec 32 := 1#32
  let v60 : BitVec 32 := Scalar.subi v59 c1_i32_30
  let c3_i32_31 : BitVec 32 := 3#32
  let c0_i32_32 : BitVec 32 := 0#32
  let v61 : BitVec 1 := Scalar.cmpi .eq c3_i32_31 c0_i32_32
  let c1_i32_33 : BitVec 32 := 1#32
  let v62 : BitVec 32 := Scalar.select v61 c1_i32_33 c3_i32_31
  let v63 : BitVec 32 := Scalar.remsi v60 v62
  let c0_i32_35 : BitVec 32 := 0#32
  let v65 : BitVec 1 := Scalar.cmpi .slt v63 c0_i32_35
  let c0_i32_36 : BitVec 32 := 0#32
  let v66 : BitVec 1 := Scalar.cmpi .slt v62 c0_i32_36
  let v67 : BitVec 1 := Scalar.xori v65 v66
  let c0_i32_34 : BitVec 32 := 0#32
  let v64 : BitVec 1 := Scalar.cmpi .ne v63 c0_i32_34
  let v68 : BitVec 1 := Scalar.andi v67 v64
  let v69 : BitVec 32 := Scalar.addi v63 v62
  let v70 : BitVec 32 := Scalar.select v68 v69 v63
  ![v70.toNat]
def k0_off2 (i : grid0.Coords) : Fin 3 → Nat :=
  let arg0 : BitVec 32 := BitVec.ofNat 32 (i 0).val
  let c3_i32_29 : BitVec 32 := 3#32
  let v59 : BitVec 32 := Scalar.addi arg0 c3_i32_29
  let c1_i32_30 : BitVec 32 := 1#32
  let v60 : BitVec 32 := Scalar.subi v59 c1_i32_30
  let c3_i32_31 : BitVec 32 := 3#32
  let c0_i32_32 : BitVec 32 := 0#32
  let v61 : BitVec 1 := Scalar.cmpi .eq c3_i32_31 c0_i32_32
  let c1_i32_33 : BitVec 32 := 1#32
  let v62 : BitVec 32 := Scalar.select v61 c1_i32_33 c3_i32_31
  let v63 : BitVec 32 := Scalar.remsi v60 v62
  let c0_i32_35 : BitVec 32 := 0#32
  let v65 : BitVec 1 := Scalar.cmpi .slt v63 c0_i32_35
  let c0_i32_36 : BitVec 32 := 0#32
  let v66 : BitVec 1 := Scalar.cmpi .slt v62 c0_i32_36
  let v67 : BitVec 1 := Scalar.xori v65 v66
  let c0_i32_34 : BitVec 32 := 0#32
  let v64 : BitVec 1 := Scalar.cmpi .ne v63 c0_i32_34
  let v68 : BitVec 1 := Scalar.andi v67 v64
  let v69 : BitVec 32 := Scalar.addi v63 v62
  let v70 : BitVec 32 := Scalar.select v68 v69 v63
  let c0_i32_38 : BitVec 32 := 0#32
  let c0_i32_39 : BitVec 32 := 0#32
  ![v70.toNat, 0, 0]
def k0_off3 (i : grid0.Coords) : Fin 2 → Nat :=
  let arg0 : BitVec 32 := BitVec.ofNat 32 (i 0).val
  let c3_i32_29 : BitVec 32 := 3#32
  let v59 : BitVec 32 := Scalar.addi arg0 c3_i32_29
  let c1_i32_30 : BitVec 32 := 1#32
  let v60 : BitVec 32 := Scalar.subi v59 c1_i32_30
  let c512_i32_37 : BitVec 32 := 512#32
  let v71 : BitVec 32 := Scalar.muli v60 c512_i32_37
  let c0_i32_40 : BitVec 32 := 0#32
  ![v71.toNat, 0]
def k0_off4 (i : grid0.Coords) : Fin 1 → Nat :=
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  ![v17.toNat]
def k0_off5 (i : grid0.Coords) : Fin 3 → Nat :=
  let arg0 : BitVec 32 := BitVec.ofNat 32 (i 0).val
  let c3_i32_2 : BitVec 32 := 3#32
  let c0_i32_3 : BitVec 32 := 0#32
  let v8 : BitVec 1 := Scalar.cmpi .eq c3_i32_2 c0_i32_3
  let c1_i32_4 : BitVec 32 := 1#32
  let v9 : BitVec 32 := Scalar.select v8 c1_i32_4 c3_i32_2
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c0_i32_8 : BitVec 32 := 0#32
  let c0_i32_9 : BitVec 32 := 0#32
  ![v17.toNat, 0, 0]
def k0_off6 (i : grid0.Coords) : Fin 2 → Nat :=
  let arg0 : BitVec 32 := BitVec.ofNat 32 (i 0).val
  let c512_i32 : BitVec 32 := 512#32
  let v18 : BitVec 32 := Scalar.muli arg0 c512_i32
  let c0_i32_10 : BitVec 32 := 0#32
  ![v18.toNat, 0]
def k0_off7 (i : grid0.Coords) : Fin 3 → Nat :=
  let arg0 : BitVec 32 := BitVec.ofNat 32 (i 0).val
  let c3_i32_11 : BitVec 32 := 3#32
  let c0_i32_12 : BitVec 32 := 0#32
  let v24 : BitVec 1 := Scalar.cmpi .eq c3_i32_11 c0_i32_12
  let c1_i32_13 : BitVec 32 := 1#32
  let v25 : BitVec 32 := Scalar.select v24 c1_i32_13 c3_i32_11
  let v26 : BitVec 32 := Scalar.remsi arg0 v25
  let c0_i32_15 : BitVec 32 := 0#32
  let v28 : BitVec 1 := Scalar.cmpi .slt v26 c0_i32_15
  let c0_i32_16 : BitVec 32 := 0#32
  let v29 : BitVec 1 := Scalar.cmpi .slt v25 c0_i32_16
  let v30 : BitVec 1 := Scalar.xori v28 v29
  let c0_i32_14 : BitVec 32 := 0#32
  let v27 : BitVec 1 := Scalar.cmpi .ne v26 c0_i32_14
  let v31 : BitVec 1 := Scalar.andi v30 v27
  let v32 : BitVec 32 := Scalar.addi v26 v25
  let v33 : BitVec 32 := Scalar.select v31 v32 v26
  let v34 : Index := Scalar.indexCast v33
  let c0 : Index := 0#32
  let c0_17 : Index := 0#32
  ![v34.toNat, 0, 0]
def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c9_i32 : BitVec 32 := 9#32
  let v19 : BitVec 32 := Scalar.muli v18 c9_i32
  let c3_i32 : BitVec 32 := 3#32
  let v20 : BitVec 32 := Scalar.addi v19 c3_i32
  let c0_i32_5 : BitVec 32 := 0#32
  let c0_i32_6 : BitVec 32 := 0#32
  let c0_i32_7 : BitVec 32 := 0#32
  ![v20.toNat, c0_i32_5.toNat, c0_i32_6.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c9_i32 : BitVec 32 := 9#32
  let v19 : BitVec 32 := Scalar.muli v18 c9_i32
  let c4_i32 : BitVec 32 := 4#32
  let v20 : BitVec 32 := Scalar.addi v19 c4_i32
  let c0_i32_5 : BitVec 32 := 0#32
  let c0_i32_6 : BitVec 32 := 0#32
  let c0_i32_7 : BitVec 32 := 0#32
  ![v20.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S8704x4096 : Shape := ⟨2, ![8704, 4096]⟩
abbrev S2x8x36864 : Shape := ⟨3, ![2, 8, 36864]⟩
abbrev S8192x4096 : Shape := ⟨2, ![8192, 4096]⟩
abbrev S2x4096x4096 : Shape := ⟨3, ![2, 4096, 4096]⟩
abbrev S512x4096 : Shape := ⟨2, ![512, 4096]⟩
abbrev S2x256x4096 : Shape := ⟨3, ![2, 256, 4096]⟩
abbrev S1x2x36864 : Shape := ⟨3, ![1, 2, 36864]⟩
abbrev S2x36864 : Shape := ⟨2, ![2, 36864]⟩
abbrev S2x1x36864 : Shape := ⟨3, ![2, 1, 36864]⟩
abbrev S1x1x36864 : Shape := ⟨3, ![1, 1, 36864]⟩
abbrev S36864 : Shape := ⟨1, ![36864]⟩
abbrev S2x1x4096 : Shape := ⟨3, ![2, 1, 4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩
abbrev S2x256 : Shape := ⟨2, ![2, 256]⟩
abbrev S2x256x1 : Shape := ⟨3, ![2, 256, 1]⟩

abbrev nBuf : Space → Nat
  | .hbm => 60
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S2x8x36864, .f32⟩
  | .hbm, ⟨2, _⟩ => ⟨S8192x4096, .f32⟩
  | .hbm, ⟨3, _⟩ => ⟨S2x4096x4096, .f32⟩
  | .hbm, ⟨4, _⟩ => ⟨S512x4096, .f32⟩
  | .hbm, ⟨5, _⟩ => ⟨S2x256x4096, .f32⟩
  | .hbm, ⟨6, _⟩ => ⟨S1x2x36864, .f32⟩
  | .hbm, ⟨7, _⟩ => ⟨S2x36864, .f32⟩
  | .hbm, ⟨8, _⟩ => ⟨S2x1x36864, .f32⟩
  | .hbm, ⟨9, _⟩ => ⟨S1x1x36864, .f32⟩
  | .hbm, ⟨10, _⟩ => ⟨S36864, .f32⟩
  | .hbm, ⟨11, _⟩ => ⟨S1x1x36864, .f32⟩
  | .hbm, ⟨12, _⟩ => ⟨S2x1x4096, .f32⟩
  | .hbm, ⟨13, _⟩ => ⟨S2x1x4096, .f32⟩
  | .hbm, ⟨14, _⟩ => ⟨S2x4096x4096, .f32⟩
  | .hbm, ⟨15, _⟩ => ⟨S_, .f32⟩
  | .hbm, ⟨16, _⟩ => ⟨S2x4096, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S_, .f32⟩
  | .hbm, ⟨22, _⟩ => ⟨S2x4096x1, .f32⟩
  | .hbm, ⟨23, _⟩ => ⟨S2x4096x1, .f32⟩
  | .hbm, ⟨24, _⟩ => ⟨S2x4096x1, .f32⟩
  | .hbm, ⟨25, _⟩ => ⟨S2x4096x4096, .f32⟩
  | .hbm, ⟨26, _⟩ => ⟨S2x4096x4096, .f32⟩
  | .hbm, ⟨27, _⟩ => ⟨S_, .f32⟩
  | .hbm, ⟨28, _⟩ => ⟨S2x1x4096, .f32⟩
  | .hbm, ⟨29, _⟩ => ⟨S2x1x4096, .f32⟩
  | .hbm, ⟨30, _⟩ => ⟨S2x4096x4096, .f32⟩
  | .hbm, ⟨31, _⟩ => ⟨S2x4096x4096, .f32⟩
  | .hbm, ⟨32, _⟩ => ⟨S2x4096x4096, .f32⟩
  | .hbm, ⟨33, _⟩ => ⟨S2x4096x4096, .f32⟩
  | .hbm, ⟨34, _⟩ => ⟨S8192x4096, .f32⟩
  | .hbm, ⟨35, _⟩ => ⟨S1x1x4096, .f32⟩
  | .hbm, ⟨36, _⟩ => ⟨S1x1x4096, .f32⟩
  | .hbm, ⟨37, _⟩ => ⟨S2x256x4096, .f32⟩
  | .hbm, ⟨38, _⟩ => ⟨S_, .f32⟩
  | .hbm, ⟨39, _⟩ => ⟨S2x256, .f32⟩
  | .hbm, ⟨40, _⟩ => ⟨S2x256x1, .f32⟩
  | .hbm, ⟨41, _⟩ => ⟨S_, .f32⟩
  | .hbm, ⟨42, _⟩ => ⟨S2x256x1, .f32⟩
  | .hbm, ⟨43, _⟩ => ⟨S2x256x1, .f32⟩
  | .hbm, ⟨44, _⟩ => ⟨S_, .f32⟩
  | .hbm, ⟨45, _⟩ => ⟨S2x256x1, .f32⟩
  | .hbm, ⟨46, _⟩ => ⟨S2x256x1, .f32⟩
  | .hbm, ⟨47, _⟩ => ⟨S2x256x1, .f32⟩
  | .hbm, ⟨48, _⟩ => ⟨S2x256x4096, .f32⟩
  | .hbm, ⟨49, _⟩ => ⟨S2x256x4096, .f32⟩
  | .hbm, ⟨50, _⟩ => ⟨S_, .f32⟩
  | .hbm, ⟨51, _⟩ => ⟨S1x1x4096, .f32⟩
  | .hbm, ⟨52, _⟩ => ⟨S1x1x4096, .f32⟩
  | .hbm, ⟨53, _⟩ => ⟨S2x256x4096, .f32⟩
  | .hbm, ⟨54, _⟩ => ⟨S2x256x4096, .f32⟩
  | .hbm, ⟨55, _⟩ => ⟨S2x256x4096, .f32⟩
  | .hbm, ⟨56, _⟩ => ⟨S2x256x4096, .f32⟩
  | .hbm, ⟨57, _⟩ => ⟨S512x4096, .f32⟩
  | .hbm, ⟨58, _⟩ => ⟨S8704x4096, .f32⟩
  | .hbm, ⟨59, _⟩ => ⟨S8704x4096, .bf16⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_3 : Ref sig .tc := ⟨.hbm, 38, rfl⟩
abbrev main_v32 : Ref sig .tc := ⟨.hbm, 39, rfl⟩
abbrev main_v33 : Ref sig .tc := ⟨.hbm, 40, rfl⟩
abbrev main_cst_4 : Ref sig .tc := ⟨.hbm, 41, rfl⟩
abbrev main_v34 : Ref sig .tc := ⟨.hbm, 42, rfl⟩
abbrev main_v35 : Ref sig .tc := ⟨.hbm, 43, rfl⟩
abbrev main_cst_5 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_6 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩

abbrev nD : Nat := 1
abbrev τ : Topo := Topo.v7x

variable {F : FTy → Type} [FloatOps F]
-- ==== Kernel9.lean ====
abbrev S8704x3072 : Shape := ⟨2, ![8704, 3072]⟩
abbrev S2x3x1024 : Shape := ⟨3, ![2, 3, 1024]⟩
abbrev S2x1024 : Shape := ⟨2, ![2, 1024]⟩
abbrev S1x3x1024 : Shape := ⟨3, ![1, 3, 1024]⟩
abbrev S3x1024 : Shape := ⟨2, ![3, 1024]⟩
abbrev S1x1024 : Shape := ⟨2, ![1, 1024]⟩
abbrev S1024 : Shape := ⟨1, ![1024]⟩
abbrev S8192x1024 : Shape := ⟨2, ![8192, 1024]⟩
abbrev S4096x128 : Shape := ⟨2, ![4096, 128]⟩
abbrev S3x128 : Shape := ⟨2, ![3, 128]⟩
abbrev S1x128 : Shape := ⟨2, ![1, 128]⟩

abbrev nBuf : Space → Nat
  | .hbm => 9
  | .vmem => 12
  | .smem => 0
  | _ => 0

abbrev bufTy : (tb : Table) → Fin (tcTables nBuf tb) → BufTy
  | .hbm, ⟨0, _⟩ => ⟨S8704x3072, .f32⟩
  | .hbm, ⟨1, _⟩ => ⟨S2x3x1024, .f32⟩
  | .hbm, ⟨2, _⟩ => ⟨S2x1024, .f32⟩
  | .hbm, ⟨3, _⟩ => ⟨S1x3x1024, .f32⟩
  | .hbm, ⟨4, _⟩ => ⟨S3x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S8192x1024, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S3x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S4096x128, .bf16⟩
  | .local _ .vmem, ⟨11, _⟩ => ⟨S4096x128, .bf16⟩
  | _, _ => ⟨S8704x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let v1 : BitVec 32 := Scalar.addi c8_i32 arg1
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c16_i32 : BitVec 32 := 16#32
  let v1 : BitVec 32 := Scalar.addi c16_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S8704x3072 : Shape := ⟨2, ![8704, 3072]⟩
abbrev S2x3x1024 : Shape := ⟨3, ![2, 3, 1024]⟩
abbrev S2x1024 : Shape := ⟨2, ![2, 1024]⟩
abbrev S8192x3072 : Shape := ⟨2, ![8192, 3072]⟩
abbrev S2x4096x3072 : Shape := ⟨3, ![2, 4096, 3072]⟩
abbrev S2x4096x1024 : Shape := ⟨3, ![2, 4096, 1024]⟩
abbrev S1x3x1024 : Shape := ⟨3, ![1, 3, 1024]⟩
abbrev S3x1024 : Shape := ⟨2, ![3, 1024]⟩
abbrev S1x1024 : Shape := ⟨2, ![1, 1024]⟩
abbrev S1024 : Shape := ⟨1, ![1024]⟩
abbrev S_ : Shape := ⟨0, ![]⟩
abbrev S2x4098x1024 : Shape := ⟨3, ![2, 4098, 1024]⟩
abbrev S1x1x1024 : Shape := ⟨3, ![1, 1, 1024]⟩
abbrev S8192x1024 : Shape := ⟨2, ![8192, 1024]⟩

abbrev nBuf : Space → Nat
  | .hbm => 42
  | .vmem => 0
  | .smem => 0
  | _ => 0

abbrev bufTy : (tb : Table) → Fin (tcTables nBuf tb) → BufTy
  | .hbm, ⟨0, _⟩ => ⟨S8704x3072, .f32⟩
  | .hbm, ⟨1, _⟩ => ⟨S2x3x1024, .f32⟩
  | .hbm, ⟨2, _⟩ => ⟨S2x1024, .f32⟩
  | .hbm, ⟨3, _⟩ => ⟨S8192x3072, .f32⟩
  | .hbm, ⟨4, _⟩ => ⟨S2x4096x3072, .f32⟩
  | .hbm, ⟨5, _⟩ => ⟨S2x4096x1024, .f32⟩
  | .hbm, ⟨6, _⟩ => ⟨S2x4096x1024, .f32⟩
  | .hbm, ⟨7, _⟩ => ⟨S2x4096x1024, .f32⟩
  | .hbm, ⟨8, _⟩ => ⟨S1x3x1024, .f32⟩
  | .hbm, ⟨9, _⟩ => ⟨S3x1024, .f32⟩
  | .hbm, ⟨10, _⟩ => ⟨S1x1024, .f32⟩
  | .hbm, ⟨11, _⟩ => ⟨S1024, .f32⟩
  | .hbm, ⟨12, _⟩ => ⟨S2x4096x1024, .f32⟩
  | .hbm, ⟨13, _⟩ => ⟨S_, .i32⟩
  | .hbm, ⟨14, _⟩ => ⟨S_, .f32⟩
  | .hbm, ⟨15, _⟩ => ⟨S2x4098x1024, .f32⟩
  | .hbm, ⟨16, _⟩ => ⟨S2x4096x1024, .f32⟩
  | .hbm, ⟨17, _⟩ => ⟨S1x1024, .f32⟩
  | .hbm, ⟨18, _⟩ => ⟨S1024, .f32⟩
  | .hbm, ⟨19, _⟩ => ⟨S1x1x1024, .f32⟩
  | .hbm, ⟨20, _⟩ => ⟨S2x4096x1024, .f32⟩
  | .hbm, ⟨21, _⟩ => ⟨S2x4096x1024, .f32⟩
  | .hbm, ⟨22, _⟩ => ⟨S2x4096x1024, .f32⟩
  | .hbm, ⟨23, _⟩ => ⟨S1x1024, .f32⟩
  | .hbm, ⟨24, _⟩ => ⟨S1024, .f32⟩
  | .hbm, ⟨25, _⟩ => ⟨S1x1x1024, .f32⟩
  | .hbm, ⟨26, _⟩ => ⟨S2x4096x1024, .f32⟩
  | .hbm, ⟨27, _⟩ => ⟨S2x4096x1024, .f32⟩
  | .hbm, ⟨28, _⟩ => ⟨S2x4096x1024, .f32⟩
  | .hbm, ⟨29, _⟩ => ⟨S2x4096x1024, .f32⟩
  | .hbm, ⟨30, _⟩ => ⟨S1x1024, .f32⟩
  | .hbm, ⟨31, _⟩ => ⟨S1024, .f32⟩
  | .hbm, ⟨32, _⟩ => ⟨S1x1x1024, .f32⟩
  | .hbm, ⟨33, _⟩ => ⟨S2x4096x1024, .f32⟩
  | .hbm, ⟨34, _⟩ => ⟨S2x4096x1024, .f32⟩
  | .hbm, ⟨35, _⟩ => ⟨S2x4096x1024, .f32⟩
  | .hbm, ⟨36, _⟩ => ⟨S1x1x1024, .f32⟩
  | .hbm, ⟨37, _⟩ => ⟨S2x4096x1024, .f32⟩
  | .hbm, ⟨38, _⟩ => ⟨S2x4096x1024, .f32⟩
  | .hbm, ⟨39, _⟩ => ⟨S2x4096x1024, .f32⟩
  | .hbm, ⟨40, _⟩ => ⟨S8192x1024, .f32⟩
  | .hbm, ⟨41, _⟩ => ⟨S8192x1024, .bf16⟩
  | _, _ => ⟨S8704x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩

abbrev nD : Nat := 1
abbrev τ : Topo := Topo.v7x

variable {F : FTy → Type} [FloatOps F]
-- ==== Kernel10.lean ====
abbrev S2x4096 : Shape := ⟨2, ![2, 4096]⟩
abbrev S4096 : Shape := ⟨1, ![4096]⟩
abbrev S2x4096x36864 : Shape := ⟨3, ![2, 4096, 36864]⟩
abbrev S2x36864 : Shape := ⟨2, ![2, 36864]⟩
abbrev S1x4096 : Shape := ⟨2, ![1, 4096]⟩
abbrev S3x4096 : Shape := ⟨2, ![3, 4096]⟩
abbrev S_ : Shape := ⟨0, ![]⟩
abbrev S5x4096 : Shape := ⟨2, ![5, 4096]⟩
abbrev S8x4096 : Shape := ⟨2, ![8, 4096]⟩
abbrev S2x1x36864 : Shape := ⟨3, ![2, 1, 36864]⟩
abbrev S2x8x36864 : Shape := ⟨3, ![2, 8, 36864]⟩
abbrev S1x4096x1024 : Shape := ⟨3, ![1, 4096, 1024]⟩
abbrev S1x1x1024 : Shape := ⟨3, ![1, 1, 1024]⟩
abbrev S1x8x1024 : Shape := ⟨3, ![1, 8, 1024]⟩
abbrev S4096x1024 : Shape := ⟨2, ![4096, 1024]⟩
abbrev S8x1024 : Shape := ⟨2, ![8, 1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x4096, .f32⟩
  | .hbm, ⟨1, _⟩ => ⟨S4096, .f32⟩
  | .hbm, ⟨2, _⟩ => ⟨S2x4096x36864, .f32⟩
  | .hbm, ⟨3, _⟩ => ⟨S2x36864, .f32⟩
  | .hbm, ⟨4, _⟩ => ⟨S1x4096, .f32⟩
  | .hbm, ⟨5, _⟩ => ⟨S3x4096, .f32⟩
  | .hbm, ⟨6, _⟩ => ⟨S_, .f32⟩
  | .hbm, ⟨7, _⟩ => ⟨S5x4096, .f32⟩
  | .hbm, ⟨8, _⟩ => ⟨S8x4096, .f32⟩
  | .hbm, ⟨9, _⟩ => ⟨S2x1x36864, .f32⟩
  | .hbm, ⟨10, _⟩ => ⟨S2x8x36864, .f32⟩
  | .local _ .vmem, ⟨0, _⟩ => ⟨S8x4096, .f32⟩
  | .local _ .vmem, ⟨1, _⟩ => ⟨S1x4096x1024, .f32⟩
  | .local _ .vmem, ⟨2, _⟩ => ⟨S1x4096x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 36], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S2x4096 : Shape := ⟨2, ![2, 4096]⟩
abbrev S4096 : Shape := ⟨1, ![4096]⟩
abbrev S2x4096x36864 : Shape := ⟨3, ![2, 4096, 36864]⟩
abbrev S2x36864 : Shape := ⟨2, ![2, 36864]⟩
abbrev S1x4096 : Shape := ⟨2, ![1, 4096]⟩
abbrev S3x4096 : Shape := ⟨2, ![3, 4096]⟩
abbrev S_ : Shape := ⟨0, ![]⟩
abbrev S5x4096 : Shape := ⟨2, ![5, 4096]⟩
abbrev S8x4096 : Shape := ⟨2, ![8, 4096]⟩
abbrev S2x36864x8 : Shape := ⟨3, ![2, 36864, 8]⟩
abbrev S2x8x36864 : Shape := ⟨3, ![2, 8, 36864]⟩
abbrev S2x1x36864 : Shape := ⟨3, ![2, 1, 36864]⟩

abbrev nBuf : Space → Nat
  | .hbm => 23
  | .vmem => 0
  | .smem => 0
  | _ => 0

abbrev bufTy : (tb : Table) → Fin (tcTables nBuf tb) → BufTy
  | .hbm, ⟨0, _⟩ => ⟨S2x4096, .f32⟩
  | .hbm, ⟨1, _⟩ => ⟨S4096, .f32⟩
  | .hbm, ⟨2, _⟩ => ⟨S2x4096x36864, .f32⟩
  | .hbm, ⟨3, _⟩ => ⟨S2x36864, .f32⟩
  | .hbm, ⟨4, _⟩ => ⟨S1x4096, .f32⟩
  | .hbm, ⟨5, _⟩ => ⟨S3x4096, .f32⟩
  | .hbm, ⟨6, _⟩ => ⟨S_, .f32⟩
  | .hbm, ⟨7, _⟩ => ⟨S5x4096, .f32⟩
  | .hbm, ⟨8, _⟩ => ⟨S8x4096, .f32⟩
  | .hbm, ⟨9, _⟩ => ⟨S8x4096, .f32⟩
  | .hbm, ⟨10, _⟩ => ⟨S8x4096, .f32⟩
  | .hbm, ⟨11, _⟩ => ⟨S_, .f32⟩
  | .hbm, ⟨12, _⟩ => ⟨S8x4096, .f32⟩
  | .hbm, ⟨13, _⟩ => ⟨S8x4096, .f32⟩
  | .hbm, ⟨14, _⟩ => ⟨S_, .f32⟩
  | .hbm, ⟨15, _⟩ => ⟨S8x4096, .f32⟩
  | .hbm, ⟨16, _⟩ => ⟨S8x4096, .f32⟩
  | .hbm, ⟨17, _⟩ => ⟨S8x4096, .f32⟩
  | .hbm, ⟨18, _⟩ => ⟨S2x36864x8, .f32⟩
  | .hbm, ⟨19, _⟩ => ⟨S2x8x36864, .f32⟩
  | .hbm, ⟨20, _⟩ => ⟨S2x1x36864, .f32⟩
  | .hbm, ⟨21, _⟩ => ⟨S2x8x36864, .f32⟩
  | .hbm, ⟨22, _⟩ => ⟨S2x8x36864, .f32⟩
  | _, _ => ⟨S2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Kernel11.lean ====
abbrev S8704x3840 : Shape := ⟨2, ![8704, 3840]⟩
abbrev S8704x4096 : Shape := ⟨2, ![8704, 4096]⟩
abbrev S2x4096x6976 : Shape := ⟨3, ![2, 4096, 6976]⟩
abbrev S2x768 : Shape := ⟨2, ![2, 768]⟩
abbrev S2x768x2304 : Shape := ⟨3, ![2, 768, 2304]⟩
abbrev S2x512 : Shape := ⟨2, ![2, 512]⟩
abbrev S2x512x3072 : Shape := ⟨3, ![2, 512, 3072]⟩
abbrev S4096x32 : Shape := ⟨2, ![4096, 32]⟩
abbrev S2x6976x4096 : Shape := ⟨3, ![2, 6976, 4096]⟩
abbrev S1x768 : Shape := ⟨2, ![1, 768]⟩
abbrev S768 : Shape := ⟨1, ![768]⟩
abbrev S1x512 : Shape := ⟨2, ![1, 512]⟩
abbrev S512 : Shape := ⟨1, ![512]⟩
abbrev S1x768x2304 : Shape := ⟨3, ![1, 768, 2304]⟩
abbrev S768x2304 : Shape := ⟨2, ![768, 2304]⟩
abbrev S768x12x192 : Shape := ⟨3, ![768, 12, 192]⟩
abbrev S_ : Shape := ⟨0, ![]⟩
abbrev S768x12x256 : Shape := ⟨3, ![768, 12, 256]⟩
abbrev S768x3072 : Shape := ⟨2, ![768, 3072]⟩
abbrev S1x512x3072 : Shape := ⟨3, ![1, 512, 3072]⟩
abbrev S512x3072 : Shape := ⟨2, ![512, 3072]⟩
abbrev S4096x64 : Shape := ⟨2, ![4096, 64]⟩
abbrev S4096x128 : Shape := ⟨2, ![4096, 128]⟩
abbrev S512x64 : Shape := ⟨2, ![512, 64]⟩
abbrev S512x128 : Shape := ⟨2, ![512, 128]⟩
abbrev S4608x128 : Shape := ⟨2, ![4608, 128]⟩
abbrev S8704x3072 : Shape := ⟨2, ![8704, 3072]⟩
abbrev S512x1280 : Shape := ⟨2, ![512, 1280]⟩
abbrev S512x4096 : Shape := ⟨2, ![512, 4096]⟩
abbrev S1x128x4096 : Shape := ⟨3, ![1, 128, 4096]⟩
abbrev S512x768 : Shape := ⟨2, ![512, 768]⟩
abbrev S512x1 : Shape := ⟨2, ![512, 1]⟩
abbrev S512x512 : Shape := ⟨2, ![512, 512]⟩
abbrev S128x4096 : Shape := ⟨2, ![128, 4096]⟩

abbrev nBuf : Space → Nat
  | .hbm => 54
  | .vmem => 21
  | .smem => 0
  | _ => 0

abbrev bufTy : (tb : Table) → Fin (tcTables nBuf tb) → BufTy
  | .hbm, ⟨0, _⟩ => ⟨S8704x3840, .f32⟩
  | .hbm, ⟨1, _⟩ => ⟨S8704x4096, .f32⟩
  | .hbm, ⟨2, _⟩ => ⟨S2x4096x6976, .f32⟩
  | .hbm, ⟨3, _⟩ => ⟨S2x768, .f32⟩
  | .hbm, ⟨4, _⟩ => ⟨S2x768x2304, .f32⟩
  | .hbm, ⟨5, _⟩ => ⟨S2x512, .f32⟩
  | .hbm, ⟨6, _⟩ => ⟨S2x512x3072, .f32⟩
  | .hbm, ⟨7, _⟩ => ⟨S4096x32, .f32⟩
  | .hbm, ⟨8, _⟩ => ⟨S4096x32, .f32⟩
  | .hbm, ⟨9, _⟩ => ⟨S8704x4096, .bf16⟩
  | .hbm, ⟨10, _⟩ => ⟨S2x6976x4096, .f32⟩
  | .hbm, ⟨11, _⟩ => ⟨S1x768, .f32⟩
  | .hbm, ⟨12, _⟩ => ⟨S768, .f32⟩
  | .hbm, ⟨13, _⟩ => ⟨S1x768, .f32⟩
  | .hbm, ⟨14, _⟩ => ⟨S1x512, .f32⟩
  | .hbm, ⟨15, _⟩ => ⟨S512, .f32⟩
  | .hbm, ⟨16, _⟩ => ⟨S1x512, .f32⟩
  | .hbm, ⟨17, _⟩ => ⟨S1x768x2304, .f32⟩
  | .hbm, ⟨18, _⟩ => ⟨S768x2304, .f32⟩
  | .hbm, ⟨19, _⟩ => ⟨S768x12x192, .f32⟩
  | .hbm, ⟨20, _⟩ => ⟨S_, .i32⟩
  | .hbm, ⟨21, _⟩ => ⟨S_, .f32⟩
  | .hbm, ⟨22, _⟩ => ⟨S768x12x256, .f32⟩
  | .hbm, ⟨23, _⟩ => ⟨S768x3072, .f32⟩
  | .hbm, ⟨24, _⟩ => ⟨S768x3072, .bf16⟩
  | .hbm, ⟨25, _⟩ => ⟨S1x512x3072, .f32⟩
  | .hbm, ⟨26, _⟩ => ⟨S512x3072, .f32⟩
  | .hbm, ⟨27, _⟩ => ⟨S512x3072, .bf16⟩
  | .hbm, ⟨28, _⟩ => ⟨S_, .f32⟩
  | .hbm, ⟨29, _⟩ => ⟨S4096x32, .f32⟩
  | .hbm, ⟨30, _⟩ => ⟨S_, .f32⟩
  | .hbm, ⟨31, _⟩ => ⟨S4096x64, .f32⟩
  | .hbm, ⟨32, _⟩ => ⟨S4096x64, .f32⟩
  | .hbm, ⟨33, _⟩ => ⟨S4096x128, .f32⟩
  | .hbm, ⟨34, _⟩ => ⟨S4096x32, .f32⟩
  | .hbm, ⟨35, _⟩ => ⟨S4096x64, .f32⟩
  | .hbm, ⟨36, _⟩ => ⟨S4096x128, .f32⟩
  | .hbm, ⟨37, _⟩ => ⟨S4096x64, .f32⟩
  | .hbm, ⟨38, _⟩ => ⟨S4096x128, .f32⟩
  | .hbm, ⟨39, _⟩ => ⟨S_, .f32⟩
  | .hbm, ⟨40, _⟩ => ⟨S512x64, .f32⟩
  | .hbm, ⟨41, _⟩ => ⟨S_, .f32⟩
  | .hbm, ⟨42, _⟩ => ⟨S512x64, .f32⟩
  | .hbm, ⟨43, _⟩ => ⟨S512x128, .f32⟩
  | .hbm, ⟨44, _⟩ => ⟨S4608x128, .f32⟩
  | .hbm, ⟨45, _⟩ => ⟨S_, .f32⟩
  | .hbm, ⟨46, _⟩ => ⟨S512x128, .f32⟩
  | .hbm, ⟨47, _⟩ => ⟨S4608x128, .f32⟩
  | .hbm, ⟨48, _⟩ => ⟨S_, .f32⟩
  | .hbm, ⟨49, _⟩ => ⟨S512x128, .f32⟩
  | .hbm, ⟨50, _⟩ => ⟨S4608x128, .f32⟩
  | .hbm, ⟨51, _⟩ => ⟨S8704x3072, .bf16⟩
  | .hbm, ⟨52, _⟩ => ⟨S8704x3072, .bf16⟩
  | .hbm, ⟨53, _⟩ => ⟨S8704x3072, .bf16⟩
  | .local _ .vmem, ⟨0, _⟩ => ⟨S512x1280, .f32⟩
  | .local _ .vmem, ⟨1, _⟩ => ⟨S512x1280, .f32⟩
  | .local _ .vmem, ⟨2, _⟩ => ⟨S512x4096, .bf16⟩
  | .local _ .vmem, ⟨3, _⟩ => ⟨S512x4096, .bf16⟩
  | .local _ .vmem, ⟨4, _⟩ => ⟨S1x128x4096, .f32⟩
  | .local _ .vmem, ⟨5, _⟩ => ⟨S1x768, .f32⟩
  | .local _ .vmem, ⟨6, _⟩ => ⟨S1x512, .f32⟩
  | .local _ .vmem, ⟨7, _⟩ => ⟨S768x3072, .bf16⟩
  | .local _ .vmem, ⟨8, _⟩ => ⟨S512x3072, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x3072, .bf16⟩
  | .local _ .vmem, ⟨16, _⟩ => ⟨S512x3072, .bf16⟩
  | .local _ .vmem, ⟨17, _⟩ => ⟨S512x3072, .bf16⟩
  | .local _ .vmem, ⟨18, _⟩ => ⟨S512x3072, .bf16⟩
  | .local _ .vmem, ⟨19, _⟩ => ⟨S512x3072, .bf16⟩
  | .local _ .vmem, ⟨20, _⟩ => ⟨S512x3072, .bf16⟩
  | _, _ => ⟨S8704x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34_0 : Ref sig .tc := ⟨.hbm, 51, rfl⟩
abbrev main_v34_1 : Ref sig .tc := ⟨.hbm, 52, rfl⟩
abbrev main_v34_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c30_i32 : BitVec 32 := 30#32
  let c0_i32_0 : BitVec 32 := 0#32
  let c0_i32_1 : BitVec 32 := 0#32
  ![c0_i32.toNat, c30_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c16_i32 : BitVec 32 := 16#32
  let v0 : BitVec 1 := Scalar.cmpi .slt arg0 c16_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_8 (i : grid0.Coords) : Fin 2 → Nat :=
  let arg0 : BitVec 32 := BitVec.ofNat 32 (i 0).val
  let c16_i32 : BitVec 32 := 16#32
  let v0 : BitVec 1 := Scalar.cmpi .slt arg0 c16_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_9 (i : grid0.Coords) : Fin 2 → Nat :=
  let arg0 : BitVec 32 := BitVec.ofNat 32 (i 0).val
  let c16_i32 : BitVec 32 := 16#32
  let v0 : BitVec 1 := Scalar.cmpi .slt arg0 c16_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference11Ideal.lean ====
abbrev S8704x3840 : Shape := ⟨2, ![8704, 3840]⟩
abbrev S8704x4096 : Shape := ⟨2, ![8704, 4096]⟩
abbrev S2x4096x6976 : Shape := ⟨3, ![2, 4096, 6976]⟩
abbrev S2x768 : Shape := ⟨2, ![2, 768]⟩
abbrev S2x768x2304 : Shape := ⟨3, ![2, 768, 2304]⟩
abbrev S2x512 : Shape := ⟨2, ![2, 512]⟩
abbrev S2x512x3072 : Shape := ⟨3, ![2, 512, 3072]⟩
abbrev S4096x32 : Shape := ⟨2, ![4096, 32]⟩
abbrev S8704x768 : Shape := ⟨2, ![8704, 768]⟩
abbrev S8704x512 : Shape := ⟨2, ![8704, 512]⟩
abbrev S_ : Shape := ⟨0, ![]⟩
abbrev S8704 : Shape := ⟨1, ![8704]⟩
abbrev S8704x1 : Shape := ⟨2, ![8704, 1]⟩
abbrev S1x768 : Shape := ⟨2, ![1, 768]⟩
abbrev S768 : Shape := ⟨1, ![768]⟩
abbrev S1x768x2304 : Shape := ⟨3, ![1, 768, 2304]⟩
abbrev S768x2304 : Shape := ⟨2, ![768, 2304]⟩
abbrev S8704x2304 : Shape := ⟨2, ![8704, 2304]⟩
abbrev S8704x12x192 : Shape := ⟨3, ![8704, 12, 192]⟩
abbrev S1x512 : Shape := ⟨2, ![1, 512]⟩
abbrev S512 : Shape := ⟨1, ![512]⟩
abbrev S1x512x3072 : Shape := ⟨3, ![1, 512, 3072]⟩
abbrev S512x3072 : Shape := ⟨2, ![512, 3072]⟩
abbrev S8704x3072 : Shape := ⟨2, ![8704, 3072]⟩
abbrev S8704x12x256 : Shape := ⟨3, ![8704, 12, 256]⟩
abbrev S1x4096x6976 : Shape := ⟨3, ![1, 4096, 6976]⟩
abbrev S4096x6976 : Shape := ⟨2, ![4096, 6976]⟩
abbrev S4096x64 : Shape := ⟨2, ![4096, 64]⟩
abbrev S8704x64 : Shape := ⟨2, ![8704, 64]⟩
abbrev S8704x12x64 : Shape := ⟨3, ![8704, 12, 64]⟩
abbrev S8192x12x64 : Shape := ⟨3, ![8192, 12, 64]⟩
abbrev S2x4096x12x64 : Shape := ⟨4, ![2, 4096, 12, 64]⟩
abbrev S4096x1x32 : Shape := ⟨3, ![4096, 1, 32]⟩
abbrev S2x4096x12x32 : Shape := ⟨4, ![2, 4096, 12, 32]⟩
abbrev S1x4096x1x32 : Shape := ⟨4, ![1, 4096, 1, 32]⟩
abbrev S8192x64 : Shape := ⟨2, ![8192, 64]⟩
abbrev S2x4096x64 : Shape := ⟨3, ![2, 4096, 64]⟩
abbrev S2x4096x32 : Shape := ⟨3, ![2, 4096, 32]⟩
abbrev S1x4096x32 : Shape := ⟨3, ![1, 4096, 32]⟩
abbrev S512x12x64 : Shape := ⟨3, ![512, 12, 64]⟩
abbrev S512x64 : Shape := ⟨2, ![512, 64]⟩
abbrev S8704x1x64 : Shape := ⟨3, ![8704, 1, 64]⟩
abbrev S8704x12x128 : Shape := ⟨3, ![8704, 12, 128]⟩

abbrev nBuf : Space → Nat
  | .hbm => 129
  | .vmem => 0
  | .smem => 0
  | _ => 0

abbrev hbmTy0_0 (i : Nat) : BufTy := match i % 128 with
  | 0 => ⟨S8704x3840, .f32⟩
  | 1 => ⟨S8704x4096, .f32⟩
  | 2 => ⟨S2x4096x6976, .f32⟩
  | 3 => ⟨S2x768, .f32⟩
  | 4 => ⟨S2x768x2304, .f32⟩
  | 5 => ⟨S2x512, .f32⟩
  | 6 => ⟨S2x512x3072, .f32⟩
  | 7 => ⟨S4096x32, .f32⟩
  | 8 => ⟨S4096x32, .f32⟩
  | 9 => ⟨S8704x768, .f32⟩
  | 10 => ⟨S8704x512, .f32⟩
  | 11 => ⟨S8704x768, .f32⟩
  | 12 => ⟨S_, .f32⟩
  | 13 => ⟨S8704, .f32⟩
  | 14 => ⟨S8704x1, .f32⟩
  | 15 => ⟨S_, .f32⟩
  | 16 => ⟨S8704x1, .f32⟩
  | 17 => ⟨S8704x1, .f32⟩
  | 18 => ⟨S_, .f32⟩
  | 19 => ⟨S8704x1, .f32⟩
  | 20 => ⟨S8704x1, .f32⟩
  | 21 => ⟨S8704x1, .f32⟩
  | 22 => ⟨S8704x768, .f32⟩
  | 23 => ⟨S8704x768, .f32⟩
  | 24 => ⟨S1x768, .f32⟩
  | 25 => ⟨S768, .f32⟩
  | 26 => ⟨S1x768, .f32⟩
  | 27 => ⟨S8704x768, .f32⟩
  | 28 => ⟨S8704x768, .f32⟩
  | 29 => ⟨S1x768x2304, .f32⟩
  | 30 => ⟨S768x2304, .f32⟩
  | 31 => ⟨S8704x2304, .f32⟩
  | 32 => ⟨S8704x12x192, .f32⟩
  | 33 => ⟨S8704x512, .f32⟩
  | 34 => ⟨S_, .f32⟩
  | 35 => ⟨S8704, .f32⟩
  | 36 => ⟨S8704x1, .f32⟩
  | 37 => ⟨S_, .f32⟩
  | 38 => ⟨S8704x1, .f32⟩
  | 39 => ⟨S8704x1, .f32⟩
  | 40 => ⟨S_, .f32⟩
  | 41 => ⟨S8704x1, .f32⟩
  | 42 => ⟨S8704x1, .f32⟩
  | 43 => ⟨S8704x1, .f32⟩
  | 44 => ⟨S8704x512, .f32⟩
  | 45 => ⟨S8704x512, .f32⟩
  | 46 => ⟨S1x512, .f32⟩
  | 47 => ⟨S512, .f32⟩
  | 48 => ⟨S1x512, .f32⟩
  | 49 => ⟨S8704x512, .f32⟩
  | 50 => ⟨S8704x512, .f32⟩
  | 51 => ⟨S1x512x3072, .f32⟩
  | 52 => ⟨S512x3072, .f32⟩
  | 53 => ⟨S8704x3072, .f32⟩
  | 54 => ⟨S8704x12x256, .f32⟩
  | 55 => ⟨S1x4096x6976, .f32⟩
  | 56 => ⟨S4096x6976, .f32⟩
  | 57 => ⟨S4096x64, .f32⟩
  | 58 => ⟨S8704x64, .f32⟩
  | 59 => ⟨S8704x12x64, .f32⟩
  | 60 => ⟨S8192x12x64, .f32⟩
  | 61 => ⟨S2x4096x12x64, .f32⟩
  | 62 => ⟨S4096x1x32, .f32⟩
  | 63 => ⟨S4096x1x32, .f32⟩
  | 64 => ⟨S2x4096x12x32, .f32⟩
  | 65 => ⟨S2x4096x12x32, .f32⟩
  | 66 => ⟨S1x4096x1x32, .f32⟩
  | 67 => ⟨S2x4096x12x32, .f32⟩
  | 68 => ⟨S2x4096x12x32, .f32⟩
  | 69 => ⟨S1x4096x1x32, .f32⟩
  | 70 => ⟨S2x4096x12x32, .f32⟩
  | 71 => ⟨S2x4096x12x32, .f32⟩
  | 72 => ⟨S2x4096x12x32, .f32⟩
  | 73 => ⟨S1x4096x1x32, .f32⟩
  | 74 => ⟨S2x4096x12x32, .f32⟩
  | 75 => ⟨S2x4096x12x32, .f32⟩
  | 76 => ⟨S1x4096x1x32, .f32⟩
  | 77 => ⟨S2x4096x12x32, .f32⟩
  | 78 => ⟨S2x4096x12x32, .f32⟩
  | 79 => ⟨S2x4096x12x32, .f32⟩
  | 80 => ⟨S2x4096x12x64, .f32⟩
  | 81 => ⟨S8192x64, .f32⟩
  | 82 => ⟨S2x4096x64, .f32⟩
  | 83 => ⟨S2x4096x32, .f32⟩
  | 84 => ⟨S2x4096x32, .f32⟩
  | 85 => ⟨S1x4096x32, .f32⟩
  | 86 => ⟨S2x4096x32, .f32⟩
  | 87 => ⟨S2x4096x32, .f32⟩
  | 88 => ⟨S1x4096x32, .f32⟩
  | 89 => ⟨S2x4096x32, .f32⟩
  | 90 => ⟨S2x4096x32, .f32⟩
  | 91 => ⟨S2x4096x32, .f32⟩
  | 92 => ⟨S1x4096x32, .f32⟩
  | 93 => ⟨S2x4096x32, .f32⟩
  | 94 => ⟨S2x4096x32, .f32⟩
  | 95 => ⟨S1x4096x32, .f32⟩
  | 96 => ⟨S2x4096x32, .f32⟩
  | 97 => ⟨S2x4096x32, .f32⟩
  | 98 => ⟨S2x4096x32, .f32⟩
  | 99 => ⟨S2x4096x64, .f32⟩
  | 100 => ⟨S8192x12x64, .f32⟩
  | 101 => ⟨S512x12x64, .f32⟩
  | 102 => ⟨S8704x12x64, .f32⟩
  | 103 => ⟨S8192x64, .f32⟩
  | 104 => ⟨S512x64, .f32⟩
  | 105 => ⟨S8704x64, .f32⟩
  | 106 => ⟨S_, .f32⟩
  | 107 => ⟨S8704x12x64, .f32⟩
  | 108 => ⟨S8704x1x64, .f32⟩
  | 109 => ⟨S8704x12x64, .f32⟩
  | 110 => ⟨S8704x12x128, .f32⟩
  | 111 => ⟨S8704x12x128, .f32⟩
  | 112 => ⟨S8704x12x256, .f32⟩
  | 113 => ⟨S_, .f32⟩
  | 114 => ⟨S8704x12x256, .f32⟩
  | 115 => ⟨S8704x12x256, .f32⟩
  | 116 => ⟨S8704x12x128, .f32⟩
  | 117 => ⟨S8704x12x128, .f32⟩
  | 118 => ⟨S8704x12x256, .f32⟩
  | 119 => ⟨S8704x12x128, .f32⟩
  | 120 => ⟨S_, .f32⟩
  | 121 => ⟨S8704x12x128, .f32⟩
  | 122 => ⟨S8704x12x256, .f32⟩
  | 123 => ⟨S8704x3072, .f32⟩
  | 124 => ⟨S8704x3072, .bf16⟩
  | 125 => ⟨S8704x3072, .f32⟩
  | 126 => ⟨S8704x3072, .bf16⟩
  | 127 => ⟨S8704x3072, .f32⟩
  | _ => ⟨S8704x3840, .f32⟩

abbrev hbmTy0_1 (i : Nat) : BufTy := match i % 128 with
  | 0 => ⟨S8704x3072, .bf16⟩
  | _ => ⟨S8704x3840, .f32⟩

abbrev hbmTy (i : Nat) : BufTy := match i / 128 with
  | 0 => hbmTy0_0 i
  | 1 => hbmTy0_1 i
  | _ => ⟨S8704x3840, .f32⟩

abbrev bufTy : (tb : Table) → Fin (tcTables nBuf tb) → BufTy
  | .hbm, ⟨i, _⟩ => hbmTy i
  | _, _ => ⟨S8704x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_cst_5 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_cst_6 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_cst_7 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩

abbrev nD : Nat := 1
abbrev τ : Topo := Topo.v7x

variable {F : FTy → Type} [FloatOps F]
-- ==== Proof.AttnBody.lean ====
module

public import proofs.«01_k».proof.Proof.Gen.KernelIdeal.Value
public import Idealize.ShloMosaic.Lib.Pipeline.ValueKit
public import Idealize.ShloMosaic.Lib.Pointwise
public import Idealize.ShloMosaic.Lib.Claim

/-! The attention kernel's body, read as mathematics: what one grid point leaves in the score
    scratch, in the row-maximum scratch and in its output block, as sums and suprema over the keys. -/

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

/-! ## The weighted values of one chunk of keys -/

/-- A row of four tiles of 128 lanes read at lane `x` is the row at `x`. -/
theorem ladder (f : Fin 512 → EReal) (x : Fin 512) :
    (if h : x.val < 128 then f x
      else if h : x.val - 128 < 128 then f ⟨128 + (x.val - 128), by omega⟩
      else if h : x.val - 128 - 128 < 128 then f ⟨256 + (x.val - 128 - 128), by omega⟩
      else f ⟨384 + (x.val - 128 - 128 - 128), by omega⟩) = f x := by
  split_ifs
  · rfl
  all_goals exact congrArg f (Fin.ext (by dsimp only; omega))

/-- The weights of one key chunk against the row maxima `M`, times the values of that chunk. -/
def wsum {n : ℕ} (s : Fin n → EReal) (M : EReal) (v : Fin n → EReal) : EReal :=
  ∑ k : Fin n, Ideal.exp2 (s k - M) * v k

variable (mm : Vec Ideal S1024x128 .f32) (M : Fin 1024 → EReal) (hM : ∀ r l, mm (ix2 r l) = M r)
include hM

/-- The context keys' chunk of the value product. -/
theorem pay10_at (s : Vec Ideal S1024x256 .f32) (v : Vec Ideal S256x256 .bf16) (r : Fin 1024) (d : Fin 256) :
    k0_pay10 mm s v (ix2 r d) = wsum (fun k => s (ix2 r k)) (M r) (fun k => v (ix2 k d)) := by
  pointwise [k0_pay10]
  simp only [hM]
  unfold wsum
  exact (Fin.sum_univ_add (a := 128) (b := 128) (fun k : Fin 256 => Ideal.exp2 (s (ix2 r k) - M r) * v (ix2 k d))).symm

/-- A chunk of 512 keys' weights. -/
theorem pay18_at (s : Vec Ideal S1024x512 .f32) (r : Fin 1024) (k : Fin 512) :
    k0_pay18 mm s (ix2 r k) = Ideal.exp2 (s (ix2 r k) - M r) := by
  pointwise [k0_pay18]
  simp only [hM]
  exact ladder (fun k => Ideal.exp2 (s (ix2 r k) - M r)) k

/-- The weights of the seventh chunk, at (r, k). -/
theorem pay34_at (s : Vec Ideal S1024x512 .f32) (r : Fin 1024) (k : Fin 512) :
    k0_pay34 mm s (ix2 r k) = Ideal.exp2 (s (ix2 r k) - M r) := pay18_at mm M hM s r k

/-- A chunk of 512 keys added to the value product. -/
theorem pay14_at (acc : Vec Ideal S1024x256 .f32) (s : Vec Ideal S1024x512 .f32) (v : Vec Ideal S512x256 .bf16) (r : Fin 1024) (d : Fin 256) :
    k0_pay14 mm acc s v (ix2 r d) = acc (ix2 r d) + wsum (fun k => s (ix2 r k)) (M r) (fun k => v (ix2 k d)) := by
  pointwise [k0_pay14]
  simp only [hM]
  exact congrArg (acc (ix2 r d) + ·) (Finset.sum_congr rfl fun k _ =>
    congrArg (· * v (ix2 k d)) (ladder (fun k => Ideal.exp2 (s (ix2 r k) - M r)) k))

/-- The running sum after another chunk of 512 keys, at (r, d). -/
theorem pay25_at (acc : Vec Ideal S1024x256 .f32) (s : Vec Ideal S1024x512 .f32) (v : Vec Ideal S512x256 .bf16) (r : Fin 1024) (d : Fin 256) :
    k0_pay25 mm acc s v (ix2 r d) = acc (ix2 r d) + wsum (fun k => s (ix2 r k)) (M r) (fun k => v (ix2 k d)) :=
  pay14_at mm M hM acc s v r d

/-- The running sum after a chunk whose weights are stored first, at (r, d). -/
theorem pay30_at (acc : Vec Ideal S1024x256 .f32) (s : Vec Ideal S1024x512 .f32) (v : Vec Ideal S512x256 .bf16) (r : Fin 1024) (d : Fin 256) :
    k0_pay30 mm acc s (k0_pay29 mm s) v (ix2 r d) = acc (ix2 r d) + wsum (fun k => s (ix2 r k)) (M r) (fun k => v (ix2 k d)) :=
  pay14_at mm M hM acc s v r d

/-- Two chunks of 512 keys added to the value product, the first one's weights computed before. -/
theorem pay22_at (acc : Vec Ideal S1024x256 .f32) (p : Vec Ideal S1024x512 .bf16) (v : Vec Ideal S512x256 .bf16)
    (s : Vec Ideal S1024x512 .f32) (v' : Vec Ideal S512x256 .bf16) (r : Fin 1024) (d : Fin 256) :
    k0_pay22 mm acc p v s v' (ix2 r d)
      = acc (ix2 r d) + (∑ k : Fin 512, p (ix2 r k) * v (ix2 k d)) + wsum (fun k => s (ix2 r k)) (M r) (fun k => v' (ix2 k d)) := by
  pointwise [k0_pay22]
  simp only [hM]
  exact congrArg (acc (ix2 r d) + (∑ k : Fin 512, p (ix2 r k) * v (ix2 k d)) + ·) (Finset.sum_congr rfl fun k _ =>
    congrArg (· * v' (ix2 k d)) (ladder (fun k => Ideal.exp2 (s (ix2 r k) - M r)) k))

/-- The running sum after the last two chunks, at (r, d). -/
theorem pay39_at (acc : Vec Ideal S1024x256 .f32) (p : Vec Ideal S1024x512 .bf16) (v : Vec Ideal S512x256 .bf16)
    (s : Vec Ideal S1024x512 .f32) (v' : Vec Ideal S512x256 .bf16) (r : Fin 1024) (d : Fin 256) :
    k0_pay39 mm acc p (k0_pay35 v) s v' (ix2 r d)
      = acc (ix2 r d) + (∑ k : Fin 512, p (ix2 r k) * v (ix2 k d)) + wsum (fun k => s (ix2 r k)) (M r) (fun k => v' (ix2 k d)) :=
  pay22_at mm M hM acc p v s v' r d

/-- The last chunk added, and the value columns divided by the columns of ones. -/
theorem pay4_at (acc : Vec Ideal S1024x256 .f32) (s : Vec Ideal S1024x512 .f32) (v : Vec Ideal S512x256 .bf16) (r : Fin 1024) (d : Fin 128) :
    k0_pay4 mm acc s v (ix2 r d)
      = Ideal.div (acc (ix2 r ⟨d.val, by omega⟩) + wsum (fun k => s (ix2 r k)) (M r) (fun k => v (ix2 k ⟨d.val, by omega⟩)))
          (acc (ix2 r ⟨128 + d.val, by omega⟩) + wsum (fun k => s (ix2 r k)) (M r) (fun k => v (ix2 k ⟨128 + d.val, by omega⟩))) := by
  have h : ∀ d : Fin 256, acc (ix2 r d) + (∑ k : Fin 512, (if h : k.val < 128 then Ideal.exp2 (s (ix2 r k) - M r)
      else if h : k.val - 128 < 128 then Ideal.exp2 (s (ix2 r ⟨128 + (k.val - 128), by omega⟩) - M r)
      else if h : k.val - 128 - 128 < 128 then Ideal.exp2 (s (ix2 r ⟨256 + (k.val - 128 - 128), by omega⟩) - M r)
      else Ideal.exp2 (s (ix2 r ⟨384 + (k.val - 128 - 128 - 128), by omega⟩) - M r)) * v (ix2 k d))
      = acc (ix2 r d) + wsum (fun k => s (ix2 r k)) (M r) (fun k => v (ix2 k d)) := fun d =>
    congrArg (acc (ix2 r d) + ·) (Finset.sum_congr rfl fun k _ =>
      congrArg (· * v (ix2 k d)) (ladder (fun k => Ideal.exp2 (s (ix2 r k) - M r)) k))
  rw [← h, ← h]
  pointwise [k0_pay4]
  simp only [hM]
  rfl

omit hM

/-- The scores of one query tile against the 4096 latent keys and the 256 context keys. -/
def score (q : Vec Ideal S1024x256 .bf16) (kl : Vec Ideal S4096x256 .bf16) (kc : Vec Ideal S256x256 .bf16)
    (r : Fin 1024) (n : Fin 4352) : EReal :=
  if h : n.val < 4096 then ∑ x : Fin 256, q (ix2 r x) * kl (ix2 ⟨n.val, h⟩ x)
  else ∑ x : Fin 256, q (ix2 r x) * kc (ix2 ⟨n.val - 4096, by omega⟩ x)

/-- The value product of one query row: the weights against the row maximum `M`, times one column of the values. -/
def num (s : Vec Ideal S1024x4352 .f32) (M : EReal) (vl : Vec Ideal S4096x256 .bf16) (vc : Vec Ideal S256x256 .bf16)
    (r : Fin 1024) (d : Fin 256) : EReal :=
  (∑ k : Fin 4096, Ideal.exp2 (s (ix2 r ⟨k.val, by omega⟩) - M) * vl (ix2 k d))
    + ∑ k : Fin 256, Ideal.exp2 (s (ix2 r ⟨4096 + k.val, by omega⟩) - M) * vc (ix2 k d)

/-- The output block of one point, from the scores and maxima of the tile before: the printed chain of chunks. -/
def stOut (s : Vec Ideal S1024x4352 .f32) (mm : Vec Ideal S1024x128 .f32) (vl : Vec Ideal S4096x256 .bf16)
    (vc : Vec Ideal S256x256 .bf16) : FVec Ideal S1024x128 .bf16 :=
  k0_pay4 mm
    (k0_pay39 mm
      (k0_pay30 mm
        (k0_pay25 mm
          (k0_pay22 mm
            (k0_pay14 mm
              (k0_pay10 mm (View.ld s (Rect.unit ![0, 4096] ![1024, 256] inb_S1024x4352_S1024x256_0_4096)) vc)
              (View.ld s (Rect.unit ![0, 0] ![1024, 512] inb_S1024x4352_S1024x512_0_0)) (View.ld vl (Rect.unit ![0, 0] ![512, 256] inb_S4096x256_S512x256_0_0)))
            (k0_pay18 mm (View.ld s (Rect.unit ![0, 512] ![1024, 512] inb_S1024x4352_S1024x512_0_512))) (View.ld vl (Rect.unit ![512, 0] ![512, 256] inb_S4096x256_S512x256_512_0)) (View.ld s (Rect.unit ![0, 1024] ![1024, 512] inb_S1024x4352_S1024x512_0_1024)) (View.ld vl (Rect.unit ![1024, 0] ![512, 256] inb_S4096x256_S512x256_1024_0)))
          (View.ld s (Rect.unit ![0, 1536] ![1024, 512] inb_S1024x4352_S1024x512_0_1536)) (View.ld vl (Rect.unit ![1536, 0] ![512, 256] inb_S4096x256_S512x256_1536_0)))
        (View.ld s (Rect.unit ![0, 2048] ![1024, 512] inb_S1024x4352_S1024x512_0_2048)) (k0_pay29 mm (View.ld s (Rect.unit ![0, 2048] ![1024, 512] inb_S1024x4352_S1024x512_0_2048))) (View.ld vl (Rect.unit ![2048, 0] ![512, 256] inb_S4096x256_S512x256_2048_0)))
      (k0_pay34 mm (View.ld s (Rect.unit ![0, 2560] ![1024, 512] inb_S1024x4352_S1024x512_0_2560))) (k0_pay35 (View.ld vl (Rect.unit ![2560, 0] ![512, 256] inb_S4096x256_S512x256_2560_0))) (View.ld s (Rect.unit ![0, 3072] ![1024, 512] inb_S1024x4352_S1024x512_0_3072)) (View.ld vl (Rect.unit ![3072, 0] ![512, 256] inb_S4096x256_S512x256_3072_0)))
    (View.ld s (Rect.unit ![0, 3584] ![1024, 512] inb_S1024x4352_S1024x512_0_3584)) (View.ld vl (Rect.unit ![3584, 0] ![512, 256] inb_S4096x256_S512x256_3584_0))

/-- A weighted sum depends only on its scores and values. -/
theorem wsum_congr {n : ℕ} {s s' : Fin n → EReal} (M : EReal) {v v' : Fin n → EReal} (hs : ∀ k, s k = s' k) (hv : ∀ k, v k = v' k) :
    wsum s M v = wsum s' M v' := by
  rw [funext hs, funext hv]

/-- The weighted sum over all keys, split into the chunks of the body. -/
theorem num_eq (s : Vec Ideal S1024x4352 .f32) (M : EReal) (vl : Vec Ideal S4096x256 .bf16) (vc : Vec Ideal S256x256 .bf16)
    (r : Fin 1024) (d : Fin 256) :
    num s M vl vc r d = wsum (fun k : Fin 256 => s (ix2 r ⟨4096 + k.val, by omega⟩)) M (fun k => vc (ix2 k d))
      + ∑ a : Fin 8, wsum (fun k : Fin 512 => s (ix2 r ⟨a.val * 512 + k.val, by omega⟩)) M (fun k => vl (ix2 ⟨a.val * 512 + k.val, by omega⟩ d)) := by
  unfold num wsum
  rw [add_comm]
  congr 1
  exact Fin.sum_univ_tiles 8 512 rfl _

/-- The block that a step writes, at (r, d): weighted values over the sum of the weights. -/
theorem stOut_at (s : Vec Ideal S1024x4352 .f32) (mm : Vec Ideal S1024x128 .f32) (vl : Vec Ideal S4096x256 .bf16)
    (vc : Vec Ideal S256x256 .bf16) (M : Fin 1024 → EReal) (hM : ∀ r l, mm (ix2 r l) = M r) (r : Fin 1024) (d : Fin 128) :
    stOut s mm vl vc (ix2 r d)
      = Ideal.div (num s (M r) vl vc r ⟨d.val, by omega⟩) (num s (M r) vl vc r ⟨128 + d.val, by omega⟩) := by
  unfold stOut
  rw [pay4_at mm M hM]
  have key : ∀ d : Fin 256, k0_pay39 mm
      (k0_pay30 mm
        (k0_pay25 mm
          (k0_pay22 mm
            (k0_pay14 mm
              (k0_pay10 mm (View.ld s (Rect.unit ![0, 4096] ![1024, 256] inb_S1024x4352_S1024x256_0_4096)) vc)
              (View.ld s (Rect.unit ![0, 0] ![1024, 512] inb_S1024x4352_S1024x512_0_0)) (View.ld vl (Rect.unit ![0, 0] ![512, 256] inb_S4096x256_S512x256_0_0)))
            (k0_pay18 mm (View.ld s (Rect.unit ![0, 512] ![1024, 512] inb_S1024x4352_S1024x512_0_512))) (View.ld vl (Rect.unit ![512, 0] ![512, 256] inb_S4096x256_S512x256_512_0)) (View.ld s (Rect.unit ![0, 1024] ![1024, 512] inb_S1024x4352_S1024x512_0_1024)) (View.ld vl (Rect.unit ![1024, 0] ![512, 256] inb_S4096x256_S512x256_1024_0)))
          (View.ld s (Rect.unit ![0, 1536] ![1024, 512] inb_S1024x4352_S1024x512_0_1536)) (View.ld vl (Rect.unit ![1536, 0] ![512, 256] inb_S4096x256_S512x256_1536_0)))
        (View.ld s (Rect.unit ![0, 2048] ![1024, 512] inb_S1024x4352_S1024x512_0_2048)) (k0_pay29 mm (View.ld s (Rect.unit ![0, 2048] ![1024, 512] inb_S1024x4352_S1024x512_0_2048))) (View.ld vl (Rect.unit ![2048, 0] ![512, 256] inb_S4096x256_S512x256_2048_0)))
      (k0_pay34 mm (View.ld s (Rect.unit ![0, 2560] ![1024, 512] inb_S1024x4352_S1024x512_0_2560))) (k0_pay35 (View.ld vl (Rect.unit ![2560, 0] ![512, 256] inb_S4096x256_S512x256_2560_0))) (View.ld s (Rect.unit ![0, 3072] ![1024, 512] inb_S1024x4352_S1024x512_0_3072)) (View.ld vl (Rect.unit ![3072, 0] ![512, 256] inb_S4096x256_S512x256_3072_0)) (ix2 r d)
      + wsum (fun k => (View.ld s (Rect.unit ![0, 3584] ![1024, 512] inb_S1024x4352_S1024x512_0_3584)) (ix2 r k)) (M r) (fun k => (View.ld vl (Rect.unit ![3584, 0] ![512, 256] inb_S4096x256_S512x256_3584_0)) (ix2 k d))
      = num s (M r) vl vc r d := by
    intro d
    rw [num_eq, Fin.sum_univ_eight, pay39_at mm M hM, pay30_at mm M hM, pay25_at mm M hM, pay22_at mm M hM, pay14_at mm M hM, pay10_at mm M hM]
    simp only [pay18_at mm M hM, pay34_at mm M hM, ← add_assoc]
    unfold wsum
    refine congrArg₂ _ (congrArg₂ _ (congrArg₂ _ (congrArg₂ _ (congrArg₂ _ (congrArg₂ _ (congrArg₂ _ (congrArg₂ _ ?_ ?_) ?_) ?_) ?_) ?_) ?_) ?_) ?_
    all_goals
      refine Finset.sum_congr rfl fun k _ => ?_
      pointwise
      try rfl
      try (refine congrArg₂ (fun a b => Ideal.exp2 (s (ix2 r a) - M r) * vl (ix2 b d)) (Fin.ext ?_) (Fin.ext ?_) <;> rfl)
  rw [key, key]

/-! ## The scores and their row maxima -/

/-- The scores of one chunk of keys. -/
def chunk {n : ℕ} (q : Vec Ideal S1024x256 .bf16) (k : Fin n → Fin 256 → EReal) (r : Fin 1024) (j : Fin n) : EReal :=
  ∑ x : Fin 256, q (ix2 r x) * k j x

/-- The loaded queries are used as they are. -/
theorem pay7_eq (q : Vec Ideal S1024x256 .bf16) : k0_pay7 q = q := by
  funext j; pointwise [k0_pay7]

/-- The scores of the context chunk, at (r, j). -/
theorem pay8_at (q : Vec Ideal S1024x256 .bf16) (k : Vec Ideal S256x256 .bf16) (r : Fin 1024) (j : Fin 256) :
    k0_pay8 q k (ix2 r j) = chunk q (fun a b => k (ix2 a b)) r j := by
  pointwise [k0_pay8, k0_pay7]; rfl

/-- The scores of a latent chunk, at (r, j). -/
theorem pay15_at (q : Vec Ideal S1024x256 .bf16) (k : Vec Ideal S512x256 .bf16) (r : Fin 1024) (j : Fin 512) :
    k0_pay15 q k (ix2 r j) = chunk q (fun a b => k (ix2 a b)) r j := by
  pointwise [k0_pay15]; rfl

/-- The scores of the first latent chunk, at (r, j). -/
theorem pay11_at (q : Vec Ideal S1024x256 .bf16) (k : Vec Ideal S512x256 .bf16) (r : Fin 1024) (j : Fin 512) :
    k0_pay11 q k (ix2 r j) = chunk q (fun a b => k (ix2 a b)) r j := by
  pointwise [k0_pay11, k0_pay7]; rfl

/-- The lane-wise maximum over the context chunk and the first latent chunk, by its upper bounds. -/
theorem pay13_le (q : Vec Ideal S1024x256 .bf16) (kc : Vec Ideal S256x256 .bf16) (k : Vec Ideal S512x256 .bf16) (r : Fin 1024) (l : Fin 128) (a : EReal) :
    k0_pay13 q kc k (ix2 r l) ≤ a ↔ (∀ i : Fin 2, chunk q (fun a b => kc (ix2 a b)) r ⟨128 * i.val + l.val, by omega⟩ ≤ a)
      ∧ ∀ i : Fin 4, chunk q (fun a b => k (ix2 a b)) r ⟨128 * i.val + l.val, by omega⟩ ≤ a := by
  have h8 := pay8_at q kc r
  have h11 := pay11_at q k r
  pointwise [k0_pay13]
  simp only [h8, h11, max_le_iff, and_assoc]

/-- The lane-wise maximum after another chunk, by its upper bounds. -/
theorem pay17_le (q : Vec Ideal S1024x256 .bf16) (acc : Vec Ideal S1024x128 .f32) (k : Vec Ideal S512x256 .bf16) (r : Fin 1024) (l : Fin 128) (a : EReal) :
    k0_pay17 q acc k (ix2 r l) ≤ a ↔ acc (ix2 r l) ≤ a
      ∧ ∀ i : Fin 4, chunk q (fun a b => k (ix2 a b)) r ⟨128 * i.val + l.val, by omega⟩ ≤ a := by
  have h15 := pay15_at q k r
  pointwise [k0_pay17]
  simp only [h15, max_le_iff, and_assoc]

/-- The lane-wise maximum after two more chunks, by its upper bounds. -/
theorem pay28_le (q : Vec Ideal S1024x256 .bf16) (acc : Vec Ideal S1024x128 .f32) (k k' : Vec Ideal S512x256 .bf16) (r : Fin 1024) (l : Fin 128) (a : EReal) :
    k0_pay28 q acc (k0_pay23 q k) k' (ix2 r l) ≤ a ↔ (acc (ix2 r l) ≤ a
      ∧ ∀ i : Fin 4, chunk q (fun a b => k (ix2 a b)) r ⟨128 * i.val + l.val, by omega⟩ ≤ a)
      ∧ ∀ i : Fin 4, chunk q (fun a b => k' (ix2 a b)) r ⟨128 * i.val + l.val, by omega⟩ ≤ a := by
  have h15 : ∀ j, k0_pay23 q k (ix2 r j) = chunk q (fun a b => k (ix2 a b)) r j := pay15_at q k r
  have h26 : ∀ j, k0_pay26 q k' (ix2 r j) = chunk q (fun a b => k' (ix2 a b)) r j := pay15_at q k' r
  pointwise [k0_pay28]
  simp only [h15, h26, max_le_iff, and_assoc]

/-- The least value of the maximum's reduction is below everything. -/
theorem ofBits_neg_inf : Ideal.ofBits FTy.f32 4286578688#32 = (⊥ : EReal) := by
  simp [Ideal.ofBits, Ideal.ieee]

/-- The maximum of a row after the last chunk, by its upper bounds. -/
theorem pay3_le (q : Vec Ideal S1024x256 .bf16) (acc : Vec Ideal S1024x128 .f32) (k : Vec Ideal S512x256 .bf16) (r : Fin 1024) (l : Fin 128) (a : EReal) :
    k0_pay3 acc (k0_pay40 q k) (k0_pay42 q k) (ix2 r l) ≤ a ↔ ∀ l : Fin 128, acc (ix2 r l) ≤ a
      ∧ ∀ i : Fin 4, chunk q (fun a b => k (ix2 a b)) r ⟨128 * i.val + l.val, by omega⟩ ≤ a := by
  have h40 : ∀ j, k0_pay40 q k (ix2 r j) = chunk q (fun a b => k (ix2 a b)) r j := pay15_at q k r
  pointwise [k0_pay3, k0_pay42]
  simp only [h40]
  rw [Finset.fold_max_le, ofBits_neg_inf]
  simp only [bot_le, true_and, Finset.mem_univ, forall_const]
  simp only [max_le_iff, and_assoc]

/-- The row maxima one point leaves: the printed chain of trees of maxima over the chunks of keys. -/
def stMax (q : Vec Ideal S1024x256 .bf16) (kl : Vec Ideal S4096x256 .bf16) (kc : Vec Ideal S256x256 .bf16) : FVec Ideal S1024x128 .f32 :=
  k0_pay3
    (k0_pay38 (k0_pay7 q)
      (k0_pay33 (k0_pay7 q)
        (k0_pay28 (k0_pay7 q)
          (k0_pay21 (k0_pay7 q)
            (k0_pay17 (k0_pay7 q)
              (k0_pay13 q kc (View.ld kl (Rect.unit ![0, 0] ![512, 256] inb_S4096x256_S512x256_0_0)))
              (View.ld kl (Rect.unit ![512, 0] ![512, 256] inb_S4096x256_S512x256_512_0)))
            (View.ld kl (Rect.unit ![1024, 0] ![512, 256] inb_S4096x256_S512x256_1024_0)))
          (k0_pay23 (k0_pay7 q) (View.ld kl (Rect.unit ![1536, 0] ![512, 256] inb_S4096x256_S512x256_1536_0))) (View.ld kl (Rect.unit ![2048, 0] ![512, 256] inb_S4096x256_S512x256_2048_0)))
        (View.ld kl (Rect.unit ![2560, 0] ![512, 256] inb_S4096x256_S512x256_2560_0)))
      (View.ld kl (Rect.unit ![3072, 0] ![512, 256] inb_S4096x256_S512x256_3072_0)))
    (k0_pay40 (k0_pay7 q) (View.ld kl (Rect.unit ![3584, 0] ![512, 256] inb_S4096x256_S512x256_3584_0))) (k0_pay42 (k0_pay7 q) (View.ld kl (Rect.unit ![3584, 0] ![512, 256] inb_S4096x256_S512x256_3584_0)))

/-- The context chunk's scores are the last 256 columns of `score`. -/
theorem score_ctx (q : Vec Ideal S1024x256 .bf16) (kl : Vec Ideal S4096x256 .bf16) (kc : Vec Ideal S256x256 .bf16) (r : Fin 1024)
    (j : Fin 256) : chunk q (fun a b => kc (ix2 a b)) r j = score q kl kc r ⟨4096 + j.val, by omega⟩ := by
  unfold score chunk
  rw [dif_neg (by dsimp only; omega)]
  exact Finset.sum_congr rfl fun x _ => congrArg (fun a => q (ix2 r x) * kc (ix2 a x)) (Fin.ext (by dsimp only; omega))

/-- A latent chunk's scores are 512 columns of `score`. -/
theorem score_lat (q : Vec Ideal S1024x256 .bf16) (kl : Vec Ideal S4096x256 .bf16) (kc : Vec Ideal S256x256 .bf16) (r : Fin 1024)
    (o : ℕ) (ho : o + 512 ≤ 4096) (k : Fin 512 → Fin 256 → EReal) (hk : ∀ j x, k j x = kl (ix2 ⟨o + j.val, by omega⟩ x))
    (j : Fin 512) : chunk q k r j = score q kl kc r ⟨o + j.val, by omega⟩ := by
  unfold score chunk
  rw [dif_pos (by dsimp only; omega)]
  exact Finset.sum_congr rfl fun x _ => congrArg (q (ix2 r x) * ·) (hk j x)

/-- The row maximum is the supremum of the row's scores, in every lane. -/
theorem stMax_at (q : Vec Ideal S1024x256 .bf16) (kl : Vec Ideal S4096x256 .bf16) (kc : Vec Ideal S256x256 .bf16) (r : Fin 1024) (l : Fin 128) :
    stMax q kl kc (ix2 r l) = ⨆ n, score q kl kc r n := by
  refine eq_of_forall_ge_iff fun a => ?_
  unfold stMax
  rw [pay7_eq, pay3_le, iSup_le_iff]
  have e38 : ∀ acc k, k0_pay38 (F := Ideal) q acc k = k0_pay17 (F := Ideal) q acc k := fun _ _ => rfl
  have e33 : ∀ acc k, k0_pay33 (F := Ideal) q acc k = k0_pay17 (F := Ideal) q acc k := fun _ _ => rfl
  have e21 : ∀ acc k, k0_pay21 (F := Ideal) q acc k = k0_pay17 (F := Ideal) q acc k := fun _ _ => rfl
  simp only [e38, e33, e21, pay28_le, pay17_le, pay13_le]
  have c0 := score_ctx q kl kc r
  have l0 := score_lat q kl kc r 0 (by omega) (fun a b => (View.ld kl (Rect.unit ![0, 0] ![512, 256] inb_S4096x256_S512x256_0_0)) (ix2 a b)) (fun j x => by pointwise)
  have l512 := score_lat q kl kc r 512 (by omega) (fun a b => (View.ld kl (Rect.unit ![512, 0] ![512, 256] inb_S4096x256_S512x256_512_0)) (ix2 a b)) (fun j x => by pointwise)
  have l1024 := score_lat q kl kc r 1024 (by omega) (fun a b => (View.ld kl (Rect.unit ![1024, 0] ![512, 256] inb_S4096x256_S512x256_1024_0)) (ix2 a b)) (fun j x => by pointwise)
  have l1536 := score_lat q kl kc r 1536 (by omega) (fun a b => (View.ld kl (Rect.unit ![1536, 0] ![512, 256] inb_S4096x256_S512x256_1536_0)) (ix2 a b)) (fun j x => by pointwise)
  have l2048 := score_lat q kl kc r 2048 (by omega) (fun a b => (View.ld kl (Rect.unit ![2048, 0] ![512, 256] inb_S4096x256_S512x256_2048_0)) (ix2 a b)) (fun j x => by pointwise)
  have l2560 := score_lat q kl kc r 2560 (by omega) (fun a b => (View.ld kl (Rect.unit ![2560, 0] ![512, 256] inb_S4096x256_S512x256_2560_0)) (ix2 a b)) (fun j x => by pointwise)
  have l3072 := score_lat q kl kc r 3072 (by omega) (fun a b => (View.ld kl (Rect.unit ![3072, 0] ![512, 256] inb_S4096x256_S512x256_3072_0)) (ix2 a b)) (fun j x => by pointwise)
  have l3584 := score_lat q kl kc r 3584 (by omega) (fun a b => (View.ld kl (Rect.unit ![3584, 0] ![512, 256] inb_S4096x256_S512x256_3584_0)) (ix2 a b)) (fun j x => by pointwise)
  simp only [c0, l0, l512, l1024, l1536, l2048, l2560, l3072, l3584]
  constructor
  · intro H n
    have hn := n.isLt
    have H' := H ⟨n.val % 128, by omega⟩
    obtain ⟨⟨⟨⟨⟨⟨⟨⟨hc, h0⟩, h1⟩, h2⟩, h3⟩, h4⟩, h5⟩, h6⟩, h7⟩ := H'
    have hcase : n.val / 512 = 0 ∨ n.val / 512 = 1 ∨ n.val / 512 = 2 ∨ n.val / 512 = 3 ∨ n.val / 512 = 4 ∨ n.val / 512 = 5
      ∨ n.val / 512 = 6 ∨ n.val / 512 = 7 ∨ n.val / 512 = 8 := by omega
    rcases hcase with h | h | h | h | h | h | h | h | h
    · exact le_of_eq_of_le (congrArg (score q kl kc r) (Fin.ext (by dsimp only; omega))) (h0 ⟨n.val % 512 / 128, by omega⟩)
    · exact le_of_eq_of_le (congrArg (score q kl kc r) (Fin.ext (by dsimp only; omega))) (h1 ⟨n.val % 512 / 128, by omega⟩)
    · exact le_of_eq_of_le (congrArg (score q kl kc r) (Fin.ext (by dsimp only; omega))) (h2 ⟨n.val % 512 / 128, by omega⟩)
    · exact le_of_eq_of_le (congrArg (score q kl kc r) (Fin.ext (by dsimp only; omega))) (h3 ⟨n.val % 512 / 128, by omega⟩)
    · exact le_of_eq_of_le (congrArg (score q kl kc r) (Fin.ext (by dsimp only; omega))) (h4 ⟨n.val % 512 / 128, by omega⟩)
    · exact le_of_eq_of_le (congrArg (score q kl kc r) (Fin.ext (by dsimp only; omega))) (h5 ⟨n.val % 512 / 128, by omega⟩)
    · exact le_of_eq_of_le (congrArg (score q kl kc r) (Fin.ext (by dsimp only; omega))) (h6 ⟨n.val % 512 / 128, by omega⟩)
    · exact le_of_eq_of_le (congrArg (score q kl kc r) (Fin.ext (by dsimp only; omega))) (h7 ⟨n.val % 512 / 128, by omega⟩)
    · exact le_of_eq_of_le (congrArg (score q kl kc r) (Fin.ext (by dsimp only; omega))) (hc ⟨n.val % 512 / 128, by omega⟩)
  · intro H x
    exact ⟨⟨⟨⟨⟨⟨⟨⟨fun _ => H _, fun _ => H _⟩, fun _ => H _⟩, fun _ => H _⟩, fun _ => H _⟩, fun _ => H _⟩, fun _ => H _⟩, fun _ => H _⟩, fun _ => H _⟩

/-- The nine stores of one point into the score scratch, the last first. -/
def stPieces (q : Vec Ideal S1024x256 .bf16) (kl : Vec Ideal S4096x256 .bf16) (kc : Vec Ideal S256x256 .bf16) :
    List (View.Piece (Elt Ideal) S1024x4352 .f32) :=
  [⟨Rect.unit ![0, 3584] ![1024, 512] inb_S1024x4352_S1024x512_0_3584, k0_pay41 (k0_pay7 q) (View.ld kl (Rect.unit ![3584, 0] ![512, 256] inb_S4096x256_S512x256_3584_0))⟩,
    ⟨Rect.unit ![0, 3072] ![1024, 512] inb_S1024x4352_S1024x512_0_3072, k0_pay37 (k0_pay7 q) (View.ld kl (Rect.unit ![3072, 0] ![512, 256] inb_S4096x256_S512x256_3072_0))⟩,
    ⟨Rect.unit ![0, 2560] ![1024, 512] inb_S1024x4352_S1024x512_0_2560, k0_pay32 (k0_pay7 q) (View.ld kl (Rect.unit ![2560, 0] ![512, 256] inb_S4096x256_S512x256_2560_0))⟩,
    ⟨Rect.unit ![0, 2048] ![1024, 512] inb_S1024x4352_S1024x512_0_2048, k0_pay27 (k0_pay7 q) (View.ld kl (Rect.unit ![2048, 0] ![512, 256] inb_S4096x256_S512x256_2048_0))⟩,
    ⟨Rect.unit ![0, 1536] ![1024, 512] inb_S1024x4352_S1024x512_0_1536, k0_pay24 (k0_pay23 (k0_pay7 q) (View.ld kl (Rect.unit ![1536, 0] ![512, 256] inb_S4096x256_S512x256_1536_0)))⟩,
    ⟨Rect.unit ![0, 1024] ![1024, 512] inb_S1024x4352_S1024x512_0_1024, k0_pay20 (k0_pay7 q) (View.ld kl (Rect.unit ![1024, 0] ![512, 256] inb_S4096x256_S512x256_1024_0))⟩,
    ⟨Rect.unit ![0, 512] ![1024, 512] inb_S1024x4352_S1024x512_0_512, k0_pay16 (k0_pay7 q) (View.ld kl (Rect.unit ![512, 0] ![512, 256] inb_S4096x256_S512x256_512_0))⟩,
    ⟨Rect.unit ![0, 0] ![1024, 512] inb_S1024x4352_S1024x512_0_0, k0_pay12 q (View.ld kl (Rect.unit ![0, 0] ![512, 256] inb_S4096x256_S512x256_0_0))⟩,
    ⟨Rect.unit ![0, 4096] ![1024, 256] inb_S1024x4352_S1024x256_0_4096, k0_pay9 q kc⟩]

/-- What the nine stores leave is the scores. -/
theorem stPieces_at (q : Vec Ideal S1024x256 .bf16) (kl : Vec Ideal S4096x256 .bf16) (kc : Vec Ideal S256x256 .bf16) (r : Fin 1024) (n : Fin 4352) :
    View.canon (stPieces q kl kc) (ix2 r n) = score q kl kc r n := by
  have hcover := View.cover_of_tiledBy (stPieces q kl kc) ![1024, 256] (by sl_kernel_rfl) (ix2 r n)
  unfold stPieces at hcover ⊢
  canon_tiles x h using hcover
  all_goals
    clear hcover
    idx_vars x
    obtain rfl : r = x0 := Fin.ext h0
    have hn : n.val = _ := h1
    pointwise [k0_pay41, k0_pay40, k0_pay37, k0_pay36, k0_pay32, k0_pay31, k0_pay27, k0_pay26, k0_pay24, k0_pay23, k0_pay20, k0_pay19,
      k0_pay16, k0_pay15, k0_pay12, k0_pay11, k0_pay9, k0_pay8, k0_pay7]
    unfold score
  case piece8 =>
    rw [dif_neg (by omega)]
    exact Finset.sum_congr rfl fun x _ => congrArg (fun a => q (ix2 r x) * kc (ix2 a x)) (Fin.ext (by dsimp only; omega))
  all_goals
    rw [dif_pos (by omega)]
    exact Finset.sum_congr rfl fun x _ => congrArg (fun a => q (ix2 r x) * kl (ix2 a x)) (Fin.ext (by dsimp only; omega))

end Cert.KernelIdeal.Attn
end
-- ==== Proof.AttnPoint.lean ====
module

public import proofs.«01_k».proof.Proof.Gen.KernelIdeal.Value
public import Idealize.ShloMosaic.Lib.Pipeline.ValueKit
public import Idealize.ShloMosaic.Lib.Pointwise
public import Idealize.ShloMosaic.Lib.Claim
public import Idealize.ShloMosaic.Lib.Pipeline.ReadBack
public import proofs.«01_k».proof.Proof.AttnBody

/-! What each grid point leaves, over the points before it: an even point writes the first pair of
    scratch buffers and reads the second, an odd point the other way round, so a point's output is
    the attention of the query tile of the point before. -/

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The scores a point leaves. -/
abbrev sc (c : Dev nD) (t : Fin cfg0.N) : Vec Ideal S1024x4352 .f32 :=
  View.canon (stPieces (X0_0 m c t) (X0_1 m c t) (iblk m c 2 t))

/-- The row maxima a point leaves. -/
abbrev mx (c : Dev nD) (t : Fin cfg0.N) : Vec Ideal S1024x128 .f32 :=
  stMax (X0_0 m c t) (X0_1 m c t) (iblk m c 2 t)

/-- An even point leaves its scores and maxima in the first pair of scratch buffers. -/
theorem even_scratch (c : Dev nD) (t : Fin cfg0.N) (h1 : t.val % 2 = 0) :
    (outsAt0 m c t.val t.isLt).2.1 = sc m c t ∧ (outsAt0 m c t.val t.isLt).2.2.1 = mx m c t := by
  by_cases h0 : t.val % 97 = 0
  · rw [outsAt0_A m c t h0 h1 (by omega)]
    constructor <;> funext y <;> frame_out <;> rfl
  · rw [outsAt0_C m c t h0 h1 (by omega)]
    constructor <;> funext y <;> frame_out <;> rfl

/-- An odd point leaves its scores and maxima in the second pair of scratch buffers. -/
theorem odd_scratch (c : Dev nD) (t : Fin cfg0.N) (h1 : t.val % 2 = 1) :
    (outsAt0 m c t.val t.isLt).2.2.2.1 = sc m c t ∧ (outsAt0 m c t.val t.isLt).2.2.2.2 = mx m c t := by
  have hN : t.val < 97 := lt_of_lt_of_eq t.isLt N_0
  rw [outsAt0_B m c t (by omega) (by omega) h1]
  constructor <;> funext y <;> frame_out <;> rfl

/-- The output of a point after the first is the attention of the tile of the point before. -/
theorem point_out (c : Dev nD) (t u : Fin cfg0.N) (h : u.val + 1 = t.val) :
    (outsAt0 m c t.val t.isLt).1 = stOut (sc m c u) (mx m c u) (X0_3 m c t) (iblk m c 4 t) := by
  have hN : t.val < 97 := lt_of_lt_of_eq t.isLt N_0
  obtain rfl : u = ⟨t.val - 1, Nat.lt_of_le_of_lt (Nat.sub_le _ _) t.isLt⟩ := Fin.ext (by dsimp only; omega)
  by_cases hp : t.val % 2 = 1
  · rw [outsAt0_B m c t (by omega) (by omega) hp]
    have hs := even_scratch m c ⟨t.val - 1, Nat.lt_of_le_of_lt (Nat.sub_le _ _) t.isLt⟩ (by dsimp only; omega)
    dsimp only at hs
    funext y
    frame_out
    simp only [hs.1, hs.2, read_unread_whole]
    rfl
  · rw [outsAt0_C m c t (by omega) (by omega) (by omega)]
    have hs := odd_scratch m c ⟨t.val - 1, Nat.lt_of_le_of_lt (Nat.sub_le _ _) t.isLt⟩ (by dsimp only; omega)
    dsimp only at hs
    funext y
    frame_out
    simp only [hs.1, hs.2, read_unread_whole]
    rfl

end Cert.KernelIdeal.Attn
end
-- ==== Proof.AttnArray.lean ====
module

public import proofs.«01_k».proof.Proof.AttnPoint

/-! The array the attention call leaves, from the three arrays it reads: every row of a head's output is the weighted
mean of the value rows of its batch element, the weights the powers of two of the scores less their maximum. -/

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

/-- The row of the packed keys and values that key `n` of batch element `b` has: latent tokens, then context tokens. -/
def krow (b : Fin 2) (n : Fin 4352) : Fin 8704 :=
  ⟨if n.val < 4096 then b.val * 4096 + n.val else 8192 + b.val * 256 + (n.val - 4096), by have := n.isLt; have := b.isLt; split <;> omega⟩

/-- The packed column of lane `x` of head `h`. -/
def lane (h : Fin 12) (x : Fin 256) : Fin 3072 := ⟨h.val * 256 + x.val, by have := h.isLt; have := x.isLt; omega⟩

/-- The batch element a latent row belongs to. -/
def batchOf (r : Fin 8192) : Fin 2 := ⟨r.val / 4096, by have := r.isLt; omega⟩

/-- A latent row as a row of the packed arrays. -/
def qrow (r : Fin 8192) : Fin 8704 := ⟨r.val, by have := r.isLt; omega⟩

/-- The score of latent row `r` against key `n`, head `h`. -/
def gsc (Q K : Vec Ideal S8704x3072 .bf16) (r : Fin 8192) (h : Fin 12) (n : Fin 4352) : EReal :=
  ∑ x : Fin 256, Q (ix2 (qrow r) (lane h x)) * K (ix2 (krow (batchOf r) n) (lane h x))

/-- The weighted sum of lane `d` of the value rows. -/
def gnum (Q K V : Vec Ideal S8704x3072 .bf16) (r : Fin 8192) (h : Fin 12) (d : Fin 256) : EReal :=
  ∑ n : Fin 4352, Ideal.exp2 (gsc Q K r h n - ⨆ n, gsc Q K r h n) * V (ix2 (krow (batchOf r) n) (lane h d))

/-- The attention of packed arrays, at a row and a head's lane. -/
def gout (Q K V : Vec Ideal S8704x3072 .bf16) (r : Fin 8192) (h : Fin 12) (d : Fin 128) : EReal :=
  Ideal.div (gnum Q K V r h ⟨d.val, by have := d.isLt; omega⟩) (gnum Q K V r h ⟨128 + d.val, by have := d.isLt; omega⟩)

/-- The head and the lane of a column of the output. -/
def headOf (j : Fin 1536) : Fin 12 := ⟨j.val / 128, by have := j.isLt; omega⟩
/-- The lane of a column of the output. -/
def laneOf (j : Fin 1536) : Fin 128 := ⟨j.val % 128, by omega⟩

/-- The attention of packed arrays, as an array. -/
def attnArr (Q K V : Vec Ideal S8704x3072 .bf16) : Vec Ideal S8192x1536 .bf16 :=
  fun j => gout Q K V (j 0) (headOf (j 1)) (laneOf (j 1))

/-- Where the score blocks of a point sit. -/
theorem idxs : ∀ t : Fin cfg0.N, t.val < 96 → win0_0.index t = ![t.val / 48 * 4 + t.val % 4, t.val / 4 % 12]
    ∧ win0_1.index t = ![t.val / 48, t.val / 4 % 12] ∧ win0_2.index t = ![32 + t.val / 48, t.val / 4 % 12] :=
  (by decide +kernel : ∀ t : Fin grid0.N, _)

/-- Where the value blocks and the output block of a point sit. -/
theorem idxv : ∀ t : Fin cfg0.N, 0 < t.val → win0_3.index t = ![(t.val - 1) / 48, (t.val - 1) / 4 % 12]
    ∧ win0_4.index t = ![32 + (t.val - 1) / 48, (t.val - 1) / 4 % 12]
    ∧ win0_5.index t = ![(t.val - 1) / 48 * 4 + (t.val - 1) % 4, (t.val - 1) / 4 % 12] :=
  (by decide +kernel : ∀ t : Fin grid0.N, _)

/-- The first point writes nothing back. -/
theorem flush_pos : ∀ t : Fin cfg0.N, (cfg0.win 5).flush t = true → 0 < t.val :=
  (by decide +kernel : ∀ t : Fin grid0.N, _)

variable (m : (ℓ : Loc nD τ sig) → Buf (Elt Ideal) ℓ)

/-- The packed queries of a run. -/
abbrev QQ (c : Dev nD) : Vec Ideal S8704x3072 .bf16 := Gen.V m c main_v19
/-- The packed keys of a run. -/
abbrev KK (c : Dev nD) : Vec Ideal S8704x3072 .bf16 := Gen.V m c main_v32
/-- The packed values of a run. -/
abbrev VV (c : Dev nD) : Vec Ideal S8704x3072 .bf16 := Gen.V m c main_v39

/-- A point's query block is its tile of the packed queries. -/
theorem q_blk (c : Dev nD) (u : Fin cfg0.N) (hu : u.val < 96) (r : Fin 1024) (x : Fin 256) (R : Fin 8192) (h : Fin 12)
    (hR : R.val = u.val / 48 * 4096 + u.val % 4 * 1024 + r.val) (hh : h.val = u.val / 4 % 12) :
    X0_0 m c u (ix2 r x) = QQ m c (ix2 (qrow R) (lane h x)) := by
  unfold X0_0 Pipeline.Window.fill
  rw [dif_pos (moved0_0 u (ix2 r x))]
  have hi := (idxs u hu).1
  blk_ext [iblk, V, hi, qrow, lane]

/-- A point's latent key block is its batch element's latent rows of the packed keys. -/
theorem kl_blk (c : Dev nD) (u : Fin cfg0.N) (hu : u.val < 96) (k : Fin 4096) (x : Fin 256) (b : Fin 2) (h : Fin 12)
    (hb : b.val = u.val / 48) (hh : h.val = u.val / 4 % 12) (n : Fin 4352) (hn : n.val = k.val) :
    X0_1 m c u (ix2 k x) = KK m c (ix2 (krow b n) (lane h x)) := by
  unfold X0_1 Pipeline.Window.fill
  rw [dif_pos (moved0_1 u (ix2 k x))]
  have hi := (idxs u hu).2.1
  have hk := k.isLt
  have hr : (krow b n).val = u.val / 48 * 4096 + k.val := by
    unfold krow; dsimp only; rw [if_pos (by omega), hb, hn]
  blk_ext [iblk, V, hi, hr, lane]

/-- A point's context key block is its batch element's context rows of the packed keys. -/
theorem kc_blk (c : Dev nD) (u : Fin cfg0.N) (hu : u.val < 96) (k x : Fin 256) (b : Fin 2) (h : Fin 12)
    (hb : b.val = u.val / 48) (hh : h.val = u.val / 4 % 12) (n : Fin 4352) (hn : n.val = 4096 + k.val) :
    (show Vec Ideal S256x256 .bf16 from iblk m c 2 u) (ix2 k x) = KK m c (ix2 (krow b n) (lane h x)) := by
  have hi := (idxs u hu).2.2
  have hr : (krow b n).val = (32 + u.val / 48) * 256 + k.val := by
    unfold krow; dsimp only; rw [if_neg (by omega), hb, hn]; omega
  blk_ext [iblk, V, hi, hr, lane]

/-- A point's latent value block is the latent rows of the batch element of the tile before. -/
theorem vl_blk (c : Dev nD) (t : Fin cfg0.N) (ht : 0 < t.val) (k : Fin 4096) (x : Fin 256) (b : Fin 2) (h : Fin 12)
    (hb : b.val = (t.val - 1) / 48) (hh : h.val = (t.val - 1) / 4 % 12) (n : Fin 4352) (hn : n.val = k.val) :
    X0_3 m c t (ix2 k x) = VV m c (ix2 (krow b n) (lane h x)) := by
  unfold X0_3 Pipeline.Window.fill
  rw [dif_pos (moved0_3 t (ix2 k x))]
  have hi := (idxv t ht).1
  have hk := k.isLt
  have hr : (krow b n).val = (t.val - 1) / 48 * 4096 + k.val := by
    unfold krow; dsimp only; rw [if_pos (by omega), hb, hn]
  blk_ext [iblk, V, hi, hr, lane]

/-- A point's context value block is the context rows of the batch element of the tile before. -/
theorem vc_blk (c : Dev nD) (t : Fin cfg0.N) (ht : 0 < t.val) (k x : Fin 256) (b : Fin 2) (h : Fin 12)
    (hb : b.val = (t.val - 1) / 48) (hh : h.val = (t.val - 1) / 4 % 12) (n : Fin 4352) (hn : n.val = 4096 + k.val) :
    (show Vec Ideal S256x256 .bf16 from iblk m c 4 t) (ix2 k x) = VV m c (ix2 (krow b n) (lane h x)) := by
  have hi := (idxv t ht).2.1
  have hr : (krow b n).val = (32 + (t.val - 1) / 48) * 256 + k.val := by
    unfold krow; dsimp only; rw [if_neg (by omega), hb, hn]; omega
  blk_ext [iblk, V, hi, hr, lane]

/-- A point's scores are its tile's rows of the scores. -/
theorem score_blk (c : Dev nD) (u : Fin cfg0.N) (hu : u.val < 96) (r : Fin 1024) (R : Fin 8192) (h : Fin 12)
    (hR : R.val = u.val / 48 * 4096 + u.val % 4 * 1024 + r.val) (hh : h.val = u.val / 4 % 12) (n : Fin 4352) :
    score (X0_0 m c u) (X0_1 m c u) (iblk m c 2 u) r n = gsc (QQ m c) (KK m c) R h n := by
  have hb : (batchOf R).val = u.val / 48 := by unfold batchOf; dsimp only; have := r.isLt; omega
  unfold score gsc
  have hn := n.isLt
  split
  · refine Finset.sum_congr rfl fun x _ => ?_
    rw [q_blk m c u hu r x R h hR hh, kl_blk m c u hu _ x (batchOf R) h hb hh n rfl]
  · refine Finset.sum_congr rfl fun x _ => ?_
    rw [q_blk m c u hu r x R h hR hh]
    exact congrArg _ (kc_blk m c u hu _ x (batchOf R) h hb hh n (by dsimp only; omega))

/-- A sum over all keys is the sum over the latent keys and the sum over the context keys. -/
theorem sum_keys (f : Fin 4352 → EReal) :
    (∑ k : Fin 4096, f ⟨k.val, by have := k.isLt; omega⟩) + ∑ k : Fin 256, f ⟨4096 + k.val, by have := k.isLt; omega⟩
      = ∑ n, f n :=
  (Fin.sum_univ_add (a := 4096) (b := 256) f).symm

/-- A point's weighted sums are its tile's rows of the weighted sums. -/
theorem num_blk (c : Dev nD) (t u : Fin cfg0.N) (hut : u.val + 1 = t.val) (r : Fin 1024) (R : Fin 8192) (h : Fin 12)
    (hR : R.val = u.val / 48 * 4096 + u.val % 4 * 1024 + r.val) (hh : h.val = u.val / 4 % 12) (d : Fin 256) :
    num (sc m c u) (mx m c u (ix2 r 0)) (X0_3 m c t) (iblk m c 4 t) r d = gnum (QQ m c) (KK m c) (VV m c) R h d := by
  have hN : t.val < 97 := lt_of_lt_of_eq t.isLt N_0
  have hu : u.val < 96 := by omega
  have hb : (batchOf R).val = (t.val - 1) / 48 := by unfold batchOf; dsimp only; have := r.isLt; omega
  have hh' : h.val = (t.val - 1) / 4 % 12 := by omega
  have hs : ∀ n, sc m c u (ix2 r n) = gsc (QQ m c) (KK m c) R h n := fun n =>
    (stPieces_at _ _ _ r n).trans (score_blk m c u hu r R h hR hh n)
  have hm : mx m c u (ix2 r 0) = ⨆ n, gsc (QQ m c) (KK m c) R h n :=
    (stMax_at _ _ _ r 0).trans (iSup_congr fun n => score_blk m c u hu r R h hR hh n)
  unfold num gnum
  rw [hm, ← sum_keys]
  refine congrArg₂ _ (Finset.sum_congr rfl fun k _ => ?_) (Finset.sum_congr rfl fun k _ => ?_)
  · rw [hs, vl_blk m c t (by omega) k d (batchOf R) h hb hh' ⟨k.val, by have := k.isLt; omega⟩ rfl]
  · rw [hs]
    exact congrArg _ (vc_blk m c t (by omega) k d (batchOf R) h hb hh' _ rfl)

/-- The array the call leaves is the attention of the packed arrays. -/
theorem final (c : Dev nD) : (dats m 0 c).arrAt 5 cfg0.N = attnArr (QQ m c) (KK m c) (VV m c) := by
  refine (dats m 0 c).arrAt_eq_of_covers 5 _ (by decide +kernel) fun t hf y => ?_
  have ht := flush_pos t hf
  have hN : t.val < 97 := lt_of_lt_of_eq t.isLt N_0
  have hi := (idxv t ht).2.2
  let u : Fin cfg0.N := ⟨t.val - 1, Nat.lt_of_le_of_lt (Nat.sub_le _ _) t.isLt⟩
  have hut : u.val + 1 = t.val := by show t.val - 1 + 1 = t.val; omega
  blk_simp
  rw [after0_5, point_out m c t u hut]
  obtain ⟨r, d, rfl⟩ : ∃ (r : Fin 1024) (d : Fin 128), y = ix2 r d := ⟨y 0, y 1, by funext a; fin_cases a <;> rfl⟩
  have e0 : ((win0_5.blk t).view.emb (ix2 r d) 0).val = u.val / 48 * 4096 + u.val % 4 * 1024 + r.val := by
    have : u.val = t.val - 1 := rfl
    blk_simp [hi]
    omega
  have e1 : ((win0_5.blk t).view.emb (ix2 r d) 1).val = u.val / 4 % 12 * 128 + d.val := by
    have : u.val = t.val - 1 := rfl
    blk_simp [hi]
    rw [this]
  generalize (win0_5.blk t).view.emb (ix2 r d) = j at e0 e1 ⊢
  have hd := d.isLt
  have hh : (headOf (j 1)).val = u.val / 4 % 12 := by
    show (j 1).val / 128 = _
    omega
  have hl : laneOf (j 1) = d := Fin.ext (by show (j 1).val % 128 = _; omega)
  rw [stOut_at _ _ _ _ (fun r => mx m c u (ix2 r 0)) (fun r l => (stMax_at _ _ _ r l).trans (stMax_at _ _ _ r 0).symm) r d]
  unfold attnArr gout
  rw [hl, num_blk m c t u hut r (j 0) _ e0 hh, num_blk m c t u hut r (j 0) _ e0 hh]

end Cert.KernelIdeal.Attn
end
-- ==== Proof.AttnHost.lean ====
module

public import proofs.«01_k».proof.Proof.AttnArray

/-! The packed arrays the attention call reads, over the layer's queries, keys and values. -/

@[expose] public section

set_option maxRecDepth 16384

noncomputable section

namespace Cert.KernelIdeal.Attn

open Cert.KernelIdeal Cert.KernelIdeal.Gen Idealize.ShloMosaic Idealize.ShloMosaic.TcCoe Idealize.SL.Sem

/-- A head's lanes, laid side by side. -/
def flat (X : Vec Ideal S8704x12x256 .f32) : Vec Ideal S8704x3072 .bf16 :=
  truncf (F := Ideal) (φ := .f32) .bf16 (shapeCast S8704x3072 X shapeCasts_S8704x12x256_S8704x3072) bitsLt_bf16_f32

/-- A packed column is a lane of a head. -/
theorem flat_at (X : Vec Ideal S8704x12x256 .f32) (R : Fin 8704) (h : Fin 12) (x : Fin 256) :
    flat X (ix2 R (lane h x)) = X (ix3 R h x) := by
  have hh := h.isLt
  have hx := x.isLt
  have e1 : (⟨(lane h x).val / 256, by have := (lane h x).isLt; omega⟩ : Fin 12) = h := Fin.ext (by show (h.val * 256 + x.val) / 256 = _; omega)
  have e2 : (⟨(lane h x).val % 256, by omega⟩ : Fin 256) = x := Fin.ext (by show (h.val * 256 + x.val) % 256 = _; omega)
  pointwise [flat]
  rw [e1, e2]

/-- Latent tokens, then context tokens, of every head. -/
def toks (A : Vec Ideal S2x4096x12x128 .f32) (B : Vec Ideal S2x256x12x128 .f32) : Vec Ideal S8704x12x128 .f32 :=
  concatenate S8704x12x128 0 [⟨S8192x12x128, shapeCast S8192x12x128 A shapeCasts_S2x4096x12x128_S8192x12x128⟩,
    ⟨S512x12x128, shapeCast S512x12x128 B shapeCasts_S2x256x12x128_S512x12x128⟩] concatenates_S8192x12x128_S512x12x128_S8704x12x128_d0

/-- Latent tokens, then context tokens, of the rotary queries. -/
def toksq (A : Vec Ideal S2x4096x12x64 .f32) (B : Vec Ideal S2x256x12x64 .f32) : Vec Ideal S8704x12x64 .f32 :=
  concatenate S8704x12x64 0 [⟨S8192x12x64, shapeCast S8192x12x64 A shapeCasts_S2x4096x12x64_S8192x12x64⟩,
    ⟨S512x12x64, shapeCast S512x12x64 B shapeCasts_S2x256x12x64_S512x12x64⟩] concatenates_S8192x12x64_S512x12x64_S8704x12x64_d0

/-- Latent tokens, then context tokens, of the rotary keys. -/
def toksk (A : Vec Ideal S2x4096x64 .f32) (B : Vec Ideal S2x256x64 .f32) : Vec Ideal S8704x64 .f32 :=
  concatenate S8704x64 0 [⟨S8192x64, shapeCast S8192x64 A shapeCasts_S2x4096x64_S8192x64⟩,
    ⟨S512x64, shapeCast S512x64 B shapeCasts_S2x256x64_S512x64⟩] concatenates_S8192x64_S512x64_S8704x64_d0

/-- Key `n` of a batch element: latent keys, then context keys. -/
def cat4 (A : Vec Ideal S2x4096x12x128 .f32) (B : Vec Ideal S2x256x12x128 .f32) (b : Fin 2) (n : Fin 4352) (h : Fin 12) (x : Fin 128) : EReal :=
  if hn : n.val < 4096 then A (ix4 b ⟨n.val, hn⟩ h x) else B (ix4 b ⟨n.val - 4096, by have := n.isLt; omega⟩ h x)

/-- Rotary key `n` of a batch element: latent keys, then context keys. -/
def cat3 (A : Vec Ideal S2x4096x64 .f32) (B : Vec Ideal S2x256x64 .f32) (b : Fin 2) (n : Fin 4352) (x : Fin 64) : EReal :=
  if hn : n.val < 4096 then A (ix3 b ⟨n.val, hn⟩ x) else B (ix3 b ⟨n.val - 4096, by have := n.isLt; omega⟩ x)

/-- Reads at equal positions of a batch element are equal. -/
theorem read4 {n k : ℕ} (A : Vec Ideal ⟨4, ![2, n, 12, k]⟩ .f32) {b b' : Fin 2} {i i' : Fin n} (h : Fin 12) (x : Fin k)
    (e : b = b') (e' : i = i') : A (ix4 b i h x) = A (ix4 b' i' h x) := by rw [e, e']

/-- Reads at equal positions of a batch element are equal. -/
theorem read3 {n k : ℕ} (A : Vec Ideal ⟨3, ![2, n, k]⟩ .f32) {b b' : Fin 2} {i i' : Fin n} (x : Fin k)
    (e : b = b') (e' : i = i') : A (ix3 b i x) = A (ix3 b' i' x) := by rw [e, e']

/-- The token row of key `n` is that key. -/
theorem toks_at (A : Vec Ideal S2x4096x12x128 .f32) (B : Vec Ideal S2x256x12x128 .f32) (b : Fin 2) (n : Fin 4352) (h : Fin 12) (x : Fin 128) :
    toks A B (ix3 (krow b n) h x) = cat4 A B b n h x := by
  have hb := b.isLt
  have hn := n.isLt
  pointwise [toks]
  unfold cat4
  by_cases hl : n.val < 4096
  · have hr : (krow b n).val = b.val * 4096 + n.val := by unfold krow; dsimp only; rw [if_pos hl]
    rw [dif_pos hl, dif_pos (by omega)]
    exact read4 A h x (Fin.ext (by dsimp only; omega)) (Fin.ext (by dsimp only; omega))
  · have hr : (krow b n).val = 8192 + b.val * 256 + (n.val - 4096) := by unfold krow; dsimp only; rw [if_neg hl]
    rw [dif_neg hl, dif_neg (by omega)]
    exact read4 B h x (Fin.ext (by dsimp only; omega)) (Fin.ext (by dsimp only; omega))

/-- The token row of rotary key `n` is that key. -/
theorem toksk_at (A : Vec Ideal S2x4096x64 .f32) (B : Vec Ideal S2x256x64 .f32) (b : Fin 2) (n : Fin 4352) (x : Fin 64) :
    toksk A B (ix2 (krow b n) x) = cat3 A B b n x := by
  have hb := b.isLt
  have hn := n.isLt
  pointwise [toksk]
  unfold cat3
  by_cases hl : n.val < 4096
  · have hr : (krow b n).val = b.val * 4096 + n.val := by unfold krow; dsimp only; rw [if_pos hl]
    rw [dif_pos hl, dif_pos (by omega)]
    exact read3 A x (Fin.ext (by dsimp only; omega)) (Fin.ext (by dsimp only; omega))
  · have hr : (krow b n).val = 8192 + b.val * 256 + (n.val - 4096) := by unfold krow; dsimp only; rw [if_neg hl]
    rw [dif_neg hl, dif_neg (by omega)]
    exact read3 B x (Fin.ext (by dsimp only; omega)) (Fin.ext (by dsimp only; omega))

/-- A latent row as a position in its batch element. -/
def posOf (r : Fin 8192) : Fin 4096 := ⟨r.val % 4096, by omega⟩

/-- A latent token row is its token. -/
theorem toks_lat (A : Vec Ideal S2x4096x12x128 .f32) (B : Vec Ideal S2x256x12x128 .f32) (r : Fin 8192) (h : Fin 12) (x : Fin 128) :
    toks A B (ix3 (qrow r) h x) = A (ix4 (batchOf r) (posOf r) h x) := by
  have hr := r.isLt
  pointwise [toks]
  rw [dif_pos (show (qrow r).val < 8192 from hr)]
  rfl

/-- A latent token row of the rotary queries is its token. -/
theorem toksq_lat (A : Vec Ideal S2x4096x12x64 .f32) (B : Vec Ideal S2x256x12x64 .f32) (r : Fin 8192) (h : Fin 12) (x : Fin 64) :
    toksq A B (ix3 (qrow r) h x) = A (ix4 (batchOf r) (posOf r) h x) := by
  have hr := r.isLt
  pointwise [toksq]
  rw [dif_pos (show (qrow r).val < 8192 from hr)]
  rfl

/-- The packed value lanes: the values, then ones. -/
def headv (v : Vec Ideal S8704x12x128 .f32) : Vec Ideal S8704x12x256 .f32 :=
  concatenate S8704x12x256 2 [⟨S8704x12x128, v⟩,
    ⟨S8704x12x128, broadcastInDim S8704x12x128 ![] bcast_S_S8704x12x128 (constant (F := Ideal) S_ .f32 0x3F800000#32)⟩]
    concatenates_S8704x12x128_S8704x12x128_S8704x12x256_d2

/-- The packed key lanes: the plain part, the rotary part shared by the heads, zeros. -/
def headk (k : Vec Ideal S8704x12x128 .f32) (p : Vec Ideal S8704x64 .f32) : Vec Ideal S8704x12x256 .f32 :=
  concatenate S8704x12x256 2 [⟨S8704x12x192, concatenate S8704x12x192 2 [⟨S8704x12x128, k⟩,
    ⟨S8704x12x64, broadcastInDim S8704x12x64 ![0, 1, 2] bcast_S8704x1x64_S8704x12x64_0_1_2 (broadcastInDim S8704x1x64 ![0, 2] bcast_S8704x64_S8704x1x64_0_2 p)⟩]
      concatenates_S8704x12x128_S8704x12x64_S8704x12x192_d2⟩,
    ⟨S8704x12x64, broadcastInDim S8704x12x64 ![] bcast_S_S8704x12x64 (constant (F := Ideal) S_ .f32 0x00000000#32)⟩]
    concatenates_S8704x12x192_S8704x12x64_S8704x12x256_d2

/-- The scale of the scores, as the word of the program's literal. -/
def w : EReal := Ideal.ofBits .f32 0x3D93CD3A#32

/-- The queries in the kernel's units: scaled, and divided by the logarithm of two. -/
def inUnits {s : Shape} (bc : S_.BroadcastsInDim s ![]) (q : Vec Ideal s .f32) : Vec Ideal s .f32 :=
  Host.divf (F := Ideal) (φ := .f32) (mulf (F := Ideal) (φ := .f32) q (broadcastInDim s ![] bc (constant (F := Ideal) S_ .f32 0x3D93CD3A#32)))
    (broadcastInDim s ![] bc (Host.log (F := Ideal) (φ := .f32) (constant (F := Ideal) S_ .f32 0x40000000#32)))

/-- The packed query lanes: the plain part, the rotary part, zeros. -/
def headq (q : Vec Ideal S8704x12x128 .f32) (p : Vec Ideal S8704x12x64 .f32) : Vec Ideal S8704x12x256 .f32 :=
  concatenate S8704x12x256 2 [⟨S8704x12x192, concatenate S8704x12x192 2 [⟨S8704x12x128, q⟩, ⟨S8704x12x64, p⟩]
      concatenates_S8704x12x128_S8704x12x64_S8704x12x192_d2⟩,
    ⟨S8704x12x64, broadcastInDim S8704x12x64 ![] bcast_S_S8704x12x64 (constant (F := Ideal) S_ .f32 0x00000000#32)⟩]
    concatenates_S8704x12x192_S8704x12x64_S8704x12x256_d2

/-- A packed value row holds the value in its lower lanes. -/
theorem headv_lo (v : Vec Ideal S8704x12x128 .f32) (R : Fin 8704) (h : Fin 12) (x : Fin 128) :
    headv v (ix3 R h ⟨x.val, by have := x.isLt; omega⟩) = v (ix3 R h x) := by
  have hx := x.isLt
  pointwise [headv]

/-- A packed value row holds ones in its upper lanes. -/
theorem headv_hi (v : Vec Ideal S8704x12x128 .f32) (R : Fin 8704) (h : Fin 12) (x : Fin 128) :
    headv v (ix3 R h ⟨128 + x.val, by have := x.isLt; omega⟩) = 1 := by
  have hx := x.isLt
  pointwise [headv]

/-- A packed key row: the head's own part. -/
theorem headk_lo (k : Vec Ideal S8704x12x128 .f32) (p : Vec Ideal S8704x64 .f32) (R : Fin 8704) (h : Fin 12) (x : Fin 128) :
    headk k p (ix3 R h ⟨x.val, by have := x.isLt; omega⟩) = k (ix3 R h x) := by
  have hx := x.isLt
  pointwise [headk]
  rw [dif_pos (by omega)]

/-- A packed key row: the rotary part, which all heads share. -/
theorem headk_mid (k : Vec Ideal S8704x12x128 .f32) (p : Vec Ideal S8704x64 .f32) (R : Fin 8704) (h : Fin 12) (x : Fin 64) :
    headk k p (ix3 R h ⟨128 + x.val, by have := x.isLt; omega⟩) = p (ix2 R x) := by
  have hx := x.isLt
  pointwise [headk]
  rw [dif_pos (by omega)]

/-- A packed key row: the zeros. -/
theorem headk_hi (k : Vec Ideal S8704x12x128 .f32) (p : Vec Ideal S8704x64 .f32) (R : Fin 8704) (h : Fin 12) (x : Fin 64) :
    headk k p (ix3 R h ⟨192 + x.val, by have := x.isLt; omega⟩) = 0 := by
  have hx := x.isLt
  pointwise [headk]

/-- A packed query row: the part without rotation. -/
theorem headq_lo (k : Vec Ideal S8704x12x128 .f32) (p : Vec Ideal S8704x12x64 .f32) (R : Fin 8704) (h : Fin 12) (x : Fin 128) :
    headq k p (ix3 R h ⟨x.val, by have := x.isLt; omega⟩) = k (ix3 R h x) := by
  have hx := x.isLt
  pointwise [headq]
  rw [dif_pos (by omega)]

/-- A packed query row: the rotary part. -/
theorem headq_mid (k : Vec Ideal S8704x12x128 .f32) (p : Vec Ideal S8704x12x64 .f32) (R : Fin 8704) (h : Fin 12) (x : Fin 64) :
    headq k p (ix3 R h ⟨128 + x.val, by have := x.isLt; omega⟩) = p (ix3 R h x) := by
  have hx := x.isLt
  pointwise [headq]
  rw [dif_pos (by omega)]

/-- A packed query row: the zeros. -/
theorem headq_hi (k : Vec Ideal S8704x12x128 .f32) (p : Vec Ideal S8704x12x64 .f32) (R : Fin 8704) (h : Fin 12) (x : Fin 64) :
    headq k p (ix3 R h ⟨192 + x.val, by have := x.isLt; omega⟩) = 0 := by
  have hx := x.isLt
  pointwise [headq]

variable (m : (ℓ : Loc nD τ sig) → Buf (Elt Ideal) ℓ)

/-- The call's queries are the packed queries of the arguments. -/
theorem qq_eq (c : Dev nD) : QQ m c = flat (headq
    (inUnits bcast_S_S8704x12x128 (toks (m ((c : Thread nD τ).loc main_arg0)) (m ((c : Thread nD τ).loc main_arg5))))
    (inUnits bcast_S_S8704x12x64 (toksq (m ((c : Thread nD τ).loc main_arg1)) (m ((c : Thread nD τ).loc main_arg6))))) := by
  unfold QQ
  entry_read
  rfl

/-- The call's keys are the packed keys of the arguments. -/
theorem kk_eq (c : Dev nD) : KK m c = flat (headk (toks (m ((c : Thread nD τ).loc main_arg2)) (m ((c : Thread nD τ).loc main_arg7)))
    (toksk (m ((c : Thread nD τ).loc main_arg3)) (m ((c : Thread nD τ).loc main_arg8)))) := by
  unfold KK
  entry_read
  rfl

/-- The call's values are the packed values of the arguments. -/
theorem vv_eq (c : Dev nD) : VV m c = flat (headv (toks (m ((c : Thread nD τ).loc main_arg4)) (m ((c : Thread nD τ).loc main_arg9)))) := by
  unfold VV
  entry_read
  rfl

end Cert.KernelIdeal.Attn
end
-- ==== Proof.Softmax.lean ====
module

public import Idealize.ShloMosaic.Lib.Pointwise
public import Idealize.ShloMosaic.Lib.Claim

/-! The softmax of finite scores, in powers of two and in powers of e. -/

@[expose] public section

noncomputable section

namespace Cert.Softmax

open Idealize.ShloMosaic

/-- The supremum of finitely many reals is one of them. -/
theorem iSup_coe {N : ℕ} [NeZero N] (T : Fin N → ℝ) : ∃ n, (∀ k, T k ≤ T n) ∧ (⨆ k, (T k : EReal)) = (T n : EReal) := by
  obtain ⟨n, hn⟩ := Finite.exists_max T
  exact ⟨n, hn, le_antisymm (iSup_le fun k => EReal.coe_le_coe_iff.mpr (hn k)) (le_iSup (fun k => (T k : EReal)) n)⟩

/-- A power of two of a quotient by the logarithm of two is a power of e. -/
theorem exp2_div (a : ℝ) : Ideal.exp2 ((a / Real.log 2 : ℝ) : EReal) = ((Real.exp a : ℝ) : EReal) := by
  show ((_ : ℝ) : EReal) = _
  have h2 : Real.log 2 ≠ 0 := (Real.log_pos one_lt_two).ne'
  rw [EReal.coe_eq_coe_iff]
  show (2 : ℝ) ^ (a / Real.log 2) = _
  rw [Real.rpow_def_of_pos two_pos, mul_div_cancel₀ _ h2]

/-- Multiplication by a nonnegative real distributes over a sum. -/
theorem sum_mul_coe {ι : Type} (s : Finset ι) (f : ι → EReal) (c : ℝ) (hc : 0 ≤ c) :
    (∑ n ∈ s, f n) * (c : EReal) = ∑ n ∈ s, f n * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- A sum of reals, in the extended reals. -/
theorem coe_sum {ι : Type} (s : Finset ι) (f : ι → ℝ) : ((∑ n ∈ s, f n : ℝ) : EReal) = ∑ n ∈ s, (f n : EReal) := by
  classical
  induction s using Finset.induction_on with
  | empty => simp
  | insert a s ha ih => rw [Finset.sum_insert ha, Finset.sum_insert ha, EReal.coe_add, ih]

/-- The weighted mean by powers of two of the scores over the logarithm of two is the weighted mean by the softmax. -/
theorem softmax_eq {N : ℕ} [NeZero N] (T : Fin N → ℝ) (v : Fin N → EReal) :
    Ideal.div (∑ n, Ideal.exp2 (((T n / Real.log 2 : ℝ) : EReal) - ⨆ k, ((T k / Real.log 2 : ℝ) : EReal)) * v n)
        (∑ n, Ideal.exp2 (((T n / Real.log 2 : ℝ) : EReal) - ⨆ k, ((T k / Real.log 2 : ℝ) : EReal)) * 1)
      = ∑ n, v n * Ideal.div (Ideal.exp ((T n : EReal) - ⨆ k, (T k : EReal))) (∑ n, Ideal.exp ((T n : EReal) - ⨆ k, (T k : EReal))) := by
  have hl : 0 < Real.log 2 := Real.log_pos one_lt_two
  obtain ⟨i, hi, ei⟩ := iSup_coe T
  have ej : (⨆ k, ((T k / Real.log 2 : ℝ) : EReal)) = ((T i / Real.log 2 : ℝ) : EReal) :=
    le_antisymm (iSup_le fun k => EReal.coe_le_coe_iff.mpr (div_le_div_of_nonneg_right (hi k) hl.le))
      (le_iSup (fun k => ((T k / Real.log 2 : ℝ) : EReal)) i)
  have e2 : ∀ n, Ideal.exp2 (((T n / Real.log 2 : ℝ) : EReal) - ⨆ k, ((T k / Real.log 2 : ℝ) : EReal))
      = ((Real.exp (T n - T i) : ℝ) : EReal) := fun n => by
    rw [ej, ← EReal.coe_sub, ← sub_div, exp2_div]
  have e1 : ∀ n, Ideal.exp ((T n : EReal) - ⨆ k, (T k : EReal)) = ((Real.exp (T n - T i) : ℝ) : EReal) := fun n => by
    rw [ei, ← EReal.coe_sub]; rfl
  have hs : (∑ n, Real.exp (T n - T i)) ≠ 0 :=
    (Finset.sum_pos (fun n _ => Real.exp_pos _) ⟨i, Finset.mem_univ i⟩).ne'
  have hp : 0 ≤ 1 / (∑ n, Real.exp (T n - T i)) :=
    one_div_nonneg.mpr (Finset.sum_nonneg fun n _ => (Real.exp_pos _).le)
  simp only [e2, e1, mul_one]
  rw [← coe_sum, Ideal.div_coe hs, sum_mul_coe _ _ _ hp]
  refine Finset.sum_congr rfl fun n _ => ?_
  rw [Ideal.div_coe hs, mul_comm (v n), mul_assoc, mul_assoc, mul_comm (v n)]

end Cert.Softmax
end
-- ==== Proof.AttnRef.lean ====
module

public import proofs.«01_k».proof.Proof.AttnHost
public import proofs.«01_k».proof.Proof.Softmax
public import proofs.«01_k».proof.Proof.Gen.ReferenceIdeal.Read

/-! The reference attention, read at an index: the softmax of the scaled scores against the values. -/

@[expose] public section

set_option maxRecDepth 16384

noncomputable section

namespace Cert.KernelIdeal.Attn

open Idealize.ShloMosaic Idealize.ShloMosaic.TcCoe Idealize.SL.Sem
open Cert.KernelIdeal (S2x4096x12x128 S2x4096x12x64 S2x4096x64 S2x256x12x128 S2x256x12x64 S2x256x64)
open Cert.ReferenceIdeal.Read

variable (x0 x2 x4 : Vec Ideal S2x4096x12x128 .f32) (x1 : Vec Ideal S2x4096x12x64 .f32) (x3 : Vec Ideal S2x4096x64 .f32)
  (x7 x9 : Vec Ideal S2x256x12x128 .f32) (x8 : Vec Ideal S2x256x64 .f32)

/-- The reference's keys: latent, then context. -/
theorem keys_at (b : Fin 2) (n : Fin 4352) (h : Fin 12) (x : Fin 128) : val_main_v0 (F := Ideal) x2 x7 (ix4 b n h x) = cat4 x2 x7 b n h x := by
  pointwise [val_main_v0, cat4]

/-- The reference's rotary keys: latent, then context. -/
theorem pes_at (b : Fin 2) (n : Fin 4352) (x : Fin 64) : val_main_v1 (F := Ideal) x3 x8 (ix3 b n x) = cat3 x3 x8 b n x := by
  pointwise [val_main_v1, cat3]

/-- The reference's values: latent, then context. -/
theorem vals_at (b : Fin 2) (n : Fin 4352) (h : Fin 12) (x : Fin 128) : val_main_v2 (F := Ideal) x4 x9 (ix4 b n h x) = cat4 x4 x9 b n h x := by
  pointwise [val_main_v2, cat4]

/-- The reference's scaled score of a query against key `n`. -/
def rsc (b : Fin 2) (h : Fin 12) (i : Fin 4096) (n : Fin 4352) : EReal :=
  ((∑ x : Fin 128, x0 (ix4 b i h x) * cat4 x2 x7 b n h x) + ∑ y : Fin 64, cat3 x3 x8 b n y * x1 (ix4 b i h y)) * w

/-- The reference's scaled scores. -/
theorem scores_at (b : Fin 2) (h : Fin 12) (i : Fin 4096) (n : Fin 4352) :
    val_main_v8 (F := Ideal) x0 x1 x2 x3 x7 x8 (ix4 b h i n) = rsc x0 x2 x1 x3 x7 x8 b h i n := by
  unfold rsc
  simp only [← keys_at, ← pes_at]
  pointwise [val_main_v8, val_main_v7, val_main_v6, val_main_v5, val_main_v4, val_main_v3, val_main_cst, w]

/-- The reference's row maximum, over variables. -/
def rmax (Y : Vec Ideal Cert.ReferenceIdeal.S2x12x4096x4352 .f32) : Vec Ideal Cert.ReferenceIdeal.S2x12x4096 .f32 :=
  maximumf (F := Ideal) (φ := .f32) (broadcastInDim Cert.ReferenceIdeal.S2x12x4096 ![] Cert.ReferenceIdeal.Gen.bcast_S_S2x12x4096 (constant (F := Ideal) Cert.ReferenceIdeal.S_ .f32 0xFF800000#32))
    (Host.reduce FloatOps.maximumf Y (constant (F := Ideal) Cert.ReferenceIdeal.S_ .f32 0xFF800000#32) Cert.ReferenceIdeal.Gen.reducesTo_S2x12x4096x4352_S2x12x4096_d3 Cert.ReferenceIdeal.Gen.h_S_)

/-- The shapes of the row maximum. -/
theorem red3 : Cert.ReferenceIdeal.S2x12x4096x4352.Reduces [3] Cert.ReferenceIdeal.S2x12x4096 := by decide

/-- A row's elements. -/
theorem lift3 (b : Fin 2) (h : Fin 12) (i : Fin 4096) (n : Fin 4352) : red3.lift (ix3 b h i) n = ix4 b h i n := by
  funext a
  fin_cases a <;> rfl

/-- A maximum over one axis is the larger of its start and the supremum over the axis. -/
theorem hostMax_le {s t u : Shape} {a : Fin s.rank} (Y : Vec Ideal s .f32) (init : Vec Ideal u .f32) (h' : s.ReducesTo [a] t)
    (h : s.Reduces [a] t) (hu : 0 < u.numel) (hi : ∀ i, init i = (⊥ : EReal)) (j : t.Idx) :
    (Host.reduce (FloatOps.maximumf (F := Ideal) (φ := .f32)) Y init h' hu j : EReal) = ⨆ k : Fin (s.size a), (Y (h.lift j k) : EReal) := by
  have e : (Host.reduce (FloatOps.maximumf (F := Ideal) (φ := .f32)) Y init h' hu j : EReal)
      = (Finset.univ : Finset (Fin (s.size a))).fold max (init (Shape.Idx.first hu) : EReal) (fun k => (Y (h.lift j k) : EReal)) :=
    Host.reduce_eq_fold_single (max : EReal → EReal → EReal) Y init h' h hu j
  rw [e, hi]
  refine eq_of_forall_ge_iff fun a => ?_
  rw [Finset.fold_max_le, iSup_le_iff]
  simp only [bot_le, true_and, Finset.mem_univ, forall_const]

/-- The row maximum is the supremum of the row. -/
theorem rmax_at (Y : Vec Ideal Cert.ReferenceIdeal.S2x12x4096x4352 .f32) (b : Fin 2) (h : Fin 12) (i : Fin 4096) :
    rmax Y (ix3 b h i) = ⨆ n : Fin 4352, Y (ix4 b h i n) := by
  have e := hostMax_le Y (constant (F := Ideal) Cert.ReferenceIdeal.S_ .f32 0xFF800000#32) Cert.ReferenceIdeal.Gen.reducesTo_S2x12x4096x4352_S2x12x4096_d3
    red3 Cert.ReferenceIdeal.Gen.h_S_ (fun _ => ofBits_neg_inf) (ix3 b h i)
  have hb : (broadcastInDim Cert.ReferenceIdeal.S2x12x4096 ![] Cert.ReferenceIdeal.Gen.bcast_S_S2x12x4096
      (constant (F := Ideal) Cert.ReferenceIdeal.S_ .f32 0xFF800000#32) (ix3 b h i) : EReal) = ⊥ := ofBits_neg_inf
  unfold rmax
  rw [maximumf_apply, e, hb]
  refine (max_eq_right bot_le).trans (iSup_congr fun n => ?_)
  exact congrArg Y (lift3 b h i n)

/-- The reference's row maximum is the supremum of the row's scores. -/
theorem max_at (b : Fin 2) (h : Fin 12) (i : Fin 4096) :
    val_main_v11 (F := Ideal) x0 x1 x2 x3 x7 x8 (ix3 b h i) = ⨆ n, rsc x0 x2 x1 x3 x7 x8 b h i n :=
  (rmax_at (val_main_v8 (F := Ideal) x0 x1 x2 x3 x7 x8) b h i).trans (iSup_congr fun n => scores_at x0 x2 x1 x3 x7 x8 b h i n)

/-- The reference's weight of a key before it is normalized. -/
def rexp (b : Fin 2) (h : Fin 12) (i : Fin 4096) (n : Fin 4352) : EReal :=
  Ideal.exp (rsc x0 x2 x1 x3 x7 x8 b h i n - ⨆ k, rsc x0 x2 x1 x3 x7 x8 b h i k)

/-- The reference's exponentials. -/
theorem exp_at (b : Fin 2) (h : Fin 12) (i : Fin 4096) (n : Fin 4352) :
    val_main_v15 (F := Ideal) x0 x1 x2 x3 x7 x8 (ix4 b h i n) = rexp x0 x2 x1 x3 x7 x8 b h i n := by
  unfold rexp
  rw [← max_at, ← scores_at, val_main_v15_apply, val_main_v14_apply, val_main_v13_apply, val_main_v12_apply]
  have e : idx_main_v12 (idx_main_v13 (ix4 b h i n)) = ix3 b h i := by funext a; fin_cases a <;> rfl
  rw [e]
  rfl

/-- The reference's denominators. -/
theorem den_at (b : Fin 2) (h : Fin 12) (i : Fin 4096) :
    val_main_v16 (F := Ideal) x0 x1 x2 x3 x7 x8 (ix3 b h i) = ∑ n, rexp x0 x2 x1 x3 x7 x8 b h i n := by
  rw [val_main_v16_apply]
  have e : ∀ k, idx_main_v16 (ix3 b h i) k = ix4 b h i k := fun k => by funext a; fin_cases a <;> rfl
  have z : (val_main_cst_2 (F := Ideal) (Shape.Idx.first Cert.ReferenceIdeal.Gen.h_S_) : EReal) = 0 := by
    show Ideal.ofBits .f32 0x00000000#32 = _
    simp [Ideal.ofBits, Ideal.ieee]
  rw [z, zero_add]
  refine Finset.sum_congr rfl fun k _ => ?_
  rw [e, exp_at]

/-- The reference's softmax. -/
theorem prob_at (b : Fin 2) (h : Fin 12) (i : Fin 4096) (n : Fin 4352) :
    val_main_v19 (F := Ideal) x0 x1 x2 x3 x7 x8 (ix4 b h i n)
      = Ideal.div (rexp x0 x2 x1 x3 x7 x8 b h i n) (∑ k, rexp x0 x2 x1 x3 x7 x8 b h i k) := by
  rw [← den_at, ← exp_at, val_main_v19_apply, val_main_v18_apply, val_main_v17_apply]
  have e : idx_main_v17 (idx_main_v18 (ix4 b h i n)) = ix3 b h i := by funext a; fin_cases a <;> rfl
  rw [e]
  rfl

/-- The reference's result at a row and a column. -/
theorem ref_at (j : Cert.ReferenceIdeal.S8192x1536.Idx) :
    val_main_v23 (F := Ideal) x0 x1 x2 x3 x4 x7 x8 x9 j
      = ∑ n, cat4 x4 x9 (batchOf (j 0)) n (headOf (j 1)) (laneOf (j 1))
          * Ideal.div (rexp x0 x2 x1 x3 x7 x8 (batchOf (j 0)) (headOf (j 1)) (posOf (j 0)) n)
              (∑ k, rexp x0 x2 x1 x3 x7 x8 (batchOf (j 0)) (headOf (j 1)) (posOf (j 0)) k) := by
  obtain ⟨r, c, rfl⟩ : ∃ (r : Fin 8192) (c : Fin 1536), j = ix2 r c := ⟨j 0, j 1, by funext a; fin_cases a <;> rfl⟩
  show _ = ∑ n, cat4 x4 x9 (batchOf r) n (headOf c) (laneOf c) * Ideal.div (rexp x0 x2 x1 x3 x7 x8 (batchOf r) (headOf c) (posOf r) n)
              (∑ k, rexp x0 x2 x1 x3 x7 x8 (batchOf r) (headOf c) (posOf r) k)
  have e : idx_main_v22 (ix2 r c) = ix4 (batchOf r) (posOf r) (headOf c) (laneOf c) := by
    have hr := r.isLt
    have hc := c.isLt
    funext a
    fin_cases a
    · exact Fin.ext (show (r.val * 1536 + c.val) / 6291456 = r.val / 4096 by omega)
    · exact Fin.ext (show (r.val * 1536 + c.val) / 1536 % 4096 = r.val % 4096 by omega)
    · exact Fin.ext (show (r.val * 1536 + c.val) / 128 % 12 = c.val / 128 by omega)
    · exact Fin.ext (show (r.val * 1536 + c.val) % 128 = c.val % 128 by omega)
  show val_main_v22 (F := Ideal) x0 x1 x2 x3 x4 x7 x8 x9 (ix2 r c) = _
  rw [val_main_v22_apply, e, val_main_v21_apply, val_main_v20_apply]
  refine Finset.sum_congr rfl fun n _ => ?_
  rw [← prob_at, ← vals_at]
  refine congrArg₂ _ (congrArg _ ?_) (congrArg _ ?_)
  · funext a; fin_cases a <;> rfl
  · funext a; fin_cases a <;> rfl

end Cert.KernelIdeal.Attn
end
-- ==== Proof.AttnMain.lean ====
module

public import proofs.«01_k».proof.Proof.AttnRef
public import proofs.«01_k».proof.Proof.Gen.Pre_finite_qk
public import Idealize.ShloMosaic.Lib.ReduceAll

/-! The attention of the packed arrays is the reference's, for finite queries and keys. -/

@[expose] public section

set_option maxRecDepth 16384

noncomputable section

namespace Cert.KernelIdeal.Attn

open Idealize.ShloMosaic Idealize.ShloMosaic.TcCoe Idealize.SL.Sem
open Cert.KernelIdeal Cert.KernelIdeal.Gen

/-- The scale of the scores is a real. -/
theorem w_real : ∃ W : ℝ, w = (W : EReal) := by
  unfold w Ideal.ofBits Ideal.ieee
  simp
  exact ⟨_, rfl⟩

/-- The word of two is two. -/
theorem two_word : Ideal.ofBits .f32 0x40000000#32 = ((2 : ℝ) : EReal) := by
  unfold Ideal.ofBits Ideal.ieee
  simp
  rw [← EReal.coe_mul, EReal.coe_eq_coe_iff]
  norm_num

/-- A query in the kernel's units. -/
theorem inUnits_at {s : Shape} (bc : S_.BroadcastsInDim s ![]) (q : Vec Ideal s .f32) (i : s.Idx) :
    (inUnits bc q i : EReal) = Ideal.div ((q i : EReal) * w) ((Real.log 2 : ℝ) : EReal) := by
  have e : Ideal.log (Ideal.ofBits .f32 0x40000000#32) = ((Real.log 2 : ℝ) : EReal) := by
    rw [two_word, Ideal.log_coe, if_neg (by norm_num)]
  rw [← e]
  rfl

/-- A sum over a head's lanes, by its three parts. -/
theorem sum_lanes (f : Fin 256 → EReal) : ∑ x, f x = (∑ x : Fin 128, f ⟨x.val, by have := x.isLt; omega⟩)
    + ((∑ x : Fin 64, f ⟨128 + x.val, by have := x.isLt; omega⟩) + ∑ x : Fin 64, f ⟨192 + x.val, by have := x.isLt; omega⟩) := by
  refine (Fin.sum_univ_add (a := 128) (b := 128) f).trans (congrArg _ ?_)
  refine (Fin.sum_univ_add (a := 64) (b := 64) fun y : Fin 128 => f ⟨128 + y.val, by have := y.isLt; omega⟩).trans (congrArg _ ?_)
  refine Finset.sum_congr rfl fun x _ => congrArg f (Fin.ext ?_)
  show 128 + (64 + x.val) = 192 + x.val
  omega

/-- An array of reals. -/
def AllReal {s : Shape} (x : Vec Ideal s .f32) : Prop := ∀ i, ∃ a : ℝ, (x i : EReal) = (a : EReal)

section
variable (x0 x2 x4 : Vec Ideal S2x4096x12x128 .f32) (x1 : Vec Ideal S2x4096x12x64 .f32) (x3 : Vec Ideal S2x4096x64 .f32)
  (x5 x7 x9 : Vec Ideal S2x256x12x128 .f32) (x6 : Vec Ideal S2x256x12x64 .f32) (x8 : Vec Ideal S2x256x64 .f32)

/-- The packed queries, over variables. -/
def packQ : Vec Ideal S8704x3072 .bf16 :=
  flat (headq (inUnits bcast_S_S8704x12x128 (toks x0 x5)) (inUnits bcast_S_S8704x12x64 (toksq x1 x6)))
/-- The packed keys, over variables. -/
def packK : Vec Ideal S8704x3072 .bf16 := flat (headk (toks x2 x7) (toksk x3 x8))
/-- The packed values, over variables. -/
def packV : Vec Ideal S8704x3072 .bf16 := flat (headv (toks x4 x9))

/-- The packed score, over the queries and keys. -/
theorem gsc_at (r : Fin 8192) (h : Fin 12) (n : Fin 4352) :
    gsc (packQ x0 x1 x5 x6) (packK x2 x3 x7 x8) r h n
      = (∑ x : Fin 128, Ideal.div (x0 (ix4 (batchOf r) (posOf r) h x) * w) ((Real.log 2 : ℝ) : EReal) * cat4 x2 x7 (batchOf r) n h x)
        + ((∑ y : Fin 64, Ideal.div (x1 (ix4 (batchOf r) (posOf r) h y) * w) ((Real.log 2 : ℝ) : EReal) * cat3 x3 x8 (batchOf r) n y)
          + ∑ y : Fin 64, (0 : EReal) * 0) := by
  unfold gsc packQ packK
  rw [sum_lanes]
  refine congrArg₂ _ (Finset.sum_congr rfl fun x _ => ?_) (congrArg₂ _ (Finset.sum_congr rfl fun x _ => ?_) (Finset.sum_congr rfl fun x _ => ?_))
  · rw [flat_at, flat_at, headq_lo, headk_lo, inUnits_at, toks_lat, toks_at]
  · rw [flat_at, flat_at, headq_mid, headk_mid, inUnits_at, toksq_lat, toksk_at]
  · rw [flat_at, flat_at, headq_hi, headk_hi]

/-- Finite queries and keys have real scores: the reference's, and the packed ones over the logarithm of two. -/
theorem scores_real (h0 : AllReal x0) (h1 : AllReal x1) (h2 : AllReal x2) (h3 : AllReal x3) (h7 : AllReal x7) (h8 : AllReal x8)
    (r : Fin 8192) (h : Fin 12) : ∃ T : Fin 4352 → ℝ, (∀ n, rsc x0 x2 x1 x3 x7 x8 (batchOf r) h (posOf r) n = (T n : EReal))
      ∧ ∀ n, gsc (packQ x0 x1 x5 x6) (packK x2 x3 x7 x8) r h n = ((T n / Real.log 2 : ℝ) : EReal) := by
  have hl : Real.log 2 ≠ 0 := (Real.log_pos one_lt_two).ne'
  obtain ⟨W, hW⟩ := w_real
  choose a0 e0 using h0
  choose a1 e1 using h1
  have hk : ∀ n x, ∃ a : ℝ, cat4 x2 x7 (batchOf r) n h x = (a : EReal) := fun n x => by
    unfold cat4; split
    · exact h2 _
    · exact h7 _
  have hp : ∀ n x, ∃ a : ℝ, cat3 x3 x8 (batchOf r) n x = (a : EReal) := fun n x => by
    unfold cat3; split
    · exact h3 _
    · exact h8 _
  choose k ek using hk
  choose p ep using hp
  refine ⟨fun n => ((∑ x : Fin 128, a0 (ix4 (batchOf r) (posOf r) h x) * k n x)
    + ∑ y : Fin 64, p n y * a1 (ix4 (batchOf r) (posOf r) h y)) * W, fun n => ?_, fun n => ?_⟩
  · unfold rsc
    simp only [e0, e1, ek, ep, hW, ← EReal.coe_mul, ← Softmax.coe_sum, ← EReal.coe_add]
  · rw [gsc_at]
    simp only [e0, e1, ek, ep, hW, Ideal.div_coe hl, ← EReal.coe_mul, ← Softmax.coe_sum, ← EReal.coe_add, mul_zero,
      Finset.sum_const_zero, add_zero]
    rw [EReal.coe_eq_coe_iff, mul_div_assoc, add_mul, Finset.sum_mul, Finset.sum_mul]
    refine congrArg₂ _ (Finset.sum_congr rfl fun x _ => ?_) (Finset.sum_congr rfl fun x _ => ?_) <;> ring

/-- The attention of the packed arrays is the reference's attention. -/
theorem attn_eq (h0 : AllReal x0) (h1 : AllReal x1) (h2 : AllReal x2) (h3 : AllReal x3) (h7 : AllReal x7) (h8 : AllReal x8) :
    attnArr (packQ x0 x1 x5 x6) (packK x2 x3 x7 x8) (packV x4 x9)
      = Cert.ReferenceIdeal.Read.val_main_v23 (F := Ideal) x0 x1 x2 x3 x4 x7 x8 x9 := by
  funext j
  rw [ref_at]
  unfold attnArr gout gnum rexp
  obtain ⟨T, hr, hg⟩ := scores_real x0 x2 x1 x3 x5 x7 x6 x8 h0 h1 h2 h3 h7 h8 (j 0) (headOf (j 1))
  have hv : ∀ n, packV x4 x9 (ix2 (krow (batchOf (j 0)) n) (lane (headOf (j 1)) ⟨(laneOf (j 1)).val, by have := (laneOf (j 1)).isLt; omega⟩))
      = cat4 x4 x9 (batchOf (j 0)) n (headOf (j 1)) (laneOf (j 1)) := fun n => by
    unfold packV; rw [flat_at, headv_lo, toks_at]
  have ho : ∀ n, packV x4 x9 (ix2 (krow (batchOf (j 0)) n) (lane (headOf (j 1)) ⟨128 + (laneOf (j 1)).val, by have := (laneOf (j 1)).isLt; omega⟩))
      = (1 : EReal) := fun n => by
    unfold packV; rw [flat_at, headv_hi]
  simp only [hr, hg, hv, ho]
  exact Softmax.softmax_eq T _

end

end Cert.KernelIdeal.Attn
end
-- ==== Proof.AttnPre.lean ====
module

public import proofs.«01_k».proof.Proof.AttnMain
public import proofs.«01_k».proof.Defs

/-! What the precondition says: the queries and the keys are arrays of reals. -/

@[expose] public section

set_option maxRecDepth 16384

noncomputable section

namespace Cert.KernelIdeal.Attn

open Idealize.ShloMosaic Idealize.ShloMosaic.TcCoe Idealize.SL.Sem

/-- A scalar has one index. -/
instance scalarIdx : Subsingleton Cert.Pre_finite_qk.S_.Idx := ⟨fun a b => funext fun i => i.elim0⟩

/-- The word of infinity. -/
theorem inf_word : Ideal.ofBits .f32 0x7F800000#32 = (⊤ : EReal) := by
  simp [Ideal.ofBits, Ideal.ieee]

/-- An array all of whose absolute values compare below infinity is an array of reals. -/
theorem allReal_of {s : Shape} {axes : List (Fin s.rank)} (x : Vec Ideal s .f32) (bc : Cert.Pre_finite_qk.S_.BroadcastsInDim s ![])
    (hr : s.ReducesTo axes Cert.Pre_finite_qk.S_) (hu : 0 < Cert.Pre_finite_qk.S_.numel) (j : Cert.Pre_finite_qk.S_.Idx)
    (e : Host.reduce IntOp.andi (cmpf (F := Ideal) (φ := .f32) .olt (Host.absf (F := Ideal) (φ := .f32) x)
      (broadcastInDim s ![] bc (constant (F := Ideal) Cert.Pre_finite_qk.S_ .f32 0x7F800000#32)))
      (constantI Cert.Pre_finite_qk.S_ 1 1#1) hr hu j = 1#1) : AllReal x := by
  intro i
  have h := Host.reduce_andi_all _ _ hr hu j e i
  have h' : Ideal.cmp .olt (max (x i : EReal) (-(x i : EReal))) (Ideal.ofBits .f32 0x7F800000#32) = 1#1 := h
  rw [inf_word] at h'
  have hlt : max (x i : EReal) (-(x i : EReal)) < ⊤ := by
    by_contra hn
    have : Ideal.cmp .olt (max (x i : EReal) (-(x i : EReal))) ⊤ = 0#1 := by
      simp only [Ideal.cmp, hn]
      rfl
    rw [this] at h'
    exact absurd h' (by decide)
  have h1 := (max_lt_iff.mp hlt).1
  have h2 := (max_lt_iff.mp hlt).2
  refine ⟨(x i : EReal).toReal, (EReal.coe_toReal h1.ne ?_).symm⟩
  intro hb
  rw [hb] at h2
  exact absurd h2 (by simp)

open Cert.KernelIdeal (nD τ sig main_arg0 main_arg1 main_arg2 main_arg3 main_arg7 main_arg8) in
/-- The precondition's six arrays are arrays of reals. -/
theorem pre_real (m : (ℓ : Loc nD τ sig) → Buf (Elt Ideal) ℓ) (hp : Cert.Pre_KernelIdeal_finite_qk m) (c : Dev nD) :
    AllReal (m ((c.tc : Thread nD τ).loc main_arg0)) ∧ AllReal (m ((c.tc : Thread nD τ).loc main_arg1))
      ∧ AllReal (m ((c.tc : Thread nD τ).loc main_arg2)) ∧ AllReal (m ((c.tc : Thread nD τ).loc main_arg3))
      ∧ AllReal (m ((c.tc : Thread nD τ).loc main_arg7)) ∧ AllReal (m ((c.tc : Thread nD τ).loc main_arg8)) := by
  have h := congrFun (hp c) (fun a => a.elim0)
  unfold Cert.Pre_finite_qk.fn Cert.Pre_finite_qk.fn_part1 at h
  simp only [andi, IntOp.andi_eq_one] at h
  obtain ⟨⟨⟨⟨⟨e0, e1⟩, e2⟩, e3⟩, e7⟩, e8⟩ := h
  exact ⟨allReal_of _ _ _ _ _ e0, allReal_of _ _ _ _ _ e1, allReal_of _ _ _ _ _ e2, allReal_of _ _ _ _ _ e3,
    allReal_of _ _ _ _ _ e7, allReal_of _ _ _ _ _ e8⟩

end Cert.KernelIdeal.Attn
end
-- ==== Proof.UpRun.lean ====
module

public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import Idealize.ShloMosaic.Lib.Pipeline.FrameBody
public import Idealize.ShloMosaic.Lib.Tactic
public import Idealize.ShloMosaic.Lib.WordCmp
public import Idealize.ShloMosaic.Lib.VecWindow

/-! One run of the up-projection's body, for each of its three branches: the first sweep only casts weight rows into the
first pair of scratch buffers; an odd sweep multiplies by the first pair and casts into the second; a later even sweep
multiplies by the second pair and casts into the first. -/

@[expose] public section

set_option maxRecDepth 16384

noncomputable section

namespace Cert.Kernel2Ideal.Up

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The first branch is taken in the first sweep. -/
theorem first_iff : ∀ t : Fin cfg0.N, k0_cond1 (grid0.coords t) = 1#1 ↔ t.val / 8 = 0 :=
  (by decide +kernel : ∀ t : Fin grid0.N, k0_cond1 (grid0.coords t) = 1#1 ↔ t.val / 8 = 0)

/-- The second branch is taken in the odd sweeps. -/
theorem odd_iff : ∀ t : Fin cfg0.N, k0_cond2 (grid0.coords t) = 1#1 ↔ t.val / 8 % 2 = 1 :=
  (by decide +kernel : ∀ t : Fin grid0.N, k0_cond2 (grid0.coords t) = 1#1 ↔ t.val / 8 % 2 = 1)

/-- The third branch is taken in the even sweeps after the first. -/
theorem even_iff : ∀ t : Fin cfg0.N, k0_cond3 (grid0.coords t) = 1#1 ↔ (t.val / 8 ≠ 0 ∧ t.val / 8 % 2 = 0) :=
  (by decide +kernel : ∀ t : Fin grid0.N, k0_cond3 (grid0.coords t) = 1#1 ↔ (t.val / 8 ≠ 0 ∧ t.val / 8 % 2 = 0))

/-- The rows a point casts start at 512 times its place in the sweep. -/
theorem offs : ∀ t : Fin cfg0.N, k0_off1 (grid0.coords t) = ![t.val % 8 * 512, 0] ∧ k0_off2 (grid0.coords t) = ![t.val % 8 * 512, 0]
    ∧ k0_off3 (grid0.coords t) = ![t.val % 8 * 512, 0] :=
  (by decide +kernel : ∀ t : Fin grid0.N, k0_off1 (grid0.coords t) = ![t.val % 8 * 512, 0] ∧ k0_off2 (grid0.coords t) = ![t.val % 8 * 512, 0]
    ∧ k0_off3 (grid0.coords t) = ![t.val % 8 * 512, 0])

/-- A scratch buffer with 512 rows from row `o` replaced. -/
def put (d : Vec F S4096x512 .bf16) (o : ℕ) (p : Vec F S512x512 .bf16) : Vec F S4096x512 .bf16 :=
  VecWindow.put d ![o, 0] S512x512.size p

set_option maxHeartbeats 4000000 in
/-- The first branch: the weight rows of the point go into the first pair of scratch buffers. -/
theorem run_first (c : Dev nD) (i : grid0.Coords) (arg2 : Memref sig .tc .vmem S1088x4096 .bf16) (harg2 : arg2.IsWhole) (arg3 : Memref sig .tc .vmem S1x512x512 .f32) (harg3 : arg3.IsWhole)
    (arg4 : Memref sig .tc .vmem S1x512x512 .f32) (harg4 : arg4.IsWhole) (arg5 : Memref sig .tc .vmem S1088x512 .bf16) (harg5 : arg5.IsWhole)
    (arg6 : Memref sig .tc .vmem S4096x512 .bf16) (harg6 : arg6.IsWhole) (arg7 : Memref sig .tc .vmem S4096x512 .bf16) (harg7 : arg7.IsWhole)
    (arg8 : Memref sig .tc .vmem S4096x512 .bf16) (harg8 : arg8.IsWhole) (arg9 : Memref sig .tc .vmem S4096x512 .bf16) (harg9 : arg9.IsWhole)
    (hc1 : k0_cond1 i = 1#1) (hc2 : ¬k0_cond2 i = 1#1) (hc3 : ¬k0_cond3 i = 1#1) (o : ℕ) (ho : k0_off1 i = ![o, 0])
    (x0 : Vec F S1088x4096 .bf16) (x1 x2 : Vec F S1x512x512 .f32) (x3 : Vec F S1088x512 .bf16) (d6 d7 d8 d9 : Vec F S4096x512 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg6 fullShare d6 ∗ owns (c : Thread nD τ) arg7 fullShare d7 ∗ owns (c : Thread nD τ) arg8 fullShare d8 ∗ owns (c : Thread nD τ) arg9 fullShare d9
          ∗ (iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg6 fullShare (put d6 o (k0_pay1 x1)) ∗ owns (c : Thread nD τ) arg7 fullShare (put d7 o (k0_pay2 x2)) ∗ owns (c : Thread nD τ) arg8 fullShare d8 ∗ owns (c : Thread nD τ) arg9 fullShare d9) -∗ K ⟨⟩))
      ⊢ wp frame (wpE (defs₀ (F := F)) Variants.none c none) E (cc0_ffn_up i arg2 harg2 arg3 harg3 arg4 harg4 arg5 harg5 arg6 harg6 arg7 harg7 arg8 harg8 arg9 harg9) K := by
  simp only [cc0_ffn_up_eq_skeleton]; unfold cc0_ffn_up_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg6.eq_unread hf6; obtain rfl := harg7.eq_unread hf7; obtain rfl := harg8.eq_unread hf8; obtain rfl := harg9.eq_unread hf9
  sl_exec (disch := first | sl_exact hc1 | sl_exact hc2 | sl_exact hc3)
  sl_step
  iapply Hk
  isplitl [H0]
  · iexists _; isplitr; swap; · iexact H0
    ipureintro
    exact harg2.read_unread _
  isplitl [H1]
  · iexists _; isplitr; swap; · iexact H1
    ipureintro
    exact harg3.read_unread _
  isplitl [H2]
  · iexists _; isplitr; swap; · iexact H2
    ipureintro
    exact harg4.read_unread _
  isplitl [H3]
  · iexists _; isplitr; swap; · iexact H3
    ipureintro
    exact harg5.read_unread _
  isplitl [H6]
  · iexists _; isplitr; swap; · iexact H6
    ipureintro
    rw [View.read_writes_cons_put _ _ _ _ _ ho, View.writes_nil, harg6.read_unread, View.readAt_full, harg3.read_unread]
    rfl
  isplitl [H7]
  · iexists _; isplitr; swap; · iexact H7
    ipureintro
    rw [View.read_writes_cons_put _ _ _ _ _ ho, View.writes_nil, harg7.read_unread, View.readAt_full, harg4.read_unread]
    rfl
  isplitl [H8]
  · iexists _; isplitr; swap; · iexact H8
    ipureintro
    exact harg8.read_unread _
  iexists _; isplitr; swap; · iexact H9
  ipureintro
  exact harg9.read_unread _

set_option maxHeartbeats 4000000 in
/-- The second branch: the product by the first pair is stored, and the weight rows of the point go into the second pair. -/
theorem run_odd (c : Dev nD) (i : grid0.Coords) (arg2 : Memref sig .tc .vmem S1088x4096 .bf16) (harg2 : arg2.IsWhole) (arg3 : Memref sig .tc .vmem S1x512x512 .f32) (harg3 : arg3.IsWhole)
    (arg4 : Memref sig .tc .vmem S1x512x512 .f32) (harg4 : arg4.IsWhole) (arg5 : Memref sig .tc .vmem S1088x512 .bf16) (harg5 : arg5.IsWhole)
    (arg6 : Memref sig .tc .vmem S4096x512 .bf16) (harg6 : arg6.IsWhole) (arg7 : Memref sig .tc .vmem S4096x512 .bf16) (harg7 : arg7.IsWhole)
    (arg8 : Memref sig .tc .vmem S4096x512 .bf16) (harg8 : arg8.IsWhole) (arg9 : Memref sig .tc .vmem S4096x512 .bf16) (harg9 : arg9.IsWhole)
    (hc1 : ¬k0_cond1 i = 1#1) (hc2 : k0_cond2 i = 1#1) (hc3 : ¬k0_cond3 i = 1#1) (o : ℕ) (ho : k0_off2 i = ![o, 0])
    (x0 : Vec F S1088x4096 .bf16) (x1 x2 : Vec F S1x512x512 .f32) (x3 : Vec F S1088x512 .bf16) (d6 d7 d8 d9 : Vec F S4096x512 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg6 fullShare d6 ∗ owns (c : Thread nD τ) arg7 fullShare d7 ∗ owns (c : Thread nD τ) arg8 fullShare d8 ∗ owns (c : Thread nD τ) arg9 fullShare d9
          ∗ (iprop(owns (c : Thread nD τ) arg2 fullShare x0 ∗ owns (c : Thread nD τ) arg3 fullShare x1 ∗ owns (c : Thread nD τ) arg4 fullShare x2 ∗ owns (c : Thread nD τ) arg5 fullShare (k0_pay3 x0 d6 d7)
          ∗ owns (c : Thread nD τ) arg6 fullShare d6 ∗ owns (c : Thread nD τ) arg7 fullShare d7 ∗ owns (c : Thread nD τ) arg8 fullShare (put d8 o (k0_pay1 x1)) ∗ owns (c : Thread nD τ) arg9 fullShare (put d9 o (k0_pay2 x2))) -∗ K ⟨⟩))
      ⊢ wp frame (wpE (defs₀ (F := F)) Variants.none c none) E (cc0_ffn_up i arg2 harg2 arg3 harg3 arg4 harg4 arg5 harg5 arg6 harg6 arg7 harg7 arg8 harg8 arg9 harg9) K := by
  simp only [cc0_ffn_up_eq_skeleton]; unfold cc0_ffn_up_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg6.eq_unread hf6; obtain rfl := harg7.eq_unread hf7; obtain rfl := harg8.eq_unread hf8; obtain rfl := harg9.eq_unread hf9
  sl_exec (disch := first | sl_exact hc1 | sl_exact hc2 | sl_exact hc3)
  sl_step
  iapply Hk
  isplitl [H0]
  · iexists _; isplitr; swap; · iexact H0
    ipureintro
    exact harg2.read_unread _
  isplitl [H1]
  · iexists _; isplitr; swap; · iexact H1
    ipureintro
    exact harg3.read_unread _
  isplitl [H2]
  · iexists _; isplitr; swap; · iexact H2
    ipureintro
    exact harg4.read_unread _
  isplitl [H3]
  · iexists _; isplitr; swap; · iexact H3
    ipureintro
    refine (View.read_writes_full _ _ _ _ _).trans ?_
    rw [View.readAt_full, View.readAt_full, View.readAt_full, harg2.read_unread, harg6.read_unread, harg7.read_unread]
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    rw [View.read_writes_cons_put _ _ _ _ _ ho, View.writes_nil, harg8.read_unread, View.readAt_full, harg3.read_unread]
    rfl
  iexists _; isplitr; swap; · iexact H9
  ipureintro
  rw [View.read_writes_cons_put _ _ _ _ _ ho, View.writes_nil, harg9.read_unread, View.readAt_full, harg4.read_unread]
  rfl

set_option maxHeartbeats 4000000 in
/-- The third branch: the product by the second pair is stored, and the weight rows of the point go into the first pair. -/
theorem run_even (c : Dev nD) (i : grid0.Coords) (arg2 : Memref sig .tc .vmem S1088x4096 .bf16) (harg2 : arg2.IsWhole) (arg3 : Memref sig .tc .vmem S1x512x512 .f32) (harg3 : arg3.IsWhole)
    (arg4 : Memref sig .tc .vmem S1x512x512 .f32) (harg4 : arg4.IsWhole) (arg5 : Memref sig .tc .vmem S1088x512 .bf16) (harg5 : arg5.IsWhole)
    (arg6 : Memref sig .tc .vmem S4096x512 .bf16) (harg6 : arg6.IsWhole) (arg7 : Memref sig .tc .vmem S4096x512 .bf16) (harg7 : arg7.IsWhole)
    (arg8 : Memref sig .tc .vmem S4096x512 .bf16) (harg8 : arg8.IsWhole) (arg9 : Memref sig .tc .vmem S4096x512 .bf16) (harg9 : arg9.IsWhole)
    (hc1 : ¬k0_cond1 i = 1#1) (hc2 : ¬k0_cond2 i = 1#1) (hc3 : k0_cond3 i = 1#1) (o : ℕ) (ho : k0_off3 i = ![o, 0])
    (x0 : Vec F S1088x4096 .bf16) (x1 x2 : Vec F S1x512x512 .f32) (x3 : Vec F S1088x512 .bf16) (d6 d7 d8 d9 : Vec F S4096x512 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg6 fullShare d6 ∗ owns (c : Thread nD τ) arg7 fullShare d7 ∗ owns (c : Thread nD τ) arg8 fullShare d8 ∗ owns (c : Thread nD τ) arg9 fullShare d9
          ∗ (iprop(owns (c : Thread nD τ) arg2 fullShare x0 ∗ owns (c : Thread nD τ) arg3 fullShare x1 ∗ owns (c : Thread nD τ) arg4 fullShare x2 ∗ owns (c : Thread nD τ) arg5 fullShare (k0_pay3 x0 d8 d9)
          ∗ owns (c : Thread nD τ) arg6 fullShare (put d6 o (k0_pay1 x1)) ∗ owns (c : Thread nD τ) arg7 fullShare (put d7 o (k0_pay2 x2)) ∗ owns (c : Thread nD τ) arg8 fullShare d8 ∗ owns (c : Thread nD τ) arg9 fullShare d9) -∗ K ⟨⟩))
      ⊢ wp frame (wpE (defs₀ (F := F)) Variants.none c none) E (cc0_ffn_up i arg2 harg2 arg3 harg3 arg4 harg4 arg5 harg5 arg6 harg6 arg7 harg7 arg8 harg8 arg9 harg9) K := by
  simp only [cc0_ffn_up_eq_skeleton]; unfold cc0_ffn_up_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, ⟨%f9, %hf9, H9⟩, Hk⟩
  obtain rfl := harg2.eq_unread hf0; obtain rfl := harg3.eq_unread hf1; obtain rfl := harg4.eq_unread hf2; obtain rfl := harg5.eq_unread hf3
  obtain rfl := harg6.eq_unread hf6; obtain rfl := harg7.eq_unread hf7; obtain rfl := harg8.eq_unread hf8; obtain rfl := harg9.eq_unread hf9
  sl_exec (disch := first | sl_exact hc1 | sl_exact hc2 | sl_exact hc3)
  sl_step
  iapply Hk
  isplitl [H0]
  · iexists _; isplitr; swap; · iexact H0
    ipureintro
    exact harg2.read_unread _
  isplitl [H1]
  · iexists _; isplitr; swap; · iexact H1
    ipureintro
    exact harg3.read_unread _
  isplitl [H2]
  · iexists _; isplitr; swap; · iexact H2
    ipureintro
    exact harg4.read_unread _
  isplitl [H3]
  · iexists _; isplitr; swap; · iexact H3
    ipureintro
    refine (View.read_writes_full _ _ _ _ _).trans ?_
    rw [View.readAt_full, View.readAt_full, View.readAt_full, harg2.read_unread, harg8.read_unread, harg9.read_unread]
    rfl
  isplitl [H6]
  · iexists _; isplitr; swap; · iexact H6
    ipureintro
    rw [View.read_writes_cons_put _ _ _ _ _ ho, View.writes_nil, harg6.read_unread, View.readAt_full, harg3.read_unread]
    rfl
  isplitl [H7]
  · iexists _; isplitr; swap; · iexact H7
    ipureintro
    rw [View.read_writes_cons_put _ _ _ _ _ ho, View.writes_nil, harg7.read_unread, View.readAt_full, harg4.read_unread]
    rfl
  isplitl [H8]
  · iexists _; isplitr; swap; · iexact H8
    ipureintro
    exact harg8.read_unread _
  iexists _; isplitr; swap; · iexact H9
  ipureintro
  exact harg9.read_unread _

end Cert.Kernel2Ideal.Up
end
-- ==== Proof.UpFrame.lean ====
module

public import proofs.«01_k».proof.Proof.UpRun
public import Idealize.ShloMosaic.Lib.Pointwise
public import Idealize.ShloMosaic.Lib.Claim

/-! The whole run of the up-projection: what the scratch buffers hold between points, what each point stores, and from
those the run of the program, over any carrier of the values. -/

@[expose] public section

set_option maxRecDepth 16384

noncomputable section

namespace Cert.Kernel2Ideal.Up

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch buffers -/

/-- The point at place `i` of sweep `s`. -/
def pt (s : Fin 17) (i : Fin 8) : Fin cfg0.N :=
  ⟨8 * s.val + i.val, by have := s.isLt; have := i.isLt; have : cfg0.N = 136 := N_0; omega⟩

/-- The place in a sweep that casts a scratch row. -/
def placeOf (r : Fin 4096) : Fin 8 := ⟨r.val / 512, by have := r.isLt; omega⟩
/-- The row within its slice. -/
def rowOf (r : Fin 4096) : Fin 512 := ⟨r.val % 512, by omega⟩

/-- The gate tile of sweep `s`: the slices its eight points cast, stacked. -/
def gate (c : Dev nD) (s : Fin 17) : Vec F S4096x512 .bf16 :=
  fun j => k0_pay1 (iblk m c 1 (pt s (placeOf (j 0)))) (ix2 (rowOf (j 0)) (j 1))

/-- The value tile of sweep `s`. -/
def value (c : Dev nD) (s : Fin 17) : Vec F S4096x512 .bf16 :=
  fun j => k0_pay2 (iblk m c 2 (pt s (placeOf (j 0)))) (ix2 (rowOf (j 0)) (j 1))

/-- The gate tile at an index. -/
theorem gate_at (c : Dev nD) (s : Fin 17) (r : Fin 4096) (x : Fin 512) (t : Fin cfg0.N) (h : pt s (placeOf r) = t) :
    gate m c s (ix2 r x) = k0_pay1 (iblk m c 1 t) (ix2 (rowOf r) x) := by
  subst h; rfl

/-- The value tile at an index. -/
theorem value_at (c : Dev nD) (s : Fin 17) (r : Fin 4096) (x : Fin 512) (t : Fin cfg0.N) (h : pt s (placeOf r) = t) :
    value m c s (ix2 r x) = k0_pay2 (iblk m c 2 t) (ix2 (rowOf r) x) := by
  subst h; rfl

/-- Before point `n`, the buffer holds the rows of the tile `w` that sweep `s` has cast. -/
def Held (w d : Vec F S4096x512 .bf16) (s n : ℕ) : Prop :=
  ∀ j : S4096x512.Idx, 8 * s + (j 0).val / 512 < n → d j = w j

/-- Before point `n`: the pair of the current sweep's parity holds what the sweep has cast so far, the other pair the tile
    of the sweep before. -/
def Inv (c : Dev nD) (n : ℕ) (d6 d7 d8 d9 : Vec F S4096x512 .bf16) : Prop :=
  ∀ s : Fin 17, 8 * s.val < n → n ≤ 8 * s.val + 16 →
    (s.val % 2 = 0 → Held (gate m c s) d6 s.val n ∧ Held (value m c s) d7 s.val n)
    ∧ (s.val % 2 = 1 → Held (gate m c s) d8 s.val n ∧ Held (value m c s) d9 s.val n)

/-- A full tile is held as it is. -/
theorem Held.full {w d : Vec F S4096x512 .bf16} {s n : ℕ} (h : Held w d s n) (hn : 8 * s + 8 ≤ n) : d = w := by
  funext j
  exact h j (by have : (j 0).val < 4096 := (j 0).isLt; omega)

/-- A buffer nothing is stored in still holds a full tile. -/
theorem Held.keep {w d : Vec F S4096x512 .bf16} {s n : ℕ} (h : Held w d s n) (hn : 8 * s + 8 ≤ n) (n' : ℕ) : Held w d s n' :=
  fun j _ => h j (by have : (j 0).val < 4096 := (j 0).isLt; omega)

/-- Storing the point's slice extends what is held by one slice. -/
theorem Held.put {w d : Vec F S4096x512 .bf16} {s n i : ℕ} (p : Vec F S512x512 .bf16) (hi : i < 8) (hn : n = 8 * s + i)
    (h : 0 < i → Held w d s n)
    (hp : ∀ (r : Fin 4096) (x : Fin 512), r.val / 512 = i → w (ix2 r x) = p (ix2 (rowOf r) x)) :
    Held w (put d (i * 512) p) s (n + 1) := by
  intro j hj
  have h0 : (j 0).val < 4096 := (j 0).isLt
  have h1 : (j 1).val < 512 := (j 1).isLt
  unfold Up.put VecWindow.put
  by_cases hin : (j 0).val / 512 = i
  · have hc : ∀ a, (![i * 512, 0] : Fin 2 → ℕ) a ≤ (j a).val ∧ (j a).val < (![i * 512, 0] : Fin 2 → ℕ) a + S512x512.size a :=
      Fin.forall_fin_two.mpr ⟨⟨by show i * 512 ≤ _; omega, by show _ < i * 512 + 512; omega⟩, ⟨Nat.zero_le _, by show _ < 0 + 512; omega⟩⟩
    rw [dif_pos hc]
    have e : j = ix2 (j 0) (j 1) := by funext a; fin_cases a <;> rfl
    refine Eq.trans ?_ ((congrArg w e).trans (hp (j 0) (j 1) hin)).symm
    refine congrArg p (funext fun a => ?_)
    fin_cases a
    · exact Fin.ext (by show (j 0).val - i * 512 = (j 0).val % 512; omega)
    · exact Fin.ext (by show (j 1).val - 0 = (j 1).val; omega)
  · rw [dif_neg (fun hc => hin (by have := hc 0; have h2 : i * 512 ≤ (j 0).val ∧ (j 0).val < i * 512 + 512 := this; omega))]
    exact h (by omega) j (by omega)

/-- An even sweep's point keeps the description. -/
theorem Inv.even {c : Dev nD} {d6 d7 d8 d9 : Vec F S4096x512 .bf16} (t : Fin cfg0.N) (h : Inv m c t.val d6 d7 d8 d9) (he : t.val / 8 % 2 = 0) :
    Inv m c (t.val + 1) (put d6 (t.val % 8 * 512) (k0_pay1 (iblk m c 1 t))) (put d7 (t.val % 8 * 512) (k0_pay2 (iblk m c 2 t))) d8 d9 := by
  intro s hs hs'
  have hN : t.val < 136 := lt_of_lt_of_eq t.isLt N_0
  refine ⟨fun hp => ?_, fun hp => ?_⟩
  · have hσ : s.val = t.val / 8 := by omega
    have hpt : ∀ r : Fin 4096, r.val / 512 = t.val % 8 → pt s (placeOf r) = t := fun r hr =>
      Fin.ext (by show 8 * s.val + r.val / 512 = t.val; omega)
    exact ⟨Held.put _ (by omega) (by omega) (fun hi => ((h s (by omega) (by omega)).1 hp).1) fun r x hr => gate_at m c s r x t (hpt r hr),
      Held.put _ (by omega) (by omega) (fun hi => ((h s (by omega) (by omega)).1 hp).2) fun r x hr => value_at m c s r x t (hpt r hr)⟩
  · have := (h s (by omega) (by omega)).2 hp
    exact ⟨this.1.keep (by omega) _, this.2.keep (by omega) _⟩

/-- An odd sweep's point keeps the description. -/
theorem Inv.odd {c : Dev nD} {d6 d7 d8 d9 : Vec F S4096x512 .bf16} (t : Fin cfg0.N) (h : Inv m c t.val d6 d7 d8 d9) (he : t.val / 8 % 2 = 1) :
    Inv m c (t.val + 1) d6 d7 (put d8 (t.val % 8 * 512) (k0_pay1 (iblk m c 1 t))) (put d9 (t.val % 8 * 512) (k0_pay2 (iblk m c 2 t))) := by
  intro s hs hs'
  have hN : t.val < 136 := lt_of_lt_of_eq t.isLt N_0
  refine ⟨fun hp => ?_, fun hp => ?_⟩
  · have := (h s (by omega) (by omega)).1 hp
    exact ⟨this.1.keep (by omega) _, this.2.keep (by omega) _⟩
  · have hσ : s.val = t.val / 8 := by omega
    have hpt : ∀ r : Fin 4096, r.val / 512 = t.val % 8 → pt s (placeOf r) = t := fun r hr =>
      Fin.ext (by show 8 * s.val + r.val / 512 = t.val; omega)
    exact ⟨Held.put _ (by omega) (by omega) (fun hi => ((h s (by omega) (by omega)).2 hp).1) fun r x hr => gate_at m c s r x t (hpt r hr),
      Held.put _ (by omega) (by omega) (fun hi => ((h s (by omega) (by omega)).2 hp).2) fun r x hr => value_at m c s r x t (hpt r hr)⟩

/-- The sweep before a point's. -/
def prev (t : Fin cfg0.N) : Fin 17 := ⟨t.val / 8 - 1, by have : t.val < 136 := lt_of_lt_of_eq t.isLt N_0; omega⟩

/-- What a point stores: the gated product of its rows by the tiles of the sweep before. -/
def outBlk (c : Dev nD) (t : Fin cfg0.N) : Vec F S1088x512 .bf16 :=
  k0_pay3 (iblk m c 0 t) (gate m c (prev t)) (value m c (prev t))

/-! ## The run -/

/-- Staging and scratch memrefs. -/
abbrev sc0 : Memref sig .tc .vmem S4096x512 .bf16 := Memref.whole cc0_scratch0
abbrev sc1 : Memref sig .tc .vmem S4096x512 .bf16 := Memref.whole cc0_scratch1
abbrev sc2 : Memref sig .tc .vmem S4096x512 .bf16 := Memref.whole cc0_scratch2
abbrev sc3 : Memref sig .tc .vmem S4096x512 .bf16 := Memref.whole cc0_scratch3

/-- The region's state between points, its scratch buffers as memrefs at some contents. -/
theorem scoped_eq (c : Dev nD) : (Pipeline.ΦA spec0 c : sProp 𝕄)
    = iprop(iprop((∃ d, owns (c : Thread nD τ) sc0 fullShare d) ∗ (∃ d, owns (c : Thread nD τ) sc1 fullShare d)
        ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The state before point `n`. -/
def St (c : Dev nD) (n : ℕ) : sProp 𝕄 :=
  iprop((∃ d6, ∃ d7, ∃ d8, ∃ d9, ⌜Inv m c n d6 d7 d8 d9⌝ ∗ owns (c : Thread nD τ) sc0 fullShare d6 ∗ owns (c : Thread nD τ) sc1 fullShare d7
      ∗ owns (c : Thread nD τ) sc2 fullShare d8 ∗ owns (c : Thread nD τ) sc3 fullShare d9) ∗ (∃ r, prngReg c r))

/-- What the run says of each window at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk m c t
  Φ t := St m c t.val
  q w := Pipeline.shareOf spec0 w
  owed _ := 0

/-- The arrays are as the region finds them. -/
theorem A_eq (c : Dev nD) (w : Fin cfg0.W) : (dats m 0 c).A w = V m c (Pipeline.arrRef spec0 w) := by
  dsimp only [dats]
/-- A point leaves the block of rows as it was. -/
theorem after_0 (c : Dev nD) (t : Fin cfg0.N) : (dats m 0 c).after 0 t = iblk m c 0 t := by dsimp only [dats]
/-- A point leaves the gate slice as it was. -/
theorem after_1 (c : Dev nD) (t : Fin cfg0.N) : (dats m 0 c).after 1 t = iblk m c 1 t := by dsimp only [dats]
/-- A point leaves the value slice as it was. -/
theorem after_2 (c : Dev nD) (t : Fin cfg0.N) : (dats m 0 c).after 2 t = iblk m c 2 t := by dsimp only [dats]
/-- A point leaves its product in the output block. -/
theorem after_3 (c : Dev nD) (t : Fin cfg0.N) : (dats m 0 c).after 3 t = outBlk m c t := by dsimp only [dats]
/-- A point finds its block of rows. -/
theorem before_0 (c : Dev nD) (t : Fin cfg0.N) (d) : (dats m 0 c).before 0 t d = iblk m c 0 t :=
  before0_0_of m (dats m 0 c) (A_eq m c 0) (after_0 m c) t d
/-- A point finds its gate slice. -/
theorem before_1 (c : Dev nD) (t : Fin cfg0.N) (d) : (dats m 0 c).before 1 t d = iblk m c 1 t :=
  before0_1_of m (dats m 0 c) (A_eq m c 1) (after_1 m c) t d
/-- A point finds its value slice. -/
theorem before_2 (c : Dev nD) (t : Fin cfg0.N) (d) : (dats m 0 c).before 2 t d = iblk m c 2 t :=
  before0_2_of m (dats m 0 c) (A_eq m c 2) (after_2 m c) t d

/-- In the first sweep nothing is stored in the output block, and it is not written back. -/
theorem idle_first : ∀ t : Fin cfg0.N, t.val / 8 = 0 → cfg0.idle 3 (grid0.coords t) = true ∧ (cfg0.win 3).flush t = false :=
  (by decide +kernel : ∀ t : Fin grid0.N, t.val / 8 = 0 → idle0 3 (grid0.coords t) = true ∧ win0_3.flush t = false)
/-- After the first sweep every point stores its output block. -/
theorem live_later : ∀ t : Fin cfg0.N, t.val / 8 ≠ 0 → cfg0.idle 3 (grid0.coords t) = false :=
  (by decide +kernel : ∀ t : Fin grid0.N, t.val / 8 ≠ 0 → idle0 3 (grid0.coords t) = false)

/-- What the body starts from at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What the body ends with at a point. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

set_option maxHeartbeats 4000000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.castSucc = St m c t.val from rfl, show (dats m 0 c).Φ t.succ = St m c (t.val + 1) from rfl]
  rw [show (dats m 0 c).leavesExact 0 t = owns (c : Thread nD τ) (st0_0 t) fullShare ((dats m 0 c).after 0 t) from rfl, after_0]
  rw [show (dats m 0 c).leavesExact 1 t = owns (c : Thread nD τ) (st0_1 t) fullShare ((dats m 0 c).after 1 t) from rfl, after_1]
  rw [show (dats m 0 c).leavesExact 2 t = owns (c : Thread nD τ) (st0_2 t) fullShare ((dats m 0 c).after 2 t) from rfl, after_2]
  have hN : t.val < 136 := lt_of_lt_of_eq t.isLt N_0
  unfold St
  by_cases h0 : t.val / 8 = 0
  · rw [Pipeline.Dat.leavesExact_idle _ 3 t (idle_first t h0).1 (idle_first t h0).2]
    iintro ⟨⟨⟨%d6, %d7, %d8, %d9, %hI, S0, S1, S2, S3⟩, Hg⟩, Ho, ⟨%e0, H0⟩, ⟨%e1, H1⟩, ⟨%e2, H2⟩, ⟨%e3, H3⟩⟩
    iapply (run_first c (grid0.coords t) _ _ _ _ _ _ _ _ _ _ _ _ _ _ _ _ ((first_iff t).mpr h0) (fun h => by have := (odd_iff t).mp h; omega)
      (fun h => by have := (even_iff t).mp h; omega) _ (offs t).1 (iblk m c 0 t) (iblk m c 1 t) (iblk m c 2 t) _ d6 d7 d8 d9 Set.univ _)
    isplitl [H0]; · iexact H0
    isplitl [H1]; · iexact H1
    isplitl [H2]; · iexact H2
    isplitl [H3]; · iexact H3
    isplitl [S0]; · iexact S0
    isplitl [S1]; · iexact S1
    isplitl [S2]; · iexact S2
    isplitl [S3]; · iexact S3
    iintro ⟨H0, H1, H2, H3, S0, S1, S2, S3⟩
    isplitl [S0 S1 S2 S3 Hg]
    · isplitl [S0 S1 S2 S3]
      · iexists _, _, _, _
        isplitr; swap
        · isplitl [S0]; · iexact S0
          isplitl [S1]; · iexact S1
          isplitl [S2]; · iexact S2
          iexact S3
        ipureintro
        exact Inv.even m t hI (by omega)
      iexact Hg
    isplitl [Ho]; · iexact Ho
    isplitl [H0]; · iexact H0
    isplitl [H1]; · iexact H1
    isplitl [H2]; · iexact H2
    iexists e3; iexact H3
  · rw [show (dats m 0 c).leavesExact 3 t = owns (c : Thread nD τ) (st0_3 t) fullShare ((dats m 0 c).after 3 t) from by
      unfold Dat.leavesExact; rw [live_later t h0], after_3]
    have hs : (prev t).val = t.val / 8 - 1 := rfl
    by_cases h1 : t.val / 8 % 2 = 1
    · iintro ⟨⟨⟨%d6, %d7, %d8, %d9, %hI, S0, S1, S2, S3⟩, Hg⟩, Ho, ⟨%e0, H0⟩, ⟨%e1, H1⟩, ⟨%e2, H2⟩, ⟨%e3, H3⟩⟩
      have hold := (hI (prev t) (by omega) (by omega)).1 (by omega)
      rw [show outBlk m c t = k0_pay3 (iblk m c 0 t) d6 d7 from by
        unfold outBlk; rw [hold.1.full (by omega), hold.2.full (by omega)]]
      iapply (run_odd c (grid0.coords t) _ _ _ _ _ _ _ _ _ _ _ _ _ _ _ _ (fun h => h0 ((first_iff t).mp h)) ((odd_iff t).mpr h1)
        (fun h => by have := (even_iff t).mp h; omega) _ (offs t).2.1 (iblk m c 0 t) (iblk m c 1 t) (iblk m c 2 t) _ d6 d7 d8 d9 Set.univ _)
      isplitl [H0]; · iexact H0
      isplitl [H1]; · iexact H1
      isplitl [H2]; · iexact H2
      isplitl [H3]; · iexact H3
      isplitl [S0]; · iexact S0
      isplitl [S1]; · iexact S1
      isplitl [S2]; · iexact S2
      isplitl [S3]; · iexact S3
      iintro ⟨H0, H1, H2, H3, S0, S1, S2, S3⟩
      isplitl [S0 S1 S2 S3 Hg]
      · isplitl [S0 S1 S2 S3]
        · iexists _, _, _, _
          isplitr; swap
          · isplitl [S0]; · iexact S0
            isplitl [S1]; · iexact S1
            isplitl [S2]; · iexact S2
            iexact S3
          ipureintro
          exact Inv.odd m t hI h1
        iexact Hg
      isplitl [Ho]; · iexact Ho
      isplitl [H0]; · iexact H0
      isplitl [H1]; · iexact H1
      isplitl [H2]; · iexact H2
      iexact H3
    · iintro ⟨⟨⟨%d6, %d7, %d8, %d9, %hI, S0, S1, S2, S3⟩, Hg⟩, Ho, ⟨%e0, H0⟩, ⟨%e1, H1⟩, ⟨%e2, H2⟩, ⟨%e3, H3⟩⟩
      have hold := (hI (prev t) (by omega) (by omega)).2 (by omega)
      rw [show outBlk m c t = k0_pay3 (iblk m c 0 t) d8 d9 from by
        unfold outBlk; rw [hold.1.full (by omega), hold.2.full (by omega)]]
      iapply (run_even c (grid0.coords t) _ _ _ _ _ _ _ _ _ _ _ _ _ _ _ _ (fun h => h0 ((first_iff t).mp h)) (fun h => h1 ((odd_iff t).mp h))
        ((even_iff t).mpr ⟨h0, by omega⟩) _ (offs t).2.2 (iblk m c 0 t) (iblk m c 1 t) (iblk m c 2 t) _ d6 d7 d8 d9 Set.univ _)
      isplitl [H0]; · iexact H0
      isplitl [H1]; · iexact H1
      isplitl [H2]; · iexact H2
      isplitl [H3]; · iexact H3
      isplitl [S0]; · iexact S0
      isplitl [S1]; · iexact S1
      isplitl [S2]; · iexact S2
      isplitl [S3]; · iexact S3
      iintro ⟨H0, H1, H2, H3, S0, S1, S2, S3⟩
      isplitl [S0 S1 S2 S3 Hg]
      · isplitl [S0 S1 S2 S3]
        · iexists _, _, _, _
          isplitr; swap
          · isplitl [S0]; · iexact S0
            isplitl [S1]; · iexact S1
            isplitl [S2]; · iexact S2
            iexact S3
          ipureintro
          exact Inv.even m t hI (by omega)
        iexact Hg
      isplitl [Ho]; · iexact Ho
      isplitl [H0]; · iexact H0
      isplitl [H1]; · iexact H1
      isplitl [H2]; · iexact H2
      iexact H3

/-- The body's row of the table is the body. -/
theorem body_row (t : Fin cfg0.N) : defs₀ (F := F) .tc cfg0.body (cfg0.bodyArgs t (cfg0.slots t)) = bodyAt0 t := by
  unfold defs₀; rw [Defs.onTc_tc]

/-- The body meets what the pipeline asks of it at every point. -/
theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- Before the first point nothing is asked of the scratch buffers. -/
theorem st_in (c : Dev nD) : Pipeline.ΦA spec0 c ⊢ (dats m 0 c).Φ 0 := by
  rw [show (dats m 0 c).Φ 0 = St m c 0 from rfl, scoped_eq]
  unfold St
  iintro ⟨⟨⟨%d6, S0⟩, ⟨%d7, S1⟩, ⟨%d8, S2⟩, ⟨%d9, S3⟩⟩, Hg⟩
  isplitl [S0 S1 S2 S3]
  · iexists d6, d7, d8, d9
    isplitr; swap
    · isplitl [S0]; · iexact S0
      isplitl [S1]; · iexact S1
      isplitl [S2]; · iexact S2
      iexact S3
    ipureintro
    exact fun s hs => absurd hs (Nat.not_lt_zero _)
  iexact Hg

/-- After the last point the scratch buffers are given back at some contents. -/
theorem st_out (c : Dev nD) : (dats m 0 c).Φ (Fin.last cfg0.N) ⊢ Pipeline.ΦA spec0 c := by
  rw [show (dats m 0 c).Φ (Fin.last cfg0.N) = St m c (Fin.last cfg0.N).val from rfl, scoped_eq]
  unfold St
  iintro ⟨⟨%d6, %d7, %d8, %d9, -, S0, S1, S2, S3⟩, Hg⟩
  isplitl [S0 S1 S2 S3]
  · isplitl [S0]
    · iexists _; iexact S0
    isplitl [S1]
    · iexists _; iexact S1
    isplitl [S2]
    · iexists _; iexact S2
    iexists _; iexact S3
  iexact Hg

set_option backward.isDefEq.respectTransparency.types false in
/-- The program runs to the end from any memory; it leaves every staged array at what the points stored, everything else as
    it was, and every counter at zero. -/
theorem run_main : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := st_in m) (hout := st_out m)

/-- The program ends with its arguments as they were and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel2Ideal.Up
end
-- ==== Proof.UpValue.lean ====
module

public import proofs.«01_k».proof.Proof.UpFrame
public import Idealize.ShloMosaic.Lib.Pipeline.ValueKit
public import Idealize.ShloMosaic.Lib.Pipeline.ReadBack
public import proofs.«01_k».proof.Proof.Gen.Reference2Ideal.Read

/-! The array the up-projection leaves, over the extended reals, and the reference's: at every row and column the gate's
product, times its logistic, times the value's product. -/

@[expose] public section

set_option maxRecDepth 16384

noncomputable section

namespace Cert.Kernel2Ideal.Up

open Cert.Kernel2Ideal Cert.Kernel2Ideal.Gen Idealize.ShloMosaic Idealize.ShloMosaic.TcCoe Idealize.SL.Sem
open Idealize.ShloMosaic.Pipeline (Dat)

/-- The gated product of two numbers. -/
def gated (g v : EReal) : EReal := g * Ideal.logistic g * v

/-- A column of the value half of the weights. -/
def upper (j : Fin 8192) : Fin 16384 := ⟨8192 + j.val, by have := j.isLt; omega⟩
/-- A column of the gate half. -/
def lower (j : Fin 8192) : Fin 16384 := ⟨j.val, by have := j.isLt; omega⟩

/-- Row `r` of the rows times column `x` of the first layer's weights. -/
def dotw (U : Vec Ideal S8704x4096 .f32) (W : Vec Ideal S2x4096x16384 .f32) (r : Fin 8704) (x : Fin 16384) : EReal :=
  ∑ k : Fin 4096, U (ix2 r k) * W (ix3 0 k x)

/-- The gated half of the feed-forward layer, as an array. -/
def upArr (U : Vec Ideal S8704x4096 .f32) (W : Vec Ideal S2x4096x16384 .f32) : Vec Ideal S8704x8192 .bf16 :=
  fun j => gated (dotw U W (j 0) (lower (j 1))) (dotw U W (j 0) (upper (j 1)))

/-- A cast slice, at an index. -/
theorem pay1_at (x : Vec Ideal S1x512x512 .f32) (r d : Fin 512) : k0_pay1 x (ix2 r d) = x (ix3 0 r d) := by
  pointwise [k0_pay1]
/-- A cast slice of the value half, at an index. -/
theorem pay2_at (x : Vec Ideal S1x512x512 .f32) (r d : Fin 512) : k0_pay2 x (ix2 r d) = x (ix3 0 r d) := by
  pointwise [k0_pay2]

/-- A stored product, at an index. -/
theorem pay3_at (x : Vec Ideal S1088x4096 .bf16) (w v : Vec Ideal S4096x512 .bf16) (r : Fin 1088) (d : Fin 512) :
    k0_pay3 x w v (ix2 r d) = gated (∑ k : Fin 4096, x (ix2 r k) * w (ix2 k d)) (∑ k : Fin 4096, x (ix2 r k) * v (ix2 k d)) := by
  pointwise [k0_pay3, gated]

/-- Where the weight slices of a point sit. -/
theorem idx_w : ∀ t : Fin cfg0.N, t.val < 128 → win0_1.index t = ![0, t.val % 8, t.val / 8] ∧ win0_2.index t = ![0, t.val % 8, 16 + t.val / 8] :=
  (by decide +kernel : ∀ t : Fin grid0.N, t.val < 128 → win0_1.index t = ![0, t.val % 8, t.val / 8] ∧ win0_2.index t = ![0, t.val % 8, 16 + t.val / 8])

/-- Where the rows and the output block of a point sit. -/
theorem idx_x : ∀ t : Fin cfg0.N, 8 ≤ t.val → win0_0.index t = ![t.val % 8, 0] ∧ win0_3.index t = ![t.val % 8, t.val / 8 - 1] :=
  (by decide +kernel : ∀ t : Fin grid0.N, 8 ≤ t.val → win0_0.index t = ![t.val % 8, 0] ∧ win0_3.index t = ![t.val % 8, t.val / 8 - 1])

/-- Only points after the first sweep write their output block back. -/
theorem flush_late : ∀ t : Fin cfg0.N, (cfg0.win 3).flush t = true → 8 ≤ t.val :=
  (by decide +kernel : ∀ t : Fin grid0.N, win0_3.flush t = true → 8 ≤ t.val)

variable (m : (ℓ : Loc nD τ sig) → Buf (Elt Ideal) ℓ)

/-- The rows. -/
abbrev UU (c : Dev nD) : Vec Ideal S8704x4096 .f32 := m ((c : Thread nD τ).loc main_arg0)
/-- The weights. -/
abbrev WW (c : Dev nD) : Vec Ideal S2x4096x16384 .f32 := m ((c : Thread nD τ).loc main_arg1)

/-- The cast rows are the rows. -/
theorem v0_at (c : Dev nD) (i : S8704x4096.Idx) : (V m c main_v0 i : EReal) = UU m c i := by
  entry_read
  rfl

/-- A point's rows. -/
theorem x_blk (c : Dev nD) (t : Fin cfg0.N) (ht : 8 ≤ t.val) (r : Fin 1088) (k : Fin 4096) (R : Fin 8704)
    (hR : R.val = t.val % 8 * 1088 + r.val) : iblk m c 0 t (ix2 r k) = UU m c (ix2 R k) := by
  rw [← v0_at]
  have hi := (idx_x t ht).1
  blk_ext [iblk, hi, hR]

/-- The gate tile of a sweep is a tile of the weights. -/
theorem gate_tile (c : Dev nD) (s : Fin 17) (hs : s.val < 16) (k : Fin 4096) (d : Fin 512) (x : Fin 16384) (hx : x.val = s.val * 512 + d.val) :
    gate m c s (ix2 k d) = WW m c (ix3 0 k x) := by
  rw [gate_at m c s k d _ rfl, pay1_at]
  refine Eq.trans ?_ (congrFun (V_main_arg1 m c) (ix3 0 k x))
  have hk := k.isLt
  have ht : (pt s (placeOf k)).val = 8 * s.val + k.val / 512 := rfl
  have hi := (idx_w (pt s (placeOf k)) (by omega)).1
  have e1 : (pt s (placeOf k)).val % 8 = k.val / 512 := by omega
  have e2 : (pt s (placeOf k)).val / 8 = s.val := by omega
  rw [e1, e2] at hi
  have hr : (rowOf k).val = k.val % 512 := rfl
  blk_ext [iblk, hi, hx, hr]

/-- The value tile of a sweep is a tile of the weights. -/
theorem value_tile (c : Dev nD) (s : Fin 17) (hs : s.val < 16) (k : Fin 4096) (d : Fin 512) (x : Fin 16384) (hx : x.val = 8192 + s.val * 512 + d.val) :
    value m c s (ix2 k d) = WW m c (ix3 0 k x) := by
  rw [value_at m c s k d _ rfl, pay2_at]
  refine Eq.trans ?_ (congrFun (V_main_arg1 m c) (ix3 0 k x))
  have hk := k.isLt
  have ht : (pt s (placeOf k)).val = 8 * s.val + k.val / 512 := rfl
  have hi := (idx_w (pt s (placeOf k)) (by omega)).2
  have e1 : (pt s (placeOf k)).val % 8 = k.val / 512 := by omega
  have e2 : (pt s (placeOf k)).val / 8 = s.val := by omega
  rw [e1, e2] at hi
  have hr : (rowOf k).val = k.val % 512 := rfl
  blk_ext [iblk, hi, hx, hr]

/-- The array the call leaves. -/
theorem final (c : Dev nD) : (dats m 0 c).arrAt 3 cfg0.N = upArr (UU m c) (WW m c) := by
  refine (dats m 0 c).arrAt_eq_of_covers 3 _ (by decide +kernel) fun t hf y => ?_
  have ht := flush_late t hf
  have hN : t.val < 136 := lt_of_lt_of_eq t.isLt N_0
  have hi := (idx_x t ht).2
  blk_simp
  rw [after_3]
  obtain ⟨r, d, rfl⟩ : ∃ (r : Fin 1088) (d : Fin 512), y = ix2 r d := ⟨y 0, y 1, by funext a; fin_cases a <;> rfl⟩
  have e0 : ((win0_3.blk t).view.emb (ix2 r d) 0).val = t.val % 8 * 1088 + r.val := by
    blk_simp [hi]
  have e1 : ((win0_3.blk t).view.emb (ix2 r d) 1).val = (t.val / 8 - 1) * 512 + d.val := by
    blk_simp [hi]
  generalize (win0_3.blk t).view.emb (ix2 r d) = j at e0 e1 ⊢
  have hp : (prev t).val = t.val / 8 - 1 := rfl
  unfold outBlk upArr dotw
  rw [pay3_at]
  refine congrArg₂ gated (Finset.sum_congr rfl fun k _ => ?_) (Finset.sum_congr rfl fun k _ => ?_)
  · rw [x_blk m c t ht r k (j 0) e0, gate_tile m c (prev t) (by omega) k d (lower (j 1)) (by show (j 1).val = _; omega)]
  · rw [x_blk m c t ht r k (j 0) e0, value_tile m c (prev t) (by omega) k d (upper (j 1)) (by show 8192 + (j 1).val = _; omega)]

/-- The program ends with that array in its result and its arguments as they were. -/
theorem run_value (ρ : Dev nD → PrngReg) : θ_run (defs (F := Ideal)) (onTc (τ := τ) (main (F := Ideal))) ⟨m, fun _ => 0, ρ⟩
    (fun r => ∀ c : Dev nD, r.2.mem ((c.tc : Thread nD τ).loc main_v1) = upArr (UU m c) (WW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1.1 c).1 3).trans (final m c), h.2.1 c⟩) (θ_run_and (run_main m ρ) (frame_main m ρ))

section
open Cert.Reference2Ideal.Read

variable (x0 : Vec Ideal S8704x4096 .f32) (x1 : Vec Ideal S2x4096x16384 .f32)

/-- The reference's product of the rows by the weights. -/
theorem dot_at (r : Fin 8704) (x : Fin 16384) : val_main_v2 (F := Ideal) x0 x1 (ix2 r x) = dotw x0 x1 r x := by
  rw [val_main_v2_apply]
  unfold dotw
  refine Finset.sum_congr rfl fun k _ => ?_
  rw [val_main_v1_apply, val_main_v0_apply]
  have hx := x.isLt
  have hk := k.isLt
  refine congrArg₂ _ (congrArg _ ?_) (congrArg _ ?_)
  · funext a; fin_cases a <;> rfl
  · funext a
    fin_cases a
    · rfl
    · exact Fin.ext (show (k.val * 16384 + x.val) / 16384 % 4096 = k.val by omega)
    · exact Fin.ext (show (k.val * 16384 + x.val) % 16384 = x.val by omega)

/-- The word of one. -/
theorem one_word : Ideal.ofBits .f32 0x3F800000#32 = (1 : EReal) := by
  unfold Ideal.ofBits Ideal.ieee
  simp
  rw [← EReal.coe_mul, ← EReal.coe_one, EReal.coe_eq_coe_iff]
  norm_num

/-- The reference's array. -/
theorem ref_eq : val_main_v7 (F := Ideal) x0 x1 = upArr x0 x1 := by
  funext j
  obtain ⟨r, x, rfl⟩ : ∃ (r : Fin 8704) (x : Fin 8192), j = ix2 r x := ⟨j 0, j 1, by funext a; fin_cases a <;> rfl⟩
  have hg : val_main_v3 (F := Ideal) x0 x1 (ix2 r x) = dotw x0 x1 r (lower x) := by
    rw [val_main_v3_apply, ← dot_at]
    refine congrArg _ (funext fun a => ?_)
    fin_cases a <;> rfl
  have hv : val_main_v4 (F := Ideal) x0 x1 (ix2 r x) = dotw x0 x1 r (upper x) := by
    rw [val_main_v4_apply, ← dot_at]
    refine congrArg _ (funext fun a => ?_)
    fin_cases a <;> rfl
  rw [val_main_v7_apply, val_main_v6_apply, val_main_v5_apply, val_main_call0_v5_apply, val_main_call0_v4_apply, val_main_call0_v3_apply,
    val_main_call0_v2_apply, val_main_call0_v1_apply, val_main_call0_v0_apply, val_main_call0_cst_0_apply, val_main_call0_cst_apply, hg, hv]
  show dotw x0 x1 r (lower x) * Ideal.div (Ideal.ofBits .f32 0x3F800000#32) (Ideal.ofBits .f32 0x3F800000#32 + Ideal.exp (-dotw x0 x1 r (lower x)))
    * dotw x0 x1 r (upper x) = _
  rw [one_word]
  rfl

end

end Cert.Kernel2Ideal.Up
end
-- ==== Proof.DownRun.lean ====
module

public import proofs.«01_k».proof.Proof.Gen.Kernel3Ideal.Skeleton
public import proofs.«01_k».proof.Proof.Gen.Kernel3Ideal.Launch
public import proofs.«01_k».proof.Proof.Gen.Kernel3Ideal.Points
public import Idealize.ShloMosaic.Lib.Pipeline.FrameBody
public import Idealize.ShloMosaic.Lib.Tactic
public import Idealize.ShloMosaic.Lib.WordCmp
public import Idealize.ShloMosaic.Lib.VecWindow

/-! One run of the down-projection's body, for each of its three branches: the first sweep only casts weight rows into the
first scratch buffer; an odd sweep multiplies by the first buffer and casts into the second; a later even sweep multiplies by
the second buffer and casts into the first. -/

@[expose] public section

set_option maxRecDepth 16384

noncomputable section

namespace Cert.Kernel3Ideal.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The first branch is taken in the first sweep. -/
theorem first_iff : ∀ t : Fin cfg0.N, k0_cond1 (grid0.coords t) = 1#1 ↔ t.val / 17 = 0 :=
  (by decide +kernel : ∀ t : Fin grid0.N, k0_cond1 (grid0.coords t) = 1#1 ↔ t.val / 17 = 0)

/-- The second branch is taken in the odd sweeps. -/
theorem odd_iff : ∀ t : Fin cfg0.N, k0_cond2 (grid0.coords t) = 1#1 ↔ t.val / 17 % 2 = 1 :=
  (by decide +kernel : ∀ t : Fin grid0.N, k0_cond2 (grid0.coords t) = 1#1 ↔ t.val / 17 % 2 = 1)

/-- The third branch is taken in the even sweeps after the first. -/
theorem even_iff : ∀ t : Fin cfg0.N, k0_cond3 (grid0.coords t) = 1#1 ↔ (t.val / 17 ≠ 0 ∧ t.val / 17 % 2 = 0) :=
  (by decide +kernel : ∀ t : Fin grid0.N, k0_cond3 (grid0.coords t) = 1#1 ↔ (t.val / 17 ≠ 0 ∧ t.val / 17 % 2 = 0))

/-- The slice of the weights that a point casts: its place in the sweep, the last slice again and again after the eighth place. -/
def sliceOf (n : ℕ) : ℕ := min (n % 17) 7

/-- The rows a point casts start at 1024 times its slice. -/
theorem offs : ∀ t : Fin cfg0.N, k0_off1 (grid0.coords t) = ![sliceOf t.val * 1024, 0] ∧ k0_off2 (grid0.coords t) = ![sliceOf t.val * 1024, 0]
    ∧ k0_off3 (grid0.coords t) = ![sliceOf t.val * 1024, 0] :=
  (by decide +kernel : ∀ t : Fin grid0.N, k0_off1 (grid0.coords t) = ![sliceOf t.val * 1024, 0] ∧ k0_off2 (grid0.coords t) = ![sliceOf t.val * 1024, 0]
    ∧ k0_off3 (grid0.coords t) = ![sliceOf t.val * 1024, 0])

/-- A scratch buffer with 1024 rows from row `o` replaced. -/
def put (d : Vec F S8192x512 .bf16) (o : ℕ) (p : Vec F S1024x512 .bf16) : Vec F S8192x512 .bf16 :=
  VecWindow.put d ![o, 0] S1024x512.size p

set_option maxHeartbeats 4000000 in
/-- The first branch: the weight rows of the point go into the first scratch buffer. -/
theorem run_first (c : Dev nD) (i : grid0.Coords) (arg2 : Memref sig .tc .vmem S512x8192 .bf16) (harg2 : arg2.IsWhole) (arg3 : Memref sig .tc .vmem S512x512 .f32) (harg3 : arg3.IsWhole)
    (arg4 : Memref sig .tc .vmem S1x1x512 .f32) (harg4 : arg4.IsWhole) (arg5 : Memref sig .tc .vmem S1x1024x512 .f32) (harg5 : arg5.IsWhole)
    (arg6 : Memref sig .tc .vmem S512x512 .f32) (harg6 : arg6.IsWhole) (arg7 : Memref sig .tc .vmem S8192x512 .bf16) (harg7 : arg7.IsWhole)
    (arg8 : Memref sig .tc .vmem S8192x512 .bf16) (harg8 : arg8.IsWhole)
    (hc1 : k0_cond1 i = 1#1) (hc2 : ¬k0_cond2 i = 1#1) (hc3 : ¬k0_cond3 i = 1#1) (o : ℕ) (ho : k0_off1 i = ![o, 0])
    (x0 : Vec F S512x8192 .bf16) (x1 : Vec F S512x512 .f32) (x2 : Vec F S1x1x512 .f32) (x3 : Vec F S1x1024x512 .f32) (x4 : Vec F S512x512 .f32) (d7 d8 : Vec F S8192x512 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ owns (c : Thread nD τ) arg8 fullShare d8
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (put d7 o (k0_pay1 x3)) ∗ owns (c : Thread nD τ) arg8 fullShare d8) -∗ K ⟨⟩))
      ⊢ wp frame (wpE (defs₀ (F := F)) Variants.none c none) E (cc0_gemm_resid i arg2 harg2 arg3 harg3 arg4 harg4 arg5 harg5 arg6 harg6 arg7 harg7 arg8 harg8) K := by
  simp only [cc0_gemm_resid_eq_skeleton]; unfold cc0_gemm_resid_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf7; obtain rfl := harg8.eq_unread hf8
  sl_exec (disch := first | sl_exact hc1 | sl_exact hc2 | sl_exact hc3)
  sl_step
  iapply Hk
  isplitl [H0]
  · iexists _; isplitr; swap; · iexact H0
    ipureintro
    exact harg2.read_unread _
  isplitl [H1]
  · iexists _; isplitr; swap; · iexact H1
    ipureintro
    exact harg3.read_unread _
  isplitl [H2]
  · iexists _; isplitr; swap; · iexact H2
    ipureintro
    exact harg4.read_unread _
  isplitl [H3]
  · iexists _; isplitr; swap; · iexact H3
    ipureintro
    exact harg5.read_unread _
  isplitl [H4]
  · iexists _; isplitr; swap; · iexact H4
    ipureintro
    exact harg6.read_unread _
  isplitl [H7]
  · iexists _; isplitr; swap; · iexact H7
    ipureintro
    rw [View.read_writes_cons_put _ _ _ _ _ ho, View.writes_nil, harg7.read_unread, View.readAt_full, harg5.read_unread]
    rfl
  iexists _; isplitr; swap; · iexact H8
  ipureintro
  exact harg8.read_unread _

set_option maxHeartbeats 4000000 in
/-- The second branch: the product by the first buffer is stored, and the weight rows of the point go into the second. -/
theorem run_odd (c : Dev nD) (i : grid0.Coords) (arg2 : Memref sig .tc .vmem S512x8192 .bf16) (harg2 : arg2.IsWhole) (arg3 : Memref sig .tc .vmem S512x512 .f32) (harg3 : arg3.IsWhole)
    (arg4 : Memref sig .tc .vmem S1x1x512 .f32) (harg4 : arg4.IsWhole) (arg5 : Memref sig .tc .vmem S1x1024x512 .f32) (harg5 : arg5.IsWhole)
    (arg6 : Memref sig .tc .vmem S512x512 .f32) (harg6 : arg6.IsWhole) (arg7 : Memref sig .tc .vmem S8192x512 .bf16) (harg7 : arg7.IsWhole)
    (arg8 : Memref sig .tc .vmem S8192x512 .bf16) (harg8 : arg8.IsWhole)
    (hc1 : ¬k0_cond1 i = 1#1) (hc2 : k0_cond2 i = 1#1) (hc3 : ¬k0_cond3 i = 1#1) (o : ℕ) (ho : k0_off2 i = ![o, 0])
    (x0 : Vec F S512x8192 .bf16) (x1 : Vec F S512x512 .f32) (x2 : Vec F S1x1x512 .f32) (x3 : Vec F S1x1024x512 .f32) (x4 : Vec F S512x512 .f32) (d7 d8 : Vec F S8192x512 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ owns (c : Thread nD τ) arg8 fullShare d8
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 x0 d7 x1 x2) ∗ owns (c : Thread nD τ) arg7 fullShare d7 ∗ owns (c : Thread nD τ) arg8 fullShare (put d8 o (k0_pay1 x3))) -∗ K ⟨⟩))
      ⊢ wp frame (wpE (defs₀ (F := F)) Variants.none c none) E (cc0_gemm_resid i arg2 harg2 arg3 harg3 arg4 harg4 arg5 harg5 arg6 harg6 arg7 harg7 arg8 harg8) K := by
  simp only [cc0_gemm_resid_eq_skeleton]; unfold cc0_gemm_resid_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf7; obtain rfl := harg8.eq_unread hf8
  sl_exec (disch := first | sl_exact hc1 | sl_exact hc2 | sl_exact hc3)
  sl_step
  iapply Hk
  isplitl [H0]
  · iexists _; isplitr; swap; · iexact H0
    ipureintro
    exact harg2.read_unread _
  isplitl [H1]
  · iexists _; isplitr; swap; · iexact H1
    ipureintro
    exact harg3.read_unread _
  isplitl [H2]
  · iexists _; isplitr; swap; · iexact H2
    ipureintro
    exact harg4.read_unread _
  isplitl [H3]
  · iexists _; isplitr; swap; · iexact H3
    ipureintro
    exact harg5.read_unread _
  isplitl [H4]
  · iexists _; isplitr; swap; · iexact H4
    ipureintro
    refine (View.read_writes_full _ _ _ _ _).trans ?_
    rw [View.readAt_full, View.readAt_full, View.readAt_full, View.readAt_full, harg2.read_unread, harg7.read_unread, harg3.read_unread, harg4.read_unread]
  isplitl [H7]
  · iexists _; isplitr; swap; · iexact H7
    ipureintro
    exact harg7.read_unread _
  iexists _; isplitr; swap; · iexact H8
  ipureintro
  rw [View.read_writes_cons_put _ _ _ _ _ ho, View.writes_nil, harg8.read_unread, View.readAt_full, harg5.read_unread]
  rfl

set_option maxHeartbeats 4000000 in
/-- The third branch: the product by the second buffer is stored, and the weight rows of the point go into the first. -/
theorem run_even (c : Dev nD) (i : grid0.Coords) (arg2 : Memref sig .tc .vmem S512x8192 .bf16) (harg2 : arg2.IsWhole) (arg3 : Memref sig .tc .vmem S512x512 .f32) (harg3 : arg3.IsWhole)
    (arg4 : Memref sig .tc .vmem S1x1x512 .f32) (harg4 : arg4.IsWhole) (arg5 : Memref sig .tc .vmem S1x1024x512 .f32) (harg5 : arg5.IsWhole)
    (arg6 : Memref sig .tc .vmem S512x512 .f32) (harg6 : arg6.IsWhole) (arg7 : Memref sig .tc .vmem S8192x512 .bf16) (harg7 : arg7.IsWhole)
    (arg8 : Memref sig .tc .vmem S8192x512 .bf16) (harg8 : arg8.IsWhole)
    (hc1 : ¬k0_cond1 i = 1#1) (hc2 : ¬k0_cond2 i = 1#1) (hc3 : k0_cond3 i = 1#1) (o : ℕ) (ho : k0_off3 i = ![o, 0])
    (x0 : Vec F S512x8192 .bf16) (x1 : Vec F S512x512 .f32) (x2 : Vec F S1x1x512 .f32) (x3 : Vec F S1x1024x512 .f32) (x4 : Vec F S512x512 .f32) (d7 d8 : Vec F S8192x512 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d7 ∗ owns (c : Thread nD τ) arg8 fullShare d8
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 x0 d8 x1 x2) ∗ owns (c : Thread nD τ) arg7 fullShare (put d7 o (k0_pay1 x3)) ∗ owns (c : Thread nD τ) arg8 fullShare d8) -∗ K ⟨⟩))
      ⊢ wp frame (wpE (defs₀ (F := F)) Variants.none c none) E (cc0_gemm_resid i arg2 harg2 arg3 harg3 arg4 harg4 arg5 harg5 arg6 harg6 arg7 harg7 arg8 harg8) K := by
  simp only [cc0_gemm_resid_eq_skeleton]; unfold cc0_gemm_resid_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf7; obtain rfl := harg8.eq_unread hf8
  sl_exec (disch := first | sl_exact hc1 | sl_exact hc2 | sl_exact hc3)
  sl_step
  iapply Hk
  isplitl [H0]
  · iexists _; isplitr; swap; · iexact H0
    ipureintro
    exact harg2.read_unread _
  isplitl [H1]
  · iexists _; isplitr; swap; · iexact H1
    ipureintro
    exact harg3.read_unread _
  isplitl [H2]
  · iexists _; isplitr; swap; · iexact H2
    ipureintro
    exact harg4.read_unread _
  isplitl [H3]
  · iexists _; isplitr; swap; · iexact H3
    ipureintro
    exact harg5.read_unread _
  isplitl [H4]
  · iexists _; isplitr; swap; · iexact H4
    ipureintro
    refine (View.read_writes_full _ _ _ _ _).trans ?_
    rw [View.readAt_full, View.readAt_full, View.readAt_full, View.readAt_full, harg2.read_unread, harg8.read_unread, harg3.read_unread, harg4.read_unread]
    rfl
  isplitl [H7]
  · iexists _; isplitr; swap; · iexact H7
    ipureintro
    rw [View.read_writes_cons_put _ _ _ _ _ ho, View.writes_nil, harg7.read_unread, View.readAt_full, harg5.read_unread]
    rfl
  iexists _; isplitr; swap; · iexact H8
  ipureintro
  exact harg8.read_unread _

end Cert.Kernel3Ideal.Down
end
-- ==== Proof.DownFrame.lean ====
module

public import proofs.«01_k».proof.Proof.DownRun
public import proofs.«01_k».proof.Proof.Gen.Kernel3Ideal.Frame
public import Idealize.ShloMosaic.Lib.Pointwise
public import Idealize.ShloMosaic.Lib.Claim
public import Idealize.ShloMosaic.Lib.Pipeline.ValueKit
public import Idealize.ShloMosaic.Lib.Pipeline.ReadBack

/-! The whole run of the down-projection: what the two scratch buffers hold between points, what each point stores, and from
those the run of the program, over any carrier of the values. -/

@[expose] public section

set_option maxRecDepth 16384

noncomputable section

namespace Cert.Kernel3Ideal.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch buffers -/

/-- The point at place `i` of sweep `s`, among the places that bring a new slice. -/
def pt (s : Fin 9) (i : Fin 8) : Fin cfg0.N :=
  ⟨17 * s.val + i.val, by have := s.isLt; have := i.isLt; have : cfg0.N = 153 := N_0; omega⟩

/-- The slice a scratch row comes from. -/
def placeOf (r : Fin 8192) : Fin 8 := ⟨r.val / 1024, by have := r.isLt; omega⟩
/-- The row within its slice. -/
def rowOf (r : Fin 8192) : Fin 1024 := ⟨r.val % 1024, by omega⟩

/-- Where a point's weight slice sits. -/
theorem idx_w : ∀ t : Fin cfg0.N, win0_3.index t = ![0, sliceOf t.val, min (t.val / 17) 7] :=
  (by decide +kernel : ∀ t : Fin grid0.N, win0_3.index t = ![0, sliceOf t.val, min (t.val / 17) 7])

/-- Two points of one sweep and one slice are given the same weights. -/
theorem slice_same (c : Dev nD) (t t' : Fin cfg0.N) (h : t.val / 17 = t'.val / 17) (h' : sliceOf t.val = sliceOf t'.val) :
    iblk m c 3 t = iblk m c 3 t' := by
  have hi := idx_w t
  have hi' := idx_w t'
  rw [h, h'] at hi
  funext y
  blk_ext [iblk, hi, hi']

/-- The weight tile of sweep `s`: the slices its points cast, stacked. -/
def tile (c : Dev nD) (s : Fin 9) : Vec F S8192x512 .bf16 :=
  fun j => k0_pay1 (iblk m c 3 (pt s (placeOf (j 0)))) (ix2 (rowOf (j 0)) (j 1))

/-- The tile at an index, from any point of the sweep that casts its slice. -/
theorem tile_at (c : Dev nD) (s : Fin 9) (r : Fin 8192) (x : Fin 512) (t : Fin cfg0.N) (h : t.val / 17 = s.val) (h' : r.val / 1024 = sliceOf t.val) :
    tile m c s (ix2 r x) = k0_pay1 (iblk m c 3 t) (ix2 (rowOf r) x) := by
  have e : iblk m c 3 (pt s (placeOf r)) = iblk m c 3 t := by
    have hr := r.isLt
    have hp : (pt s (placeOf r)).val = 17 * s.val + r.val / 1024 := rfl
    refine slice_same m c _ _ (by omega) ?_
    rw [← h', hp]
    unfold sliceOf
    omega
  rw [← e]
  rfl

/-- Before point `n`, the buffer holds the rows of the tile `w` that sweep `s` has cast. -/
def Held (w d : Vec F S8192x512 .bf16) (s n : ℕ) : Prop :=
  ∀ j : S8192x512.Idx, 17 * s + (j 0).val / 1024 < n → d j = w j

/-- Before point `n`: the buffer of the current sweep's parity holds what the sweep has cast so far, the other one the tile of
    the sweep before. -/
def Inv (c : Dev nD) (n : ℕ) (d7 d8 : Vec F S8192x512 .bf16) : Prop :=
  ∀ s : Fin 9, 17 * s.val < n → n ≤ 17 * s.val + 34 →
    (s.val % 2 = 0 → Held (tile m c s) d7 s.val n) ∧ (s.val % 2 = 1 → Held (tile m c s) d8 s.val n)

/-- A full tile is held as it is. -/
theorem Held.full {w d : Vec F S8192x512 .bf16} {s n : ℕ} (h : Held w d s n) (hn : 17 * s + 8 ≤ n) : d = w := by
  funext j
  exact h j (by have : (j 0).val < 8192 := (j 0).isLt; omega)

/-- A buffer nothing is stored in still holds a full tile. -/
theorem Held.keep {w d : Vec F S8192x512 .bf16} {s n : ℕ} (h : Held w d s n) (hn : 17 * s + 8 ≤ n) (n' : ℕ) : Held w d s n' :=
  fun j _ => h j (by have : (j 0).val < 8192 := (j 0).isLt; omega)

/-- Storing the point's slice extends what is held to that slice. -/
theorem Held.put {w d : Vec F S8192x512 .bf16} {s n i : ℕ} (p : Vec F S1024x512 .bf16) (hi : i < 17) (hn : n = 17 * s + i)
    (h : 0 < i → Held w d s n)
    (hp : ∀ (r : Fin 8192) (x : Fin 512), r.val / 1024 = min i 7 → w (ix2 r x) = p (ix2 (rowOf r) x)) :
    Held w (put d (min i 7 * 1024) p) s (n + 1) := by
  intro j hj
  have h0 : (j 0).val < 8192 := (j 0).isLt
  have h1 : (j 1).val < 512 := (j 1).isLt
  unfold Down.put VecWindow.put
  by_cases hin : (j 0).val / 1024 = min i 7
  · have hc : ∀ a, (![min i 7 * 1024, 0] : Fin 2 → ℕ) a ≤ (j a).val ∧ (j a).val < (![min i 7 * 1024, 0] : Fin 2 → ℕ) a + S1024x512.size a :=
      Fin.forall_fin_two.mpr ⟨⟨by show min i 7 * 1024 ≤ _; omega, by show _ < min i 7 * 1024 + 1024; omega⟩, ⟨Nat.zero_le _, by show _ < 0 + 512; omega⟩⟩
    rw [dif_pos hc]
    have e : j = ix2 (j 0) (j 1) := by funext a; fin_cases a <;> rfl
    refine Eq.trans ?_ ((congrArg w e).trans (hp (j 0) (j 1) hin)).symm
    refine congrArg p (funext fun a => ?_)
    fin_cases a
    · exact Fin.ext (by show (j 0).val - min i 7 * 1024 = (j 0).val % 1024; omega)
    · exact Fin.ext (by show (j 1).val - 0 = (j 1).val; omega)
  · rw [dif_neg (fun hc => hin (by have := hc 0; have h2 : min i 7 * 1024 ≤ (j 0).val ∧ (j 0).val < min i 7 * 1024 + 1024 := this; omega))]
    exact h (by omega) j (by omega)

/-- An even sweep's point keeps the description. -/
theorem Inv.even {c : Dev nD} {d7 d8 : Vec F S8192x512 .bf16} (t : Fin cfg0.N) (h : Inv m c t.val d7 d8) (he : t.val / 17 % 2 = 0) :
    Inv m c (t.val + 1) (put d7 (sliceOf t.val * 1024) (k0_pay1 (iblk m c 3 t))) d8 := by
  intro s hs hs'
  have hN : t.val < 153 := lt_of_lt_of_eq t.isLt N_0
  refine ⟨fun hp => ?_, fun hp => ((h s (by omega) (by omega)).2 hp).keep (by omega) _⟩
  exact Held.put _ (by omega) (by omega) (fun hi => (h s (by omega) (by omega)).1 hp) fun r x hr => tile_at m c s r x t (by omega) hr

/-- An odd sweep's point keeps the description. -/
theorem Inv.odd {c : Dev nD} {d7 d8 : Vec F S8192x512 .bf16} (t : Fin cfg0.N) (h : Inv m c t.val d7 d8) (he : t.val / 17 % 2 = 1) :
    Inv m c (t.val + 1) d7 (put d8 (sliceOf t.val * 1024) (k0_pay1 (iblk m c 3 t))) := by
  intro s hs hs'
  have hN : t.val < 153 := lt_of_lt_of_eq t.isLt N_0
  refine ⟨fun hp => ((h s (by omega) (by omega)).1 hp).keep (by omega) _, fun hp => ?_⟩
  exact Held.put _ (by omega) (by omega) (fun hi => (h s (by omega) (by omega)).2 hp) fun r x hr => tile_at m c s r x t (by omega) hr

/-- The sweep before a point's. -/
def prev (t : Fin cfg0.N) : Fin 9 := ⟨t.val / 17 - 1, by have : t.val < 153 := lt_of_lt_of_eq t.isLt N_0; omega⟩

/-- What a point stores: its residual block and half the gate times the product of its rows by the tile of the sweep before. -/
def outBlk (c : Dev nD) (t : Fin cfg0.N) : Vec F S512x512 .f32 :=
  k0_pay2 (iblk m c 0 t) (tile m c (prev t)) (iblk m c 1 t) (iblk m c 2 t)

/-! ## The run -/

/-- The first scratch buffer, whole. -/
abbrev sc0 : Memref sig .tc .vmem S8192x512 .bf16 := Memref.whole cc0_scratch0
/-- The second. -/
abbrev sc1 : Memref sig .tc .vmem S8192x512 .bf16 := Memref.whole cc0_scratch1

/-- The region's state between points, its scratch buffers as memrefs at some contents. -/
theorem scoped_eq (c : Dev nD) : (Pipeline.ΦA spec0 c : sProp 𝕄)
    = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The state before point `n`. -/
def St (c : Dev nD) (n : ℕ) : sProp 𝕄 :=
  iprop((∃ d7, ∃ d8, ⌜Inv m c n d7 d8⌝ ∗ owns (c : Thread nD τ) sc0 fullShare d7 ∗ owns (c : Thread nD τ) sc1 fullShare d8) ∗ (∃ r, prngReg c r))

/-- What the run says of each window at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk m c t
  Φ t := St m c t.val
  q _ := fullShare
  owed _ := 0

/-- The arrays are as the region finds them. -/
theorem A_eq (c : Dev nD) (w : Fin cfg0.W) : (dats m 0 c).A w = V m c (Pipeline.arrRef spec0 w) := by
  dsimp only [dats]
/-- A point leaves its block of rows as it was. -/
theorem after_0 (c : Dev nD) (t : Fin cfg0.N) : (dats m 0 c).after 0 t = iblk m c 0 t := by dsimp only [dats]
/-- A point leaves its residual block as it was. -/
theorem after_1 (c : Dev nD) (t : Fin cfg0.N) : (dats m 0 c).after 1 t = iblk m c 1 t := by dsimp only [dats]
/-- A point leaves its piece of the gate as it was. -/
theorem after_2 (c : Dev nD) (t : Fin cfg0.N) : (dats m 0 c).after 2 t = iblk m c 2 t := by dsimp only [dats]
/-- A point leaves its weight slice as it was. -/
theorem after_3 (c : Dev nD) (t : Fin cfg0.N) : (dats m 0 c).after 3 t = iblk m c 3 t := by dsimp only [dats]
/-- A point leaves its sum in the output block. -/
theorem after_4 (c : Dev nD) (t : Fin cfg0.N) : (dats m 0 c).after 4 t = outBlk m c t := by dsimp only [dats]
/-- A point finds its block of rows. -/
theorem before_0 (c : Dev nD) (t : Fin cfg0.N) (d) : (dats m 0 c).before 0 t d = iblk m c 0 t :=
  before0_0_of m (dats m 0 c) (A_eq m c 0) (after_0 m c) t d
/-- A point finds its residual block. -/
theorem before_1 (c : Dev nD) (t : Fin cfg0.N) (d) : (dats m 0 c).before 1 t d = iblk m c 1 t :=
  before0_1_of m (dats m 0 c) (A_eq m c 1) (after_1 m c) t d
/-- A point finds its piece of the gate. -/
theorem before_2 (c : Dev nD) (t : Fin cfg0.N) (d) : (dats m 0 c).before 2 t d = iblk m c 2 t :=
  before0_2_of m (dats m 0 c) (A_eq m c 2) (after_2 m c) t d
/-- A point finds its weight slice. -/
theorem before_3 (c : Dev nD) (t : Fin cfg0.N) (d) : (dats m 0 c).before 3 t d = iblk m c 3 t :=
  before0_3_of m (dats m 0 c) (A_eq m c 3) (after_3 m c) t d

/-- In the first sweep nothing is stored in the output block, and it is not written back. -/
theorem idle_first : ∀ t : Fin cfg0.N, t.val / 17 = 0 → cfg0.idle 4 (grid0.coords t) = true ∧ (cfg0.win 4).flush t = false :=
  (by decide +kernel : ∀ t : Fin grid0.N, t.val / 17 = 0 → idle0 4 (grid0.coords t) = true ∧ win0_4.flush t = false)
/-- After the first sweep every point stores its output block. -/
theorem live_later : ∀ t : Fin cfg0.N, t.val / 17 ≠ 0 → cfg0.idle 4 (grid0.coords t) = false :=
  (by decide +kernel : ∀ t : Fin grid0.N, t.val / 17 ≠ 0 → idle0 4 (grid0.coords t) = false)

/-- What the body starts from at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body ends with at a point. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t)

set_option maxHeartbeats 4000000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.castSucc = St m c t.val from rfl, show (dats m 0 c).Φ t.succ = St m c (t.val + 1) from rfl]
  rw [show (dats m 0 c).leavesExact 0 t = owns (c : Thread nD τ) (st0_0 t) fullShare ((dats m 0 c).after 0 t) from rfl, after_0]
  rw [show (dats m 0 c).leavesExact 1 t = owns (c : Thread nD τ) (st0_1 t) fullShare ((dats m 0 c).after 1 t) from rfl, after_1]
  rw [show (dats m 0 c).leavesExact 2 t = owns (c : Thread nD τ) (st0_2 t) fullShare ((dats m 0 c).after 2 t) from rfl, after_2]
  rw [show (dats m 0 c).leavesExact 3 t = owns (c : Thread nD τ) (st0_3 t) fullShare ((dats m 0 c).after 3 t) from rfl, after_3]
  have hN : t.val < 153 := lt_of_lt_of_eq t.isLt N_0
  unfold St
  by_cases h0 : t.val / 17 = 0
  · rw [Pipeline.Dat.leavesExact_idle _ 4 t (idle_first t h0).1 (idle_first t h0).2]
    iintro ⟨⟨⟨%d7, %d8, %hI, S0, S1⟩, Hg⟩, Ho, ⟨%e0, H0⟩, ⟨%e1, H1⟩, ⟨%e2, H2⟩, ⟨%e3, H3⟩, ⟨%e4, H4⟩⟩
    iapply (run_first c (grid0.coords t) _ _ _ _ _ _ _ _ _ _ _ _ _ _ ((first_iff t).mpr h0) (fun h => by have := (odd_iff t).mp h; omega) (fun h => by have := (even_iff t).mp h; omega)
      _ (offs t).1 (iblk m c 0 t) (iblk m c 1 t) (iblk m c 2 t) (iblk m c 3 t) _ d7 d8 Set.univ _)
    isplitl [H0]; · iexact H0
    isplitl [H1]; · iexact H1
    isplitl [H2]; · iexact H2
    isplitl [H3]; · iexact H3
    isplitl [H4]; · iexact H4
    isplitl [S0]; · iexact S0
    isplitl [S1]; · iexact S1
    iintro ⟨H0, H1, H2, H3, H4, S0, S1⟩
    isplitl [S0 S1 Hg]
    · isplitl [S0 S1]
      · iexists _, _
        isplitr; swap
        · isplitl [S0]; · iexact S0
          iexact S1
        ipureintro
        exact Inv.even m t hI (by omega)
      iexact Hg
    isplitl [Ho]; · iexact Ho
    isplitl [H0]; · iexact H0
    isplitl [H1]; · iexact H1
    isplitl [H2]; · iexact H2
    isplitl [H3]; · iexact H3
    iexists e4; iexact H4
  · rw [show (dats m 0 c).leavesExact 4 t = owns (c : Thread nD τ) (st0_4 t) fullShare ((dats m 0 c).after 4 t) from by
      unfold Dat.leavesExact; rw [live_later t h0], after_4]
    have hs : (prev t).val = t.val / 17 - 1 := rfl
    by_cases h1 : t.val / 17 % 2 = 1
    · iintro ⟨⟨⟨%d7, %d8, %hI, S0, S1⟩, Hg⟩, Ho, ⟨%e0, H0⟩, ⟨%e1, H1⟩, ⟨%e2, H2⟩, ⟨%e3, H3⟩, ⟨%e4, H4⟩⟩
      have hold := (hI (prev t) (by omega) (by omega)).1 (by omega)
      rw [show outBlk m c t = k0_pay2 (iblk m c 0 t) d7 (iblk m c 1 t) (iblk m c 2 t) from by
        unfold outBlk; rw [hold.full (by omega)]]
      iapply (run_odd c (grid0.coords t) _ _ _ _ _ _ _ _ _ _ _ _ _ _ (fun h => h0 ((first_iff t).mp h)) ((odd_iff t).mpr h1) (fun h => by have := (even_iff t).mp h; omega)
        _ (offs t).2.1 (iblk m c 0 t) (iblk m c 1 t) (iblk m c 2 t) (iblk m c 3 t) _ d7 d8 Set.univ _)
      isplitl [H0]; · iexact H0
      isplitl [H1]; · iexact H1
      isplitl [H2]; · iexact H2
      isplitl [H3]; · iexact H3
      isplitl [H4]; · iexact H4
      isplitl [S0]; · iexact S0
      isplitl [S1]; · iexact S1
      iintro ⟨H0, H1, H2, H3, H4, S0, S1⟩
      isplitl [S0 S1 Hg]
      · isplitl [S0 S1]
        · iexists _, _
          isplitr; swap
          · isplitl [S0]; · iexact S0
            iexact S1
          ipureintro
          exact Inv.odd m t hI h1
        iexact Hg
      isplitl [Ho]; · iexact Ho
      isplitl [H0]; · iexact H0
      isplitl [H1]; · iexact H1
      isplitl [H2]; · iexact H2
      isplitl [H3]; · iexact H3
      iexact H4
    · iintro ⟨⟨⟨%d7, %d8, %hI, S0, S1⟩, Hg⟩, Ho, ⟨%e0, H0⟩, ⟨%e1, H1⟩, ⟨%e2, H2⟩, ⟨%e3, H3⟩, ⟨%e4, H4⟩⟩
      have hold := (hI (prev t) (by omega) (by omega)).2 (by omega)
      rw [show outBlk m c t = k0_pay2 (iblk m c 0 t) d8 (iblk m c 1 t) (iblk m c 2 t) from by
        unfold outBlk; rw [hold.full (by omega)]]
      iapply (run_even c (grid0.coords t) _ _ _ _ _ _ _ _ _ _ _ _ _ _ (fun h => h0 ((first_iff t).mp h)) (fun h => h1 ((odd_iff t).mp h)) ((even_iff t).mpr ⟨h0, by omega⟩)
        _ (offs t).2.2 (iblk m c 0 t) (iblk m c 1 t) (iblk m c 2 t) (iblk m c 3 t) _ d7 d8 Set.univ _)
      isplitl [H0]; · iexact H0
      isplitl [H1]; · iexact H1
      isplitl [H2]; · iexact H2
      isplitl [H3]; · iexact H3
      isplitl [H4]; · iexact H4
      isplitl [S0]; · iexact S0
      isplitl [S1]; · iexact S1
      iintro ⟨H0, H1, H2, H3, H4, S0, S1⟩
      isplitl [S0 S1 Hg]
      · isplitl [S0 S1]
        · iexists _, _
          isplitr; swap
          · isplitl [S0]; · iexact S0
            iexact S1
          ipureintro
          exact Inv.even m t hI (by omega)
        iexact Hg
      isplitl [Ho]; · iexact Ho
      isplitl [H0]; · iexact H0
      isplitl [H1]; · iexact H1
      isplitl [H2]; · iexact H2
      isplitl [H3]; · iexact H3
      iexact H4

/-- The body's row of the table is the body. -/
theorem body_row (t : Fin cfg0.N) : defs₀ (F := F) .tc cfg0.body (cfg0.bodyArgs t (cfg0.slots t)) = bodyAt0 t := by
  unfold defs₀; rw [Defs.onTc_tc]

/-- The body meets what the pipeline asks of it at every point. -/
theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- Before the first point nothing is asked of the scratch buffers. -/
theorem st_in (c : Dev nD) : Pipeline.ΦA spec0 c ⊢ (dats m 0 c).Φ 0 := by
  rw [show (dats m 0 c).Φ 0 = St m c 0 from rfl, scoped_eq]
  unfold St
  iintro ⟨⟨⟨%d7, S0⟩, ⟨%d8, S1⟩⟩, Hg⟩
  isplitl [S0 S1]
  · iexists d7, d8
    isplitr; swap
    · isplitl [S0]; · iexact S0
      iexact S1
    ipureintro
    exact fun s hs => absurd hs (Nat.not_lt_zero _)
  iexact Hg

/-- After the last point the scratch buffers are given back at some contents. -/
theorem st_out (c : Dev nD) : (dats m 0 c).Φ (Fin.last cfg0.N) ⊢ Pipeline.ΦA spec0 c := by
  rw [show (dats m 0 c).Φ (Fin.last cfg0.N) = St m c (Fin.last cfg0.N).val from rfl, scoped_eq]
  unfold St
  iintro ⟨⟨%d7, %d8, -, S0, S1⟩, Hg⟩
  isplitl [S0 S1]
  · isplitl [S0]
    · iexists _; iexact S0
    iexists _; iexact S1
  iexact Hg

set_option backward.isDefEq.respectTransparency.types false in
/-- The program runs to the end from any memory; it leaves every staged array at what the points stored, everything else as
    it was, and every counter at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun _ w => by fin_cases w <;> rfl)
    (howed := fun _ _ => rfl) (V := V m) (hmain := hmain m Variants.none) (hA := A_eq m) (hin := st_in m) (hout := st_out m)

/-- The program ends with its arguments as they were and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel3Ideal.Down
end
-- ==== Proof.DownValue.lean ====
module

public import proofs.«01_k».proof.Proof.DownFrame
public import Idealize.ShloMosaic.Lib.Pipeline.ValueKit
public import Idealize.ShloMosaic.Lib.Pipeline.ReadBack
public import proofs.«01_k».proof.Proof.Gen.Reference3Ideal.Read

/-! The array the down-projection leaves, over the extended reals, and the reference's: at every row and column the residual,
plus half the row's gate times the product of the row by the weights. -/

@[expose] public section

set_option maxRecDepth 16384

noncomputable section

namespace Cert.Kernel3Ideal.Down

open Cert.Kernel3Ideal Cert.Kernel3Ideal.Gen Idealize.ShloMosaic Idealize.ShloMosaic.TcCoe Idealize.SL.Sem
open Idealize.ShloMosaic.Pipeline (Dat)

/-- The constant one half, as the programs write it. -/
def half : EReal := Ideal.ofBits .f32 0x3F000000#32

/-- A residual, a gate and a product put together. -/
def joined (h g y : EReal) : EReal := h + half * g * y

/-- The modulation row of a row: 0 and 1 for the latents of the two samples, 2 for the context. -/
def modRow (r : Fin 8704) : Fin 8 := ⟨r.val / 4096, by have := r.isLt; omega⟩
/-- The column of the modulation table that holds the last gate of a column. -/
def gateCol (x : Fin 4096) : Fin 36864 := ⟨32768 + x.val, by have := x.isLt; omega⟩

/-- Row `r` of the rows times column `x` of the first layer's weights. -/
def dotw (A : Vec Ideal S8704x8192 .f32) (W : Vec Ideal S2x8192x4096 .f32) (r : Fin 8704) (x : Fin 4096) : EReal :=
  ∑ k : Fin 8192, A (ix2 r k) * W (ix3 0 k x)

/-- The rows after the down-projection, as an array. -/
def downArr (A : Vec Ideal S8704x8192 .f32) (H : Vec Ideal S8704x4096 .f32) (M : Vec Ideal S2x8x36864 .f32)
    (W : Vec Ideal S2x8192x4096 .f32) : Vec Ideal S8704x4096 .f32 :=
  fun j => joined (H (ix2 (j 0) (j 1))) (M (ix3 0 (modRow (j 0)) (gateCol (j 1)))) (dotw A W (j 0) (j 1))

/-- A cast slice, at an index. -/
theorem pay1_at (x : Vec Ideal S1x1024x512 .f32) (r : Fin 1024) (d : Fin 512) : k0_pay1 x (ix2 r d) = x (ix3 0 r d) := by
  pointwise [k0_pay1]

/-- A stored block, at an index. -/
theorem pay2_at (x : Vec Ideal S512x8192 .bf16) (w : Vec Ideal S8192x512 .bf16) (h : Vec Ideal S512x512 .f32) (g : Vec Ideal S1x1x512 .f32)
    (r d : Fin 512) : k0_pay2 x w h g (ix2 r d) = joined (h (ix2 r d)) (g (ix3 0 0 d)) (∑ k : Fin 8192, x (ix2 r k) * w (ix2 k d)) := by
  pointwise [k0_pay2, joined, half]

/-- Where the rows, the residual, the gate and the output block of a point sit. -/
theorem idx_late : ∀ t : Fin cfg0.N, 17 ≤ t.val → win0_0.index t = ![t.val % 17, 0] ∧ win0_1.index t = ![t.val % 17, t.val / 17 - 1]
    ∧ win0_2.index t = ![t.val % 17 / 8 * 9 + 8, 0, t.val / 17 - 1] ∧ win0_4.index t = ![t.val % 17, t.val / 17 - 1] :=
  (by decide +kernel : ∀ t : Fin grid0.N, 17 ≤ t.val → win0_0.index t = ![t.val % 17, 0] ∧ win0_1.index t = ![t.val % 17, t.val / 17 - 1]
    ∧ win0_2.index t = ![t.val % 17 / 8 * 9 + 8, 0, t.val / 17 - 1] ∧ win0_4.index t = ![t.val % 17, t.val / 17 - 1])

/-- Only points after the first sweep write their output block back. -/
theorem flush_late : ∀ t : Fin cfg0.N, (cfg0.win 4).flush t = true → 17 ≤ t.val :=
  (by decide +kernel : ∀ t : Fin grid0.N, win0_4.flush t = true → 17 ≤ t.val)

variable (m : (ℓ : Loc nD τ sig) → Buf (Elt Ideal) ℓ)

/-- The rows. -/
abbrev AA (c : Dev nD) : Vec Ideal S8704x8192 .f32 := m ((c : Thread nD τ).loc main_arg0)
/-- The residual. -/
abbrev HH (c : Dev nD) : Vec Ideal S8704x4096 .f32 := m ((c : Thread nD τ).loc main_arg1)
/-- The modulation table. -/
abbrev MM (c : Dev nD) : Vec Ideal S2x8x36864 .f32 := m ((c : Thread nD τ).loc main_arg2)
/-- The weights. -/
abbrev WW (c : Dev nD) : Vec Ideal S2x8192x4096 .f32 := m ((c : Thread nD τ).loc main_arg3)

/-- The cast rows are the rows. -/
theorem v1_at (c : Dev nD) (i : S8704x8192.Idx) : (V m c main_v1 i : EReal) = AA m c i := by
  entry_read
  rfl

/-- The table with one vector to a row, at the last gate of a modulation row. -/
theorem v0_at (c : Dev nD) (q : Fin 144) (b : Fin 8) (x : Fin 4096) (hq : q.val = b.val * 9 + 8) :
    V m c main_v0 (ix3 q 0 x) = MM m c (ix3 0 b (gateCol x)) := by
  entry_read
  refine shapeCast_apply (MM m c) _ (ix3 q 0 x) (ix3 0 b (gateCol x)) ?_
  rw [Shape.rowMajor_val_three, Shape.rowMajor_val_three]
  show (0 * 8 + b.val) * 36864 + (32768 + x.val) = (q.val * 1 + 0) * 4096 + x.val
  omega

/-- A point's rows. -/
theorem x_blk (c : Dev nD) (t : Fin cfg0.N) (ht : 17 ≤ t.val) (r : Fin 512) (k : Fin 8192) (R : Fin 8704)
    (hR : R.val = t.val % 17 * 512 + r.val) : iblk m c 0 t (ix2 r k) = AA m c (ix2 R k) := by
  rw [← v1_at]
  have hi := (idx_late t ht).1
  blk_ext [iblk, hi, hR]

/-- A point's residual. -/
theorem h_blk (c : Dev nD) (t : Fin cfg0.N) (ht : 17 ≤ t.val) (r d : Fin 512) (R : Fin 8704) (x : Fin 4096)
    (hR : R.val = t.val % 17 * 512 + r.val) (hx : x.val = (t.val / 17 - 1) * 512 + d.val) : iblk m c 1 t (ix2 r d) = HH m c (ix2 R x) := by
  refine Eq.trans ?_ (congrFun (V_main_arg1 m c) (ix2 R x))
  have hi := (idx_late t ht).2.1
  blk_ext [iblk, hi, hR, hx]

/-- A point's gate. -/
theorem g_blk (c : Dev nD) (t : Fin cfg0.N) (ht : 17 ≤ t.val) (r d : Fin 512) (R : Fin 8704) (x : Fin 4096)
    (hR : R.val = t.val % 17 * 512 + r.val) (hx : x.val = (t.val / 17 - 1) * 512 + d.val) :
    iblk m c 2 t (ix3 0 0 d) = MM m c (ix3 0 (modRow R) (gateCol x)) := by
  have hb : (modRow R).val = R.val / 4096 := rfl
  have hr := r.isLt
  have hq : (modRow R).val = t.val % 17 / 8 := by omega
  rw [← v0_at m c ⟨(modRow R).val * 9 + 8, by have := (modRow R).isLt; omega⟩ (modRow R) x rfl]
  have hi := (idx_late t ht).2.2.1
  blk_ext [iblk, hi, hq, hx]

/-- The tile of a sweep is a tile of the weights. -/
theorem tile_eq (c : Dev nD) (s : Fin 9) (hs : s.val < 8) (k : Fin 8192) (d : Fin 512) (x : Fin 4096) (hx : x.val = s.val * 512 + d.val) :
    tile m c s (ix2 k d) = WW m c (ix3 0 k x) := by
  have hk := k.isLt
  have ht : (pt s (placeOf k)).val = 17 * s.val + k.val / 1024 := rfl
  have e1 : sliceOf (pt s (placeOf k)).val = k.val / 1024 := by unfold sliceOf; omega
  have e2 : min ((pt s (placeOf k)).val / 17) 7 = s.val := by omega
  rw [tile_at m c s k d (pt s (placeOf k)) (by omega) e1.symm, pay1_at]
  refine Eq.trans ?_ (congrFun (V_main_arg3 m c) (ix3 0 k x))
  have hi := idx_w (pt s (placeOf k))
  rw [e1, e2] at hi
  have hr : (rowOf k).val = k.val % 1024 := rfl
  blk_ext [iblk, hi, hx, hr]

/-- The array the call leaves. -/
theorem final (c : Dev nD) : (dats m 0 c).arrAt 4 cfg0.N = downArr (AA m c) (HH m c) (MM m c) (WW m c) := by
  refine (dats m 0 c).arrAt_eq_of_covers 4 _ (by decide +kernel) fun t hf y => ?_
  have ht := flush_late t hf
  have hN : t.val < 153 := lt_of_lt_of_eq t.isLt N_0
  have hi := (idx_late t ht).2.2.2
  blk_simp
  rw [after_4]
  obtain ⟨r, d, rfl⟩ : ∃ (r d : Fin 512), y = ix2 r d := ⟨y 0, y 1, by funext a; fin_cases a <;> rfl⟩
  have e0 : ((win0_4.blk t).view.emb (ix2 r d) 0).val = t.val % 17 * 512 + r.val := by
    blk_simp [hi]
  have e1 : ((win0_4.blk t).view.emb (ix2 r d) 1).val = (t.val / 17 - 1) * 512 + d.val := by
    blk_simp [hi]
  generalize (win0_4.blk t).view.emb (ix2 r d) = j at e0 e1 ⊢
  have hp : (prev t).val = t.val / 17 - 1 := rfl
  unfold outBlk downArr dotw
  rw [pay2_at, h_blk m c t ht r d (j 0) (j 1) e0 e1, g_blk m c t ht r d (j 0) (j 1) e0 e1]
  refine congrArg (joined _ _) (Finset.sum_congr rfl fun k _ => ?_)
  rw [x_blk m c t ht r k (j 0) e0, tile_eq m c (prev t) (by omega) k d (j 1) (by rw [hp]; exact e1)]

/-- The program ends with that array in its result and its arguments as they were. -/
theorem run_value (ρ : Dev nD → PrngReg) : θ_run (defs (F := Ideal)) (onTc (τ := τ) (main (F := Ideal))) ⟨m, fun _ => 0, ρ⟩
    (fun r => ∀ c : Dev nD, r.2.mem ((c.tc : Thread nD τ).loc main_v2) = downArr (AA m c) (HH m c) (MM m c) (WW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1.1 c).1 4).trans (final m c), h.2.1 c⟩) (θ_run_and (run_main m ρ) (frame_main m ρ))

section
open Cert.Reference3Ideal.Read

variable (x0 : Vec Ideal S8704x8192 .f32) (x1 : Vec Ideal S8704x4096 .f32) (x2 : Vec Ideal S2x8x36864 .f32) (x3 : Vec Ideal S2x8192x4096 .f32)

/-- An index of a matrix, from its coordinates. -/
theorem at2 {n k : ℕ} (i : (⟨2, ![n, k]⟩ : Shape).Idx) (a : Fin n) (b : Fin k) (h0 : (i 0).val = a.val) (h1 : (i 1).val = b.val) : i = ix2 a b := by
  funext e
  fin_cases e
  · exact Fin.ext h0
  · exact Fin.ext h1

/-- An index of a rank-3 array, from its coordinates. -/
theorem at3 {n k l : ℕ} (i : (⟨3, ![n, k, l]⟩ : Shape).Idx) (a : Fin n) (b : Fin k) (d : Fin l) (h0 : (i 0).val = a.val) (h1 : (i 1).val = b.val)
    (h2 : (i 2).val = d.val) : i = ix3 a b d := by
  funext e
  fin_cases e
  · exact Fin.ext h0
  · exact Fin.ext h1
  · exact Fin.ext h2

/-- The reference's product of the rows by the weights. -/
theorem dot_at (r : Fin 8704) (x : Fin 4096) : val_main_v2 (F := Ideal) x0 x3 (ix2 r x) = dotw x0 x3 r x := by
  rw [val_main_v2_apply]
  unfold dotw
  refine Finset.sum_congr rfl fun k _ => ?_
  rw [val_main_v1_apply, val_main_v0_apply]
  have hx := x.isLt
  have hk := k.isLt
  refine congrArg₂ _ (congrArg x0 (at2 _ _ _ rfl rfl)) (congrArg x3 (at3 _ _ _ _ rfl ?_ ?_))
  · show (k.val * 4096 + x.val) / 4096 % 8192 = k.val; omega
  · show (k.val * 4096 + x.val) % 4096 = x.val; omega

/-- The reference's latents: sample `b`, row `s`. -/
theorem latent_at (b : Fin 2) (s x : Fin 4096) (R : Fin 8704) (hR : R.val = b.val * 4096 + s.val) :
    val_main_v21 (F := Ideal) x0 x1 x2 x3 (ix3 b s x) = joined (x1 (ix2 R x)) (x2 (ix3 0 (modRow R) (gateCol x))) (dotw x0 x3 R x) := by
  have hb := b.isLt
  have hs := s.isLt
  have hx := x.isLt
  rw [val_main_v21_apply, val_main_v20_apply, val_main_v19_apply, val_main_v18_apply, val_main_v17_apply, val_main_cst_apply,
    val_main_v13_apply, val_main_v12_apply, val_main_v11_apply, val_main_v8_apply, val_main_v7_apply, val_main_v4_apply, val_main_v3_apply, ← dot_at]
  refine congrArg₂ (· + ·) (congrArg x1 (at2 _ _ _ ?_ ?_)) (congrArg₂ (· * ·) (congrArg (half * ·) (congrArg x2 (at3 _ _ _ _ rfl ?_ ?_))) (congrArg _ (at2 _ _ _ ?_ ?_)))
  · show ((b.val * 4096 + s.val) * 4096 + x.val) / 4096 = R.val; omega
  · show ((b.val * 4096 + s.val) * 4096 + x.val) % 4096 = x.val; omega
  · show (b.val * 4096 + x.val) / 4096 % 2 = R.val / 4096; omega
  · show 32768 + (b.val * 4096 + x.val) % 4096 = 32768 + x.val; omega
  · show ((b.val * 4096 + s.val) * 4096 + x.val) / 4096 = R.val; omega
  · show ((b.val * 4096 + s.val) * 4096 + x.val) % 4096 = x.val; omega

/-- The reference's context: sample `b`, row `s`. -/
theorem context_at (b : Fin 2) (s : Fin 256) (x : Fin 4096) (R : Fin 8704) (hR : R.val = 8192 + (b.val * 256 + s.val)) :
    val_main_v26 (F := Ideal) x0 x1 x2 x3 (ix3 b s x) = joined (x1 (ix2 R x)) (x2 (ix3 0 (modRow R) (gateCol x))) (dotw x0 x3 R x) := by
  have hb := b.isLt
  have hs := s.isLt
  have hx := x.isLt
  rw [val_main_v26_apply, val_main_v25_apply, val_main_v24_apply, val_main_v23_apply, val_main_v22_apply, val_main_cst_0_apply,
    val_main_v16_apply, val_main_v15_apply, val_main_v14_apply, val_main_v10_apply, val_main_v9_apply, val_main_v6_apply, val_main_v5_apply, ← dot_at]
  refine congrArg₂ (· + ·) (congrArg x1 (at2 _ _ _ ?_ ?_)) (congrArg₂ (· * ·) (congrArg (half * ·) (congrArg x2 (at3 _ _ _ _ rfl ?_ ?_))) (congrArg _ (at2 _ _ _ ?_ ?_)))
  · show 8192 + ((b.val * 256 + s.val) * 4096 + x.val) / 4096 = R.val; omega
  · show ((b.val * 256 + s.val) * 4096 + x.val) % 4096 = x.val; omega
  · show 2 + 0 = R.val / 4096; omega
  · show 32768 + x.val % 4096 = 32768 + x.val; omega
  · show 8192 + ((b.val * 256 + s.val) * 4096 + x.val) / 4096 = R.val; omega
  · show ((b.val * 256 + s.val) * 4096 + x.val) % 4096 = x.val; omega

/-- The reference's array. -/
theorem ref_eq : val_main_v29 (F := Ideal) x0 x1 x2 x3 = downArr x0 x1 x2 x3 := by
  funext j
  obtain ⟨r, x, rfl⟩ : ∃ (r : Fin 8704) (x : Fin 4096), j = ix2 r x := ⟨j 0, j 1, by funext a; fin_cases a <;> rfl⟩
  have hr := r.isLt
  have hx := x.isLt
  unfold val_main_v29
  by_cases h : r.val < 8192
  · refine (concatenate_pair_apply_left (t := Cert.Reference3Ideal.S8704x4096) (s₁ := Cert.Reference3Ideal.S8192x4096)
      (s₂ := Cert.Reference3Ideal.S512x4096) 0 _ _ _ (ix2 r x) rfl (ix2 (⟨r.val, h⟩ : Fin 8192) x) ?_).trans ?_
    · intro a
      fin_cases a <;> rfl
    rw [val_main_v27_apply,
      at3 (idx_main_v27 (ix2 (⟨r.val, h⟩ : Fin 8192) x)) ⟨r.val / 4096, by omega⟩ ⟨r.val % 4096, by omega⟩ x
        (by show (r.val * 4096 + x.val) / 16777216 = r.val / 4096; omega)
        (by show (r.val * 4096 + x.val) / 4096 % 4096 = r.val % 4096; omega)
        (by show (r.val * 4096 + x.val) % 4096 = x.val; omega),
      latent_at x0 x1 x2 x3 _ _ x r (by show r.val = r.val / 4096 * 4096 + r.val % 4096; omega)]
    rfl
  · have hq : r.val - 8192 < 512 := by omega
    refine (concatenate_pair_apply_right (t := Cert.Reference3Ideal.S8704x4096) (s₁ := Cert.Reference3Ideal.S8192x4096)
      (s₂ := Cert.Reference3Ideal.S512x4096) 0 _ _ _ (ix2 r x) rfl rfl (ix2 (⟨r.val - 8192, hq⟩ : Fin 512) x) ?_ ?_).trans ?_
    · intro a ha
      fin_cases a
      · exact absurd rfl ha
      · rfl
    · show r.val - 8192 + 8192 = r.val
      omega
    rw [val_main_v28_apply,
      at3 (idx_main_v28 (ix2 (⟨r.val - 8192, hq⟩ : Fin 512) x)) ⟨(r.val - 8192) / 256, by omega⟩ ⟨(r.val - 8192) % 256, by omega⟩ x
        (by show ((r.val - 8192) * 4096 + x.val) / 1048576 = (r.val - 8192) / 256; omega)
        (by show ((r.val - 8192) * 4096 + x.val) / 4096 % 256 = (r.val - 8192) % 256; omega)
        (by show ((r.val - 8192) * 4096 + x.val) % 4096 = x.val; omega),
      context_at x0 x1 x2 x3 _ _ x r (by show r.val = 8192 + ((r.val - 8192) / 256 * 256 + (r.val - 8192) % 256); omega)]
    rfl

end

end Cert.Kernel3Ideal.Down
end
-- ==== Proof.NormValue.lean ====
module

public import proofs.«01_k».proof.Proof.Gen.Kernel4Ideal.Value
public import Idealize.ShloMosaic.Lib.Pipeline.ValueKit
public import Idealize.ShloMosaic.Lib.Pointwise
public import Idealize.ShloMosaic.Lib.VecWindow
public import Idealize.ShloMosaic.Lib.Claim
public import Idealize.ShloMosaic.Lib.Pipeline.ReadBack
public import proofs.«01_k».proof.Proof.Gen.Reference4Ideal.Read

/-! The array the last normalisation leaves, over the extended reals, and the reference's: every row over the root of its mean
square, times the weight. -/

@[expose] public section

set_option maxRecDepth 16384

noncomputable section

namespace Cert.Kernel4Ideal.Norm

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- A row, over the root of its mean square, times the weight: the array. -/
def normArr (X : Vec Ideal S8192x4096 .f32) (W : Vec Ideal S4096 .f32) : Vec Ideal S8192x4096 .f32 :=
  fun j => X (ix2 (j 0) (j 1)) * Ideal.rsqrt (Ideal.div (∑ k : Fin 4096, X (ix2 (j 0) k) * X (ix2 (j 0) k)) (Ideal.ofBits .f32 1166016512#32)
    + Ideal.ofBits .f32 897988541#32) * W (ix1 (j 1))

/-- What a grid step stores, at an index. -/
theorem pay_at (x : Vec Ideal S1x256x4096 .f32) (w : Vec Ideal S1x4096 .f32) (r : Fin 256) (d : Fin 4096) :
    k0_pay1 x w (ix2 r d) = x (ix3 0 r d) * Ideal.rsqrt (Ideal.div (∑ k : Fin 4096, x (ix3 0 r k) * x (ix3 0 r k)) (Ideal.ofBits .f32 1166016512#32)
      + Ideal.ofBits .f32 897988541#32) * w (ix2 0 d) := by
  pointwise [k0_pay1]

/-- A load of slot `s` of the ring reads the slot. -/
theorem slot_load (s : Fin 3) {off : Fin 3 → Nat} (inb : ∀ a, off a + S1x256x4096.size a ≤ S3x256x4096.size a) (h : off = ![s.val, 0, 0])
    (f : (View.whole (κ := .tc) cc0_scratch0).ty.Contents (Elt Ideal)) (r : Fin 256) (k : Fin 4096) :
    View.readAt (Elt Ideal) (View.whole (κ := .tc) cc0_scratch0) (Rect.unit (s := S3x256x4096) off S1x256x4096.size inb).toLoadRect f (ix3 0 r k)
      = (rslot0_0 s).view.read (Elt Ideal) f (ix2 r k) := by
  subst h
  have e : Shape.reshapeEquiv (squeezes_S1x256x4096_S256x4096).numel_eq (ix2 r k : S256x4096.Idx) = (ix3 0 r k : S1x256x4096.Idx) := by
    rw [Shape.reshapeEquiv_cons_one]
    funext a; fin_cases a <;> rfl
  show f _ = f _
  refine congrArg f ?_
  exact congrArg ((View.whole (κ := .tc) cc0_scratch0).slice (Rect.unit (s := S3x256x4096) ![s.val, 0, 0] S1x256x4096.size (inb_slot0_0 s))).emb e.symm

/-- What slot `s` holds once block `b` of an array landed in it. -/
theorem slot_landed (s : Fin 3) (b : Fin 32) (X : (View.whole (κ := .tc) main_arg0).ty.Contents (Elt Ideal))
    (f : (View.whole (κ := .tc) cc0_scratch0).ty.Contents (Elt Ideal)) (r : Fin 256) (k : Fin 4096) (R : Fin 8192) (hR : R.val = 256 * b.val + r.val) :
    (rslot0_0 s).view.read (Elt Ideal) ((rslot0_0 s).view.writes (Elt Ideal) f
      [⟨Rect.whole S256x4096, ReadAs.same.apply ((srcB0_0 b).view.read (Elt Ideal) X)⟩]) (ix2 r k) = X (ix2 R k) := by
  refine (congrFun (View.read_writes_full (rslot0_0 s).view f (off := fun _ => 0) (fun a => by simp) _ []) (ix2 r k)).trans ?_
  show X _ = X _
  refine congrArg X (funext fun a => ?_)
  fin_cases a
  · exact Fin.ext (show 256 * b.val + 1 * r.val = R.val by omega)
  · exact Fin.ext (show 0 + 1 * k.val = k.val by omega)

/-- The slot a point reads. -/
theorem off_slot : ∀ t : Fin cfg0.N, k0_off7 (grid0.coords t) = ![(Fin.ofNat 3 t.val).val, 0, 0] :=
  (by decide +kernel : ∀ t : Fin grid0.N, k0_off7 (grid0.coords t) = ![(Fin.ofNat 3 t.val).val, 0, 0])

/-- The block a point writes. -/
theorem idx_o : ∀ t : Fin cfg0.N, win0_1.index t = ![t.val, 0] :=
  (by decide +kernel : ∀ t : Fin grid0.N, win0_1.index t = ![t.val, 0])
/-- Every point reads the whole weight. -/
theorem idx_w : ∀ t : Fin cfg0.N, win0_0.index t = ![0, 0] :=
  (by decide +kernel : ∀ t : Fin grid0.N, win0_0.index t = ![0, 0])

/-- The rows. -/
abbrev XX (c : Dev nD) : Vec Ideal S8192x4096 .f32 := m ((c : Thread nD τ).loc main_arg0)
/-- The weight. -/
abbrev WW (c : Dev nD) : Vec Ideal S4096 .f32 := m ((c : Thread nD τ).loc main_arg1)

/-- The weight's block. -/
theorem w_blk (c : Dev nD) (t : Fin cfg0.N) (d : Fin 4096) : iblk m c 0 t (ix2 0 d) = WW m c (ix1 d) := by
  have hi := idx_w t
  refine Eq.trans (b := V m c main_v0 (ix2 0 d)) ?_ ?_
  · blk_ext [iblk, hi]
  · entry_read
    refine congrArg (WW m c) (funext fun a => ?_)
    fin_cases a
    rfl

/-- What a point leaves in its block, whichever of its three cases it runs. -/
theorem point_out (c : Dev nD) (t : Fin cfg0.N) (r : Fin 256) (d : Fin 4096) (R : Fin 8192) (hR : R.val = 256 * t.val + r.val) :
    outsAt0 m c t.val t.isLt (ix2 r d) = normArr (XX m c) (WW m c) (ix2 R d) := by
  have hN : t.val < 32 := lt_of_lt_of_eq t.isLt N_0
  have hb : (Ring.bk 32 t.val).val = t.val := Nat.mod_eq_of_lt hN
  have key : ∀ (inb : ∀ a, k0_off7 (grid0.coords t) a + S1x256x4096.size a ≤ S3x256x4096.size a) (f : (View.whole (κ := .tc) cc0_scratch0).ty.Contents (Elt Ideal)) (k : Fin 4096),
      View.readAt (Elt Ideal) (View.whole (κ := .tc) cc0_scratch0) (Rect.unit (s := S3x256x4096) (k0_off7 (grid0.coords t)) S1x256x4096.size inb).toLoadRect
        ((rslot0_0 (Fin.ofNat 3 t.val)).view.writes (Elt Ideal) f
          [⟨Rect.whole S256x4096, ReadAs.same.apply ((srcB0_0 (Ring.bk 32 t.val)).view.read (Elt Ideal) (V m c main_arg0))⟩]) (ix3 0 r k) = XX m c (ix2 R k) := by
    intro inb f k
    exact (slot_load (Fin.ofNat 3 t.val) inb (off_slot t) _ r k).trans ((slot_landed _ _ _ f r k R (by omega)).trans (congrFun (V_main_arg0 m c) (ix2 R k)))
  have hx : ∀ x : Vec Ideal S1x256x4096 .f32, (∀ k : Fin 4096, x (ix3 0 r k) = XX m c (ix2 R k)) →
      k0_pay1 x (iblk m c 0 t) (ix2 r d) = normArr (XX m c) (WW m c) (ix2 R d) := by
    intro x hx
    rw [pay_at, w_blk]
    simp only [hx]
    rfl
  by_cases h0 : t.val % 32 = 0
  · rw [outsAt0_A m c t h0 (by omega)]
    frame_out
    exact hx _ (key _ _)
  · by_cases h1 : t.val < 30
    · rw [outsAt0_B m c t h0 (by omega)]
      frame_out
      exact hx _ (key _ _)
    · rw [outsAt0_C m c t h0 (by omega)]
      frame_out
      exact hx _ (key _ _)

/-- The array the call leaves. -/
theorem final (c : Dev nD) : (dats m 0 c).arrAt 1 cfg0.N = normArr (XX m c) (WW m c) := by
  refine (dats m 0 c).arrAt_eq_of_covers 1 _ (by decide +kernel) fun t hf y => ?_
  have hi := idx_o t
  blk_simp
  rw [after0_1]
  obtain ⟨r, d, rfl⟩ : ∃ (r : Fin 256) (d : Fin 4096), y = ix2 r d := ⟨y 0, y 1, by funext a; fin_cases a <;> rfl⟩
  have e0 : ((win0_1.blk t).view.emb (ix2 r d) 0).val = t.val * 256 + r.val := by
    blk_simp [hi]
  have e1 : ((win0_1.blk t).view.emb (ix2 r d) 1).val = d.val := by
    blk_simp [hi]
  generalize (win0_1.blk t).view.emb (ix2 r d) = j at e0 e1 ⊢
  refine (point_out m c t r d (j 0) (by omega)).trans (congrArg _ ?_)
  funext a
  fin_cases a
  · rfl
  · exact Fin.ext e1.symm

/-- The program ends with that array in its result and its arguments as they were. -/
theorem run_value (ρ : Dev nD → PrngReg) : θ_run (defs (F := Ideal)) (onTc (τ := τ) (main (F := Ideal))) ⟨m, fun _ => 0, ρ⟩
    (fun r => ∀ c : Dev nD, r.2.mem ((c.tc : Thread nD τ).loc main_v1) = normArr (XX m c) (WW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final m c), (h c).2⟩) (Cert.Kernel4Ideal.Value.run_blocks m ρ)

section
open Cert.Reference4Ideal.Read

/-- The reference's array. -/
theorem ref_eq (x0 : Vec Ideal S8192x4096 .f32) (x1 : Vec Ideal S4096 .f32) : val_main_v12 (F := Ideal) x0 x1 = normArr x0 x1 := by
  funext j
  obtain ⟨r, x, rfl⟩ : ∃ (r : Fin 8192) (x : Fin 4096), j = ix2 r x := ⟨j 0, j 1, by funext a; fin_cases a <;> rfl⟩
  rw [val_main_v12_apply, val_main_v11_apply, val_main_v10_apply, val_main_v9_apply, val_main_v8_apply, val_main_v7_apply,
    val_main_v6_apply, val_main_v4_apply, val_main_v2_apply, val_main_v1_apply]
  have hs : (val_main_cst (F := Ideal) (Shape.Idx.first Cert.Reference4Ideal.Gen.h_S_)
      + ∑ k, val_main_v0 (F := Ideal) x0 (idx_main_v1 (idx_main_v2 (idx_main_v8 (ix2 r x))) k) : EReal)
      = ∑ k : Fin 4096, x0 (ix2 r k) * x0 (ix2 r k) := by
    rw [val_main_cst_apply]
    refine (congrArg₂ (fun a b : EReal => a + b) (show Ideal.ofBits .f32 0x00000000#32 = (0 : EReal) by simp [Ideal.ofBits, Ideal.ieee]) ?_).trans (zero_add _)
    refine Finset.sum_congr rfl fun k _ => ?_
    have e : idx_main_v1 (idx_main_v2 (idx_main_v8 (ix2 r x))) k = ix2 r k := by funext a; fin_cases a <;> rfl
    rw [e]
    rfl
  have e1 : idx_main_v10 (idx_main_v11 (ix2 r x)) = ix1 x := by funext a; fin_cases a; rfl
  have e3 : val_main_v3 (F := Ideal) (idx_main_v8 (ix2 r x)) = Ideal.ofBits .f32 1166016512#32 := by
    rw [val_main_v3_apply, val_main_cst_0_apply]; rfl
  have e5 : val_main_v5 (F := Ideal) (idx_main_v8 (ix2 r x)) = Ideal.ofBits .f32 897988541#32 := by
    rw [val_main_v5_apply, val_main_cst_1_apply]; rfl
  rw [e1, e3, e5]
  show x0 (ix2 r x) * Ideal.rsqrt (Ideal.div (_ + _) _ + _) * _ = _
  rw [hs]
  rfl

end

end Cert.Kernel4Ideal.Norm
end
-- ==== Proof.MixRun.lean ====
module

public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import Idealize.ShloMosaic.Lib.Pipeline.FrameBody
public import Idealize.ShloMosaic.Lib.Tactic
public import Idealize.ShloMosaic.Lib.WordCmp
public import Idealize.ShloMosaic.Lib.VecWindow

/-! One run of the body of the projection out of the mixing, for each of its three branches: the first sweep only casts weight rows into
the first scratch buffer; an odd sweep multiplies by the first buffer and casts into the second; a later even sweep multiplies by
the second buffer and casts into the first. -/

@[expose] public section

set_option maxRecDepth 16384

noncomputable section

namespace Cert.Kernel5Ideal.Mix

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The first branch is taken in the first sweep. -/
theorem first_iff : ∀ t : Fin cfg0.N, k0_cond1 (grid0.coords t) = 1#1 ↔ t.val / 8 = 0 :=
  (by decide +kernel : ∀ t : Fin grid0.N, k0_cond1 (grid0.coords t) = 1#1 ↔ t.val / 8 = 0)

/-- The second branch is taken in the odd sweeps. -/
theorem odd_iff : ∀ t : Fin cfg0.N, k0_cond2 (grid0.coords t) = 1#1 ↔ t.val / 8 % 2 = 1 :=
  (by decide +kernel : ∀ t : Fin grid0.N, k0_cond2 (grid0.coords t) = 1#1 ↔ t.val / 8 % 2 = 1)

/-- The third branch is taken in the even sweeps after the first. -/
theorem even_iff : ∀ t : Fin cfg0.N, k0_cond3 (grid0.coords t) = 1#1 ↔ (t.val / 8 ≠ 0 ∧ t.val / 8 % 2 = 0) :=
  (by decide +kernel : ∀ t : Fin grid0.N, k0_cond3 (grid0.coords t) = 1#1 ↔ (t.val / 8 ≠ 0 ∧ t.val / 8 % 2 = 0))

/-- The rows a point casts start at 512 times its place in the sweep. -/
theorem offs : ∀ t : Fin cfg0.N, k0_off1 (grid0.coords t) = ![t.val % 8 * 512, 0] ∧ k0_off2 (grid0.coords t) = ![t.val % 8 * 512, 0] ∧ k0_off3 (grid0.coords t) = ![t.val % 8 * 512, 0] :=
  (by decide +kernel : ∀ t : Fin grid0.N, k0_off1 (grid0.coords t) = ![t.val % 8 * 512, 0] ∧ k0_off2 (grid0.coords t) = ![t.val % 8 * 512, 0] ∧ k0_off3 (grid0.coords t) = ![t.val % 8 * 512, 0])

/-- A scratch buffer with 512 rows from row `o` replaced. -/
def put (d : Vec F S4096x512 .bf16) (o : ℕ) (p : Vec F S512x512 .bf16) : Vec F S4096x512 .bf16 :=
  VecWindow.put d ![o, 0] S512x512.size p

/-- The residual plus the gate times the sum of the three products, each by its rows of the tile. -/
def gatedRows (a b : Vec F S1024x1536 .bf16) (e : Vec F S1024x1024 .bf16) (d : Vec F S4096x512 .bf16) (h : Vec F S1024x512 .f32)
    (g : Vec F S1x1x512 .f32) : Vec F S1024x512 .f32 :=
  k0_pay4 a (VecWindow.window d ![0, 0] S1536x512.size inb_S4096x512_S1536x512_0_0) b (VecWindow.window d ![1536, 0] S1536x512.size inb_S4096x512_S1536x512_1536_0)
    e (VecWindow.window d ![3072, 0] S1024x512.size inb_S4096x512_S1024x512_3072_0) h g

set_option maxHeartbeats 4000000 in
/-- The first branch: the weight rows of the point go into the first scratch buffer. -/
theorem run_first (c : Dev nD) (i : grid0.Coords) (arg2 : Memref sig .tc .vmem S1024x1536 .bf16) (harg2 : arg2.IsWhole) (arg3 : Memref sig .tc .vmem S1024x1536 .bf16) (harg3 : arg3.IsWhole) (arg4 : Memref sig .tc .vmem S1024x1024 .bf16) (harg4 : arg4.IsWhole) (arg5 : Memref sig .tc .vmem S1024x512 .f32) (harg5 : arg5.IsWhole) (arg6 : Memref sig .tc .vmem S1x1x512 .f32) (harg6 : arg6.IsWhole) (arg7 : Memref sig .tc .vmem S1x512x512 .f32) (harg7 : arg7.IsWhole) (arg8 : Memref sig .tc .vmem S1024x512 .f32) (harg8 : arg8.IsWhole) (arg9 : Memref sig .tc .vmem S4096x512 .bf16) (harg9 : arg9.IsWhole) (arg10 : Memref sig .tc .vmem S4096x512 .bf16) (harg10 : arg10.IsWhole)
    (hc1 : k0_cond1 i = 1#1) (hc2 : ¬k0_cond2 i = 1#1) (hc3 : ¬k0_cond3 i = 1#1) (o : ℕ) (ho : k0_off1 i = ![o, 0])
    (x0 : Vec F S1024x1536 .bf16) (x1 : Vec F S1024x1536 .bf16) (x2 : Vec F S1024x1024 .bf16) (x3 : Vec F S1024x512 .f32) (x4 : Vec F S1x1x512 .f32) (x5 : Vec F S1x512x512 .f32) (x6 : Vec F S1024x512 .f32) (dA dB : Vec F S4096x512 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare dA ∗ owns (c : Thread nD τ) arg10 fullShare dB
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (put dA o (k0_pay1 x5)) ∗ owns (c : Thread nD τ) arg10 fullShare dB) -∗ K ⟨⟩))
      ⊢ wp frame (wpE (defs₀ (F := F)) Variants.none c none) E (cc0_gemm_resid i arg2 harg2 arg3 harg3 arg4 harg4 arg5 harg5 arg6 harg6 arg7 harg7 arg8 harg8 arg9 harg9 arg10 harg10) K := by
  simp only [cc0_gemm_resid_eq_skeleton]; unfold cc0_gemm_resid_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  sl_exec (disch := first | sl_exact hc1 | sl_exact hc2 | sl_exact hc3)
  sl_step
  iapply Hk
  isplitl [H0]
  · iexists _; isplitr; swap; · iexact H0
    ipureintro
    exact harg2.read_unread _
  isplitl [H1]
  · iexists _; isplitr; swap; · iexact H1
    ipureintro
    exact harg3.read_unread _
  isplitl [H2]
  · iexists _; isplitr; swap; · iexact H2
    ipureintro
    exact harg4.read_unread _
  isplitl [H3]
  · iexists _; isplitr; swap; · iexact H3
    ipureintro
    exact harg5.read_unread _
  isplitl [H4]
  · iexists _; isplitr; swap; · iexact H4
    ipureintro
    exact harg6.read_unread _
  isplitl [H5]
  · iexists _; isplitr; swap; · iexact H5
    ipureintro
    exact harg7.read_unread _
  isplitl [H6]
  · iexists _; isplitr; swap; · iexact H6
    ipureintro
    exact harg8.read_unread _
  isplitl [H7]
  · iexists _; isplitr; swap; · iexact H7
    ipureintro
    rw [View.read_writes_cons_put _ _ _ _ _ ho, View.writes_nil, harg9.read_unread, View.readAt_full, harg7.read_unread]
    rfl
  iexists _; isplitr; swap; · iexact H8
  ipureintro
  exact harg10.read_unread _

set_option maxHeartbeats 4000000 in
/-- The second branch: the result by the first buffer is stored, and the weight rows of the point go into the second. -/
theorem run_odd (c : Dev nD) (i : grid0.Coords) (arg2 : Memref sig .tc .vmem S1024x1536 .bf16) (harg2 : arg2.IsWhole) (arg3 : Memref sig .tc .vmem S1024x1536 .bf16) (harg3 : arg3.IsWhole) (arg4 : Memref sig .tc .vmem S1024x1024 .bf16) (harg4 : arg4.IsWhole) (arg5 : Memref sig .tc .vmem S1024x512 .f32) (harg5 : arg5.IsWhole) (arg6 : Memref sig .tc .vmem S1x1x512 .f32) (harg6 : arg6.IsWhole) (arg7 : Memref sig .tc .vmem S1x512x512 .f32) (harg7 : arg7.IsWhole) (arg8 : Memref sig .tc .vmem S1024x512 .f32) (harg8 : arg8.IsWhole) (arg9 : Memref sig .tc .vmem S4096x512 .bf16) (harg9 : arg9.IsWhole) (arg10 : Memref sig .tc .vmem S4096x512 .bf16) (harg10 : arg10.IsWhole)
    (hc1 : ¬k0_cond1 i = 1#1) (hc2 : k0_cond2 i = 1#1) (hc3 : ¬k0_cond3 i = 1#1) (o : ℕ) (ho : k0_off2 i = ![o, 0])
    (x0 : Vec F S1024x1536 .bf16) (x1 : Vec F S1024x1536 .bf16) (x2 : Vec F S1024x1024 .bf16) (x3 : Vec F S1024x512 .f32) (x4 : Vec F S1x1x512 .f32) (x5 : Vec F S1x512x512 .f32) (x6 : Vec F S1024x512 .f32) (dA dB : Vec F S4096x512 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare dA ∗ owns (c : Thread nD τ) arg10 fullShare dB
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (gatedRows x0 x1 x2 dA x3 x4) ∗ owns (c : Thread nD τ) arg9 fullShare dA ∗ owns (c : Thread nD τ) arg10 fullShare (put dB o (k0_pay1 x5))) -∗ K ⟨⟩))
      ⊢ wp frame (wpE (defs₀ (F := F)) Variants.none c none) E (cc0_gemm_resid i arg2 harg2 arg3 harg3 arg4 harg4 arg5 harg5 arg6 harg6 arg7 harg7 arg8 harg8 arg9 harg9 arg10 harg10) K := by
  simp only [cc0_gemm_resid_eq_skeleton]; unfold cc0_gemm_resid_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  sl_exec (disch := first | sl_exact hc1 | sl_exact hc2 | sl_exact hc3)
  sl_step
  iapply Hk
  isplitl [H0]
  · iexists _; isplitr; swap; · iexact H0
    ipureintro
    exact harg2.read_unread _
  isplitl [H1]
  · iexists _; isplitr; swap; · iexact H1
    ipureintro
    exact harg3.read_unread _
  isplitl [H2]
  · iexists _; isplitr; swap; · iexact H2
    ipureintro
    exact harg4.read_unread _
  isplitl [H3]
  · iexists _; isplitr; swap; · iexact H3
    ipureintro
    exact harg5.read_unread _
  isplitl [H4]
  · iexists _; isplitr; swap; · iexact H4
    ipureintro
    exact harg6.read_unread _
  isplitl [H5]
  · iexists _; isplitr; swap; · iexact H5
    ipureintro
    exact harg7.read_unread _
  isplitl [H6]
  · iexists _; isplitr; swap; · iexact H6
    ipureintro
    refine (View.read_writes_full _ _ _ _ _).trans ?_
    rw [View.readAt_full, View.readAt_full, View.readAt_full, View.readAt_full, View.readAt_full,
      View.readAt_unit _ _ inb_S4096x512_S1536x512_0_0 rfl inb_S4096x512_S1536x512_0_0, View.readAt_unit _ _ inb_S4096x512_S1536x512_1536_0 rfl inb_S4096x512_S1536x512_1536_0,
      View.readAt_unit _ _ inb_S4096x512_S1024x512_3072_0 rfl inb_S4096x512_S1024x512_3072_0, harg2.read_unread, harg3.read_unread, harg4.read_unread, harg5.read_unread, harg6.read_unread, harg9.read_unread]
    rfl
  isplitl [H7]
  · iexists _; isplitr; swap; · iexact H7
    ipureintro
    exact harg9.read_unread _
  iexists _; isplitr; swap; · iexact H8
  ipureintro
  rw [View.read_writes_cons_put _ _ _ _ _ ho, View.writes_nil, harg10.read_unread, View.readAt_full, harg7.read_unread]
  rfl

set_option maxHeartbeats 4000000 in
/-- The third branch: the result by the second buffer is stored, and the weight rows of the point go into the first. -/
theorem run_even (c : Dev nD) (i : grid0.Coords) (arg2 : Memref sig .tc .vmem S1024x1536 .bf16) (harg2 : arg2.IsWhole) (arg3 : Memref sig .tc .vmem S1024x1536 .bf16) (harg3 : arg3.IsWhole) (arg4 : Memref sig .tc .vmem S1024x1024 .bf16) (harg4 : arg4.IsWhole) (arg5 : Memref sig .tc .vmem S1024x512 .f32) (harg5 : arg5.IsWhole) (arg6 : Memref sig .tc .vmem S1x1x512 .f32) (harg6 : arg6.IsWhole) (arg7 : Memref sig .tc .vmem S1x512x512 .f32) (harg7 : arg7.IsWhole) (arg8 : Memref sig .tc .vmem S1024x512 .f32) (harg8 : arg8.IsWhole) (arg9 : Memref sig .tc .vmem S4096x512 .bf16) (harg9 : arg9.IsWhole) (arg10 : Memref sig .tc .vmem S4096x512 .bf16) (harg10 : arg10.IsWhole)
    (hc1 : ¬k0_cond1 i = 1#1) (hc2 : ¬k0_cond2 i = 1#1) (hc3 : k0_cond3 i = 1#1) (o : ℕ) (ho : k0_off3 i = ![o, 0])
    (x0 : Vec F S1024x1536 .bf16) (x1 : Vec F S1024x1536 .bf16) (x2 : Vec F S1024x1024 .bf16) (x3 : Vec F S1024x512 .f32) (x4 : Vec F S1x1x512 .f32) (x5 : Vec F S1x512x512 .f32) (x6 : Vec F S1024x512 .f32) (dA dB : Vec F S4096x512 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare dA ∗ owns (c : Thread nD τ) arg10 fullShare dB
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (gatedRows x0 x1 x2 dB x3 x4) ∗ owns (c : Thread nD τ) arg9 fullShare (put dA o (k0_pay1 x5)) ∗ owns (c : Thread nD τ) arg10 fullShare dB) -∗ K ⟨⟩))
      ⊢ wp frame (wpE (defs₀ (F := F)) Variants.none c none) E (cc0_gemm_resid i arg2 harg2 arg3 harg3 arg4 harg4 arg5 harg5 arg6 harg6 arg7 harg7 arg8 harg8 arg9 harg9 arg10 harg10) K := by
  simp only [cc0_gemm_resid_eq_skeleton]; unfold cc0_gemm_resid_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  sl_exec (disch := first | sl_exact hc1 | sl_exact hc2 | sl_exact hc3)
  sl_step
  iapply Hk
  isplitl [H0]
  · iexists _; isplitr; swap; · iexact H0
    ipureintro
    exact harg2.read_unread _
  isplitl [H1]
  · iexists _; isplitr; swap; · iexact H1
    ipureintro
    exact harg3.read_unread _
  isplitl [H2]
  · iexists _; isplitr; swap; · iexact H2
    ipureintro
    exact harg4.read_unread _
  isplitl [H3]
  · iexists _; isplitr; swap; · iexact H3
    ipureintro
    exact harg5.read_unread _
  isplitl [H4]
  · iexists _; isplitr; swap; · iexact H4
    ipureintro
    exact harg6.read_unread _
  isplitl [H5]
  · iexists _; isplitr; swap; · iexact H5
    ipureintro
    exact harg7.read_unread _
  isplitl [H6]
  · iexists _; isplitr; swap; · iexact H6
    ipureintro
    refine (View.read_writes_full _ _ _ _ _).trans ?_
    rw [View.readAt_full, View.readAt_full, View.readAt_full, View.readAt_full, View.readAt_full,
      View.readAt_unit _ _ inb_S4096x512_S1536x512_0_0 rfl inb_S4096x512_S1536x512_0_0, View.readAt_unit _ _ inb_S4096x512_S1536x512_1536_0 rfl inb_S4096x512_S1536x512_1536_0,
      View.readAt_unit _ _ inb_S4096x512_S1024x512_3072_0 rfl inb_S4096x512_S1024x512_3072_0, harg2.read_unread, harg3.read_unread, harg4.read_unread, harg5.read_unread, harg6.read_unread, harg10.read_unread]
    rfl
  isplitl [H7]
  · iexists _; isplitr; swap; · iexact H7
    ipureintro
    rw [View.read_writes_cons_put _ _ _ _ _ ho, View.writes_nil, harg9.read_unread, View.readAt_full, harg7.read_unread]
    rfl
  iexists _; isplitr; swap; · iexact H8
  ipureintro
  exact harg10.read_unread _

end Cert.Kernel5Ideal.Mix
end
-- ==== Proof.MixFrame.lean ====
module

public import proofs.«01_k».proof.Proof.MixRun
public import Idealize.ShloMosaic.Lib.Pointwise
public import Idealize.ShloMosaic.Lib.Claim

/-! The whole run of the projection out of the mixing: what the scratch buffers hold between points, what each point stores, and from
those the run of the program, over any carrier of the values. -/

@[expose] public section

set_option maxRecDepth 16384

noncomputable section

namespace Cert.Kernel5Ideal.Mix

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch buffers -/

/-- The point at place `i` of sweep `s`. -/
def pt (s : Fin 9) (i : Fin 8) : Fin cfg0.N :=
  ⟨8 * s.val + i.val, by have := s.isLt; have := i.isLt; have : cfg0.N = 72 := N_0; omega⟩

/-- The place in a sweep that casts a scratch row. -/
def placeOf (r : Fin 4096) : Fin 8 := ⟨r.val / 512, by have := r.isLt; omega⟩
/-- The row within its slice. -/
def rowOf (r : Fin 4096) : Fin 512 := ⟨r.val % 512, by omega⟩

/-- The weight tile of sweep `s`: the slices its eight points cast, stacked. -/
def tile (c : Dev nD) (s : Fin 9) : Vec F S4096x512 .bf16 :=
  fun j => k0_pay1 (iblk m c 5 (pt s (placeOf (j 0)))) (ix2 (rowOf (j 0)) (j 1))

/-- The weight tile at an index. -/
theorem tile_at (c : Dev nD) (s : Fin 9) (r : Fin 4096) (x : Fin 512) (t : Fin cfg0.N) (h : pt s (placeOf r) = t) :
    tile m c s (ix2 r x) = k0_pay1 (iblk m c 5 t) (ix2 (rowOf r) x) := by
  subst h; rfl

/-- Before point `n`, the buffer holds the rows of the tile `w` that sweep `s` has cast. -/
def Held (w d : Vec F S4096x512 .bf16) (s n : ℕ) : Prop :=
  ∀ j : S4096x512.Idx, 8 * s + (j 0).val / 512 < n → d j = w j

/-- Before point `n`: the buffer of the current sweep's parity holds what the sweep has cast so far, the other buffer the tile
    of the sweep before. -/
def Inv (c : Dev nD) (n : ℕ) (dA dB : Vec F S4096x512 .bf16) : Prop :=
  ∀ s : Fin 9, 8 * s.val < n → n ≤ 8 * s.val + 16 →
    (s.val % 2 = 0 → Held (tile m c s) dA s.val n) ∧ (s.val % 2 = 1 → Held (tile m c s) dB s.val n)

/-- A full tile is held as it is. -/
theorem Held.full {w d : Vec F S4096x512 .bf16} {s n : ℕ} (h : Held w d s n) (hn : 8 * s + 8 ≤ n) : d = w := by
  funext j
  exact h j (by have : (j 0).val < 4096 := (j 0).isLt; omega)

/-- A buffer nothing is stored in still holds a full tile. -/
theorem Held.keep {w d : Vec F S4096x512 .bf16} {s n : ℕ} (h : Held w d s n) (hn : 8 * s + 8 ≤ n) (n' : ℕ) : Held w d s n' :=
  fun j _ => h j (by have : (j 0).val < 4096 := (j 0).isLt; omega)

/-- Storing the point's slice extends what is held by one slice. -/
theorem Held.put {w d : Vec F S4096x512 .bf16} {s n i : ℕ} (p : Vec F S512x512 .bf16) (hi : i < 8) (hn : n = 8 * s + i)
    (h : 0 < i → Held w d s n)
    (hp : ∀ (r : Fin 4096) (x : Fin 512), r.val / 512 = i → w (ix2 r x) = p (ix2 (rowOf r) x)) :
    Held w (put d (i * 512) p) s (n + 1) := by
  intro j hj
  have h0 : (j 0).val < 4096 := (j 0).isLt
  have h1 : (j 1).val < 512 := (j 1).isLt
  unfold Mix.put VecWindow.put
  by_cases hin : (j 0).val / 512 = i
  · have hc : ∀ a, (![i * 512, 0] : Fin 2 → ℕ) a ≤ (j a).val ∧ (j a).val < (![i * 512, 0] : Fin 2 → ℕ) a + S512x512.size a :=
      Fin.forall_fin_two.mpr ⟨⟨by show i * 512 ≤ _; omega, by show _ < i * 512 + 512; omega⟩, ⟨Nat.zero_le _, by show _ < 0 + 512; omega⟩⟩
    rw [dif_pos hc]
    have e : j = ix2 (j 0) (j 1) := by funext a; fin_cases a <;> rfl
    refine Eq.trans ?_ ((congrArg w e).trans (hp (j 0) (j 1) hin)).symm
    refine congrArg p (funext fun a => ?_)
    fin_cases a
    · exact Fin.ext (by show (j 0).val - i * 512 = (j 0).val % 512; omega)
    · exact Fin.ext (by show (j 1).val - 0 = (j 1).val; omega)
  · rw [dif_neg (fun hc => hin (by have := hc 0; have h2 : i * 512 ≤ (j 0).val ∧ (j 0).val < i * 512 + 512 := this; omega))]
    exact h (by omega) j (by omega)

/-- An even sweep's point keeps the description. -/
theorem Inv.even {c : Dev nD} {dA dB : Vec F S4096x512 .bf16} (t : Fin cfg0.N) (h : Inv m c t.val dA dB) (he : t.val / 8 % 2 = 0) :
    Inv m c (t.val + 1) (put dA (t.val % 8 * 512) (k0_pay1 (iblk m c 5 t))) dB := by
  intro s hs hs'
  have hN : t.val < 72 := lt_of_lt_of_eq t.isLt N_0
  refine ⟨fun hp => ?_, fun hp => ?_⟩
  · have hσ : s.val = t.val / 8 := by omega
    have hpt : ∀ r : Fin 4096, r.val / 512 = t.val % 8 → pt s (placeOf r) = t := fun r hr =>
      Fin.ext (by show 8 * s.val + r.val / 512 = t.val; omega)
    exact Held.put _ (by omega) (by omega) (fun hi => (h s (by omega) (by omega)).1 hp) fun r x hr => tile_at m c s r x t (hpt r hr)
  · exact ((h s (by omega) (by omega)).2 hp).keep (by omega) _

/-- An odd sweep's point keeps the description. -/
theorem Inv.odd {c : Dev nD} {dA dB : Vec F S4096x512 .bf16} (t : Fin cfg0.N) (h : Inv m c t.val dA dB) (he : t.val / 8 % 2 = 1) :
    Inv m c (t.val + 1) dA (put dB (t.val % 8 * 512) (k0_pay1 (iblk m c 5 t))) := by
  intro s hs hs'
  have hN : t.val < 72 := lt_of_lt_of_eq t.isLt N_0
  refine ⟨fun hp => ?_, fun hp => ?_⟩
  · exact ((h s (by omega) (by omega)).1 hp).keep (by omega) _
  · have hσ : s.val = t.val / 8 := by omega
    have hpt : ∀ r : Fin 4096, r.val / 512 = t.val % 8 → pt s (placeOf r) = t := fun r hr =>
      Fin.ext (by show 8 * s.val + r.val / 512 = t.val; omega)
    exact Held.put _ (by omega) (by omega) (fun hi => (h s (by omega) (by omega)).2 hp) fun r x hr => tile_at m c s r x t (hpt r hr)

/-- The sweep before a point's. -/
def prev (t : Fin cfg0.N) : Fin 9 := ⟨t.val / 8 - 1, by have : t.val < 72 := lt_of_lt_of_eq t.isLt N_0; omega⟩

/-- What a point stores: the residual plus the gate times the products of its rows by the tile of the sweep before. -/
def outBlk (c : Dev nD) (t : Fin cfg0.N) : Vec F S1024x512 .f32 :=
  gatedRows (iblk m c 0 t) (iblk m c 1 t) (iblk m c 2 t) (tile m c (prev t)) (X0_3 m c t) (iblk m c 4 t)

/-! ## The run -/

/-- The scratch buffers' memrefs. -/
abbrev sc0 : Memref sig .tc .vmem S4096x512 .bf16 := Memref.whole cc0_scratch0
abbrev sc1 : Memref sig .tc .vmem S4096x512 .bf16 := Memref.whole cc0_scratch1

/-- The region's state between points, its scratch buffers as memrefs at some contents. -/
theorem scoped_eq (c : Dev nD) : (Pipeline.ΦA spec0 c : sProp 𝕄)
    = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The state before point `n`. -/
def St (c : Dev nD) (n : ℕ) : sProp 𝕄 :=
  iprop((∃ dA, ∃ dB, ⌜Inv m c n dA dB⌝ ∗ owns (c : Thread nD τ) sc0 fullShare dA ∗ owns (c : Thread nD τ) sc1 fullShare dB) ∗ (∃ r, prngReg c r))

/-- What the run says of each window at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => iblk m c 4 t
    | ⟨5, _⟩ => iblk m c 5 t
    | ⟨6, _⟩ => outBlk m c t
  Φ t := St m c t.val
  q w := Pipeline.shareOf spec0 w
  owed _ := 0

/-- The arrays are as the region finds them. -/
theorem A_eq (c : Dev nD) (w : Fin cfg0.W) : (dats m 0 c).A w = V m c (Pipeline.arrRef spec0 w) := by
  dsimp only [dats]
/-- A point leaves the first heads' block as it was. -/
theorem after_0 (c : Dev nD) (t : Fin cfg0.N) : (dats m 0 c).after 0 t = iblk m c 0 t := by dsimp only [dats]
/-- A point leaves the second heads' block as it was. -/
theorem after_1 (c : Dev nD) (t : Fin cfg0.N) : (dats m 0 c).after 1 t = iblk m c 1 t := by dsimp only [dats]
/-- A point leaves the third heads' block as it was. -/
theorem after_2 (c : Dev nD) (t : Fin cfg0.N) : (dats m 0 c).after 2 t = iblk m c 2 t := by dsimp only [dats]
/-- A point leaves the residual's block as it was. -/
theorem after_3 (c : Dev nD) (t : Fin cfg0.N) : (dats m 0 c).after 3 t = X0_3 m c t := by dsimp only [dats]
/-- A point leaves the gate as it was. -/
theorem after_4 (c : Dev nD) (t : Fin cfg0.N) : (dats m 0 c).after 4 t = iblk m c 4 t := by dsimp only [dats]
/-- A point leaves the weight slice as it was. -/
theorem after_5 (c : Dev nD) (t : Fin cfg0.N) : (dats m 0 c).after 5 t = iblk m c 5 t := by dsimp only [dats]
/-- A point leaves its result in the output block. -/
theorem after_6 (c : Dev nD) (t : Fin cfg0.N) : (dats m 0 c).after 6 t = outBlk m c t := by dsimp only [dats]
/-- A point finds the first heads' block. -/
theorem before_0 (c : Dev nD) (t : Fin cfg0.N) (d) : (dats m 0 c).before 0 t d = iblk m c 0 t :=
  before0_0_of m (dats m 0 c) (A_eq m c 0) (after_0 m c) t d
/-- A point finds the second heads' block. -/
theorem before_1 (c : Dev nD) (t : Fin cfg0.N) (d) : (dats m 0 c).before 1 t d = iblk m c 1 t :=
  before0_1_of m (dats m 0 c) (A_eq m c 1) (after_1 m c) t d
/-- A point finds the third heads' block. -/
theorem before_2 (c : Dev nD) (t : Fin cfg0.N) (d) : (dats m 0 c).before 2 t d = iblk m c 2 t :=
  before0_2_of m (dats m 0 c) (A_eq m c 2) (after_2 m c) t d
/-- A point finds the residual's block. -/
theorem before_3 (c : Dev nD) (t : Fin cfg0.N) (d) : (dats m 0 c).before 3 t d = X0_3 m c t :=
  before0_3_of m (dats m 0 c) (A_eq m c 3) (after_3 m c) t d
/-- A point finds the gate. -/
theorem before_4 (c : Dev nD) (t : Fin cfg0.N) (d) : (dats m 0 c).before 4 t d = iblk m c 4 t :=
  before0_4_of m (dats m 0 c) (A_eq m c 4) (after_4 m c) t d
/-- A point finds the weight slice. -/
theorem before_5 (c : Dev nD) (t : Fin cfg0.N) (d) : (dats m 0 c).before 5 t d = iblk m c 5 t :=
  before0_5_of m (dats m 0 c) (A_eq m c 5) (after_5 m c) t d

/-- In the first sweep nothing is stored in the output block, and it is not written back. -/
theorem idle_first : ∀ t : Fin cfg0.N, t.val / 8 = 0 → cfg0.idle 6 (grid0.coords t) = true ∧ (cfg0.win 6).flush t = false :=
  (by decide +kernel : ∀ t : Fin grid0.N, t.val / 8 = 0 → idle0 6 (grid0.coords t) = true ∧ win0_6.flush t = false)
/-- After the first sweep every point stores its output block. -/
theorem live_later : ∀ t : Fin cfg0.N, t.val / 8 ≠ 0 → cfg0.idle 6 (grid0.coords t) = false :=
  (by decide +kernel : ∀ t : Fin grid0.N, t.val / 8 ≠ 0 → idle0 6 (grid0.coords t) = false)

/-- What the body starts from at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What the body ends with at a point. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t)

set_option maxHeartbeats 4000000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.castSucc = St m c t.val from rfl, show (dats m 0 c).Φ t.succ = St m c (t.val + 1) from rfl]
  rw [show (dats m 0 c).leavesExact 0 t = owns (c : Thread nD τ) (st0_0 t) fullShare ((dats m 0 c).after 0 t) from rfl, after_0]
  rw [show (dats m 0 c).leavesExact 1 t = owns (c : Thread nD τ) (st0_1 t) fullShare ((dats m 0 c).after 1 t) from rfl, after_1]
  rw [show (dats m 0 c).leavesExact 2 t = owns (c : Thread nD τ) (st0_2 t) fullShare ((dats m 0 c).after 2 t) from rfl, after_2]
  rw [show (dats m 0 c).leavesExact 3 t = owns (c : Thread nD τ) (st0_3 t) fullShare ((dats m 0 c).after 3 t) from rfl, after_3]
  rw [show (dats m 0 c).leavesExact 4 t = owns (c : Thread nD τ) (st0_4 t) fullShare ((dats m 0 c).after 4 t) from rfl, after_4]
  rw [show (dats m 0 c).leavesExact 5 t = owns (c : Thread nD τ) (st0_5 t) fullShare ((dats m 0 c).after 5 t) from rfl, after_5]
  have hN : t.val < 72 := lt_of_lt_of_eq t.isLt N_0
  unfold St
  by_cases h0 : t.val / 8 = 0
  · rw [Pipeline.Dat.leavesExact_idle _ 6 t (idle_first t h0).1 (idle_first t h0).2]
    iintro ⟨⟨⟨%dA, %dB, %hI, SA, SB⟩, Hg⟩, Ho, ⟨%e0, H0⟩, ⟨%e1, H1⟩, ⟨%e2, H2⟩, ⟨%e3, H3⟩, ⟨%e4, H4⟩, ⟨%e5, H5⟩, ⟨%e6, H6⟩⟩
    iapply (run_first c (grid0.coords t) _ _ _ _ _ _ _ _ _ _ _ _ _ _ _ _ _ _ ((first_iff t).mpr h0) (fun h => by have := (odd_iff t).mp h; omega)
      (fun h => by have := (even_iff t).mp h; omega) _ (offs t).1 (iblk m c 0 t) (iblk m c 1 t) (iblk m c 2 t) (X0_3 m c t) (iblk m c 4 t) (iblk m c 5 t) _ dA dB Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [SA]; · iexact SA
    isplitl [SB]; · iexact SB
    iintro ⟨H0, H1, H2, H3, H4, H5, H6, SA, SB⟩
    isplitl [SA SB Hg]
    · isplitl [SA SB]
      · iexists _, _
        isplitr; swap
        · isplitl [SA]; · iexact SA
          iexact SB
        ipureintro
        exact Inv.even m t hI (by omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists e6; iexact H6
  · rw [show (dats m 0 c).leavesExact 6 t = owns (c : Thread nD τ) (st0_6 t) fullShare ((dats m 0 c).after 6 t) from by
      unfold Dat.leavesExact; rw [live_later t h0], after_6]
    have hs : (prev t).val = t.val / 8 - 1 := rfl
    by_cases h1 : t.val / 8 % 2 = 1
    · iintro ⟨⟨⟨%dA, %dB, %hI, SA, SB⟩, Hg⟩, Ho, ⟨%e0, H0⟩, ⟨%e1, H1⟩, ⟨%e2, H2⟩, ⟨%e3, H3⟩, ⟨%e4, H4⟩, ⟨%e5, H5⟩, ⟨%e6, H6⟩⟩
      have hold := (hI (prev t) (by omega) (by omega)).1 (by omega)
      rw [show outBlk m c t = gatedRows (iblk m c 0 t) (iblk m c 1 t) (iblk m c 2 t) dA (X0_3 m c t) (iblk m c 4 t) from by
        unfold outBlk; rw [hold.full (by omega)]]
      iapply (run_odd c (grid0.coords t) _ _ _ _ _ _ _ _ _ _ _ _ _ _ _ _ _ _ (fun h => h0 ((first_iff t).mp h)) ((odd_iff t).mpr h1)
        (fun h => by have := (even_iff t).mp h; omega) _ (offs t).2.1 (iblk m c 0 t) (iblk m c 1 t) (iblk m c 2 t) (X0_3 m c t) (iblk m c 4 t) (iblk m c 5 t) _ dA dB Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [SA]; · iexact SA
      isplitl [SB]; · iexact SB
      iintro ⟨H0, H1, H2, H3, H4, H5, H6, SA, SB⟩
      isplitl [SA SB Hg]
      · isplitl [SA SB]
        · iexists _, _
          isplitr; swap
          · isplitl [SA]; · iexact SA
            iexact SB
          ipureintro
          exact Inv.odd m t hI h1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · iintro ⟨⟨⟨%dA, %dB, %hI, SA, SB⟩, Hg⟩, Ho, ⟨%e0, H0⟩, ⟨%e1, H1⟩, ⟨%e2, H2⟩, ⟨%e3, H3⟩, ⟨%e4, H4⟩, ⟨%e5, H5⟩, ⟨%e6, H6⟩⟩
      have hold := (hI (prev t) (by omega) (by omega)).2 (by omega)
      rw [show outBlk m c t = gatedRows (iblk m c 0 t) (iblk m c 1 t) (iblk m c 2 t) dB (X0_3 m c t) (iblk m c 4 t) from by
        unfold outBlk; rw [hold.full (by omega)]]
      iapply (run_even c (grid0.coords t) _ _ _ _ _ _ _ _ _ _ _ _ _ _ _ _ _ _ (fun h => h0 ((first_iff t).mp h)) (fun h => h1 ((odd_iff t).mp h))
        ((even_iff t).mpr ⟨h0, by omega⟩) _ (offs t).2.2 (iblk m c 0 t) (iblk m c 1 t) (iblk m c 2 t) (X0_3 m c t) (iblk m c 4 t) (iblk m c 5 t) _ dA dB Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [SA]; · iexact SA
      isplitl [SB]; · iexact SB
      iintro ⟨H0, H1, H2, H3, H4, H5, H6, SA, SB⟩
      isplitl [SA SB Hg]
      · isplitl [SA SB]
        · iexists _, _
          isplitr; swap
          · isplitl [SA]; · iexact SA
            iexact SB
          ipureintro
          exact Inv.even m t hI (by omega)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body's row of the table is the body. -/
theorem body_row (t : Fin cfg0.N) : defs₀ (F := F) .tc cfg0.body (cfg0.bodyArgs t (cfg0.slots t)) = bodyAt0 t := by
  unfold defs₀; rw [Defs.onTc_tc]

/-- The body meets what the pipeline asks of it at every point. -/
theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- Before the first point nothing is asked of the scratch buffers. -/
theorem st_in (c : Dev nD) : Pipeline.ΦA spec0 c ⊢ (dats m 0 c).Φ 0 := by
  rw [show (dats m 0 c).Φ 0 = St m c 0 from rfl, scoped_eq]
  unfold St
  iintro ⟨⟨⟨%dA, SA⟩, ⟨%dB, SB⟩⟩, Hg⟩
  isplitl [SA SB]
  · iexists dA, dB
    isplitr; swap
    · isplitl [SA]; · iexact SA
      iexact SB
    ipureintro
    exact fun s hs => absurd hs (Nat.not_lt_zero _)
  iexact Hg

/-- After the last point the scratch buffers are given back at some contents. -/
theorem st_out (c : Dev nD) : (dats m 0 c).Φ (Fin.last cfg0.N) ⊢ Pipeline.ΦA spec0 c := by
  rw [show (dats m 0 c).Φ (Fin.last cfg0.N) = St m c (Fin.last cfg0.N).val from rfl, scoped_eq]
  unfold St
  iintro ⟨⟨%dA, %dB, -, SA, SB⟩, Hg⟩
  isplitl [SA SB]
  · isplitl [SA]
    · iexists _; iexact SA
    iexists _; iexact SB
  iexact Hg

set_option backward.isDefEq.respectTransparency.types false in
/-- The program runs to the end from any memory; it leaves every staged array at what the points stored, everything else as
    it was, and every counter at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun _ w => by fin_cases w <;> rfl)
    (howed := fun _ _ => rfl) (V := V m) (hmain := hmain m Variants.none) (hA := A_eq m) (hin := st_in m) (hout := st_out m)

/-- The program ends with its arguments as they were and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel5Ideal.Mix
end
-- ==== Proof.MixValue.lean ====
module

public import proofs.«01_k».proof.Proof.MixFrame
public import Idealize.ShloMosaic.Lib.Pipeline.ValueKit
public import Idealize.ShloMosaic.Lib.Pipeline.ReadBack
public import proofs.«01_k».proof.Proof.Gen.Reference5Ideal.Read

/-! The array the projection out of the mixing leaves, over the extended reals, and the reference's: the residual plus the
gate times the product of the heads' outputs, side by side, by the weights. -/

@[expose] public section

set_option maxRecDepth 16384

noncomputable section

namespace Cert.Kernel5Ideal.Mix

open Cert.Kernel5Ideal Cert.Kernel5Ideal.Gen Idealize.ShloMosaic Idealize.ShloMosaic.TcCoe Idealize.SL.Sem
open Idealize.ShloMosaic.Pipeline (Dat)

/-- The constant one, as the program writes it. -/
def unit : EReal := Ideal.ofBits .f32 0x3F800000#32

/-- The word of one. -/
theorem unit_eq : unit = (1 : EReal) := by
  unfold unit Ideal.ofBits Ideal.ieee
  simp
  rw [← EReal.coe_mul, ← EReal.coe_one, EReal.coe_eq_coe_iff]
  norm_num

/-- The sample of a latent row. -/
def sampleOf (r : Fin 8192) : Fin 8 := ⟨r.val / 4096, by have := r.isLt; omega⟩
/-- The column of the modulation table that holds the mixing's gate of a column. -/
def gateCol (x : Fin 4096) : Fin 36864 := ⟨20480 + x.val, by have := x.isLt; omega⟩
/-- The residual's row of a latent row. -/
def resRow (r : Fin 8192) : Fin 8704 := ⟨r.val, by have := r.isLt; omega⟩
/-- The weights' row of a column of the first heads' output. -/
def rowA (k : Fin 1536) : Fin 4096 := ⟨k.val, by have := k.isLt; omega⟩
/-- The weights' row of a column of the second heads' output. -/
def rowB (k : Fin 1536) : Fin 4096 := ⟨1536 + k.val, by have := k.isLt; omega⟩
/-- The weights' row of a column of the convolution's output. -/
def rowC (k : Fin 1024) : Fin 4096 := ⟨3072 + k.val, by have := k.isLt; omega⟩

/-- A sum over all rows of the weights, cut where the outputs meet. -/
theorem sum_split (f : Fin 4096 → EReal) : ∑ k, f k = (∑ k : Fin 1536, f (rowA k)) + (∑ k : Fin 1536, f (rowB k)) + ∑ k : Fin 1024, f (rowC k) := by
  have h1 := Fin.sum_univ_add (a := 3072) (b := 1024) f
  have h2 := Fin.sum_univ_add (a := 1536) (b := 1536) (fun i => f (Fin.castAdd 1024 i))
  exact h1.trans (congrArg (· + _) h2)

/-- A row of the three outputs times a column of the second layer's weights. -/
def dotw (A B : Vec Ideal S8192x1536 .f32) (C : Vec Ideal S8192x1024 .f32) (W : Vec Ideal S2x4096x4096 .f32) (r : Fin 8192) (x : Fin 4096) : EReal :=
  (∑ k : Fin 1536, A (ix2 r k) * W (ix3 1 (rowA k) x)) + (∑ k : Fin 1536, B (ix2 r k) * W (ix3 1 (rowB k) x))
    + ∑ k : Fin 1024, C (ix2 r k) * W (ix3 1 (rowC k) x)

/-- A residual plus a gate times a product. -/
def joined (h g y : EReal) : EReal := h + g * y

/-- The latent rows after the mixing, as an array. -/
def mixArr (A B : Vec Ideal S8192x1536 .f32) (C : Vec Ideal S8192x1024 .f32) (H : Vec Ideal S8704x4096 .f32) (M : Vec Ideal S2x8x36864 .f32)
    (W : Vec Ideal S2x4096x4096 .f32) : Vec Ideal S8192x4096 .f32 :=
  fun j => joined (H (ix2 (resRow (j 0)) (j 1))) (M (ix3 1 (sampleOf (j 0)) (gateCol (j 1)))) (dotw A B C W (j 0) (j 1))

/-- A cast slice, at an index. -/
theorem pay1_at (x : Vec Ideal S1x512x512 .f32) (r d : Fin 512) : k0_pay1 x (ix2 r d) = x (ix3 0 r d) := by
  pointwise [k0_pay1]

/-- A stored block, at an index. -/
theorem pay4_at (a : Vec Ideal S1024x1536 .bf16) (wa : Vec Ideal S1536x512 .bf16) (b : Vec Ideal S1024x1536 .bf16) (wb : Vec Ideal S1536x512 .bf16)
    (e : Vec Ideal S1024x1024 .bf16) (we : Vec Ideal S1024x512 .bf16) (h : Vec Ideal S1024x512 .f32) (g : Vec Ideal S1x1x512 .f32)
    (r : Fin 1024) (d : Fin 512) : k0_pay4 a wa b wb e we h g (ix2 r d) = h (ix2 r d) + unit * g (ix3 0 0 d) *
      ((∑ k : Fin 1536, a (ix2 r k) * wa (ix2 k d) : EReal) + (∑ k : Fin 1536, b (ix2 r k) * wb (ix2 k d) : EReal) + (∑ k : Fin 1024, e (ix2 r k) * we (ix2 k d) : EReal)) := by
  pointwise [k0_pay4, unit]

/-- The block a step stores, at an index. -/
theorem rows_at (a b : Vec Ideal S1024x1536 .bf16) (e : Vec Ideal S1024x1024 .bf16) (d : Vec Ideal S4096x512 .bf16) (h : Vec Ideal S1024x512 .f32)
    (g : Vec Ideal S1x1x512 .f32) (r : Fin 1024) (x : Fin 512) : gatedRows a b e d h g (ix2 r x) = joined (h (ix2 r x)) (g (ix3 0 0 x))
      ((∑ k : Fin 1536, a (ix2 r k) * d (ix2 (rowA k) x) : EReal) + (∑ k : Fin 1536, b (ix2 r k) * d (ix2 (rowB k) x) : EReal) + (∑ k : Fin 1024, e (ix2 r k) * d (ix2 (rowC k) x) : EReal)) := by
  unfold gatedRows joined
  rw [pay4_at, unit_eq, one_mul]
  have wA : ∀ k : Fin 1536, VecWindow.window d ![0, 0] S1536x512.size inb_S4096x512_S1536x512_0_0 (ix2 k x) = d (ix2 (rowA k) x) := fun k => by
    unfold VecWindow.window
    refine congrArg d (funext fun q => Fin.ext ?_)
    fin_cases q
    · show 0 + 1 * k.val = k.val; omega
    · show 0 + 1 * x.val = x.val; omega
  have wB : ∀ k : Fin 1536, VecWindow.window d ![1536, 0] S1536x512.size inb_S4096x512_S1536x512_1536_0 (ix2 k x) = d (ix2 (rowB k) x) := fun k => by
    unfold VecWindow.window
    refine congrArg d (funext fun q => Fin.ext ?_)
    fin_cases q
    · show 1536 + 1 * k.val = 1536 + k.val; omega
    · show 0 + 1 * x.val = x.val; omega
  have wC : ∀ k : Fin 1024, VecWindow.window d ![3072, 0] S1024x512.size inb_S4096x512_S1024x512_3072_0 (ix2 k x) = d (ix2 (rowC k) x) := fun k => by
    unfold VecWindow.window
    refine congrArg d (funext fun q => Fin.ext ?_)
    fin_cases q
    · show 3072 + 1 * k.val = 3072 + k.val; omega
    · show 0 + 1 * x.val = x.val; omega
  simp only [wA, wB, wC]

/-- Where the outputs' rows, the residual, the gate and the output block of a point sit. -/
theorem idx_late : ∀ t : Fin cfg0.N, 8 ≤ t.val → win0_0.index t = ![t.val % 8, 0] ∧ win0_1.index t = ![t.val % 8, 0] ∧ win0_2.index t = ![t.val % 8, 0]
    ∧ win0_3.index t = ![t.val % 8, t.val / 8 - 1] ∧ win0_4.index t = ![(8 + t.val % 8 / 4) * 9 + 5, 0, t.val / 8 - 1] ∧ win0_6.index t = ![t.val % 8, t.val / 8 - 1] :=
  (by decide +kernel : ∀ t : Fin grid0.N, 8 ≤ t.val → win0_0.index t = ![t.val % 8, 0] ∧ win0_1.index t = ![t.val % 8, 0] ∧ win0_2.index t = ![t.val % 8, 0]
    ∧ win0_3.index t = ![t.val % 8, t.val / 8 - 1] ∧ win0_4.index t = ![(8 + t.val % 8 / 4) * 9 + 5, 0, t.val / 8 - 1] ∧ win0_6.index t = ![t.val % 8, t.val / 8 - 1])

/-- Where the weight slice of a point sits. -/
theorem idx_w : ∀ t : Fin cfg0.N, t.val < 64 → win0_5.index t = ![1, t.val % 8, t.val / 8] :=
  (by decide +kernel : ∀ t : Fin grid0.N, t.val < 64 → win0_5.index t = ![1, t.val % 8, t.val / 8])

/-- Only points after the first sweep write their output block back. -/
theorem flush_late : ∀ t : Fin cfg0.N, (cfg0.win 6).flush t = true → 8 ≤ t.val :=
  (by decide +kernel : ∀ t : Fin grid0.N, win0_6.flush t = true → 8 ≤ t.val)

variable (m : (ℓ : Loc nD τ sig) → Buf (Elt Ideal) ℓ)

/-- The windowed attention's output. -/
abbrev OA (c : Dev nD) : Vec Ideal S8192x1536 .f32 := m ((c : Thread nD τ).loc main_arg0)
/-- The latent attention's output. -/
abbrev OB (c : Dev nD) : Vec Ideal S8192x1536 .f32 := m ((c : Thread nD τ).loc main_arg1)
/-- The convolution's output. -/
abbrev OC (c : Dev nD) : Vec Ideal S8192x1024 .f32 := m ((c : Thread nD τ).loc main_arg2)
/-- The residual. -/
abbrev HH (c : Dev nD) : Vec Ideal S8704x4096 .f32 := m ((c : Thread nD τ).loc main_arg3)
/-- The modulation table. -/
abbrev MM (c : Dev nD) : Vec Ideal S2x8x36864 .f32 := m ((c : Thread nD τ).loc main_arg4)
/-- The weights. -/
abbrev WW (c : Dev nD) : Vec Ideal S2x4096x4096 .f32 := m ((c : Thread nD τ).loc main_arg5)

/-- The cast rows are the rows. -/
theorem v1_at (c : Dev nD) (i : S8192x1536.Idx) : (V m c main_v1 i : EReal) = OA m c i := by
  entry_read
  rfl

/-- The cast rows are the rows. -/
theorem v2_at (c : Dev nD) (i : S8192x1536.Idx) : (V m c main_v2 i : EReal) = OB m c i := by
  entry_read
  rfl

/-- The cast rows are the rows. -/
theorem v3_at (c : Dev nD) (i : S8192x1024.Idx) : (V m c main_v3 i : EReal) = OC m c i := by
  entry_read
  rfl

/-- The table with one vector to a row, at the mixing's gate of a sample in the second layer. -/
theorem v0_at (c : Dev nD) (q : Fin 144) (b : Fin 8) (x : Fin 4096) (hq : q.val = (8 + b.val) * 9 + 5) :
    V m c main_v0 (ix3 q 0 x) = MM m c (ix3 1 b (gateCol x)) := by
  entry_read
  refine shapeCast_apply (MM m c) _ (ix3 q 0 x) (ix3 1 b (gateCol x)) ?_
  rw [Shape.rowMajor_val_three, Shape.rowMajor_val_three]
  show (1 * 8 + b.val) * 36864 + (20480 + x.val) = (q.val * 1 + 0) * 4096 + x.val
  omega

/-- A point's rows of the windowed attention's output. -/
theorem a_blk (c : Dev nD) (t : Fin cfg0.N) (ht : 8 ≤ t.val) (r : Fin 1024) (k : Fin 1536) (R : Fin 8192)
    (hR : R.val = t.val % 8 * 1024 + r.val) : iblk m c 0 t (ix2 r k) = OA m c (ix2 R k) := by
  rw [← v1_at]
  have hi := (idx_late t ht).1
  blk_ext [iblk, hi, hR]

/-- A point's rows of the latent attention's output. -/
theorem b_blk (c : Dev nD) (t : Fin cfg0.N) (ht : 8 ≤ t.val) (r : Fin 1024) (k : Fin 1536) (R : Fin 8192)
    (hR : R.val = t.val % 8 * 1024 + r.val) : iblk m c 1 t (ix2 r k) = OB m c (ix2 R k) := by
  rw [← v2_at]
  have hi := (idx_late t ht).2.1
  blk_ext [iblk, hi, hR]

/-- A point's rows of the convolution's output. -/
theorem c_blk (c : Dev nD) (t : Fin cfg0.N) (ht : 8 ≤ t.val) (r : Fin 1024) (k : Fin 1024) (R : Fin 8192)
    (hR : R.val = t.val % 8 * 1024 + r.val) : iblk m c 2 t (ix2 r k) = OC m c (ix2 R k) := by
  rw [← v3_at]
  have hi := (idx_late t ht).2.2.1
  blk_ext [iblk, hi, hR]

/-- A point's residual. -/
theorem h_blk (c : Dev nD) (t : Fin cfg0.N) (ht : 8 ≤ t.val) (r : Fin 1024) (d : Fin 512) (R : Fin 8192) (x : Fin 4096)
    (hR : R.val = t.val % 8 * 1024 + r.val) (hx : x.val = (t.val / 8 - 1) * 512 + d.val) : X0_3 m c t (ix2 r d) = HH m c (ix2 (resRow R) x) := by
  refine Eq.trans ?_ (congrFun (V_main_arg3 m c) (ix2 (resRow R) x))
  have hi := (idx_late t ht).2.2.2.1
  have hR' : (resRow R).val = t.val % 8 * 1024 + r.val := hR
  unfold X0_3 Pipeline.Window.fill
  rw [dif_pos (moved0_3 t _)]
  blk_ext [iblk, hi, hR', hx]

/-- A point's gate. -/
theorem g_blk (c : Dev nD) (t : Fin cfg0.N) (ht : 8 ≤ t.val) (r : Fin 1024) (d : Fin 512) (R : Fin 8192) (x : Fin 4096)
    (hR : R.val = t.val % 8 * 1024 + r.val) (hx : x.val = (t.val / 8 - 1) * 512 + d.val) :
    iblk m c 4 t (ix3 0 0 d) = MM m c (ix3 1 (sampleOf R) (gateCol x)) := by
  have hb : (sampleOf R).val = R.val / 4096 := rfl
  have hr := r.isLt
  have hq : (sampleOf R).val = t.val % 8 / 4 := by omega
  rw [← v0_at m c ⟨(8 + (sampleOf R).val) * 9 + 5, by have := (sampleOf R).isLt; omega⟩ (sampleOf R) x rfl]
  have hi := (idx_late t ht).2.2.2.2.1
  blk_ext [iblk, hi, hq, hx]

/-- The tile of a sweep is a tile of the weights. -/
theorem tile_eq (c : Dev nD) (s : Fin 9) (hs : s.val < 8) (k : Fin 4096) (d : Fin 512) (x : Fin 4096) (hx : x.val = s.val * 512 + d.val) :
    tile m c s (ix2 k d) = WW m c (ix3 1 k x) := by
  have hk := k.isLt
  have ht : (pt s (placeOf k)).val = 8 * s.val + k.val / 512 := rfl
  have e1 : (pt s (placeOf k)).val % 8 = k.val / 512 := by omega
  have e2 : (pt s (placeOf k)).val / 8 = s.val := by omega
  rw [tile_at m c s k d _ rfl, pay1_at]
  refine Eq.trans ?_ (congrFun (V_main_arg5 m c) (ix3 1 k x))
  have hi := idx_w (pt s (placeOf k)) (by omega)
  rw [e1, e2] at hi
  have hr : (rowOf k).val = k.val % 512 := rfl
  blk_ext [iblk, hi, hx, hr]

/-- The array the call leaves. -/
theorem final (c : Dev nD) : (dats m 0 c).arrAt 6 cfg0.N = mixArr (OA m c) (OB m c) (OC m c) (HH m c) (MM m c) (WW m c) := by
  refine (dats m 0 c).arrAt_eq_of_covers 6 _ (by decide +kernel) fun t hf y => ?_
  have ht := flush_late t hf
  have hN : t.val < 72 := lt_of_lt_of_eq t.isLt N_0
  have hi := (idx_late t ht).2.2.2.2.2
  blk_simp
  rw [after_6]
  obtain ⟨r, d, rfl⟩ : ∃ (r : Fin 1024) (d : Fin 512), y = ix2 r d := ⟨y 0, y 1, by funext a; fin_cases a <;> rfl⟩
  have e0 : ((win0_6.blk t).view.emb (ix2 r d) 0).val = t.val % 8 * 1024 + r.val := by
    blk_simp [hi]
  have e1 : ((win0_6.blk t).view.emb (ix2 r d) 1).val = (t.val / 8 - 1) * 512 + d.val := by
    blk_simp [hi]
  generalize (win0_6.blk t).view.emb (ix2 r d) = j at e0 e1 ⊢
  have hp : (prev t).val = t.val / 8 - 1 := rfl
  have hw : ∀ k : Fin 4096, tile m c (prev t) (ix2 k d) = WW m c (ix3 1 k (j 1)) := fun k =>
    tile_eq m c (prev t) (by omega) k d (j 1) (by rw [hp]; exact e1)
  unfold outBlk mixArr dotw
  rw [rows_at, h_blk m c t ht r d (j 0) (j 1) e0 e1, g_blk m c t ht r d (j 0) (j 1) e0 e1]
  refine congrArg (joined _ _) (congrArg₂ (· + ·) (congrArg₂ (· + ·) ?_ ?_) ?_)
  · refine congrArg (fun f : Fin 1536 → EReal => ∑ k, f k) (funext fun k => ?_)
    rw [a_blk m c t ht r k (j 0) e0, hw]
  · refine congrArg (fun f : Fin 1536 → EReal => ∑ k, f k) (funext fun k => ?_)
    rw [b_blk m c t ht r k (j 0) e0, hw]
  · refine congrArg (fun f : Fin 1024 → EReal => ∑ k, f k) (funext fun k => ?_)
    rw [c_blk m c t ht r k (j 0) e0, hw]

/-- The program ends with that array in its result and its arguments as they were. -/
theorem run_value (ρ : Dev nD → PrngReg) : θ_run (defs (F := Ideal)) (onTc (τ := τ) (main (F := Ideal))) ⟨m, fun _ => 0, ρ⟩
    (fun r => ∀ c : Dev nD, r.2.mem ((c.tc : Thread nD τ).loc main_v4) = mixArr (OA m c) (OB m c) (OC m c) (HH m c) (MM m c) (WW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1.1 c).1 6).trans (final m c), h.2.1 c⟩) (θ_run_and (run_main m ρ) (frame_main m ρ))

section
open Cert.Reference5Ideal.Read

variable (x0 x1 : Vec Ideal S8192x1536 .f32) (x2 : Vec Ideal S8192x1024 .f32) (x3 : Vec Ideal S8704x4096 .f32) (x4 : Vec Ideal S2x8x36864 .f32)
  (x5 : Vec Ideal S2x4096x4096 .f32)

/-- An index of a matrix, from its coordinates. -/
theorem at2 {n k : ℕ} (i : (⟨2, ![n, k]⟩ : Shape).Idx) (a : Fin n) (b : Fin k) (h0 : (i 0).val = a.val) (h1 : (i 1).val = b.val) : i = ix2 a b := by
  funext e
  fin_cases e
  · exact Fin.ext h0
  · exact Fin.ext h1

/-- An index of a rank-3 array, from its coordinates. -/
theorem at3 {n k l : ℕ} (i : (⟨3, ![n, k, l]⟩ : Shape).Idx) (a : Fin n) (b : Fin k) (d : Fin l) (h0 : (i 0).val = a.val) (h1 : (i 1).val = b.val)
    (h2 : (i 2).val = d.val) : i = ix3 a b d := by
  funext e
  fin_cases e
  · exact Fin.ext h0
  · exact Fin.ext h1
  · exact Fin.ext h2

/-- The joined outputs, at a column of the windowed attention's. -/
theorem join_a (r : Fin 8192) (k : Fin 1536) : val_main_v0 (F := Ideal) x0 x1 x2 (ix2 r (rowA k)) = x0 (ix2 r k) := by
  unfold val_main_v0
  refine concatenate_apply_piece (t := Cert.Reference5Ideal.S8192x4096) 1 _ _ _ 0 (by simp) Cert.Reference5Ideal.S8192x1536 x0 rfl rfl 0 rfl (ix2 r k) ?_ ?_
  · intro b hb
    fin_cases b
    · rfl
    · exact absurd rfl hb
  · show 0 + k.val = k.val; omega

/-- The joined outputs, at a column of the latent attention's. -/
theorem join_b (r : Fin 8192) (k : Fin 1536) : val_main_v0 (F := Ideal) x0 x1 x2 (ix2 r (rowB k)) = x1 (ix2 r k) := by
  unfold val_main_v0
  refine concatenate_apply_piece (t := Cert.Reference5Ideal.S8192x4096) 1 _ _ _ 1 (by simp) Cert.Reference5Ideal.S8192x1536 x1 rfl rfl 1536 rfl (ix2 r k) ?_ ?_
  · intro b hb
    fin_cases b
    · rfl
    · exact absurd rfl hb
  · rfl

/-- The joined outputs, at a column of the convolution's. -/
theorem join_c (r : Fin 8192) (k : Fin 1024) : val_main_v0 (F := Ideal) x0 x1 x2 (ix2 r (rowC k)) = x2 (ix2 r k) := by
  unfold val_main_v0
  refine concatenate_apply_piece (t := Cert.Reference5Ideal.S8192x4096) 1 _ _ _ 2 (by simp) Cert.Reference5Ideal.S8192x1024 x2 rfl rfl 3072 rfl (ix2 r k) ?_ ?_
  · intro b hb
    fin_cases b
    · rfl
    · exact absurd rfl hb
  · rfl

/-- The second layer's weights, at an index. -/
theorem weight_at (k x : Fin 4096) : val_main_v2 (F := Ideal) x5 (ix2 k x) = x5 (ix3 1 k x) := by
  rw [val_main_v2_apply, val_main_v1_apply]
  have hx := x.isLt
  have hk := k.isLt
  refine congrArg x5 (at3 _ _ _ _ rfl ?_ ?_)
  · show (k.val * 4096 + x.val) / 4096 % 4096 = k.val; omega
  · show (k.val * 4096 + x.val) % 4096 = x.val; omega

/-- The reference's product of the joined outputs by the weights. -/
theorem dot_at (r : Fin 8192) (x : Fin 4096) : val_main_v3 (F := Ideal) x0 x1 x2 x5 (ix2 r x) = dotw x0 x1 x2 x5 r x := by
  rw [val_main_v3_apply]
  refine Eq.trans (b := (∑ k : Fin 4096, val_main_v0 (F := Ideal) x0 x1 x2 (ix2 r k) * x5 (ix3 1 k x) : EReal)) ?_ ?_
  · refine congrArg (fun f : Fin 4096 → EReal => ∑ k, f k) (funext fun k => ?_)
    rw [← weight_at x5 k x]
    exact congrArg₂ _ (congrArg _ (at2 _ _ _ rfl rfl)) (congrArg _ (at2 _ _ _ rfl rfl))
  · rw [sum_split]
    unfold dotw
    simp only [join_a, join_b, join_c]

/-- The reference's array. -/
theorem ref_eq : val_main_v13 (F := Ideal) x0 x1 x2 x3 x4 x5 = mixArr x0 x1 x2 x3 x4 x5 := by
  funext j
  obtain ⟨r, x, rfl⟩ : ∃ (r : Fin 8192) (x : Fin 4096), j = ix2 r x := ⟨j 0, j 1, by funext a; fin_cases a <;> rfl⟩
  have hr := r.isLt
  have hx := x.isLt
  rw [val_main_v13_apply, at3 (idx_main_v13 (ix2 r x)) ⟨r.val / 4096, by omega⟩ ⟨r.val % 4096, by omega⟩ x
      (by show (r.val * 4096 + x.val) / 16777216 = r.val / 4096; omega)
      (by show (r.val * 4096 + x.val) / 4096 % 4096 = r.val % 4096; omega)
      (by show (r.val * 4096 + x.val) % 4096 = x.val; omega),
    val_main_v12_apply, val_main_v11_apply, val_main_v10_apply, val_main_v9_apply, val_main_v8_apply, val_main_v7_apply,
    val_main_v6_apply, val_main_v5_apply, val_main_v4_apply]
  unfold mixArr
  show _ + _ * _ = joined _ _ (dotw x0 x1 x2 x5 r x)
  rw [← dot_at]
  refine congrArg₂ (· + ·) (congrArg x3 (at2 _ _ _ ?_ ?_)) (congrArg₂ (· * ·) (congrArg x4 (at3 _ _ _ _ rfl ?_ ?_)) (congrArg _ (at2 _ _ _ ?_ ?_)))
  · show ((r.val / 4096 * 4096 + r.val % 4096) * 4096 + x.val) / 4096 = r.val; omega
  · show ((r.val / 4096 * 4096 + r.val % 4096) * 4096 + x.val) % 4096 = x.val; omega
  · show (r.val / 4096 * 4096 + x.val) / 4096 % 2 = r.val / 4096; omega
  · show 20480 + (r.val / 4096 * 4096 + x.val) % 4096 = 20480 + x.val; omega
  · show ((r.val / 4096 * 4096 + r.val % 4096) * 4096 + x.val) / 4096 = r.val; omega
  · show ((r.val / 4096 * 4096 + r.val % 4096) * 4096 + x.val) % 4096 = x.val; omega

end

end Cert.Kernel5Ideal.Mix
end
-- ==== Proof.ProjRun.lean ====
module

public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import Idealize.ShloMosaic.Lib.Pipeline.FrameBody
public import Idealize.ShloMosaic.Lib.Tactic
public import Idealize.ShloMosaic.Lib.WordCmp
public import Idealize.ShloMosaic.Lib.VecWindow

/-! One run of the body of the projection into the attention heads, for each of its three branches: the first sweep only casts weight rows into
the first scratch buffer; an odd sweep multiplies by the first buffer and casts into the second; a later even sweep multiplies by
the second buffer and casts into the first. -/

@[expose] public section

set_option maxRecDepth 16384

noncomputable section

namespace Cert.Kernel6Ideal.Proj

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The first branch is taken in the first sweep. -/
theorem first_iff : ∀ t : Fin cfg0.N, k0_cond1 (grid0.coords t) = 1#1 ↔ t.val / 8 = 0 :=
  (by decide +kernel : ∀ t : Fin grid0.N, k0_cond1 (grid0.coords t) = 1#1 ↔ t.val / 8 = 0)

/-- The second branch is taken in the odd sweeps. -/
theorem odd_iff : ∀ t : Fin cfg0.N, k0_cond2 (grid0.coords t) = 1#1 ↔ t.val / 8 % 2 = 1 :=
  (by decide +kernel : ∀ t : Fin grid0.N, k0_cond2 (grid0.coords t) = 1#1 ↔ t.val / 8 % 2 = 1)

/-- The third branch is taken in the even sweeps after the first. -/
theorem even_iff : ∀ t : Fin cfg0.N, k0_cond3 (grid0.coords t) = 1#1 ↔ (t.val / 8 ≠ 0 ∧ t.val / 8 % 2 = 0) :=
  (by decide +kernel : ∀ t : Fin grid0.N, k0_cond3 (grid0.coords t) = 1#1 ↔ (t.val / 8 ≠ 0 ∧ t.val / 8 % 2 = 0))

/-- The rows a point casts start at 96 times its place in the sweep. -/
theorem offs : ∀ t : Fin cfg0.N, k0_off1 (grid0.coords t) = ![t.val % 8 * 96, 0] ∧ k0_off2 (grid0.coords t) = ![t.val % 8 * 96, 0] ∧ k0_off3 (grid0.coords t) = ![t.val % 8 * 96, 0] :=
  (by decide +kernel : ∀ t : Fin grid0.N, k0_off1 (grid0.coords t) = ![t.val % 8 * 96, 0] ∧ k0_off2 (grid0.coords t) = ![t.val % 8 * 96, 0] ∧ k0_off3 (grid0.coords t) = ![t.val % 8 * 96, 0])

/-- A scratch buffer with 96 rows from row `o` replaced. -/
def put (d : Vec F S768x4096 .bf16) (o : ℕ) (p : Vec F S96x4096 .bf16) : Vec F S768x4096 .bf16 :=
  VecWindow.put d ![o, 0] S96x4096.size p

set_option maxHeartbeats 4000000 in
/-- The first branch: the weight rows of the point go into the first scratch buffer. -/
theorem run_first (c : Dev nD) (i : grid0.Coords) (arg2 : Memref sig .tc .vmem S1088x4096 .bf16) (harg2 : arg2.IsWhole) (arg3 : Memref sig .tc .vmem S1x96x4096 .f32) (harg3 : arg3.IsWhole) (arg4 : Memref sig .tc .vmem S1088x768 .f32) (harg4 : arg4.IsWhole) (arg5 : Memref sig .tc .vmem S768x4096 .bf16) (harg5 : arg5.IsWhole) (arg6 : Memref sig .tc .vmem S768x4096 .bf16) (harg6 : arg6.IsWhole)
    (hc1 : k0_cond1 i = 1#1) (hc2 : ¬k0_cond2 i = 1#1) (hc3 : ¬k0_cond3 i = 1#1) (o : ℕ) (ho : k0_off1 i = ![o, 0])
    (x0 : Vec F S1088x4096 .bf16) (x1 : Vec F S1x96x4096 .f32) (x2 : Vec F S1088x768 .f32) (dA dB : Vec F S768x4096 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare dA ∗ owns (c : Thread nD τ) arg6 fullShare dB
        ∗ (iprop(owns (c : Thread nD τ) arg2 fullShare x0 ∗ owns (c : Thread nD τ) arg3 fullShare x1 ∗ owns (c : Thread nD τ) arg4 fullShare x2 ∗ owns (c : Thread nD τ) arg5 fullShare (put dA o (k0_pay1 x1)) ∗ owns (c : Thread nD τ) arg6 fullShare dB) -∗ K ⟨⟩))
      ⊢ wp frame (wpE (defs₀ (F := F)) Variants.none c none) E (cc0_proj_in i arg2 harg2 arg3 harg3 arg4 harg4 arg5 harg5 arg6 harg6) K := by
  simp only [cc0_proj_in_eq_skeleton]; unfold cc0_proj_in_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0
  obtain rfl := harg3.eq_unread hf1
  obtain rfl := harg4.eq_unread hf2
  obtain rfl := harg5.eq_unread hf3
  obtain rfl := harg6.eq_unread hf4
  sl_exec (disch := first | sl_exact hc1 | sl_exact hc2 | sl_exact hc3)
  sl_step
  iapply Hk
  isplitl [H0]
  · iexists _; isplitr; swap; · iexact H0
    ipureintro
    exact harg2.read_unread _
  isplitl [H1]
  · iexists _; isplitr; swap; · iexact H1
    ipureintro
    exact harg3.read_unread _
  isplitl [H2]
  · iexists _; isplitr; swap; · iexact H2
    ipureintro
    exact harg4.read_unread _
  isplitl [H3]
  · iexists _; isplitr; swap; · iexact H3
    ipureintro
    rw [View.read_writes_cons_put _ _ _ _ _ ho, View.writes_nil, harg5.read_unread, View.readAt_full, harg3.read_unread]
    rfl
  iexists _; isplitr; swap; · iexact H4
  ipureintro
  exact harg6.read_unread _

set_option maxHeartbeats 4000000 in
/-- The second branch: the result by the first buffer is stored, and the weight rows of the point go into the second. -/
theorem run_odd (c : Dev nD) (i : grid0.Coords) (arg2 : Memref sig .tc .vmem S1088x4096 .bf16) (harg2 : arg2.IsWhole) (arg3 : Memref sig .tc .vmem S1x96x4096 .f32) (harg3 : arg3.IsWhole) (arg4 : Memref sig .tc .vmem S1088x768 .f32) (harg4 : arg4.IsWhole) (arg5 : Memref sig .tc .vmem S768x4096 .bf16) (harg5 : arg5.IsWhole) (arg6 : Memref sig .tc .vmem S768x4096 .bf16) (harg6 : arg6.IsWhole)
    (hc1 : ¬k0_cond1 i = 1#1) (hc2 : k0_cond2 i = 1#1) (hc3 : ¬k0_cond3 i = 1#1) (o : ℕ) (ho : k0_off2 i = ![o, 0])
    (x0 : Vec F S1088x4096 .bf16) (x1 : Vec F S1x96x4096 .f32) (x2 : Vec F S1088x768 .f32) (dA dB : Vec F S768x4096 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare dA ∗ owns (c : Thread nD τ) arg6 fullShare dB
        ∗ (iprop(owns (c : Thread nD τ) arg2 fullShare x0 ∗ owns (c : Thread nD τ) arg3 fullShare x1 ∗ owns (c : Thread nD τ) arg4 fullShare (k0_pay2 x0 dA) ∗ owns (c : Thread nD τ) arg5 fullShare dA ∗ owns (c : Thread nD τ) arg6 fullShare (put dB o (k0_pay1 x1))) -∗ K ⟨⟩))
      ⊢ wp frame (wpE (defs₀ (F := F)) Variants.none c none) E (cc0_proj_in i arg2 harg2 arg3 harg3 arg4 harg4 arg5 harg5 arg6 harg6) K := by
  simp only [cc0_proj_in_eq_skeleton]; unfold cc0_proj_in_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0
  obtain rfl := harg3.eq_unread hf1
  obtain rfl := harg4.eq_unread hf2
  obtain rfl := harg5.eq_unread hf3
  obtain rfl := harg6.eq_unread hf4
  sl_exec (disch := first | sl_exact hc1 | sl_exact hc2 | sl_exact hc3)
  sl_step
  iapply Hk
  isplitl [H0]
  · iexists _; isplitr; swap; · iexact H0
    ipureintro
    exact harg2.read_unread _
  isplitl [H1]
  · iexists _; isplitr; swap; · iexact H1
    ipureintro
    exact harg3.read_unread _
  isplitl [H2]
  · iexists _; isplitr; swap; · iexact H2
    ipureintro
    refine (View.read_writes_full _ _ _ _ _).trans ?_
    rw [View.readAt_full, View.readAt_full, harg2.read_unread, harg5.read_unread]
  isplitl [H3]
  · iexists _; isplitr; swap; · iexact H3
    ipureintro
    exact harg5.read_unread _
  iexists _; isplitr; swap; · iexact H4
  ipureintro
  rw [View.read_writes_cons_put _ _ _ _ _ ho, View.writes_nil, harg6.read_unread, View.readAt_full, harg3.read_unread]
  rfl

set_option maxHeartbeats 4000000 in
/-- The third branch: the result by the second buffer is stored, and the weight rows of the point go into the first. -/
theorem run_even (c : Dev nD) (i : grid0.Coords) (arg2 : Memref sig .tc .vmem S1088x4096 .bf16) (harg2 : arg2.IsWhole) (arg3 : Memref sig .tc .vmem S1x96x4096 .f32) (harg3 : arg3.IsWhole) (arg4 : Memref sig .tc .vmem S1088x768 .f32) (harg4 : arg4.IsWhole) (arg5 : Memref sig .tc .vmem S768x4096 .bf16) (harg5 : arg5.IsWhole) (arg6 : Memref sig .tc .vmem S768x4096 .bf16) (harg6 : arg6.IsWhole)
    (hc1 : ¬k0_cond1 i = 1#1) (hc2 : ¬k0_cond2 i = 1#1) (hc3 : k0_cond3 i = 1#1) (o : ℕ) (ho : k0_off3 i = ![o, 0])
    (x0 : Vec F S1088x4096 .bf16) (x1 : Vec F S1x96x4096 .f32) (x2 : Vec F S1088x768 .f32) (dA dB : Vec F S768x4096 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare dA ∗ owns (c : Thread nD τ) arg6 fullShare dB
        ∗ (iprop(owns (c : Thread nD τ) arg2 fullShare x0 ∗ owns (c : Thread nD τ) arg3 fullShare x1 ∗ owns (c : Thread nD τ) arg4 fullShare (k0_pay2 x0 dB) ∗ owns (c : Thread nD τ) arg5 fullShare (put dA o (k0_pay1 x1)) ∗ owns (c : Thread nD τ) arg6 fullShare dB) -∗ K ⟨⟩))
      ⊢ wp frame (wpE (defs₀ (F := F)) Variants.none c none) E (cc0_proj_in i arg2 harg2 arg3 harg3 arg4 harg4 arg5 harg5 arg6 harg6) K := by
  simp only [cc0_proj_in_eq_skeleton]; unfold cc0_proj_in_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0
  obtain rfl := harg3.eq_unread hf1
  obtain rfl := harg4.eq_unread hf2
  obtain rfl := harg5.eq_unread hf3
  obtain rfl := harg6.eq_unread hf4
  sl_exec (disch := first | sl_exact hc1 | sl_exact hc2 | sl_exact hc3)
  sl_step
  iapply Hk
  isplitl [H0]
  · iexists _; isplitr; swap; · iexact H0
    ipureintro
    exact harg2.read_unread _
  isplitl [H1]
  · iexists _; isplitr; swap; · iexact H1
    ipureintro
    exact harg3.read_unread _
  isplitl [H2]
  · iexists _; isplitr; swap; · iexact H2
    ipureintro
    refine (View.read_writes_full _ _ _ _ _).trans ?_
    rw [View.readAt_full, View.readAt_full, harg2.read_unread, harg6.read_unread]
    rfl
  isplitl [H3]
  · iexists _; isplitr; swap; · iexact H3
    ipureintro
    rw [View.read_writes_cons_put _ _ _ _ _ ho, View.writes_nil, harg5.read_unread, View.readAt_full, harg3.read_unread]
    rfl
  iexists _; isplitr; swap; · iexact H4
  ipureintro
  exact harg6.read_unread _

end Cert.Kernel6Ideal.Proj
end
-- ==== Proof.ProjFrame.lean ====
module

public import proofs.«01_k».proof.Proof.ProjRun
public import Idealize.ShloMosaic.Lib.Pointwise
public import Idealize.ShloMosaic.Lib.Claim

/-! The whole run of the projection into the attention heads: what the scratch buffers hold between points, what each point stores, and from
those the run of the program, over any carrier of the values. -/

@[expose] public section

set_option maxRecDepth 16384

noncomputable section

namespace Cert.Kernel6Ideal.Proj

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch buffers -/

/-- The point at place `i` of sweep `s`. -/
def pt (s : Fin 6) (i : Fin 8) : Fin cfg0.N :=
  ⟨8 * s.val + i.val, by have := s.isLt; have := i.isLt; have : cfg0.N = 48 := N_0; omega⟩

/-- The place in a sweep that casts a scratch row. -/
def placeOf (r : Fin 768) : Fin 8 := ⟨r.val / 96, by have := r.isLt; omega⟩
/-- The row within its slice. -/
def rowOf (r : Fin 768) : Fin 96 := ⟨r.val % 96, by omega⟩

/-- The weight tile of sweep `s`: the slices its eight points cast, stacked. -/
def tile (c : Dev nD) (s : Fin 6) : Vec F S768x4096 .bf16 :=
  fun j => k0_pay1 (X0_1 m c (pt s (placeOf (j 0)))) (ix2 (rowOf (j 0)) (j 1))

/-- The weight tile at an index. -/
theorem tile_at (c : Dev nD) (s : Fin 6) (r : Fin 768) (x : Fin 4096) (t : Fin cfg0.N) (h : pt s (placeOf r) = t) :
    tile m c s (ix2 r x) = k0_pay1 (X0_1 m c t) (ix2 (rowOf r) x) := by
  subst h; rfl

/-- Before point `n`, the buffer holds the rows of the tile `w` that sweep `s` has cast. -/
def Held (w d : Vec F S768x4096 .bf16) (s n : ℕ) : Prop :=
  ∀ j : S768x4096.Idx, 8 * s + (j 0).val / 96 < n → d j = w j

/-- Before point `n`: the buffer of the current sweep's parity holds what the sweep has cast so far, the other buffer the tile
    of the sweep before. -/
def Inv (c : Dev nD) (n : ℕ) (dA dB : Vec F S768x4096 .bf16) : Prop :=
  ∀ s : Fin 6, 8 * s.val < n → n ≤ 8 * s.val + 16 →
    (s.val % 2 = 0 → Held (tile m c s) dA s.val n) ∧ (s.val % 2 = 1 → Held (tile m c s) dB s.val n)

/-- A full tile is held as it is. -/
theorem Held.full {w d : Vec F S768x4096 .bf16} {s n : ℕ} (h : Held w d s n) (hn : 8 * s + 8 ≤ n) : d = w := by
  funext j
  exact h j (by have : (j 0).val < 768 := (j 0).isLt; omega)

/-- A buffer nothing is stored in still holds a full tile. -/
theorem Held.keep {w d : Vec F S768x4096 .bf16} {s n : ℕ} (h : Held w d s n) (hn : 8 * s + 8 ≤ n) (n' : ℕ) : Held w d s n' :=
  fun j _ => h j (by have : (j 0).val < 768 := (j 0).isLt; omega)

/-- Storing the point's slice extends what is held by one slice. -/
theorem Held.put {w d : Vec F S768x4096 .bf16} {s n i : ℕ} (p : Vec F S96x4096 .bf16) (hi : i < 8) (hn : n = 8 * s + i)
    (h : 0 < i → Held w d s n)
    (hp : ∀ (r : Fin 768) (x : Fin 4096), r.val / 96 = i → w (ix2 r x) = p (ix2 (rowOf r) x)) :
    Held w (put d (i * 96) p) s (n + 1) := by
  intro j hj
  have h0 : (j 0).val < 768 := (j 0).isLt
  have h1 : (j 1).val < 4096 := (j 1).isLt
  unfold Proj.put VecWindow.put
  by_cases hin : (j 0).val / 96 = i
  · have hc : ∀ a, (![i * 96, 0] : Fin 2 → ℕ) a ≤ (j a).val ∧ (j a).val < (![i * 96, 0] : Fin 2 → ℕ) a + S96x4096.size a :=
      Fin.forall_fin_two.mpr ⟨⟨by show i * 96 ≤ _; omega, by show _ < i * 96 + 96; omega⟩, ⟨Nat.zero_le _, by show _ < 0 + 4096; omega⟩⟩
    rw [dif_pos hc]
    have e : j = ix2 (j 0) (j 1) := by funext a; fin_cases a <;> rfl
    refine Eq.trans ?_ ((congrArg w e).trans (hp (j 0) (j 1) hin)).symm
    refine congrArg p (funext fun a => ?_)
    fin_cases a
    · exact Fin.ext (by show (j 0).val - i * 96 = (j 0).val % 96; omega)
    · exact Fin.ext (by show (j 1).val - 0 = (j 1).val; omega)
  · rw [dif_neg (fun hc => hin (by have := hc 0; have h2 : i * 96 ≤ (j 0).val ∧ (j 0).val < i * 96 + 96 := this; omega))]
    exact h (by omega) j (by omega)

/-- An even sweep's point keeps the description. -/
theorem Inv.even {c : Dev nD} {dA dB : Vec F S768x4096 .bf16} (t : Fin cfg0.N) (h : Inv m c t.val dA dB) (he : t.val / 8 % 2 = 0) :
    Inv m c (t.val + 1) (put dA (t.val % 8 * 96) (k0_pay1 (X0_1 m c t))) dB := by
  intro s hs hs'
  have hN : t.val < 48 := lt_of_lt_of_eq t.isLt N_0
  refine ⟨fun hp => ?_, fun hp => ?_⟩
  · have hσ : s.val = t.val / 8 := by omega
    have hpt : ∀ r : Fin 768, r.val / 96 = t.val % 8 → pt s (placeOf r) = t := fun r hr =>
      Fin.ext (by show 8 * s.val + r.val / 96 = t.val; omega)
    exact Held.put _ (by omega) (by omega) (fun hi => (h s (by omega) (by omega)).1 hp) fun r x hr => tile_at m c s r x t (hpt r hr)
  · exact ((h s (by omega) (by omega)).2 hp).keep (by omega) _

/-- An odd sweep's point keeps the description. -/
theorem Inv.odd {c : Dev nD} {dA dB : Vec F S768x4096 .bf16} (t : Fin cfg0.N) (h : Inv m c t.val dA dB) (he : t.val / 8 % 2 = 1) :
    Inv m c (t.val + 1) dA (put dB (t.val % 8 * 96) (k0_pay1 (X0_1 m c t))) := by
  intro s hs hs'
  have hN : t.val < 48 := lt_of_lt_of_eq t.isLt N_0
  refine ⟨fun hp => ?_, fun hp => ?_⟩
  · exact ((h s (by omega) (by omega)).1 hp).keep (by omega) _
  · have hσ : s.val = t.val / 8 := by omega
    have hpt : ∀ r : Fin 768, r.val / 96 = t.val % 8 → pt s (placeOf r) = t := fun r hr =>
      Fin.ext (by show 8 * s.val + r.val / 96 = t.val; omega)
    exact Held.put _ (by omega) (by omega) (fun hi => (h s (by omega) (by omega)).2 hp) fun r x hr => tile_at m c s r x t (hpt r hr)

/-- The sweep before a point's. -/
def prev (t : Fin cfg0.N) : Fin 6 := ⟨t.val / 8 - 1, by have : t.val < 48 := lt_of_lt_of_eq t.isLt N_0; omega⟩

/-- What a point stores: the product of its rows by the tile of the sweep before. -/
def outBlk (c : Dev nD) (t : Fin cfg0.N) : Vec F S1088x768 .f32 :=
  k0_pay2 (iblk m c 0 t) (tile m c (prev t))

/-! ## The run -/

/-- The scratch buffers' memrefs. -/
abbrev sc0 : Memref sig .tc .vmem S768x4096 .bf16 := Memref.whole cc0_scratch0
abbrev sc1 : Memref sig .tc .vmem S768x4096 .bf16 := Memref.whole cc0_scratch1

/-- The region's state between points, its scratch buffers as memrefs at some contents. -/
theorem scoped_eq (c : Dev nD) : (Pipeline.ΦA spec0 c : sProp 𝕄)
    = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The state before point `n`. -/
def St (c : Dev nD) (n : ℕ) : sProp 𝕄 :=
  iprop((∃ dA, ∃ dB, ⌜Inv m c n dA dB⌝ ∗ owns (c : Thread nD τ) sc0 fullShare dA ∗ owns (c : Thread nD τ) sc1 fullShare dB) ∗ (∃ r, prngReg c r))

/-- What the run says of each window at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => outBlk m c t
  Φ t := St m c t.val
  q w := Pipeline.shareOf spec0 w
  owed _ := 0

/-- The arrays are as the region finds them. -/
theorem A_eq (c : Dev nD) (w : Fin cfg0.W) : (dats m 0 c).A w = V m c (Pipeline.arrRef spec0 w) := by
  dsimp only [dats]
/-- A point leaves the block of rows as it was. -/
theorem after_0 (c : Dev nD) (t : Fin cfg0.N) : (dats m 0 c).after 0 t = iblk m c 0 t := by dsimp only [dats]
/-- A point leaves the weight slice as it was. -/
theorem after_1 (c : Dev nD) (t : Fin cfg0.N) : (dats m 0 c).after 1 t = X0_1 m c t := by dsimp only [dats]
/-- A point leaves its result in the output block. -/
theorem after_2 (c : Dev nD) (t : Fin cfg0.N) : (dats m 0 c).after 2 t = outBlk m c t := by dsimp only [dats]
/-- A point finds the block of rows. -/
theorem before_0 (c : Dev nD) (t : Fin cfg0.N) (d) : (dats m 0 c).before 0 t d = iblk m c 0 t :=
  before0_0_of m (dats m 0 c) (A_eq m c 0) (after_0 m c) t d
/-- A point finds the weight slice. -/
theorem before_1 (c : Dev nD) (t : Fin cfg0.N) (d) : (dats m 0 c).before 1 t d = X0_1 m c t :=
  before0_1_of m (dats m 0 c) (A_eq m c 1) (after_1 m c) t d

/-- In the first sweep nothing is stored in the output block, and it is not written back. -/
theorem idle_first : ∀ t : Fin cfg0.N, t.val / 8 = 0 → cfg0.idle 2 (grid0.coords t) = true ∧ (cfg0.win 2).flush t = false :=
  (by decide +kernel : ∀ t : Fin grid0.N, t.val / 8 = 0 → idle0 2 (grid0.coords t) = true ∧ win0_2.flush t = false)
/-- After the first sweep every point stores its output block. -/
theorem live_later : ∀ t : Fin cfg0.N, t.val / 8 ≠ 0 → cfg0.idle 2 (grid0.coords t) = false :=
  (by decide +kernel : ∀ t : Fin grid0.N, t.val / 8 ≠ 0 → idle0 2 (grid0.coords t) = false)

/-- What the body starts from at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What the body ends with at a point. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

set_option maxHeartbeats 4000000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.castSucc = St m c t.val from rfl, show (dats m 0 c).Φ t.succ = St m c (t.val + 1) from rfl]
  rw [show (dats m 0 c).leavesExact 0 t = owns (c : Thread nD τ) (st0_0 t) fullShare ((dats m 0 c).after 0 t) from rfl, after_0]
  rw [show (dats m 0 c).leavesExact 1 t = owns (c : Thread nD τ) (st0_1 t) fullShare ((dats m 0 c).after 1 t) from rfl, after_1]
  have hN : t.val < 48 := lt_of_lt_of_eq t.isLt N_0
  unfold St
  by_cases h0 : t.val / 8 = 0
  · rw [Pipeline.Dat.leavesExact_idle _ 2 t (idle_first t h0).1 (idle_first t h0).2]
    iintro ⟨⟨⟨%dA, %dB, %hI, SA, SB⟩, Hg⟩, Ho, ⟨%e0, H0⟩, ⟨%e1, H1⟩, ⟨%e2, H2⟩⟩
    iapply (run_first c (grid0.coords t) _ _ _ _ _ _ _ _ _ _ ((first_iff t).mpr h0) (fun h => by have := (odd_iff t).mp h; omega)
      (fun h => by have := (even_iff t).mp h; omega) _ (offs t).1 (iblk m c 0 t) (X0_1 m c t) _ dA dB Set.univ _)
    isplitl [H0]; · iexact H0
    isplitl [H1]; · iexact H1
    isplitl [H2]; · iexact H2
    isplitl [SA]; · iexact SA
    isplitl [SB]; · iexact SB
    iintro ⟨H0, H1, H2, SA, SB⟩
    isplitl [SA SB Hg]
    · isplitl [SA SB]
      · iexists _, _
        isplitr; swap
        · isplitl [SA]; · iexact SA
          iexact SB
        ipureintro
        exact Inv.even m t hI (by omega)
      iexact Hg
    isplitl [Ho]; · iexact Ho
    isplitl [H0]; · iexact H0
    isplitl [H1]; · iexact H1
    iexists e2; iexact H2
  · rw [show (dats m 0 c).leavesExact 2 t = owns (c : Thread nD τ) (st0_2 t) fullShare ((dats m 0 c).after 2 t) from by
      unfold Dat.leavesExact; rw [live_later t h0], after_2]
    have hs : (prev t).val = t.val / 8 - 1 := rfl
    by_cases h1 : t.val / 8 % 2 = 1
    · iintro ⟨⟨⟨%dA, %dB, %hI, SA, SB⟩, Hg⟩, Ho, ⟨%e0, H0⟩, ⟨%e1, H1⟩, ⟨%e2, H2⟩⟩
      have hold := (hI (prev t) (by omega) (by omega)).1 (by omega)
      rw [show outBlk m c t = k0_pay2 (iblk m c 0 t) dA from by
        unfold outBlk; rw [hold.full (by omega)]]
      iapply (run_odd c (grid0.coords t) _ _ _ _ _ _ _ _ _ _ (fun h => h0 ((first_iff t).mp h)) ((odd_iff t).mpr h1)
        (fun h => by have := (even_iff t).mp h; omega) _ (offs t).2.1 (iblk m c 0 t) (X0_1 m c t) _ dA dB Set.univ _)
      isplitl [H0]; · iexact H0
      isplitl [H1]; · iexact H1
      isplitl [H2]; · iexact H2
      isplitl [SA]; · iexact SA
      isplitl [SB]; · iexact SB
      iintro ⟨H0, H1, H2, SA, SB⟩
      isplitl [SA SB Hg]
      · isplitl [SA SB]
        · iexists _, _
          isplitr; swap
          · isplitl [SA]; · iexact SA
            iexact SB
          ipureintro
          exact Inv.odd m t hI h1
        iexact Hg
      isplitl [Ho]; · iexact Ho
      isplitl [H0]; · iexact H0
      isplitl [H1]; · iexact H1
      iexact H2
    · iintro ⟨⟨⟨%dA, %dB, %hI, SA, SB⟩, Hg⟩, Ho, ⟨%e0, H0⟩, ⟨%e1, H1⟩, ⟨%e2, H2⟩⟩
      have hold := (hI (prev t) (by omega) (by omega)).2 (by omega)
      rw [show outBlk m c t = k0_pay2 (iblk m c 0 t) dB from by
        unfold outBlk; rw [hold.full (by omega)]]
      iapply (run_even c (grid0.coords t) _ _ _ _ _ _ _ _ _ _ (fun h => h0 ((first_iff t).mp h)) (fun h => h1 ((odd_iff t).mp h))
        ((even_iff t).mpr ⟨h0, by omega⟩) _ (offs t).2.2 (iblk m c 0 t) (X0_1 m c t) _ dA dB Set.univ _)
      isplitl [H0]; · iexact H0
      isplitl [H1]; · iexact H1
      isplitl [H2]; · iexact H2
      isplitl [SA]; · iexact SA
      isplitl [SB]; · iexact SB
      iintro ⟨H0, H1, H2, SA, SB⟩
      isplitl [SA SB Hg]
      · isplitl [SA SB]
        · iexists _, _
          isplitr; swap
          · isplitl [SA]; · iexact SA
            iexact SB
          ipureintro
          exact Inv.even m t hI (by omega)
        iexact Hg
      isplitl [Ho]; · iexact Ho
      isplitl [H0]; · iexact H0
      isplitl [H1]; · iexact H1
      iexact H2

/-- The body's row of the table is the body. -/
theorem body_row (t : Fin cfg0.N) : defs₀ (F := F) .tc cfg0.body (cfg0.bodyArgs t (cfg0.slots t)) = bodyAt0 t := by
  unfold defs₀; rw [Defs.onTc_tc]

/-- The body meets what the pipeline asks of it at every point. -/
theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- Before the first point nothing is asked of the scratch buffers. -/
theorem st_in (c : Dev nD) : Pipeline.ΦA spec0 c ⊢ (dats m 0 c).Φ 0 := by
  rw [show (dats m 0 c).Φ 0 = St m c 0 from rfl, scoped_eq]
  unfold St
  iintro ⟨⟨⟨%dA, SA⟩, ⟨%dB, SB⟩⟩, Hg⟩
  isplitl [SA SB]
  · iexists dA, dB
    isplitr; swap
    · isplitl [SA]; · iexact SA
      iexact SB
    ipureintro
    exact fun s hs => absurd hs (Nat.not_lt_zero _)
  iexact Hg

/-- After the last point the scratch buffers are given back at some contents. -/
theorem st_out (c : Dev nD) : (dats m 0 c).Φ (Fin.last cfg0.N) ⊢ Pipeline.ΦA spec0 c := by
  rw [show (dats m 0 c).Φ (Fin.last cfg0.N) = St m c (Fin.last cfg0.N).val from rfl, scoped_eq]
  unfold St
  iintro ⟨⟨%dA, %dB, -, SA, SB⟩, Hg⟩
  isplitl [SA SB]
  · isplitl [SA]
    · iexists _; iexact SA
    iexists _; iexact SB
  iexact Hg

set_option backward.isDefEq.respectTransparency.types false in
/-- The program runs to the end from any memory; it leaves every staged array at what the points stored, everything else as
    it was, and every counter at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun _ w => by fin_cases w <;> rfl)
    (howed := fun _ _ => rfl) (V := V m) (hmain := hmain m Variants.none) (hA := A_eq m) (hin := st_in m) (hout := st_out m)

/-- The program ends with its arguments as they were and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel6Ideal.Proj
end
-- ==== Proof.ProjValue.lean ====
module

public import proofs.«01_k».proof.Proof.ProjFrame
public import Idealize.ShloMosaic.Lib.Pipeline.ValueKit
public import Idealize.ShloMosaic.Lib.Pipeline.ReadBack
public import proofs.«01_k».proof.Proof.Gen.Reference6Ideal.Read

/-! The array the projection into the attention heads leaves, over the extended reals, and the reference's: the product of
the rows by the heads' columns of the weights. -/

@[expose] public section

set_option maxRecDepth 16384

noncomputable section

namespace Cert.Kernel6Ideal.Proj

open Cert.Kernel6Ideal Cert.Kernel6Ideal.Gen Idealize.ShloMosaic Idealize.ShloMosaic.TcCoe Idealize.SL.Sem
open Idealize.ShloMosaic.Pipeline (Dat)

/-- A column of the heads among all columns of the weights. -/
def column (j : Fin 3840) : Fin 6976 := ⟨j.val, by have := j.isLt; omega⟩

/-- The product of the rows by the heads' columns of the first layer's weights. -/
def projArr (U : Vec Ideal S8704x4096 .f32) (W : Vec Ideal S2x4096x6976 .f32) : Vec Ideal S8704x3840 .f32 :=
  fun j => (∑ k : Fin 4096, U (ix2 (j 0) k) * W (ix3 0 k (column (j 1))) : EReal)

/-- A cast slice, at an index. -/
theorem pay1_at (x : Vec Ideal S1x96x4096 .f32) (r : Fin 96) (d : Fin 4096) : k0_pay1 x (ix2 r d) = x (ix3 0 r d) := by
  pointwise [k0_pay1]

/-- A stored product, at an index. -/
theorem pay2_at (x : Vec Ideal S1088x4096 .bf16) (w : Vec Ideal S768x4096 .bf16) (r : Fin 1088) (d : Fin 768) :
    k0_pay2 x w (ix2 r d) = (∑ k : Fin 4096, x (ix2 r k) * w (ix2 d k) : EReal) := by
  pointwise [k0_pay2]

/-- Where the weight slice of a point sits. -/
theorem idx_w : ∀ t : Fin cfg0.N, t.val < 40 → win0_1.index t = ![0, t.val, 0] :=
  (by decide +kernel : ∀ t : Fin grid0.N, t.val < 40 → win0_1.index t = ![0, t.val, 0])

/-- Where the rows and the output block of a point sit. -/
theorem idx_x : ∀ t : Fin cfg0.N, 8 ≤ t.val → win0_0.index t = ![t.val % 8, 0] ∧ win0_2.index t = ![t.val % 8, t.val / 8 - 1] :=
  (by decide +kernel : ∀ t : Fin grid0.N, 8 ≤ t.val → win0_0.index t = ![t.val % 8, 0] ∧ win0_2.index t = ![t.val % 8, t.val / 8 - 1])

/-- Only points after the first sweep write their output block back. -/
theorem flush_late : ∀ t : Fin cfg0.N, (cfg0.win 2).flush t = true → 8 ≤ t.val :=
  (by decide +kernel : ∀ t : Fin grid0.N, win0_2.flush t = true → 8 ≤ t.val)

variable (m : (ℓ : Loc nD τ sig) → Buf (Elt Ideal) ℓ)

/-- The rows. -/
abbrev UU (c : Dev nD) : Vec Ideal S8704x4096 .f32 := m ((c : Thread nD τ).loc main_arg0)
/-- The weights. -/
abbrev WW (c : Dev nD) : Vec Ideal S2x4096x6976 .f32 := m ((c : Thread nD τ).loc main_arg1)

/-- The cast rows are the rows. -/
theorem v0_at (c : Dev nD) (i : S8704x4096.Idx) : (V m c main_v0 i : EReal) = UU m c i := by
  entry_read
  rfl

/-- The transposed weights, at an index. -/
theorem v1_at (c : Dev nD) (x : Fin 6976) (k : Fin 4096) : (V m c main_v1 (ix3 0 x k) : EReal) = WW m c (ix3 0 k x) := by
  entry_read
  refine congrArg (WW m c) (funext fun a => ?_)
  fin_cases a <;> rfl

/-- A point's rows. -/
theorem x_blk (c : Dev nD) (t : Fin cfg0.N) (ht : 8 ≤ t.val) (r : Fin 1088) (k : Fin 4096) (R : Fin 8704)
    (hR : R.val = t.val % 8 * 1088 + r.val) : iblk m c 0 t (ix2 r k) = UU m c (ix2 R k) := by
  rw [← v0_at]
  have hi := (idx_x t ht).1
  blk_ext [iblk, hi, hR]

/-- A point's weight slice, at an index. -/
theorem w_blk (c : Dev nD) (t : Fin cfg0.N) (ht : t.val < 40) (r : Fin 96) (k : Fin 4096) (x : Fin 6976) (hx : x.val = t.val * 96 + r.val) :
    X0_1 m c t (ix3 0 r k) = WW m c (ix3 0 k x) := by
  rw [← v1_at]
  have hi := idx_w t ht
  unfold X0_1 Pipeline.Window.fill
  rw [dif_pos (moved0_1 t _)]
  blk_ext [iblk, hi, hx]

/-- The tile of a sweep is a tile of the weights. -/
theorem tile_val (c : Dev nD) (s : Fin 6) (hs : s.val < 5) (d : Fin 768) (k : Fin 4096) (x : Fin 6976) (hx : x.val = s.val * 768 + d.val) :
    tile m c s (ix2 d k) = WW m c (ix3 0 k x) := by
  have hd := d.isLt
  have ht : (pt s (placeOf d)).val = 8 * s.val + d.val / 96 := rfl
  have hr : (rowOf d).val = d.val % 96 := rfl
  rw [tile_at m c s d k _ rfl, pay1_at, w_blk m c _ (by omega) _ k x (by omega)]

/-- The array the call leaves. -/
theorem final (c : Dev nD) : (dats m 0 c).arrAt 2 cfg0.N = projArr (UU m c) (WW m c) := by
  refine (dats m 0 c).arrAt_eq_of_covers 2 _ (by decide +kernel) fun t hf y => ?_
  have ht := flush_late t hf
  have hN : t.val < 48 := lt_of_lt_of_eq t.isLt N_0
  have hi := (idx_x t ht).2
  blk_simp
  rw [after_2]
  obtain ⟨r, d, rfl⟩ : ∃ (r : Fin 1088) (d : Fin 768), y = ix2 r d := ⟨y 0, y 1, by funext a; fin_cases a <;> rfl⟩
  have e0 : ((win0_2.blk t).view.emb (ix2 r d) 0).val = t.val % 8 * 1088 + r.val := by
    blk_simp [hi]
  have e1 : ((win0_2.blk t).view.emb (ix2 r d) 1).val = (t.val / 8 - 1) * 768 + d.val := by
    blk_simp [hi]
  generalize (win0_2.blk t).view.emb (ix2 r d) = j at e0 e1 ⊢
  have hp : (prev t).val = t.val / 8 - 1 := rfl
  unfold outBlk projArr
  rw [pay2_at]
  refine congrArg (fun f : Fin 4096 → EReal => ∑ k, f k) (funext fun k => ?_)
  rw [x_blk m c t ht r k (j 0) e0, tile_val m c (prev t) (by omega) d k (column (j 1)) (by show (j 1).val = _; omega)]

/-- The program ends with that array in its result and its arguments as they were. -/
theorem run_value (ρ : Dev nD → PrngReg) : θ_run (defs (F := Ideal)) (onTc (τ := τ) (main (F := Ideal))) ⟨m, fun _ => 0, ρ⟩
    (fun r => ∀ c : Dev nD, r.2.mem ((c.tc : Thread nD τ).loc main_v2) = projArr (UU m c) (WW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1.1 c).1 2).trans (final m c), h.2.1 c⟩) (θ_run_and (run_main m ρ) (frame_main m ρ))

section
open Cert.Reference6Ideal.Read

/-- The reference's array. -/
theorem ref_eq (x0 : Vec Ideal S8704x4096 .f32) (x1 : Vec Ideal S2x4096x6976 .f32) : val_main_v3 (F := Ideal) x0 x1 = projArr x0 x1 := by
  funext j
  obtain ⟨r, x, rfl⟩ : ∃ (r : Fin 8704) (x : Fin 3840), j = ix2 r x := ⟨j 0, j 1, by funext a; fin_cases a <;> rfl⟩
  rw [val_main_v3_apply]
  unfold projArr
  refine Finset.sum_congr rfl fun k _ => ?_
  rw [val_main_v2_apply, val_main_v1_apply, val_main_v0_apply]
  have hx := x.isLt
  have hk := k.isLt
  refine congrArg₂ _ (congrArg _ ?_) (congrArg _ ?_)
  · funext a; fin_cases a <;> rfl
  · funext a
    fin_cases a
    · rfl
    · exact Fin.ext (show (k.val * 6976 + x.val) / 6976 % 4096 = k.val by omega)
    · exact Fin.ext (show (k.val * 6976 + x.val) % 6976 = x.val by omega)

end

end Cert.Kernel6Ideal.Proj
end
-- ==== Proof.ProjCRun.lean ====
module

public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import Idealize.ShloMosaic.Lib.Pipeline.FrameBody
public import Idealize.ShloMosaic.Lib.Tactic
public import Idealize.ShloMosaic.Lib.WordCmp
public import Idealize.ShloMosaic.Lib.VecWindow

/-! One run of the body of the projection into the short convolution, for each of its three branches: the first sweep only casts weight rows into
the first scratch buffer; an odd sweep multiplies by the first buffer and casts into the second; a later even sweep multiplies by
the second buffer and casts into the first. -/

@[expose] public section

set_option maxRecDepth 16384

noncomputable section

namespace Cert.Kernel7Ideal.ProjC

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The first branch is taken in the first sweep. -/
theorem first_iff : ∀ t : Fin cfg0.N, k0_cond1 (grid0.coords t) = 1#1 ↔ t.val / 8 = 0 :=
  (by decide +kernel : ∀ t : Fin grid0.N, k0_cond1 (grid0.coords t) = 1#1 ↔ t.val / 8 = 0)

/-- The second branch is taken in the odd sweeps. -/
theorem odd_iff : ∀ t : Fin cfg0.N, k0_cond2 (grid0.coords t) = 1#1 ↔ t.val / 8 % 2 = 1 :=
  (by decide +kernel : ∀ t : Fin grid0.N, k0_cond2 (grid0.coords t) = 1#1 ↔ t.val / 8 % 2 = 1)

/-- The third branch is taken in the even sweeps after the first. -/
theorem even_iff : ∀ t : Fin cfg0.N, k0_cond3 (grid0.coords t) = 1#1 ↔ (t.val / 8 ≠ 0 ∧ t.val / 8 % 2 = 0) :=
  (by decide +kernel : ∀ t : Fin grid0.N, k0_cond3 (grid0.coords t) = 1#1 ↔ (t.val / 8 ≠ 0 ∧ t.val / 8 % 2 = 0))

/-- The rows a point casts start at 64 times its place in the sweep. -/
theorem offs : ∀ t : Fin cfg0.N, k0_off1 (grid0.coords t) = ![t.val % 8 * 64, 0] ∧ k0_off2 (grid0.coords t) = ![t.val % 8 * 64, 0] ∧ k0_off3 (grid0.coords t) = ![t.val % 8 * 64, 0] :=
  (by decide +kernel : ∀ t : Fin grid0.N, k0_off1 (grid0.coords t) = ![t.val % 8 * 64, 0] ∧ k0_off2 (grid0.coords t) = ![t.val % 8 * 64, 0] ∧ k0_off3 (grid0.coords t) = ![t.val % 8 * 64, 0])

/-- A scratch buffer with 64 rows from row `o` replaced. -/
def put (d : Vec F S512x4096 .bf16) (o : ℕ) (p : Vec F S64x4096 .bf16) : Vec F S512x4096 .bf16 :=
  VecWindow.put d ![o, 0] S64x4096.size p

set_option maxHeartbeats 4000000 in
/-- The first branch: the weight rows of the point go into the first scratch buffer. -/
theorem run_first (c : Dev nD) (i : grid0.Coords) (arg2 : Memref sig .tc .vmem S1088x4096 .bf16) (harg2 : arg2.IsWhole) (arg3 : Memref sig .tc .vmem S1x64x4096 .f32) (harg3 : arg3.IsWhole) (arg4 : Memref sig .tc .vmem S1088x512 .f32) (harg4 : arg4.IsWhole) (arg5 : Memref sig .tc .vmem S512x4096 .bf16) (harg5 : arg5.IsWhole) (arg6 : Memref sig .tc .vmem S512x4096 .bf16) (harg6 : arg6.IsWhole)
    (hc1 : k0_cond1 i = 1#1) (hc2 : ¬k0_cond2 i = 1#1) (hc3 : ¬k0_cond3 i = 1#1) (o : ℕ) (ho : k0_off1 i = ![o, 0])
    (x0 : Vec F S1088x4096 .bf16) (x1 : Vec F S1x64x4096 .f32) (x2 : Vec F S1088x512 .f32) (dA dB : Vec F S512x4096 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare dA ∗ owns (c : Thread nD τ) arg6 fullShare dB
        ∗ (iprop(owns (c : Thread nD τ) arg2 fullShare x0 ∗ owns (c : Thread nD τ) arg3 fullShare x1 ∗ owns (c : Thread nD τ) arg4 fullShare x2 ∗ owns (c : Thread nD τ) arg5 fullShare (put dA o (k0_pay1 x1)) ∗ owns (c : Thread nD τ) arg6 fullShare dB) -∗ K ⟨⟩))
      ⊢ wp frame (wpE (defs₀ (F := F)) Variants.none c none) E (cc0_proj_in i arg2 harg2 arg3 harg3 arg4 harg4 arg5 harg5 arg6 harg6) K := by
  simp only [cc0_proj_in_eq_skeleton]; unfold cc0_proj_in_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0
  obtain rfl := harg3.eq_unread hf1
  obtain rfl := harg4.eq_unread hf2
  obtain rfl := harg5.eq_unread hf3
  obtain rfl := harg6.eq_unread hf4
  sl_exec (disch := first | sl_exact hc1 | sl_exact hc2 | sl_exact hc3)
  sl_step
  iapply Hk
  isplitl [H0]
  · iexists _; isplitr; swap; · iexact H0
    ipureintro
    exact harg2.read_unread _
  isplitl [H1]
  · iexists _; isplitr; swap; · iexact H1
    ipureintro
    exact harg3.read_unread _
  isplitl [H2]
  · iexists _; isplitr; swap; · iexact H2
    ipureintro
    exact harg4.read_unread _
  isplitl [H3]
  · iexists _; isplitr; swap; · iexact H3
    ipureintro
    rw [View.read_writes_cons_put _ _ _ _ _ ho, View.writes_nil, harg5.read_unread, View.readAt_full, harg3.read_unread]
    rfl
  iexists _; isplitr; swap; · iexact H4
  ipureintro
  exact harg6.read_unread _

set_option maxHeartbeats 4000000 in
/-- The second branch: the result by the first buffer is stored, and the weight rows of the point go into the second. -/
theorem run_odd (c : Dev nD) (i : grid0.Coords) (arg2 : Memref sig .tc .vmem S1088x4096 .bf16) (harg2 : arg2.IsWhole) (arg3 : Memref sig .tc .vmem S1x64x4096 .f32) (harg3 : arg3.IsWhole) (arg4 : Memref sig .tc .vmem S1088x512 .f32) (harg4 : arg4.IsWhole) (arg5 : Memref sig .tc .vmem S512x4096 .bf16) (harg5 : arg5.IsWhole) (arg6 : Memref sig .tc .vmem S512x4096 .bf16) (harg6 : arg6.IsWhole)
    (hc1 : ¬k0_cond1 i = 1#1) (hc2 : k0_cond2 i = 1#1) (hc3 : ¬k0_cond3 i = 1#1) (o : ℕ) (ho : k0_off2 i = ![o, 0])
    (x0 : Vec F S1088x4096 .bf16) (x1 : Vec F S1x64x4096 .f32) (x2 : Vec F S1088x512 .f32) (dA dB : Vec F S512x4096 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare dA ∗ owns (c : Thread nD τ) arg6 fullShare dB
        ∗ (iprop(owns (c : Thread nD τ) arg2 fullShare x0 ∗ owns (c : Thread nD τ) arg3 fullShare x1 ∗ owns (c : Thread nD τ) arg4 fullShare (k0_pay2 x0 dA) ∗ owns (c : Thread nD τ) arg5 fullShare dA ∗ owns (c : Thread nD τ) arg6 fullShare (put dB o (k0_pay1 x1))) -∗ K ⟨⟩))
      ⊢ wp frame (wpE (defs₀ (F := F)) Variants.none c none) E (cc0_proj_in i arg2 harg2 arg3 harg3 arg4 harg4 arg5 harg5 arg6 harg6) K := by
  simp only [cc0_proj_in_eq_skeleton]; unfold cc0_proj_in_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0
  obtain rfl := harg3.eq_unread hf1
  obtain rfl := harg4.eq_unread hf2
  obtain rfl := harg5.eq_unread hf3
  obtain rfl := harg6.eq_unread hf4
  sl_exec (disch := first | sl_exact hc1 | sl_exact hc2 | sl_exact hc3)
  sl_step
  iapply Hk
  isplitl [H0]
  · iexists _; isplitr; swap; · iexact H0
    ipureintro
    exact harg2.read_unread _
  isplitl [H1]
  · iexists _; isplitr; swap; · iexact H1
    ipureintro
    exact harg3.read_unread _
  isplitl [H2]
  · iexists _; isplitr; swap; · iexact H2
    ipureintro
    refine (View.read_writes_full _ _ _ _ _).trans ?_
    rw [View.readAt_full, View.readAt_full, harg2.read_unread, harg5.read_unread]
  isplitl [H3]
  · iexists _; isplitr; swap; · iexact H3
    ipureintro
    exact harg5.read_unread _
  iexists _; isplitr; swap; · iexact H4
  ipureintro
  rw [View.read_writes_cons_put _ _ _ _ _ ho, View.writes_nil, harg6.read_unread, View.readAt_full, harg3.read_unread]
  rfl

set_option maxHeartbeats 4000000 in
/-- The third branch: the result by the second buffer is stored, and the weight rows of the point go into the first. -/
theorem run_even (c : Dev nD) (i : grid0.Coords) (arg2 : Memref sig .tc .vmem S1088x4096 .bf16) (harg2 : arg2.IsWhole) (arg3 : Memref sig .tc .vmem S1x64x4096 .f32) (harg3 : arg3.IsWhole) (arg4 : Memref sig .tc .vmem S1088x512 .f32) (harg4 : arg4.IsWhole) (arg5 : Memref sig .tc .vmem S512x4096 .bf16) (harg5 : arg5.IsWhole) (arg6 : Memref sig .tc .vmem S512x4096 .bf16) (harg6 : arg6.IsWhole)
    (hc1 : ¬k0_cond1 i = 1#1) (hc2 : ¬k0_cond2 i = 1#1) (hc3 : k0_cond3 i = 1#1) (o : ℕ) (ho : k0_off3 i = ![o, 0])
    (x0 : Vec F S1088x4096 .bf16) (x1 : Vec F S1x64x4096 .f32) (x2 : Vec F S1088x512 .f32) (dA dB : Vec F S512x4096 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare dA ∗ owns (c : Thread nD τ) arg6 fullShare dB
        ∗ (iprop(owns (c : Thread nD τ) arg2 fullShare x0 ∗ owns (c : Thread nD τ) arg3 fullShare x1 ∗ owns (c : Thread nD τ) arg4 fullShare (k0_pay2 x0 dB) ∗ owns (c : Thread nD τ) arg5 fullShare (put dA o (k0_pay1 x1)) ∗ owns (c : Thread nD τ) arg6 fullShare dB) -∗ K ⟨⟩))
      ⊢ wp frame (wpE (defs₀ (F := F)) Variants.none c none) E (cc0_proj_in i arg2 harg2 arg3 harg3 arg4 harg4 arg5 harg5 arg6 harg6) K := by
  simp only [cc0_proj_in_eq_skeleton]; unfold cc0_proj_in_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0
  obtain rfl := harg3.eq_unread hf1
  obtain rfl := harg4.eq_unread hf2
  obtain rfl := harg5.eq_unread hf3
  obtain rfl := harg6.eq_unread hf4
  sl_exec (disch := first | sl_exact hc1 | sl_exact hc2 | sl_exact hc3)
  sl_step
  iapply Hk
  isplitl [H0]
  · iexists _; isplitr; swap; · iexact H0
    ipureintro
    exact harg2.read_unread _
  isplitl [H1]
  · iexists _; isplitr; swap; · iexact H1
    ipureintro
    exact harg3.read_unread _
  isplitl [H2]
  · iexists _; isplitr; swap; · iexact H2
    ipureintro
    refine (View.read_writes_full _ _ _ _ _).trans ?_
    rw [View.readAt_full, View.readAt_full, harg2.read_unread, harg6.read_unread]
    rfl
  isplitl [H3]
  · iexists _; isplitr; swap; · iexact H3
    ipureintro
    rw [View.read_writes_cons_put _ _ _ _ _ ho, View.writes_nil, harg5.read_unread, View.readAt_full, harg3.read_unread]
    rfl
  iexists _; isplitr; swap; · iexact H4
  ipureintro
  exact harg6.read_unread _

end Cert.Kernel7Ideal.ProjC
end
-- ==== Proof.ProjCFrame.lean ====
module

public import proofs.«01_k».proof.Proof.ProjCRun
public import Idealize.ShloMosaic.Lib.Pointwise
public import Idealize.ShloMosaic.Lib.Claim

/-! The whole run of the projection into the short convolution: what the scratch buffers hold between points, what each point stores, and from
those the run of the program, over any carrier of the values. -/

@[expose] public section

set_option maxRecDepth 16384

noncomputable section

namespace Cert.Kernel7Ideal.ProjC

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch buffers -/

/-- The point at place `i` of sweep `s`. -/
def pt (s : Fin 7) (i : Fin 8) : Fin cfg0.N :=
  ⟨8 * s.val + i.val, by have := s.isLt; have := i.isLt; have : cfg0.N = 56 := N_0; omega⟩

/-- The place in a sweep that casts a scratch row. -/
def placeOf (r : Fin 512) : Fin 8 := ⟨r.val / 64, by have := r.isLt; omega⟩
/-- The row within its slice. -/
def rowOf (r : Fin 512) : Fin 64 := ⟨r.val % 64, by omega⟩

/-- The weight tile of sweep `s`: the slices its eight points cast, stacked. -/
def tile (c : Dev nD) (s : Fin 7) : Vec F S512x4096 .bf16 :=
  fun j => k0_pay1 (iblk m c 1 (pt s (placeOf (j 0)))) (ix2 (rowOf (j 0)) (j 1))

/-- The weight tile at an index. -/
theorem tile_at (c : Dev nD) (s : Fin 7) (r : Fin 512) (x : Fin 4096) (t : Fin cfg0.N) (h : pt s (placeOf r) = t) :
    tile m c s (ix2 r x) = k0_pay1 (iblk m c 1 t) (ix2 (rowOf r) x) := by
  subst h; rfl

/-- Before point `n`, the buffer holds the rows of the tile `w` that sweep `s` has cast. -/
def Held (w d : Vec F S512x4096 .bf16) (s n : ℕ) : Prop :=
  ∀ j : S512x4096.Idx, 8 * s + (j 0).val / 64 < n → d j = w j

/-- Before point `n`: the buffer of the current sweep's parity holds what the sweep has cast so far, the other buffer the tile
    of the sweep before. -/
def Inv (c : Dev nD) (n : ℕ) (dA dB : Vec F S512x4096 .bf16) : Prop :=
  ∀ s : Fin 7, 8 * s.val < n → n ≤ 8 * s.val + 16 →
    (s.val % 2 = 0 → Held (tile m c s) dA s.val n) ∧ (s.val % 2 = 1 → Held (tile m c s) dB s.val n)

/-- A full tile is held as it is. -/
theorem Held.full {w d : Vec F S512x4096 .bf16} {s n : ℕ} (h : Held w d s n) (hn : 8 * s + 8 ≤ n) : d = w := by
  funext j
  exact h j (by have : (j 0).val < 512 := (j 0).isLt; omega)

/-- A buffer nothing is stored in still holds a full tile. -/
theorem Held.keep {w d : Vec F S512x4096 .bf16} {s n : ℕ} (h : Held w d s n) (hn : 8 * s + 8 ≤ n) (n' : ℕ) : Held w d s n' :=
  fun j _ => h j (by have : (j 0).val < 512 := (j 0).isLt; omega)

/-- Storing the point's slice extends what is held by one slice. -/
theorem Held.put {w d : Vec F S512x4096 .bf16} {s n i : ℕ} (p : Vec F S64x4096 .bf16) (hi : i < 8) (hn : n = 8 * s + i)
    (h : 0 < i → Held w d s n)
    (hp : ∀ (r : Fin 512) (x : Fin 4096), r.val / 64 = i → w (ix2 r x) = p (ix2 (rowOf r) x)) :
    Held w (put d (i * 64) p) s (n + 1) := by
  intro j hj
  have h0 : (j 0).val < 512 := (j 0).isLt
  have h1 : (j 1).val < 4096 := (j 1).isLt
  unfold ProjC.put VecWindow.put
  by_cases hin : (j 0).val / 64 = i
  · have hc : ∀ a, (![i * 64, 0] : Fin 2 → ℕ) a ≤ (j a).val ∧ (j a).val < (![i * 64, 0] : Fin 2 → ℕ) a + S64x4096.size a :=
      Fin.forall_fin_two.mpr ⟨⟨by show i * 64 ≤ _; omega, by show _ < i * 64 + 64; omega⟩, ⟨Nat.zero_le _, by show _ < 0 + 4096; omega⟩⟩
    rw [dif_pos hc]
    have e : j = ix2 (j 0) (j 1) := by funext a; fin_cases a <;> rfl
    refine Eq.trans ?_ ((congrArg w e).trans (hp (j 0) (j 1) hin)).symm
    refine congrArg p (funext fun a => ?_)
    fin_cases a
    · exact Fin.ext (by show (j 0).val - i * 64 = (j 0).val % 64; omega)
    · exact Fin.ext (by show (j 1).val - 0 = (j 1).val; omega)
  · rw [dif_neg (fun hc => hin (by have := hc 0; have h2 : i * 64 ≤ (j 0).val ∧ (j 0).val < i * 64 + 64 := this; omega))]
    exact h (by omega) j (by omega)

/-- An even sweep's point keeps the description. -/
theorem Inv.even {c : Dev nD} {dA dB : Vec F S512x4096 .bf16} (t : Fin cfg0.N) (h : Inv m c t.val dA dB) (he : t.val / 8 % 2 = 0) :
    Inv m c (t.val + 1) (put dA (t.val % 8 * 64) (k0_pay1 (iblk m c 1 t))) dB := by
  intro s hs hs'
  have hN : t.val < 56 := lt_of_lt_of_eq t.isLt N_0
  refine ⟨fun hp => ?_, fun hp => ?_⟩
  · have hσ : s.val = t.val / 8 := by omega
    have hpt : ∀ r : Fin 512, r.val / 64 = t.val % 8 → pt s (placeOf r) = t := fun r hr =>
      Fin.ext (by show 8 * s.val + r.val / 64 = t.val; omega)
    exact Held.put _ (by omega) (by omega) (fun hi => (h s (by omega) (by omega)).1 hp) fun r x hr => tile_at m c s r x t (hpt r hr)
  · exact ((h s (by omega) (by omega)).2 hp).keep (by omega) _

/-- An odd sweep's point keeps the description. -/
theorem Inv.odd {c : Dev nD} {dA dB : Vec F S512x4096 .bf16} (t : Fin cfg0.N) (h : Inv m c t.val dA dB) (he : t.val / 8 % 2 = 1) :
    Inv m c (t.val + 1) dA (put dB (t.val % 8 * 64) (k0_pay1 (iblk m c 1 t))) := by
  intro s hs hs'
  have hN : t.val < 56 := lt_of_lt_of_eq t.isLt N_0
  refine ⟨fun hp => ?_, fun hp => ?_⟩
  · exact ((h s (by omega) (by omega)).1 hp).keep (by omega) _
  · have hσ : s.val = t.val / 8 := by omega
    have hpt : ∀ r : Fin 512, r.val / 64 = t.val % 8 → pt s (placeOf r) = t := fun r hr =>
      Fin.ext (by show 8 * s.val + r.val / 64 = t.val; omega)
    exact Held.put _ (by omega) (by omega) (fun hi => (h s (by omega) (by omega)).2 hp) fun r x hr => tile_at m c s r x t (hpt r hr)

/-- The sweep before a point's. -/
def prev (t : Fin cfg0.N) : Fin 7 := ⟨t.val / 8 - 1, by have : t.val < 56 := lt_of_lt_of_eq t.isLt N_0; omega⟩

/-- What a point stores: the product of its rows by the tile of the sweep before. -/
def outBlk (c : Dev nD) (t : Fin cfg0.N) : Vec F S1088x512 .f32 :=
  k0_pay2 (iblk m c 0 t) (tile m c (prev t))

/-! ## The run -/

/-- The scratch buffers' memrefs. -/
abbrev sc0 : Memref sig .tc .vmem S512x4096 .bf16 := Memref.whole cc0_scratch0
abbrev sc1 : Memref sig .tc .vmem S512x4096 .bf16 := Memref.whole cc0_scratch1

/-- The region's state between points, its scratch buffers as memrefs at some contents. -/
theorem scoped_eq (c : Dev nD) : (Pipeline.ΦA spec0 c : sProp 𝕄)
    = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The state before point `n`. -/
def St (c : Dev nD) (n : ℕ) : sProp 𝕄 :=
  iprop((∃ dA, ∃ dB, ⌜Inv m c n dA dB⌝ ∗ owns (c : Thread nD τ) sc0 fullShare dA ∗ owns (c : Thread nD τ) sc1 fullShare dB) ∗ (∃ r, prngReg c r))

/-- What the run says of each window at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk m c t
  Φ t := St m c t.val
  q w := Pipeline.shareOf spec0 w
  owed _ := 0

/-- The arrays are as the region finds them. -/
theorem A_eq (c : Dev nD) (w : Fin cfg0.W) : (dats m 0 c).A w = V m c (Pipeline.arrRef spec0 w) := by
  dsimp only [dats]
/-- A point leaves the block of rows as it was. -/
theorem after_0 (c : Dev nD) (t : Fin cfg0.N) : (dats m 0 c).after 0 t = iblk m c 0 t := by dsimp only [dats]
/-- A point leaves the weight slice as it was. -/
theorem after_1 (c : Dev nD) (t : Fin cfg0.N) : (dats m 0 c).after 1 t = iblk m c 1 t := by dsimp only [dats]
/-- A point leaves its result in the output block. -/
theorem after_2 (c : Dev nD) (t : Fin cfg0.N) : (dats m 0 c).after 2 t = outBlk m c t := by dsimp only [dats]
/-- A point finds the block of rows. -/
theorem before_0 (c : Dev nD) (t : Fin cfg0.N) (d) : (dats m 0 c).before 0 t d = iblk m c 0 t :=
  before0_0_of m (dats m 0 c) (A_eq m c 0) (after_0 m c) t d
/-- A point finds the weight slice. -/
theorem before_1 (c : Dev nD) (t : Fin cfg0.N) (d) : (dats m 0 c).before 1 t d = iblk m c 1 t :=
  before0_1_of m (dats m 0 c) (A_eq m c 1) (after_1 m c) t d

/-- In the first sweep nothing is stored in the output block, and it is not written back. -/
theorem idle_first : ∀ t : Fin cfg0.N, t.val / 8 = 0 → cfg0.idle 2 (grid0.coords t) = true ∧ (cfg0.win 2).flush t = false :=
  (by decide +kernel : ∀ t : Fin grid0.N, t.val / 8 = 0 → idle0 2 (grid0.coords t) = true ∧ win0_2.flush t = false)
/-- After the first sweep every point stores its output block. -/
theorem live_later : ∀ t : Fin cfg0.N, t.val / 8 ≠ 0 → cfg0.idle 2 (grid0.coords t) = false :=
  (by decide +kernel : ∀ t : Fin grid0.N, t.val / 8 ≠ 0 → idle0 2 (grid0.coords t) = false)

/-- What the body starts from at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What the body ends with at a point. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

set_option maxHeartbeats 4000000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.castSucc = St m c t.val from rfl, show (dats m 0 c).Φ t.succ = St m c (t.val + 1) from rfl]
  rw [show (dats m 0 c).leavesExact 0 t = owns (c : Thread nD τ) (st0_0 t) fullShare ((dats m 0 c).after 0 t) from rfl, after_0]
  rw [show (dats m 0 c).leavesExact 1 t = owns (c : Thread nD τ) (st0_1 t) fullShare ((dats m 0 c).after 1 t) from rfl, after_1]
  have hN : t.val < 56 := lt_of_lt_of_eq t.isLt N_0
  unfold St
  by_cases h0 : t.val / 8 = 0
  · rw [Pipeline.Dat.leavesExact_idle _ 2 t (idle_first t h0).1 (idle_first t h0).2]
    iintro ⟨⟨⟨%dA, %dB, %hI, SA, SB⟩, Hg⟩, Ho, ⟨%e0, H0⟩, ⟨%e1, H1⟩, ⟨%e2, H2⟩⟩
    iapply (run_first c (grid0.coords t) _ _ _ _ _ _ _ _ _ _ ((first_iff t).mpr h0) (fun h => by have := (odd_iff t).mp h; omega)
      (fun h => by have := (even_iff t).mp h; omega) _ (offs t).1 (iblk m c 0 t) (iblk m c 1 t) _ dA dB Set.univ _)
    isplitl [H0]; · iexact H0
    isplitl [H1]; · iexact H1
    isplitl [H2]; · iexact H2
    isplitl [SA]; · iexact SA
    isplitl [SB]; · iexact SB
    iintro ⟨H0, H1, H2, SA, SB⟩
    isplitl [SA SB Hg]
    · isplitl [SA SB]
      · iexists _, _
        isplitr; swap
        · isplitl [SA]; · iexact SA
          iexact SB
        ipureintro
        exact Inv.even m t hI (by omega)
      iexact Hg
    isplitl [Ho]; · iexact Ho
    isplitl [H0]; · iexact H0
    isplitl [H1]; · iexact H1
    iexists e2; iexact H2
  · rw [show (dats m 0 c).leavesExact 2 t = owns (c : Thread nD τ) (st0_2 t) fullShare ((dats m 0 c).after 2 t) from by
      unfold Dat.leavesExact; rw [live_later t h0], after_2]
    have hs : (prev t).val = t.val / 8 - 1 := rfl
    by_cases h1 : t.val / 8 % 2 = 1
    · iintro ⟨⟨⟨%dA, %dB, %hI, SA, SB⟩, Hg⟩, Ho, ⟨%e0, H0⟩, ⟨%e1, H1⟩, ⟨%e2, H2⟩⟩
      have hold := (hI (prev t) (by omega) (by omega)).1 (by omega)
      rw [show outBlk m c t = k0_pay2 (iblk m c 0 t) dA from by
        unfold outBlk; rw [hold.full (by omega)]]
      iapply (run_odd c (grid0.coords t) _ _ _ _ _ _ _ _ _ _ (fun h => h0 ((first_iff t).mp h)) ((odd_iff t).mpr h1)
        (fun h => by have := (even_iff t).mp h; omega) _ (offs t).2.1 (iblk m c 0 t) (iblk m c 1 t) _ dA dB Set.univ _)
      isplitl [H0]; · iexact H0
      isplitl [H1]; · iexact H1
      isplitl [H2]; · iexact H2
      isplitl [SA]; · iexact SA
      isplitl [SB]; · iexact SB
      iintro ⟨H0, H1, H2, SA, SB⟩
      isplitl [SA SB Hg]
      · isplitl [SA SB]
        · iexists _, _
          isplitr; swap
          · isplitl [SA]; · iexact SA
            iexact SB
          ipureintro
          exact Inv.odd m t hI h1
        iexact Hg
      isplitl [Ho]; · iexact Ho
      isplitl [H0]; · iexact H0
      isplitl [H1]; · iexact H1
      iexact H2
    · iintro ⟨⟨⟨%dA, %dB, %hI, SA, SB⟩, Hg⟩, Ho, ⟨%e0, H0⟩, ⟨%e1, H1⟩, ⟨%e2, H2⟩⟩
      have hold := (hI (prev t) (by omega) (by omega)).2 (by omega)
      rw [show outBlk m c t = k0_pay2 (iblk m c 0 t) dB from by
        unfold outBlk; rw [hold.full (by omega)]]
      iapply (run_even c (grid0.coords t) _ _ _ _ _ _ _ _ _ _ (fun h => h0 ((first_iff t).mp h)) (fun h => h1 ((odd_iff t).mp h))
        ((even_iff t).mpr ⟨h0, by omega⟩) _ (offs t).2.2 (iblk m c 0 t) (iblk m c 1 t) _ dA dB Set.univ _)
      isplitl [H0]; · iexact H0
      isplitl [H1]; · iexact H1
      isplitl [H2]; · iexact H2
      isplitl [SA]; · iexact SA
      isplitl [SB]; · iexact SB
      iintro ⟨H0, H1, H2, SA, SB⟩
      isplitl [SA SB Hg]
      · isplitl [SA SB]
        · iexists _, _
          isplitr; swap
          · isplitl [SA]; · iexact SA
            iexact SB
          ipureintro
          exact Inv.even m t hI (by omega)
        iexact Hg
      isplitl [Ho]; · iexact Ho
      isplitl [H0]; · iexact H0
      isplitl [H1]; · iexact H1
      iexact H2

/-- The body's row of the table is the body. -/
theorem body_row (t : Fin cfg0.N) : defs₀ (F := F) .tc cfg0.body (cfg0.bodyArgs t (cfg0.slots t)) = bodyAt0 t := by
  unfold defs₀; rw [Defs.onTc_tc]

/-- The body meets what the pipeline asks of it at every point. -/
theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- Before the first point nothing is asked of the scratch buffers. -/
theorem st_in (c : Dev nD) : Pipeline.ΦA spec0 c ⊢ (dats m 0 c).Φ 0 := by
  rw [show (dats m 0 c).Φ 0 = St m c 0 from rfl, scoped_eq]
  unfold St
  iintro ⟨⟨⟨%dA, SA⟩, ⟨%dB, SB⟩⟩, Hg⟩
  isplitl [SA SB]
  · iexists dA, dB
    isplitr; swap
    · isplitl [SA]; · iexact SA
      iexact SB
    ipureintro
    exact fun s hs => absurd hs (Nat.not_lt_zero _)
  iexact Hg

/-- After the last point the scratch buffers are given back at some contents. -/
theorem st_out (c : Dev nD) : (dats m 0 c).Φ (Fin.last cfg0.N) ⊢ Pipeline.ΦA spec0 c := by
  rw [show (dats m 0 c).Φ (Fin.last cfg0.N) = St m c (Fin.last cfg0.N).val from rfl, scoped_eq]
  unfold St
  iintro ⟨⟨%dA, %dB, -, SA, SB⟩, Hg⟩
  isplitl [SA SB]
  · isplitl [SA]
    · iexists _; iexact SA
    iexists _; iexact SB
  iexact Hg

set_option backward.isDefEq.respectTransparency.types false in
/-- The program runs to the end from any memory; it leaves every staged array at what the points stored, everything else as
    it was, and every counter at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun _ w => by fin_cases w <;> rfl)
    (howed := fun _ _ => rfl) (V := V m) (hmain := hmain m Variants.none) (hA := A_eq m) (hin := st_in m) (hout := st_out m)

/-- The program ends with its arguments as they were and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel7Ideal.ProjC
end
-- ==== Proof.ProjCValue.lean ====
module

public import proofs.«01_k».proof.Proof.ProjCFrame
public import Idealize.ShloMosaic.Lib.Pipeline.ValueKit
public import Idealize.ShloMosaic.Lib.Pipeline.ReadBack
public import proofs.«01_k».proof.Proof.Gen.Reference7Ideal.Read

/-! The array the projection into the short convolution leaves, over the extended reals, and the reference's: the product of
the rows by the short convolution's columns of the weights. -/

@[expose] public section

set_option maxRecDepth 16384

noncomputable section

namespace Cert.Kernel7Ideal.ProjC

open Cert.Kernel7Ideal Cert.Kernel7Ideal.Gen Idealize.ShloMosaic Idealize.ShloMosaic.TcCoe Idealize.SL.Sem
open Idealize.ShloMosaic.Pipeline (Dat)

/-- A column of the convolution among all columns of the weights. -/
def column (j : Fin 3072) : Fin 6976 := ⟨3904 + j.val, by have := j.isLt; omega⟩

/-- The product of the rows by the short convolution's columns of the first layer's weights. -/
def convColsArr (U : Vec Ideal S8704x4096 .f32) (W : Vec Ideal S2x4096x6976 .f32) : Vec Ideal S8704x3072 .f32 :=
  fun j => (∑ k : Fin 4096, U (ix2 (j 0) k) * W (ix3 0 k (column (j 1))) : EReal)

/-- A cast slice, at an index. -/
theorem pay1_at (x : Vec Ideal S1x64x4096 .f32) (r : Fin 64) (d : Fin 4096) : k0_pay1 x (ix2 r d) = x (ix3 0 r d) := by
  pointwise [k0_pay1]

/-- A stored product, at an index. -/
theorem pay2_at (x : Vec Ideal S1088x4096 .bf16) (w : Vec Ideal S512x4096 .bf16) (r : Fin 1088) (d : Fin 512) :
    k0_pay2 x w (ix2 r d) = (∑ k : Fin 4096, x (ix2 r k) * w (ix2 d k) : EReal) := by
  pointwise [k0_pay2]

/-- Where the weight slice of a point sits. -/
theorem idx_w : ∀ t : Fin cfg0.N, t.val < 48 → win0_1.index t = ![0, 61 + t.val, 0] :=
  (by decide +kernel : ∀ t : Fin grid0.N, t.val < 48 → win0_1.index t = ![0, 61 + t.val, 0])

/-- Where the rows and the output block of a point sit. -/
theorem idx_x : ∀ t : Fin cfg0.N, 8 ≤ t.val → win0_0.index t = ![t.val % 8, 0] ∧ win0_2.index t = ![t.val % 8, t.val / 8 - 1] :=
  (by decide +kernel : ∀ t : Fin grid0.N, 8 ≤ t.val → win0_0.index t = ![t.val % 8, 0] ∧ win0_2.index t = ![t.val % 8, t.val / 8 - 1])

/-- Only points after the first sweep write their output block back. -/
theorem flush_late : ∀ t : Fin cfg0.N, (cfg0.win 2).flush t = true → 8 ≤ t.val :=
  (by decide +kernel : ∀ t : Fin grid0.N, win0_2.flush t = true → 8 ≤ t.val)

variable (m : (ℓ : Loc nD τ sig) → Buf (Elt Ideal) ℓ)

/-- The rows. -/
abbrev UU (c : Dev nD) : Vec Ideal S8704x4096 .f32 := m ((c : Thread nD τ).loc main_arg0)
/-- The weights. -/
abbrev WW (c : Dev nD) : Vec Ideal S2x4096x6976 .f32 := m ((c : Thread nD τ).loc main_arg1)

/-- The cast rows are the rows. -/
theorem v0_at (c : Dev nD) (i : S8704x4096.Idx) : (V m c main_v0 i : EReal) = UU m c i := by
  entry_read
  rfl

/-- The transposed weights, at an index. -/
theorem v1_at (c : Dev nD) (x : Fin 6976) (k : Fin 4096) : (V m c main_v1 (ix3 0 x k) : EReal) = WW m c (ix3 0 k x) := by
  entry_read
  refine congrArg (WW m c) (funext fun a => ?_)
  fin_cases a <;> rfl

/-- A point's rows. -/
theorem x_blk (c : Dev nD) (t : Fin cfg0.N) (ht : 8 ≤ t.val) (r : Fin 1088) (k : Fin 4096) (R : Fin 8704)
    (hR : R.val = t.val % 8 * 1088 + r.val) : iblk m c 0 t (ix2 r k) = UU m c (ix2 R k) := by
  rw [← v0_at]
  have hi := (idx_x t ht).1
  blk_ext [iblk, hi, hR]

/-- A point's weight slice, at an index. -/
theorem w_blk (c : Dev nD) (t : Fin cfg0.N) (ht : t.val < 48) (r : Fin 64) (k : Fin 4096) (x : Fin 6976) (hx : x.val = (61 + t.val) * 64 + r.val) :
    iblk m c 1 t (ix3 0 r k) = WW m c (ix3 0 k x) := by
  rw [← v1_at]
  have hi := idx_w t ht
  blk_ext [iblk, hi, hx]

/-- The tile of a sweep is a tile of the weights. -/
theorem tile_val (c : Dev nD) (s : Fin 7) (hs : s.val < 6) (d : Fin 512) (k : Fin 4096) (x : Fin 6976) (hx : x.val = 3904 + (s.val * 512 + d.val)) :
    tile m c s (ix2 d k) = WW m c (ix3 0 k x) := by
  have hd := d.isLt
  have ht : (pt s (placeOf d)).val = 8 * s.val + d.val / 64 := rfl
  have hr : (rowOf d).val = d.val % 64 := rfl
  rw [tile_at m c s d k _ rfl, pay1_at, w_blk m c _ (by omega) _ k x (by omega)]

/-- The array the call leaves. -/
theorem final (c : Dev nD) : (dats m 0 c).arrAt 2 cfg0.N = convColsArr (UU m c) (WW m c) := by
  refine (dats m 0 c).arrAt_eq_of_covers 2 _ (by decide +kernel) fun t hf y => ?_
  have ht := flush_late t hf
  have hN : t.val < 56 := lt_of_lt_of_eq t.isLt N_0
  have hi := (idx_x t ht).2
  blk_simp
  rw [after_2]
  obtain ⟨r, d, rfl⟩ : ∃ (r : Fin 1088) (d : Fin 512), y = ix2 r d := ⟨y 0, y 1, by funext a; fin_cases a <;> rfl⟩
  have e0 : ((win0_2.blk t).view.emb (ix2 r d) 0).val = t.val % 8 * 1088 + r.val := by
    blk_simp [hi]
  have e1 : ((win0_2.blk t).view.emb (ix2 r d) 1).val = (t.val / 8 - 1) * 512 + d.val := by
    blk_simp [hi]
  generalize (win0_2.blk t).view.emb (ix2 r d) = j at e0 e1 ⊢
  have hp : (prev t).val = t.val / 8 - 1 := rfl
  unfold outBlk convColsArr
  rw [pay2_at]
  refine congrArg (fun f : Fin 4096 → EReal => ∑ k, f k) (funext fun k => ?_)
  rw [x_blk m c t ht r k (j 0) e0, tile_val m c (prev t) (by omega) d k (column (j 1)) (by show 3904 + (j 1).val = _; omega)]

/-- The program ends with that array in its result and its arguments as they were. -/
theorem run_value (ρ : Dev nD → PrngReg) : θ_run (defs (F := Ideal)) (onTc (τ := τ) (main (F := Ideal))) ⟨m, fun _ => 0, ρ⟩
    (fun r => ∀ c : Dev nD, r.2.mem ((c.tc : Thread nD τ).loc main_v2) = convColsArr (UU m c) (WW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1.1 c).1 2).trans (final m c), h.2.1 c⟩) (θ_run_and (run_main m ρ) (frame_main m ρ))

section
open Cert.Reference7Ideal.Read

/-- The reference's array. -/
theorem ref_eq (x0 : Vec Ideal S8704x4096 .f32) (x1 : Vec Ideal S2x4096x6976 .f32) : val_main_v3 (F := Ideal) x0 x1 = convColsArr x0 x1 := by
  funext j
  obtain ⟨r, x, rfl⟩ : ∃ (r : Fin 8704) (x : Fin 3072), j = ix2 r x := ⟨j 0, j 1, by funext a; fin_cases a <;> rfl⟩
  rw [val_main_v3_apply]
  unfold convColsArr
  refine Finset.sum_congr rfl fun k _ => ?_
  rw [val_main_v2_apply, val_main_v1_apply, val_main_v0_apply]
  have hx := x.isLt
  have hk := k.isLt
  refine congrArg₂ _ (congrArg _ ?_) (congrArg _ ?_)
  · funext a; fin_cases a <;> rfl
  · funext a
    fin_cases a
    · rfl
    · exact Fin.ext (show (k.val * 6976 + (3904 + x.val)) / 6976 % 4096 = k.val by omega)
    · exact Fin.ext (show (k.val * 6976 + (3904 + x.val)) % 6976 = 3904 + x.val by omega)

end

end Cert.Kernel7Ideal.ProjC
end
-- ==== Proof.ModValue.lean ====
module

public import proofs.«01_k».proof.Proof.Gen.Kernel8Ideal.Value
public import Idealize.ShloMosaic.Lib.Pipeline.ValueKit
public import Idealize.ShloMosaic.Lib.Pointwise
public import Idealize.ShloMosaic.Lib.VecWindow
public import Idealize.ShloMosaic.Lib.Claim
public import Idealize.ShloMosaic.Lib.Pipeline.ReadBack
public import proofs.«01_k».proof.Proof.Gen.Reference8Ideal.Read

/-! The array the modulation leaves, over the extended reals, and the reference's: every row over the root of its mean square,
times one plus the scale, plus the shift. -/

@[expose] public section

set_option maxRecDepth 16384

noncomputable section

namespace Cert.Kernel8Ideal.Modulate

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- The modulation row of a row: 0 and 1 for the latents of the two samples, 2 for the context. -/
def modRow (r : Fin 8704) : Fin 8 := ⟨r.val / 4096, by have := r.isLt; omega⟩
/-- The column of the modulation table that holds the shift of a column. -/
def shiftCol (x : Fin 4096) : Fin 36864 := ⟨12288 + x.val, by have := x.isLt; omega⟩
/-- The column of the modulation table that holds the scale of a column. -/
def scaleCol (x : Fin 4096) : Fin 36864 := ⟨16384 + x.val, by have := x.isLt; omega⟩

/-- An entry of a row with sum of squares `q`, modulated by a scale and a shift. -/
def modded (x q sc sh : EReal) : EReal :=
  x * Ideal.rsqrt (Ideal.div q (Ideal.ofBits .f32 1166016512#32) + Ideal.ofBits .f32 897988541#32) * (Ideal.ofBits .f32 1065353216#32 + sc) + sh

/-- The sum of the squares of a row. -/
def squares (X : Vec Ideal S8704x4096 .f32) (r : Fin 8704) : EReal := ∑ k : Fin 4096, X (ix2 r k) * X (ix2 r k)

/-- The modulated rows, as an array. -/
def modArr (X : Vec Ideal S8704x4096 .f32) (M : Vec Ideal S2x8x36864 .f32) : Vec Ideal S8704x4096 .bf16 :=
  fun j => modded (X (ix2 (j 0) (j 1))) (squares X (j 0)) (M (ix3 0 (modRow (j 0)) (scaleCol (j 1)))) (M (ix3 0 (modRow (j 0)) (shiftCol (j 1))))

/-- What a grid step stores, at an index. -/
theorem pay_at (x : Vec Ideal S1x512x4096 .f32) (sc sh : Vec Ideal S1x1x4096 .f32) (r : Fin 512) (d : Fin 4096) :
    k0_pay1 x sc sh (ix2 r d) = modded (x (ix3 0 r d)) (∑ k : Fin 4096, x (ix3 0 r k) * x (ix3 0 r k) : EReal) (sc (ix3 0 0 d)) (sh (ix3 0 0 d)) := by
  pointwise [k0_pay1, modded]

/-- A load of slot `s` of the ring reads the slot. -/
theorem slot_load (s : Fin 3) {off : Fin 3 → Nat} (inb : ∀ a, off a + S1x512x4096.size a ≤ S3x512x4096.size a) (h : off = ![s.val, 0, 0])
    (f : (View.whole (κ := .tc) cc0_scratch0).ty.Contents (Elt Ideal)) (r : Fin 512) (k : Fin 4096) :
    View.readAt (Elt Ideal) (View.whole (κ := .tc) cc0_scratch0) (Rect.unit (s := S3x512x4096) off S1x512x4096.size inb).toLoadRect f (ix3 0 r k)
      = (rslot0_0 s).view.read (Elt Ideal) f (ix2 r k) := by
  subst h
  have e : Shape.reshapeEquiv (squeezes_S1x512x4096_S512x4096).numel_eq (ix2 r k : S512x4096.Idx) = (ix3 0 r k : S1x512x4096.Idx) := by
    rw [Shape.reshapeEquiv_cons_one]
    funext a; fin_cases a <;> rfl
  show f _ = f _
  refine congrArg f ?_
  exact congrArg ((View.whole (κ := .tc) cc0_scratch0).slice (Rect.unit (s := S3x512x4096) ![s.val, 0, 0] S1x512x4096.size (inb_slot0_0 s))).emb e.symm

/-- What slot `s` holds once block `b` of an array landed in it. -/
theorem slot_landed (s : Fin 3) (b : Fin 17) (X : (View.whole (κ := .tc) main_arg0).ty.Contents (Elt Ideal))
    (f : (View.whole (κ := .tc) cc0_scratch0).ty.Contents (Elt Ideal)) (r : Fin 512) (k : Fin 4096) (R : Fin 8704) (hR : R.val = 512 * b.val + r.val) :
    (rslot0_0 s).view.read (Elt Ideal) ((rslot0_0 s).view.writes (Elt Ideal) f
      [⟨Rect.whole S512x4096, ReadAs.same.apply ((srcB0_0 b).view.read (Elt Ideal) X)⟩]) (ix2 r k) = X (ix2 R k) := by
  refine (congrFun (View.read_writes_full (rslot0_0 s).view f (off := fun _ => 0) (fun a => by simp) _ []) (ix2 r k)).trans ?_
  show X _ = X _
  refine congrArg X (funext fun a => ?_)
  fin_cases a
  · exact Fin.ext (show 512 * b.val + 1 * r.val = R.val by omega)
  · exact Fin.ext (show 0 + 1 * k.val = k.val by omega)

/-- The slot a point reads. -/
theorem off_slot : ∀ t : Fin cfg0.N, k0_off7 (grid0.coords t) = ![(Fin.ofNat 3 t.val).val, 0, 0] :=
  (by decide +kernel : ∀ t : Fin grid0.N, k0_off7 (grid0.coords t) = ![(Fin.ofNat 3 t.val).val, 0, 0])

/-- The block a point writes. -/
theorem idx_o : ∀ t : Fin cfg0.N, win0_2.index t = ![t.val, 0] :=
  (by decide +kernel : ∀ t : Fin grid0.N, win0_2.index t = ![t.val, 0])
/-- The rows of the table a point reads: the shift and the scale of its modulation row. -/
theorem idx_m : ∀ t : Fin cfg0.N, win0_0.index t = ![t.val / 8 * 9 + 3, 0, 0] ∧ win0_1.index t = ![t.val / 8 * 9 + 4, 0, 0] :=
  (by decide +kernel : ∀ t : Fin grid0.N, win0_0.index t = ![t.val / 8 * 9 + 3, 0, 0] ∧ win0_1.index t = ![t.val / 8 * 9 + 4, 0, 0])

/-- The rows. -/
abbrev XX (c : Dev nD) : Vec Ideal S8704x4096 .f32 := m ((c : Thread nD τ).loc main_arg0)
/-- The modulation table. -/
abbrev MM (c : Dev nD) : Vec Ideal S2x8x36864 .f32 := m ((c : Thread nD τ).loc main_arg1)

/-- The table with one vector to a row, at a vector of a modulation row of the first layer. -/
theorem v0_at (c : Dev nD) (q : Fin 144) (b : Fin 8) (x : Fin 4096) (g : Fin 9) (y : Fin 36864) (hq : q.val = b.val * 9 + g.val) (hy : y.val = g.val * 4096 + x.val) :
    V m c main_v0 (ix3 q 0 x) = MM m c (ix3 0 b y) := by
  entry_read
  refine shapeCast_apply (MM m c) _ (ix3 q 0 x) (ix3 0 b y) ?_
  rw [Shape.rowMajor_val_three, Shape.rowMajor_val_three]
  show (0 * 8 + b.val) * 36864 + y.val = (q.val * 1 + 0) * 4096 + x.val
  omega

/-- A point's shift. -/
theorem sh_blk (c : Dev nD) (t : Fin cfg0.N) (d : Fin 4096) (R : Fin 8704) (hq : R.val / 4096 = t.val / 8) :
    iblk m c 0 t (ix3 0 0 d) = MM m c (ix3 0 (modRow R) (shiftCol d)) := by
  have hb : (modRow R).val = t.val / 8 := hq
  rw [← v0_at m c ⟨(modRow R).val * 9 + 3, by have := (modRow R).isLt; omega⟩ (modRow R) d 3 (shiftCol d) rfl rfl]
  have hi := (idx_m t).1
  blk_ext [iblk, hi, hb]

/-- A point's scale. -/
theorem sc_blk (c : Dev nD) (t : Fin cfg0.N) (d : Fin 4096) (R : Fin 8704) (hq : R.val / 4096 = t.val / 8) :
    iblk m c 1 t (ix3 0 0 d) = MM m c (ix3 0 (modRow R) (scaleCol d)) := by
  have hb : (modRow R).val = t.val / 8 := hq
  rw [← v0_at m c ⟨(modRow R).val * 9 + 4, by have := (modRow R).isLt; omega⟩ (modRow R) d 4 (scaleCol d) rfl rfl]
  have hi := (idx_m t).2
  blk_ext [iblk, hi, hb]

/-- What a point leaves in its block, whichever of its three cases it runs. -/
theorem point_out (c : Dev nD) (t : Fin cfg0.N) (r : Fin 512) (d : Fin 4096) (R : Fin 8704) (hR : R.val = 512 * t.val + r.val) :
    outsAt0 m c t.val t.isLt (ix2 r d) = modArr (XX m c) (MM m c) (ix2 R d) := by
  have hN : t.val < 17 := lt_of_lt_of_eq t.isLt N_0
  have hb : (Ring.bk 17 t.val).val = t.val := Nat.mod_eq_of_lt hN
  have key : ∀ (inb : ∀ a, k0_off7 (grid0.coords t) a + S1x512x4096.size a ≤ S3x512x4096.size a) (f : (View.whole (κ := .tc) cc0_scratch0).ty.Contents (Elt Ideal)) (k : Fin 4096),
      View.readAt (Elt Ideal) (View.whole (κ := .tc) cc0_scratch0) (Rect.unit (s := S3x512x4096) (k0_off7 (grid0.coords t)) S1x512x4096.size inb).toLoadRect
        ((rslot0_0 (Fin.ofNat 3 t.val)).view.writes (Elt Ideal) f
          [⟨Rect.whole S512x4096, ReadAs.same.apply ((srcB0_0 (Ring.bk 17 t.val)).view.read (Elt Ideal) (V m c main_arg0))⟩]) (ix3 0 r k) = XX m c (ix2 R k) := by
    intro inb f k
    exact (slot_load (Fin.ofNat 3 t.val) inb (off_slot t) _ r k).trans ((slot_landed _ _ _ f r k R (by omega)).trans (congrFun (V_main_arg0 m c) (ix2 R k)))
  have hx : ∀ x : Vec Ideal S1x512x4096 .f32, (∀ k : Fin 4096, x (ix3 0 r k) = XX m c (ix2 R k)) →
      k0_pay1 x (iblk m c 1 t) (iblk m c 0 t) (ix2 r d) = modArr (XX m c) (MM m c) (ix2 R d) := by
    intro x hx
    rw [pay_at, sc_blk m c t d R (by omega), sh_blk m c t d R (by omega)]
    simp only [hx]
    rfl
  by_cases h0 : t.val % 17 = 0
  · rw [outsAt0_A m c t h0 (by omega)]
    frame_out
    exact hx _ (key _ _)
  · by_cases h1 : t.val < 15
    · rw [outsAt0_B m c t h0 (by omega)]
      frame_out
      exact hx _ (key _ _)
    · rw [outsAt0_C m c t h0 (by omega)]
      frame_out
      exact hx _ (key _ _)

/-- The array the call leaves. -/
theorem final (c : Dev nD) : (dats m 0 c).arrAt 2 cfg0.N = modArr (XX m c) (MM m c) := by
  refine (dats m 0 c).arrAt_eq_of_covers 2 _ (by decide +kernel) fun t hf y => ?_
  have hi := idx_o t
  blk_simp
  rw [after0_2]
  obtain ⟨r, d, rfl⟩ : ∃ (r : Fin 512) (d : Fin 4096), y = ix2 r d := ⟨y 0, y 1, by funext a; fin_cases a <;> rfl⟩
  have e0 : ((win0_2.blk t).view.emb (ix2 r d) 0).val = t.val * 512 + r.val := by
    blk_simp [hi]
  have e1 : ((win0_2.blk t).view.emb (ix2 r d) 1).val = d.val := by
    blk_simp [hi]
  generalize (win0_2.blk t).view.emb (ix2 r d) = j at e0 e1 ⊢
  refine (point_out m c t r d (j 0) (by omega)).trans (congrArg _ ?_)
  funext a
  fin_cases a
  · rfl
  · exact Fin.ext e1.symm

/-- The program ends with that array in its result and its arguments as they were. -/
theorem run_value (ρ : Dev nD → PrngReg) : θ_run (defs (F := Ideal)) (onTc (τ := τ) (main (F := Ideal))) ⟨m, fun _ => 0, ρ⟩
    (fun r => ∀ c : Dev nD, r.2.mem ((c.tc : Thread nD τ).loc main_v1) = modArr (XX m c) (MM m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final m c), (h c).2⟩) (Cert.Kernel8Ideal.Value.run_blocks m ρ)

section
open Cert.Reference8Ideal.Read

variable (x0 : Vec Ideal S8704x4096 .f32) (x1 : Vec Ideal S2x8x36864 .f32)

/-- An index of a matrix, from its coordinates. -/
theorem at2 {n k : ℕ} (i : (⟨2, ![n, k]⟩ : Shape).Idx) (a : Fin n) (b : Fin k) (h0 : (i 0).val = a.val) (h1 : (i 1).val = b.val) : i = ix2 a b := by
  funext e
  fin_cases e
  · exact Fin.ext h0
  · exact Fin.ext h1

/-- An index of a rank-3 array, from its coordinates. -/
theorem at3 {n k l : ℕ} (i : (⟨3, ![n, k, l]⟩ : Shape).Idx) (a : Fin n) (b : Fin k) (d : Fin l) (h0 : (i 0).val = a.val) (h1 : (i 1).val = b.val)
    (h2 : (i 2).val = d.val) : i = ix3 a b d := by
  funext e
  fin_cases e
  · exact Fin.ext h0
  · exact Fin.ext h1
  · exact Fin.ext h2

/-- The word of zero. -/
theorem zero_word : Ideal.ofBits .f32 0x00000000#32 = (0 : EReal) := by simp [Ideal.ofBits, Ideal.ieee]

/-- The reference's latents: sample `b`, row `s`. -/
theorem latent_row (b : Fin 2) (s x : Fin 4096) (R : Fin 8704) (hR : R.val = b.val * 4096 + s.val) : val_main_v1 (F := Ideal) x0 (ix3 b s x) = x0 (ix2 R x) := by
  rw [val_main_v1_apply, val_main_v0_apply]
  have hx := x.isLt
  refine congrArg x0 (at2 _ _ _ ?_ ?_)
  · show ((b.val * 4096 + s.val) * 4096 + x.val) / 4096 = R.val; omega
  · show ((b.val * 4096 + s.val) * 4096 + x.val) % 4096 = x.val; omega

/-- The reference's context: sample `b`, row `s`. -/
theorem context_row (b : Fin 2) (s : Fin 256) (x : Fin 4096) (R : Fin 8704) (hR : R.val = 8192 + (b.val * 256 + s.val)) :
    val_main_v3 (F := Ideal) x0 (ix3 b s x) = x0 (ix2 R x) := by
  rw [val_main_v3_apply, val_main_v2_apply]
  have hx := x.isLt
  refine congrArg x0 (at2 _ _ _ ?_ ?_)
  · show 8192 + ((b.val * 256 + s.val) * 4096 + x.val) / 4096 = R.val; omega
  · show ((b.val * 256 + s.val) * 4096 + x.val) % 4096 = x.val; omega

/-- The reference's sum of the squares of a latent row. -/
theorem latent_squares (b : Fin 2) (s : Fin 4096) (R : Fin 8704) (hR : R.val = b.val * 4096 + s.val) : val_main_v13 (F := Ideal) x0 (ix2 b s) = squares x0 R := by
  rw [val_main_v13_apply, val_main_cst_apply]
  refine (congrArg₂ (fun a b : EReal => a + b) zero_word ?_).trans (zero_add _)
  refine Finset.sum_congr rfl fun k _ => ?_
  rw [at3 (idx_main_v13 (ix2 b s) k) b s k rfl rfl rfl, val_main_v12_apply, latent_row x0 b s k R hR]
  rfl

/-- The reference's sum of the squares of a row of the context. -/
theorem context_squares (b : Fin 2) (s : Fin 256) (R : Fin 8704) (hR : R.val = 8192 + (b.val * 256 + s.val)) : val_main_v32 (F := Ideal) x0 (ix2 b s) = squares x0 R := by
  rw [val_main_v32_apply, val_main_cst_3_apply]
  refine (congrArg₂ (fun a b : EReal => a + b) zero_word ?_).trans (zero_add _)
  refine Finset.sum_congr rfl fun k _ => ?_
  rw [at3 (idx_main_v32 (ix2 b s) k) b s k rfl rfl rfl, val_main_v31_apply, context_row x0 b s k R hR]
  rfl

/-- The reference's modulated latents: sample `b`, row `s`. -/
theorem latent_at (b : Fin 2) (s x : Fin 4096) (R : Fin 8704) (hR : R.val = b.val * 4096 + s.val) :
    val_main_v27 (F := Ideal) x0 x1 (ix3 b s x) = modded (x0 (ix2 R x)) (squares x0 R) (x1 (ix3 0 (modRow R) (scaleCol x))) (x1 (ix3 0 (modRow R) (shiftCol x))) := by
  have hb := b.isLt
  have hs := s.isLt
  have hx := x.isLt
  rw [val_main_v27_apply, val_main_v25_apply, val_main_v21_apply, latent_row x0 b s x R hR, val_main_v20_apply, val_main_v19_apply, val_main_v18_apply,
    val_main_v16_apply, val_main_v14_apply, val_main_v15_apply, val_main_cst_0_apply, val_main_v17_apply, val_main_cst_1_apply,
    at2 (idx_main_v14 (idx_main_v20 (ix3 b s x))) b s rfl rfl, latent_squares x0 b s R hR,
    val_main_v24_apply, val_main_v23_apply, val_main_v22_apply, val_main_cst_2_apply, val_main_v11_apply, val_main_v26_apply, val_main_v10_apply,
    val_main_v6_apply, val_main_v6_apply, val_main_v5_apply, val_main_v5_apply, val_main_v4_apply, val_main_v4_apply]
  refine congrArg₂ (modded _ _) (congrArg x1 (at3 _ _ _ _ rfl ?_ ?_)) (congrArg x1 (at3 _ _ _ _ rfl ?_ ?_))
  · show (b.val * 36864 + (16384 + x.val)) / 36864 % 2 = R.val / 4096; omega
  · show (b.val * 36864 + (16384 + x.val)) % 36864 = 16384 + x.val; omega
  · show (b.val * 36864 + (12288 + x.val)) / 36864 % 2 = R.val / 4096; omega
  · show (b.val * 36864 + (12288 + x.val)) % 36864 = 12288 + x.val; omega

/-- The reference's modulated context: sample `b`, row `s`. -/
theorem context_at (b : Fin 2) (s : Fin 256) (x : Fin 4096) (R : Fin 8704) (hR : R.val = 8192 + (b.val * 256 + s.val)) :
    val_main_v46 (F := Ideal) x0 x1 (ix3 b s x) = modded (x0 (ix2 R x)) (squares x0 R) (x1 (ix3 0 (modRow R) (scaleCol x))) (x1 (ix3 0 (modRow R) (shiftCol x))) := by
  have hb := b.isLt
  have hs := s.isLt
  have hx := x.isLt
  rw [val_main_v46_apply, val_main_v44_apply, val_main_v40_apply, context_row x0 b s x R hR, val_main_v39_apply, val_main_v38_apply, val_main_v37_apply,
    val_main_v35_apply, val_main_v33_apply, val_main_v34_apply, val_main_cst_4_apply, val_main_v36_apply, val_main_cst_5_apply,
    at2 (idx_main_v33 (idx_main_v39 (ix3 b s x))) b s rfl rfl, context_squares x0 b s R hR,
    val_main_v43_apply, val_main_v42_apply, val_main_v41_apply, val_main_cst_6_apply, val_main_v30_apply, val_main_v45_apply, val_main_v29_apply,
    val_main_v9_apply, val_main_v9_apply, val_main_v8_apply, val_main_v8_apply, val_main_v7_apply, val_main_v7_apply]
  refine congrArg₂ (modded _ _) (congrArg x1 (at3 _ _ _ _ rfl ?_ ?_)) (congrArg x1 (at3 _ _ _ _ rfl ?_ ?_))
  · show 2 + 0 = R.val / 4096; omega
  · show (16384 + x.val) % 36864 = 16384 + x.val; omega
  · show 2 + 0 = R.val / 4096; omega
  · show (12288 + x.val) % 36864 = 12288 + x.val; omega

/-- The reference's array. -/
theorem ref_eq : val_main_v49 (F := Ideal) x0 x1 = modArr x0 x1 := by
  funext j
  obtain ⟨r, x, rfl⟩ : ∃ (r : Fin 8704) (x : Fin 4096), j = ix2 r x := ⟨j 0, j 1, by funext a; fin_cases a <;> rfl⟩
  have hr := r.isLt
  have hx := x.isLt
  rw [val_main_v49_apply]
  refine (show _ = val_main_v48 (F := Ideal) x0 x1 (ix2 r x) from rfl).trans ?_
  unfold val_main_v48
  by_cases h : r.val < 8192
  · refine (concatenate_pair_apply_left (t := Cert.Reference8Ideal.S8704x4096) (s₁ := Cert.Reference8Ideal.S8192x4096)
      (s₂ := Cert.Reference8Ideal.S512x4096) 0 _ _ _ (ix2 r x) rfl (ix2 (⟨r.val, h⟩ : Fin 8192) x) ?_).trans ?_
    · intro a
      fin_cases a <;> rfl
    rw [val_main_v28_apply,
      at3 (idx_main_v28 (ix2 (⟨r.val, h⟩ : Fin 8192) x)) ⟨r.val / 4096, by omega⟩ ⟨r.val % 4096, by omega⟩ x
        (by show (r.val * 4096 + x.val) / 16777216 = r.val / 4096; omega)
        (by show (r.val * 4096 + x.val) / 4096 % 4096 = r.val % 4096; omega)
        (by show (r.val * 4096 + x.val) % 4096 = x.val; omega),
      latent_at x0 x1 _ _ x r (by show r.val = r.val / 4096 * 4096 + r.val % 4096; omega)]
    rfl
  · have hq : r.val - 8192 < 512 := by omega
    refine (concatenate_pair_apply_right (t := Cert.Reference8Ideal.S8704x4096) (s₁ := Cert.Reference8Ideal.S8192x4096)
      (s₂ := Cert.Reference8Ideal.S512x4096) 0 _ _ _ (ix2 r x) rfl rfl (ix2 (⟨r.val - 8192, hq⟩ : Fin 512) x) ?_ ?_).trans ?_
    · intro a ha
      fin_cases a
      · exact absurd rfl ha
      · rfl
    · show r.val - 8192 + 8192 = r.val
      omega
    rw [val_main_v47_apply,
      at3 (idx_main_v47 (ix2 (⟨r.val - 8192, hq⟩ : Fin 512) x)) ⟨(r.val - 8192) / 256, by omega⟩ ⟨(r.val - 8192) % 256, by omega⟩ x
        (by show ((r.val - 8192) * 4096 + x.val) / 1048576 = (r.val - 8192) / 256; omega)
        (by show ((r.val - 8192) * 4096 + x.val) / 4096 % 256 = (r.val - 8192) % 256; omega)
        (by show ((r.val - 8192) * 4096 + x.val) % 4096 = x.val; omega),
      context_at x0 x1 _ _ x r (by show r.val = 8192 + ((r.val - 8192) / 256 * 256 + (r.val - 8192) % 256); omega)]
    rfl

end

end Cert.Kernel8Ideal.Modulate
end
-- ==== Proof.ConvValue.lean ====
module

public import proofs.«01_k».proof.Proof.Gen.Kernel9Ideal.Value
public import Idealize.ShloMosaic.Lib.Pipeline.ValueKit
public import Idealize.ShloMosaic.Lib.Pointwise
public import Idealize.ShloMosaic.Lib.VecWindow
public import Idealize.ShloMosaic.Lib.KernelVsHost
public import Idealize.ShloMosaic.Lib.Claim
public import Idealize.ShloMosaic.Lib.Pipeline.ReadBack
public import proofs.«01_k».proof.Proof.Gen.Reference9Ideal.Read

/-! The array the gated short convolution leaves, over the extended reals, and the reference's: each row of a sample's gated inputs with
its two neighbours, zeros beyond the sample's ends, by three taps, plus a bias, gated once more. -/

@[expose] public section

set_option maxRecDepth 16384

noncomputable section

namespace Cert.Kernel9Ideal.Conv

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ)

/-- The column of the input. -/
def xCol (x : Fin 1024) : Fin 3072 := ⟨x.val, by have := x.isLt; omega⟩
/-- The column of the outer gate. -/
def bCol (x : Fin 1024) : Fin 3072 := ⟨1024 + x.val, by have := x.isLt; omega⟩
/-- The column of the inner gate. -/
def cCol (x : Fin 1024) : Fin 3072 := ⟨2048 + x.val, by have := x.isLt; omega⟩

/-- An input times its inner gate. -/
def gated (P : Vec Ideal S8704x3072 .f32) (R : Fin 8704) (x : Fin 1024) : EReal := P (ix2 R (cCol x)) * P (ix2 R (xCol x))

/-- The three taps, the bias and the outer gate. -/
def tapped (bg p u n w0 w1 w2 b : EReal) : EReal := bg * (p * w0 + u * w1 + n * w2 + b)

/-- The gated input of the row before, zero at a sample's start. -/
def before (P : Vec Ideal S8704x3072 .f32) (R : Fin 8704) (x : Fin 1024) : EReal :=
  if R.val % 4096 = 0 then 0 else gated P ⟨R.val - 1, by have := R.isLt; omega⟩ x
/-- The gated input of the row after, zero at a sample's end. -/
def after (P : Vec Ideal S8704x3072 .f32) (R : Fin 8704) (x : Fin 1024) : EReal :=
  if R.val % 4096 = 4095 then 0 else gated P ⟨(R.val + 1) % 8704, Nat.mod_lt _ (by decide)⟩ x

/-- A latent row, among all. -/
def rowOf (R : Fin 8192) : Fin 8704 := ⟨R.val, by have := R.isLt; omega⟩

/-- The convolved rows, as an array. -/
def convArr (P : Vec Ideal S8704x3072 .f32) (w : Vec Ideal S2x3x1024 .f32) (b : Vec Ideal S2x1024 .f32) : Vec Ideal S8192x1024 .bf16 :=
  fun j => tapped (P (ix2 (rowOf (j 0)) (bCol (j 1)))) (before P (rowOf (j 0)) (j 1)) (gated P (rowOf (j 0)) (j 1)) (after P (rowOf (j 0)) (j 1))
    (w (ix3 0 0 (j 1))) (w (ix3 0 1 (j 1))) (w (ix3 0 2 (j 1))) (b (ix2 0 (j 1)))

/-- The word of zero. -/
theorem zero_word : Ideal.ofBits .f32 0x00000000#32 = (0 : EReal) := by simp [Ideal.ofBits, Ideal.ieee]

/-- A block moved down by one row, zero in the first. -/
def down (u : FVec Ideal S4096x128 .f32) : FVec Ideal S4096x128 .f32 :=
  select (cmpi .eq (iota .tc S4096x128 32 [0] iota_S4096x128_d0_w32) (broadcast S4096x128 0#32)) (broadcast S4096x128 (Scalar.ofBits .f32 0x00000000#32))
    (dynamicRotate 0 1#32 none u rotates_S4096x128_d0)
/-- A block moved up by one row, zero in the last. -/
def up (u : FVec Ideal S4096x128 .f32) : FVec Ideal S4096x128 .f32 :=
  select (cmpi .eq (iota .tc S4096x128 32 [0] iota_S4096x128_d0_w32) (broadcast S4096x128 4095#32)) (broadcast S4096x128 (Scalar.ofBits .f32 0x00000000#32))
    (dynamicRotate 0 4095#32 none u rotates_S4096x128_d0)

/-- A choice by whether the word of a row number is a given row's. -/
theorem choose_row (r n : ℕ) (hr : r < 4096) (hn : n < 4096) (a b : EReal) :
    Scalar.select (IntOp.cmpi .eq (BitVec.ofNat 32 r) (BitVec.ofNat 32 n)) a b = if r = n then a else b := by
  by_cases h : r = n
  · subst h
    simp [Scalar.select, IntOp.cmpi]
  · have hw : BitVec.ofNat 32 r ≠ BitVec.ofNat 32 n := fun e => by
      have := congrArg BitVec.toNat e
      simp only [BitVec.toNat_ofNat] at this
      omega
    have hb : (BitVec.ofNat 32 r == BitVec.ofNat 32 n) = false := by simpa using hw
    rw [if_neg h]
    unfold Scalar.select IntOp.cmpi
    simp only [hb]
    rfl

/-- The block moved down, at an index. -/
theorem down_at (u : FVec Ideal S4096x128 .f32) (r : Fin 4096) (d : Fin 128) :
    down u (ix2 r d) = if r.val = 0 then (0 : EReal) else u (ix2 ⟨(r.val + 4096 - 1) % 4096, Nat.mod_lt _ (by decide)⟩ d) := by
  rw [← choose_row r.val 0 r.isLt (by decide)]
  pointwise [down]

/-- A block rotated down by a number of rows, at an index. -/
theorem rot_at (u : FVec Ideal S4096x128 .f32) (n : BitVec 32) (r : Fin 4096) (d : Fin 128) :
    dynamicRotate 0 n none u rotates_S4096x128_d0 (ix2 r d) = u (ix2 ⟨(r.val + 4096 - n.toNat % 4096) % 4096, Nat.mod_lt _ (by decide)⟩ d) := by
  pointwise

/-- The block moved up, at an index. -/
theorem up_at (u : FVec Ideal S4096x128 .f32) (r : Fin 4096) (d : Fin 128) :
    up u (ix2 r d) = if r.val = 4095 then (0 : EReal) else u (ix2 ⟨(r.val + 4096 - 4095) % 4096, Nat.mod_lt _ (by decide)⟩ d) := by
  have hrot : dynamicRotate 0 4095#32 none u rotates_S4096x128_d0 (ix2 r d) = u (ix2 ⟨(r.val + 4096 - 4095) % 4096, Nat.mod_lt _ (by decide)⟩ d) := by
    exact (rot_at u 4095#32 r d).trans (congrArg (fun q => u (ix2 q d)) (Fin.ext
      (congrArg (fun k => (r.val + 4096 - k) % 4096) (show (4095#32 : BitVec 32).toNat % 4096 = 4095 by decide))))
  show Scalar.select (IntOp.cmpi .eq (iota .tc S4096x128 32 [0] iota_S4096x128_d0_w32 (ix2 r d)) 4095#32) (Ideal.ofBits .f32 0x00000000#32)
    (dynamicRotate 0 4095#32 none u rotates_S4096x128_d0 (ix2 r d)) = _
  rw [iota_single_apply, hrot, zero_word]
  exact choose_row r.val 4095 r.isLt (by decide) _ _

/-- What a grid step stores, at an index. -/
theorem pay_at (v0 v1 : Vec Ideal S4096x128 .f32) (v14 v18 v23 v28 : Vec Ideal S1x128 .f32) (v32 : Vec Ideal S4096x128 .f32) (r : Fin 4096) (d : Fin 128) :
    k0_pay1 v0 v1 v14 v18 v23 v28 v32 (ix2 r d) = tapped (v32 (ix2 r d)) (down (mulf v0 v1) (ix2 r d)) (mulf (F := Ideal) (s := S4096x128) (φ := .f32) v0 v1 (ix2 r d)) (up (mulf v0 v1) (ix2 r d))
      (v14 (ix2 0 d)) (v18 (ix2 0 d)) (v23 (ix2 0 d)) (v28 (ix2 0 d)) := by
  have e : k0_pay1 v0 v1 v14 v18 v23 v28 v32 = truncf .bf16 (mulf v32 (addf (addf (addf
      (mulf (down (mulf v0 v1)) (broadcastTo S4096x128 (shapeCast S1x128 v14 shapeCasts_S1x128_S1x128) broadcasts_S1x128_S4096x128))
      (mulf (mulf v0 v1) (broadcastTo S4096x128 (shapeCast S1x128 v18 shapeCasts_S1x128_S1x128) broadcasts_S1x128_S4096x128)))
      (mulf (up (mulf v0 v1)) (broadcastTo S4096x128 (shapeCast S1x128 v23 shapeCasts_S1x128_S1x128) broadcasts_S1x128_S4096x128)))
      (broadcastTo S4096x128 (shapeCast S1x128 v28 shapeCasts_S1x128_S1x128) broadcasts_S1x128_S4096x128))) bitsLt_bf16_f32 := rfl
  rw [e]
  generalize down (mulf v0 v1) = p
  generalize up (mulf v0 v1) = n
  pointwise [tapped]

/-- The blocks a point reads and writes. -/
theorem idx_p : ∀ t : Fin cfg0.N, win0_0.index t = ![t.val / 8, t.val % 8] ∧ win0_1.index t = ![t.val / 8, 8 + t.val % 8]
    ∧ win0_2.index t = ![t.val / 8, 16 + t.val % 8] ∧ win0_3.index t = ![0, t.val % 8] ∧ win0_4.index t = ![0, t.val % 8]
    ∧ win0_5.index t = ![t.val / 8, t.val % 8] :=
  (by decide +kernel : ∀ t : Fin grid0.N, win0_0.index t = ![t.val / 8, t.val % 8] ∧ win0_1.index t = ![t.val / 8, 8 + t.val % 8]
    ∧ win0_2.index t = ![t.val / 8, 16 + t.val % 8] ∧ win0_3.index t = ![0, t.val % 8] ∧ win0_4.index t = ![0, t.val % 8]
    ∧ win0_5.index t = ![t.val / 8, t.val % 8])

/-- The projections. -/
abbrev PP (c : Dev nD) : Vec Ideal S8704x3072 .f32 := m ((c : Thread nD τ).loc main_arg0)
/-- The taps. -/
abbrev WW (c : Dev nD) : Vec Ideal S2x3x1024 .f32 := m ((c : Thread nD τ).loc main_arg1)
/-- The bias. -/
abbrev BB (c : Dev nD) : Vec Ideal S2x1024 .f32 := m ((c : Thread nD τ).loc main_arg2)

/-- The first layer's taps. -/
theorem v1_at (c : Dev nD) (g : Fin 3) (x : Fin 1024) : V m c main_v1 (ix2 g x) = WW m c (ix3 0 g x) := by
  entry_read
  refine (shapeCast_apply _ _ (ix2 g x) (ix3 0 g x) ?_).trans ?_
  · rw [Shape.rowMajor_val_two, Shape.rowMajor_val_three]
    show (0 * 3 + g.val) * 1024 + x.val = g.val * 1024 + x.val
    omega
  · pointwise

/-- The first layer's bias. -/
theorem v4_at (c : Dev nD) (x : Fin 1024) : V m c main_v4 (ix2 0 x) = BB m c (ix2 0 x) := by
  entry_read
  pointwise

/-- A point's inputs. -/
theorem x_blk (c : Dev nD) (t : Fin cfg0.N) (r : Fin 4096) (d : Fin 128) (R : Fin 8704) (x : Fin 1024) (hR : R.val = t.val / 8 * 4096 + r.val)
    (hx : x.val = t.val % 8 * 128 + d.val) : X0_0 m c t (ix2 r d) = PP m c (ix2 R (xCol x)) := by
  refine Eq.trans ?_ (congrFun (V_main_arg0 m c) (ix2 R (xCol x)))
  have hi := (idx_p t).1
  have e : (xCol x).val = t.val % 8 * 128 + d.val := hx
  unfold X0_0 Pipeline.Window.fill
  rw [dif_pos (moved0_0 t _)]
  blk_ext [iblk, hi, hR, e]

/-- A point's outer gates. -/
theorem b_blk (c : Dev nD) (t : Fin cfg0.N) (r : Fin 4096) (d : Fin 128) (R : Fin 8704) (x : Fin 1024) (hR : R.val = t.val / 8 * 4096 + r.val)
    (hx : x.val = t.val % 8 * 128 + d.val) : X0_1 m c t (ix2 r d) = PP m c (ix2 R (bCol x)) := by
  refine Eq.trans ?_ (congrFun (V_main_arg0 m c) (ix2 R (bCol x)))
  have hi := (idx_p t).2.1
  have e : (bCol x).val = (8 + t.val % 8) * 128 + d.val := by show 1024 + x.val = _; omega
  unfold X0_1 Pipeline.Window.fill
  rw [dif_pos (moved0_1 t _)]
  blk_ext [iblk, hi, hR, e]

/-- A point's inner gates. -/
theorem c_blk (c : Dev nD) (t : Fin cfg0.N) (r : Fin 4096) (d : Fin 128) (R : Fin 8704) (x : Fin 1024) (hR : R.val = t.val / 8 * 4096 + r.val)
    (hx : x.val = t.val % 8 * 128 + d.val) : X0_2 m c t (ix2 r d) = PP m c (ix2 R (cCol x)) := by
  refine Eq.trans ?_ (congrFun (V_main_arg0 m c) (ix2 R (cCol x)))
  have hi := (idx_p t).2.2.1
  have e : (cCol x).val = (16 + t.val % 8) * 128 + d.val := by show 2048 + x.val = _; omega
  unfold X0_2 Pipeline.Window.fill
  rw [dif_pos (moved0_2 t _)]
  blk_ext [iblk, hi, hR, e]

/-- A point's taps. -/
theorem w_blk (c : Dev nD) (t : Fin cfg0.N) (g : Fin 3) (d : Fin 128) (x : Fin 1024) (hx : x.val = t.val % 8 * 128 + d.val) :
    iblk m c 3 t (ix2 g d) = WW m c (ix3 0 g x) := by
  rw [← v1_at]
  have hi := (idx_p t).2.2.2.1
  blk_ext [iblk, hi, hx]

/-- A point's bias. -/
theorem bias_blk (c : Dev nD) (t : Fin cfg0.N) (d : Fin 128) (x : Fin 1024) (hx : x.val = t.val % 8 * 128 + d.val) :
    iblk m c 4 t (ix2 0 d) = BB m c (ix2 0 x) := by
  rw [← v4_at]
  have hi := (idx_p t).2.2.2.2.1
  blk_ext [iblk, hi, hx]

/-- What a point leaves in its block. -/
theorem point_out (c : Dev nD) (t : Fin cfg0.N) (r : Fin 4096) (d : Fin 128) (R : Fin 8192) (x : Fin 1024) (hR : R.val = t.val / 8 * 4096 + r.val)
    (hx : x.val = t.val % 8 * 128 + d.val) : outsAt0 m c t (ix2 r d) = convArr (PP m c) (WW m c) (BB m c) (ix2 R x) := by
  have hN : t.val < 16 := lt_of_lt_of_eq t.isLt N_0
  have hr := r.isLt
  have hu : ∀ (q : Fin 4096) (Q : Fin 8704), Q.val = t.val / 8 * 4096 + q.val → mulf (F := Ideal) (s := S4096x128) (φ := .f32) (X0_2 m c t) (X0_0 m c t) (ix2 q d) = gated (PP m c) Q x := by
    intro q Q hQ
    exact congrArg₂ (fun a b : EReal => a * b) (c_blk m c t q d Q x hQ hx) (x_blk m c t q d Q x hQ hx)
  have hp : down (mulf (X0_2 m c t) (X0_0 m c t)) (ix2 r d) = before (PP m c) (rowOf R) x := by
    rw [down_at]
    unfold before
    by_cases h : r.val = 0
    · rw [if_pos h, if_pos (by show R.val % 4096 = 0; omega)]
    · rw [if_neg h, if_neg (by show ¬R.val % 4096 = 0; omega)]
      exact hu ⟨(r.val + 4096 - 1) % 4096, Nat.mod_lt _ (by decide)⟩ ⟨R.val - 1, by have := R.isLt; omega⟩ (by show R.val - 1 = t.val / 8 * 4096 + (r.val + 4096 - 1) % 4096; omega)
  have hn : up (mulf (X0_2 m c t) (X0_0 m c t)) (ix2 r d) = after (PP m c) (rowOf R) x := by
    rw [up_at]
    unfold after
    by_cases h : r.val = 4095
    · rw [if_pos h, if_pos (by show R.val % 4096 = 4095; omega)]
    · rw [if_neg h, if_neg (by show ¬R.val % 4096 = 4095; omega)]
      exact hu ⟨(r.val + 4096 - 4095) % 4096, Nat.mod_lt _ (by decide)⟩ ⟨(R.val + 1) % 8704, Nat.mod_lt _ (by decide)⟩ (by show (R.val + 1) % 8704 = t.val / 8 * 4096 + (r.val + 4096 - 4095) % 4096; omega)
  have main : ∀ w0 w1 w2 bi : Vec Ideal S1x128 .f32, (w0 (ix2 0 d) = WW m c (ix3 0 0 x)) → (w1 (ix2 0 d) = WW m c (ix3 0 1 x)) → (w2 (ix2 0 d) = WW m c (ix3 0 2 x)) →
      (bi (ix2 0 d) = BB m c (ix2 0 x)) →
      k0_pay1 (X0_2 m c t) (X0_0 m c t) w0 w1 w2 bi (X0_1 m c t) (ix2 r d) = convArr (PP m c) (WW m c) (BB m c) (ix2 R x) := by
    intro w0 w1 w2 bi h0 h1 h2 hb
    rw [pay_at, hp, hn, b_blk m c t r d (rowOf R) x hR hx, hu r (rowOf R) hR, h0, h1, h2, hb]
    rfl
  unfold outsAt0 out0_A_5
  frame_out
  refine main _ _ _ _ ?_ ?_ ?_ ?_
  · refine Eq.trans ?_ (w_blk m c t 0 d x hx)
    pointwise
  · refine Eq.trans ?_ (w_blk m c t 1 d x hx)
    pointwise
  · refine Eq.trans ?_ (w_blk m c t 2 d x hx)
    pointwise
  · exact bias_blk m c t d x hx

/-- The array the call leaves. -/
theorem final (c : Dev nD) : (dats m 0 c).arrAt 5 cfg0.N = convArr (PP m c) (WW m c) (BB m c) := by
  refine (dats m 0 c).arrAt_eq_of_covers 5 _ (by decide +kernel) fun t hf y => ?_
  have hi := (idx_p t).2.2.2.2.2
  blk_simp
  rw [after0_5]
  obtain ⟨r, d, rfl⟩ : ∃ (r : Fin 4096) (d : Fin 128), y = ix2 r d := ⟨y 0, y 1, by funext a; fin_cases a <;> rfl⟩
  have e0 : ((win0_5.blk t).view.emb (ix2 r d) 0).val = t.val / 8 * 4096 + r.val := by
    blk_simp [hi]
  have e1 : ((win0_5.blk t).view.emb (ix2 r d) 1).val = t.val % 8 * 128 + d.val := by
    blk_simp [hi]
  generalize (win0_5.blk t).view.emb (ix2 r d) = j at e0 e1 ⊢
  refine (point_out m c t r d (j 0) (j 1) e0 e1).trans (congrArg _ ?_)
  funext a
  fin_cases a <;> rfl

/-- The program ends with that array in its result and its arguments as they were. -/
theorem run_value (ρ : Dev nD → PrngReg) : θ_run (defs (F := Ideal)) (onTc (τ := τ) (main (F := Ideal))) ⟨m, fun _ => 0, ρ⟩
    (fun r => ∀ c : Dev nD, r.2.mem ((c.tc : Thread nD τ).loc main_v5) = convArr (PP m c) (WW m c) (BB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (final m c), (h c).2⟩) (Cert.Kernel9Ideal.Value.run_blocks m ρ)

section
open Cert.Reference9Ideal.Read

variable (x0 : Vec Ideal S8704x3072 .f32) (x1 : Vec Ideal S2x3x1024 .f32) (x2 : Vec Ideal S2x1024 .f32)

/-- An index of a matrix, from its coordinates. -/
theorem at2 {n k : ℕ} (i : (⟨2, ![n, k]⟩ : Shape).Idx) (a : Fin n) (b : Fin k) (h0 : (i 0).val = a.val) (h1 : (i 1).val = b.val) : i = ix2 a b := by
  funext e
  fin_cases e
  · exact Fin.ext h0
  · exact Fin.ext h1

/-- An index of a rank-3 array, from its coordinates. -/
theorem at3 {n k l : ℕ} (i : (⟨3, ![n, k, l]⟩ : Shape).Idx) (a : Fin n) (b : Fin k) (d : Fin l) (h0 : (i 0).val = a.val) (h1 : (i 1).val = b.val)
    (h2 : (i 2).val = d.val) : i = ix3 a b d := by
  funext e
  fin_cases e
  · exact Fin.ext h0
  · exact Fin.ext h1
  · exact Fin.ext h2

/-- The reference's projections by sample. -/
theorem row_at (b : Fin 2) (s : Fin 4096) (y : Fin 3072) (R : Fin 8704) (hR : R.val = b.val * 4096 + s.val) : val_main_v1 (F := Ideal) x0 (ix3 b s y) = x0 (ix2 R y) := by
  rw [val_main_v1_apply, val_main_v0_apply]
  have hy := y.isLt
  refine congrArg x0 (at2 _ _ _ ?_ ?_)
  · show ((b.val * 4096 + s.val) * 3072 + y.val) / 3072 = R.val; omega
  · show ((b.val * 4096 + s.val) * 3072 + y.val) % 3072 = y.val; omega

/-- The reference's gated inputs. -/
theorem gated_at (b : Fin 2) (s : Fin 4096) (x : Fin 1024) (R : Fin 8704) (hR : R.val = b.val * 4096 + s.val) :
    val_main_v9 (F := Ideal) x0 (ix3 b s x) = gated x0 R x := by
  rw [val_main_v9_apply, val_main_v4_apply, val_main_v2_apply, at3 (idx_main_v4 (ix3 b s x)) b s (cCol x) rfl rfl rfl,
    at3 (idx_main_v2 (ix3 b s x)) b s (xCol x) rfl rfl rfl, row_at x0 b s _ R hR, row_at x0 b s _ R hR]
  rfl

/-- Inside, the padded inputs are the row before. -/
theorem pad_in (b : Fin 2) (q : Fin 4098) (x : Fin 1024) (s : Fin 4096) (R : Fin 8704) (hq : q.val = 1 + s.val) (hR : R.val = b.val * 4096 + s.val) :
    val_main_v10 (F := Ideal) x0 (ix3 b q x) = gated x0 R x := by
  rw [← gated_at x0 b s x R hR]
  unfold val_main_v10
  refine pad_apply_of_inside _ _ _ _ _ _ _ (ix3 b q x) (ix3 b s x) fun a => ?_
  fin_cases a
  · show b.val = 0 + b.val * (0 + 1); omega
  · show q.val = 1 + s.val * (0 + 1); omega
  · show x.val = 0 + x.val * (0 + 1); omega

/-- At either end the padded inputs are zero. -/
theorem pad_out (b : Fin 2) (q : Fin 4098) (x : Fin 1024) (hq : q.val = 0 ∨ q.val = 4097) : val_main_v10 (F := Ideal) x0 (ix3 b q x) = (0 : EReal) := by
  unfold val_main_v10
  refine (pad_apply_of_not_inside _ _ _ _ _ _ _ (ix3 b q x) (1 : Fin 3) ?_).trans ?_
  · rintro ⟨h0, -, h2⟩
    have h0' : 1 ≤ q.val := h0
    have h2' : (q.val - 1) / (0 + 1) < 4096 := h2
    omega
  · rw [val_main_call0_v0_apply, val_main_c_apply]
    show (((0#32 : BitVec 32).toInt : ℝ) : EReal) = 0
    simp

/-- The reference's taps. -/
theorem tap_at (g : Fin 3) (x : Fin 1024) : val_main_v6 (F := Ideal) x1 (ix2 g x) = x1 (ix3 0 g x) := by
  rw [val_main_v6_apply, val_main_v5_apply]
  have hg := g.isLt
  have hx := x.isLt
  refine congrArg x1 (at3 _ _ _ _ rfl ?_ ?_)
  · show (g.val * 1024 + x.val) / 1024 % 3 = g.val; omega
  · show (g.val * 1024 + x.val) % 1024 = x.val; omega

/-- The reference's first taps. -/
theorem tap0 (b : Fin 2) (s : Fin 4096) (x : Fin 1024) : val_main_v15 (F := Ideal) x1 (ix3 b s x) = x1 (ix3 0 0 x) := by
  rw [val_main_v15_apply, val_main_v14_apply, val_main_v13_apply, val_main_v12_apply, ← tap_at x1 0 x]
  exact congrArg _ (at2 _ _ _ rfl (Nat.mod_eq_of_lt x.isLt))

/-- The reference's second taps. -/
theorem tap1 (b : Fin 2) (s : Fin 4096) (x : Fin 1024) : val_main_v21 (F := Ideal) x1 (ix3 b s x) = x1 (ix3 0 1 x) := by
  rw [val_main_v21_apply, val_main_v20_apply, val_main_v19_apply, val_main_v18_apply, ← tap_at x1 1 x]
  exact congrArg _ (at2 _ _ _ rfl (Nat.mod_eq_of_lt x.isLt))

/-- The reference's third taps. -/
theorem tap2 (b : Fin 2) (s : Fin 4096) (x : Fin 1024) : val_main_v28 (F := Ideal) x1 (ix3 b s x) = x1 (ix3 0 2 x) := by
  rw [val_main_v28_apply, val_main_v27_apply, val_main_v26_apply, val_main_v25_apply, ← tap_at x1 2 x]
  exact congrArg _ (at2 _ _ _ rfl (Nat.mod_eq_of_lt x.isLt))

/-- The reference's bias. -/
theorem bias_at (b : Fin 2) (s : Fin 4096) (x : Fin 1024) : val_main_v32 (F := Ideal) x2 (ix3 b s x) = x2 (ix2 0 x) := by
  rw [val_main_v32_apply, val_main_v31_apply, val_main_v8_apply, val_main_v7_apply]
  exact congrArg x2 (at2 _ _ _ rfl (Nat.mod_eq_of_lt x.isLt))

/-- The reference's array by sample. -/
theorem sample_at (b : Fin 2) (s : Fin 4096) (x : Fin 1024) (R : Fin 8192) (hR : R.val = b.val * 4096 + s.val) :
    val_main_v34 (F := Ideal) x0 x1 x2 (ix3 b s x) = convArr x0 x1 x2 (ix2 R x) := by
  have hs := s.isLt
  have hb := b.isLt
  have hp : val_main_v11 (F := Ideal) x0 (ix3 b s x) = before x0 (rowOf R) x := by
    rw [val_main_v11_apply, at3 (idx_main_v11 (ix3 b s x)) b ⟨s.val, by omega⟩ x rfl rfl rfl]
    unfold before
    by_cases h : s.val = 0
    · rw [if_pos (by show R.val % 4096 = 0; omega), pad_out x0 b _ x (Or.inl h)]
    · rw [if_neg (by show ¬R.val % 4096 = 0; omega)]
      exact pad_in x0 b _ x ⟨s.val - 1, by omega⟩ _ (by show s.val = 1 + (s.val - 1); omega) (by show R.val - 1 = b.val * 4096 + (s.val - 1); omega)
  have hu : val_main_v17 (F := Ideal) x0 (ix3 b s x) = gated x0 (rowOf R) x := by
    rw [val_main_v17_apply, at3 (idx_main_v17 (ix3 b s x)) b ⟨1 + s.val, by omega⟩ x rfl rfl rfl]
    exact pad_in x0 b _ x s _ rfl hR
  have hn : val_main_v24 (F := Ideal) x0 (ix3 b s x) = after x0 (rowOf R) x := by
    rw [val_main_v24_apply, at3 (idx_main_v24 (ix3 b s x)) b ⟨2 + s.val, by omega⟩ x rfl rfl rfl]
    unfold after
    by_cases h : s.val = 4095
    · rw [if_pos (by show R.val % 4096 = 4095; omega), pad_out x0 b _ x (Or.inr (by show 2 + s.val = 4097; omega))]
    · rw [if_neg (by show ¬R.val % 4096 = 4095; omega)]
      exact pad_in x0 b _ x ⟨s.val + 1, by omega⟩ _ (by show 2 + s.val = 1 + (s.val + 1); omega)
        (by show (R.val + 1) % 8704 = b.val * 4096 + (s.val + 1); omega)
  rw [val_main_v34_apply, val_main_v33_apply, val_main_v30_apply, val_main_v29_apply, val_main_v23_apply, val_main_v22_apply, val_main_v16_apply,
    hp, hu, hn, tap0, tap1, tap2, bias_at, val_main_v3_apply, at3 (idx_main_v3 (ix3 b s x)) b s (bCol x) rfl rfl rfl, row_at x0 b s _ (rowOf R) hR]
  rfl

/-- The reference's array. -/
theorem ref_eq : val_main_v36 (F := Ideal) x0 x1 x2 = convArr x0 x1 x2 := by
  funext j
  obtain ⟨r, x, rfl⟩ : ∃ (r : Fin 8192) (x : Fin 1024), j = ix2 r x := ⟨j 0, j 1, by funext a; fin_cases a <;> rfl⟩
  have hr := r.isLt
  have hx := x.isLt
  rw [val_main_v36_apply]
  refine (show _ = val_main_v35 (F := Ideal) x0 x1 x2 (ix2 r x) from rfl).trans ?_
  rw [val_main_v35_apply,
    at3 (idx_main_v35 (ix2 r x)) ⟨r.val / 4096, by omega⟩ ⟨r.val % 4096, by omega⟩ x
      (by show (r.val * 1024 + x.val) / 4194304 = r.val / 4096; omega)
      (by show (r.val * 1024 + x.val) / 1024 % 4096 = r.val % 4096; omega)
      (by show (r.val * 1024 + x.val) % 1024 = x.val; omega)]
  exact sample_at x0 x1 x2 _ _ x r (by show r.val = r.val / 4096 * 4096 + r.val % 4096; omega)

end

end Cert.Kernel9Ideal.Conv
end
-- ==== Proof.AdaValue.lean ====
module

public import proofs.«01_k».proof.Proof.Gen.Kernel10Ideal.Value
public import Idealize.ShloMosaic.Lib.Pipeline.ValueKit
public import Idealize.ShloMosaic.Lib.Pointwise
public import Idealize.ShloMosaic.Lib.Claim
public import Idealize.ShloMosaic.Lib.Pipeline.ReadBack
public import proofs.«01_k».proof.Proof.Gen.Reference10Ideal.Read

/-! The table of modulation vectors, over the extended reals, and the reference's: each condition times its logistic, times the
weights of the layer, plus the bias. -/

@[expose] public section

set_option maxRecDepth 16384

noncomputable section

namespace Cert.Kernel10Ideal.Ada

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ)

/-- The conditions of the samples and of the context, one to a row, then rows of zeros. -/
def conds (x0 : Vec Ideal S2x4096 .f32) (x1 : Vec Ideal S4096 .f32) : Vec Ideal S8x4096 .f32 :=
  Cert.Reference10Ideal.Read.val_main_v3 (F := Ideal) x0 x1

/-- A number times its logistic. -/
def silu (x : EReal) : EReal := x * Ideal.logistic x

/-- The table: row `r` of layer `l`, from the conditions, the weights and the bias. -/
def adaArr (C : Vec Ideal S8x4096 .f32) (W : Vec Ideal S2x4096x36864 .f32) (B : Vec Ideal S2x36864 .f32) : Vec Ideal S2x8x36864 .f32 :=
  fun j => (∑ k : Fin 4096, silu (C (ix2 (j 1) k)) * W (ix3 (j 0) k (j 2))) + B (ix2 (j 0) (j 2))

/-- A stored block, at an index. -/
theorem pay_at (x : Vec Ideal S8x4096 .f32) (w : Vec Ideal S1x4096x1024 .f32) (b : Vec Ideal S1x1x1024 .f32) (r : Fin 8) (d : Fin 1024) :
    k0_pay1 x w b (ix3 0 r d) = (∑ k : Fin 4096, silu (x (ix2 r k)) * w (ix3 0 k d)) + b (ix3 0 0 d) := by
  pointwise [k0_pay1, silu]

/-- Where the blocks of a point sit. -/
theorem idx_all : ∀ t : Fin cfg0.N, win0_0.index t = ![0, 0] ∧ win0_1.index t = ![t.val / 36, 0, t.val % 36]
    ∧ win0_2.index t = ![t.val / 36, 0, t.val % 36] ∧ win0_3.index t = ![t.val / 36, 0, t.val % 36] :=
  (by decide +kernel : ∀ t : Fin grid0.N, win0_0.index t = ![0, 0] ∧ win0_1.index t = ![t.val / 36, 0, t.val % 36]
    ∧ win0_2.index t = ![t.val / 36, 0, t.val % 36] ∧ win0_3.index t = ![t.val / 36, 0, t.val % 36])

/-- The conditions. -/
abbrev CC (c : Dev nD) : Vec Ideal S8x4096 .f32 := conds (m ((c : Thread nD τ).loc main_arg0)) (m ((c : Thread nD τ).loc main_arg1))
/-- The weights. -/
abbrev WW (c : Dev nD) : Vec Ideal S2x4096x36864 .f32 := m ((c : Thread nD τ).loc main_arg2)
/-- The bias. -/
abbrev BB (c : Dev nD) : Vec Ideal S2x36864 .f32 := m ((c : Thread nD τ).loc main_arg3)

/-- The array of conditions the call is given. -/
theorem v3_eq (c : Dev nD) : V m c main_v3 = CC m c := by
  entry_read
  rfl

/-- The bias the call is given. -/
theorem v4_at (c : Dev nD) (l : Fin 2) (x : Fin 36864) : V m c main_v4 (ix3 l 0 x) = BB m c (ix2 l x) := by
  entry_read
  refine shapeCast_apply (BB m c) _ (ix3 l 0 x) (ix2 l x) ?_
  rw [Shape.rowMajor_val_two, Shape.rowMajor_val_three]
  show l.val * 36864 + x.val = (l.val * 1 + 0) * 36864 + x.val
  omega

/-- A point's conditions: all of them. -/
theorem c_blk (c : Dev nD) (t : Fin cfg0.N) (r : Fin 8) (k : Fin 4096) : iblk m c 0 t (ix2 r k) = CC m c (ix2 r k) := by
  rw [← v3_eq]
  have hi := (idx_all t).1
  blk_ext [iblk, hi]

/-- A point's weights. -/
theorem w_blk (c : Dev nD) (t : Fin cfg0.N) (k : Fin 4096) (d : Fin 1024) (l : Fin 2) (x : Fin 36864) (hl : l.val = t.val / 36)
    (hx : x.val = t.val % 36 * 1024 + d.val) : iblk m c 1 t (ix3 0 k d) = WW m c (ix3 l k x) := by
  refine Eq.trans ?_ (congrFun (V_main_arg2 m c) (ix3 l k x))
  have hi := (idx_all t).2.1
  blk_ext [iblk, hi, hl, hx]

/-- A point's bias. -/
theorem b_blk (c : Dev nD) (t : Fin cfg0.N) (d : Fin 1024) (l : Fin 2) (x : Fin 36864) (hl : l.val = t.val / 36)
    (hx : x.val = t.val % 36 * 1024 + d.val) : iblk m c 2 t (ix3 0 0 d) = BB m c (ix2 l x) := by
  rw [← v4_at]
  have hi := (idx_all t).2.2.1
  blk_ext [iblk, hi, hl, hx]

/-- The array the call leaves. -/
theorem final (c : Dev nD) : (dats m 0 c).arrAt 3 cfg0.N = adaArr (CC m c) (WW m c) (BB m c) := by
  refine (dats m 0 c).arrAt_eq_of_covers 3 _ (by decide +kernel) fun t hf y => ?_
  have hi := (idx_all t).2.2.2
  blk_simp
  rw [after0_3]
  obtain ⟨r, d, rfl⟩ : ∃ (r : Fin 8) (d : Fin 1024), y = ix3 0 r d := ⟨y 1, y 2, by
    funext a
    fin_cases a
    · exact Fin.ext (show (y 0).val = 0 by have : (y 0).val < 1 := (y 0).isLt; omega)
    · rfl
    · rfl⟩
  have e0 : ((win0_3.blk t).view.emb (ix3 0 r d) 0).val = t.val / 36 := by
    blk_simp [hi]
    rfl
  have e1 : ((win0_3.blk t).view.emb (ix3 0 r d) 1).val = r.val := by
    blk_simp [hi]
  have e2 : ((win0_3.blk t).view.emb (ix3 0 r d) 2).val = t.val % 36 * 1024 + d.val := by
    blk_simp [hi]
  generalize (win0_3.blk t).view.emb (ix3 0 r d) = j at e0 e1 e2 ⊢
  have hr : j 1 = r := Fin.ext e1
  unfold out0_3
  frame_out
  unfold adaArr
  rw [pay_at, b_blk m c t d (j 0) (j 2) e0 e2, hr]
  refine congrArg (fun z : EReal => z + _) (Finset.sum_congr rfl fun k _ => ?_)
  rw [c_blk, w_blk m c t k d (j 0) (j 2) e0 e2]

/-- The program ends with that array in its result and its arguments as they were. -/
theorem run_value (ρ : Dev nD → PrngReg) : θ_run (defs (F := Ideal)) (onTc (τ := τ) (main (F := Ideal))) ⟨m, fun _ => 0, ρ⟩
    (fun r => ∀ c : Dev nD, r.2.mem ((c.tc : Thread nD τ).loc main_v5) = adaArr (CC m c) (WW m c) (BB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (final m c), (h c).2⟩) (Cert.Kernel10Ideal.Value.run_blocks m ρ)

section
open Cert.Reference10Ideal.Read

variable (x0 : Vec Ideal S2x4096 .f32) (x1 : Vec Ideal S4096 .f32) (x2 : Vec Ideal S2x4096x36864 .f32) (x3 : Vec Ideal S2x36864 .f32)

/-- The word of one. -/
theorem one_word : Ideal.ofBits .f32 0x3F800000#32 = (1 : EReal) := by
  unfold Ideal.ofBits Ideal.ieee
  simp
  rw [← EReal.coe_mul, ← EReal.coe_one, EReal.coe_eq_coe_iff]
  norm_num

/-- The reference's silu of the conditions. -/
theorem silu_at (i : S8x4096.Idx) : val_main_v4 (F := Ideal) x0 x1 i = silu (conds x0 x1 i) := by
  rw [val_main_v4_apply, val_main_call0_v5_apply, val_main_call0_v4_apply, val_main_call0_v3_apply,
    val_main_call0_v2_apply, val_main_call0_v1_apply, val_main_call0_v0_apply, val_main_call0_cst_0_apply, val_main_call0_cst_apply]
  unfold conds
  generalize val_main_v3 (F := Ideal) x0 x1 i = z
  show z * Ideal.div (Ideal.ofBits .f32 0x3F800000#32) (Ideal.ofBits .f32 0x3F800000#32 + Ideal.exp (-z)) = _
  rw [one_word]
  rfl

/-- The reference's array. -/
theorem ref_eq : val_main_v9 (F := Ideal) x0 x1 x2 x3 = adaArr (conds x0 x1) x2 x3 := by
  funext j
  obtain ⟨l, r, x, rfl⟩ : ∃ (l : Fin 2) (r : Fin 8) (x : Fin 36864), j = ix3 l r x := ⟨j 0, j 1, j 2, by funext a; fin_cases a <;> rfl⟩
  rw [val_main_v9_apply, val_main_v8_apply, val_main_v7_apply, val_main_v6_apply, val_main_v5_apply]
  refine congrArg₂ (fun a b : EReal => a + b) (Finset.sum_congr rfl fun k _ => ?_) (congrArg x3 (funext fun a => ?_))
  · rw [silu_at]
    refine (mul_comm _ _).trans (congrArg₂ (fun a b : EReal => a * b) (congrArg silu (congrArg (conds x0 x1) ?_)) (congrArg x2 ?_))
    · funext a; fin_cases a <;> rfl
    · funext a; fin_cases a <;> rfl
  · fin_cases a <;> rfl

end

end Cert.Kernel10Ideal.Ada
end
-- ==== Proof.PrepValue.lean ====
module

public import proofs.«01_k».proof.Proof.Gen.Kernel11Ideal.Value
public import Idealize.ShloMosaic.Lib.Pipeline.ValueKit
public import Idealize.ShloMosaic.Lib.Pointwise
public import Idealize.ShloMosaic.Lib.VecWindow
public import Idealize.ShloMosaic.Lib.Claim
public import Idealize.ShloMosaic.Lib.Pipeline.ReadBack
public import proofs.«01_k».proof.Proof.Gen.Reference11Ideal.Read

/-! What one grid step of the preparation stores: the twelve heads' blocks of queries, of keys and of values with the
ones beside them, each read at an index from the step's rows, weights and tables. -/

@[expose] public section

set_option maxRecDepth 16384

noncomputable section

namespace Cert.Kernel11Ideal.Prep

open Cert.Kernel11Ideal Cert.Kernel11Ideal.Gen Idealize.ShloMosaic Idealize.ShloMosaic.TcCoe Idealize.SL.Sem
open Idealize.ShloMosaic.Pipeline (Dat)

/-- The word of the scale of the queries. -/
def scaleWord : EReal := Ideal.ofBits .f32 0x3DD53B95#32
/-- The word of one. -/
theorem one_word : Ideal.ofBits .f32 0x3F800000#32 = (1 : EReal) := by
  unfold Ideal.ofBits Ideal.ieee
  simp
  rw [← EReal.coe_mul, ← EReal.coe_one, EReal.coe_eq_coe_iff]
  norm_num

/-- Column `n` of a row of a block. -/
def col (v : Vec Ideal S512x3072 .f32) (r : Fin 512) (n : ℕ) : EReal := v (ix2 r (Fin.ofNat 3072 n))
/-- A lane of a row of a table's block. -/
def lane (C : Vec Ideal S512x128 .f32) (r : Fin 512) (d : ℕ) : EReal := C (ix2 r (Fin.ofNat 128 d))

/-- Lane `d` of a rotated row, by the three tables' lanes. -/
def turn (f C L H : ℕ → EReal) (d : ℕ) : EReal := f d * C d + f ((d + 32) % 128) * L d + f ((d + 96) % 128) * H d

/-- Queries' block: of each head the plain lanes and the rotated ones, scaled. -/
def qBlk (Q : Vec Ideal S512x3072 .f32) (C L H : Vec Ideal S512x128 .f32) (r : Fin 512) (n : ℕ) : EReal :=
  (if n % 256 < 128 then col Q r n
    else turn (fun d => col Q r (n / 256 * 256 + 128 + d)) (lane C r) (lane L r) (lane H r) (n % 256 - 128)) * scaleWord

/-- A rotation of the lanes, at an index. -/
theorem rot_at (u : FVec Ideal S512x128 .f32) (n : BitVec 32) (r : Fin 512) (d : Fin 128) :
    dynamicRotate 1 n none u rotates_S512x128_d1 (ix2 r d) = u (ix2 r ⟨(d.val + 128 - n.toNat % 128) % 128, Nat.mod_lt _ (by decide)⟩) := by
  pointwise

/-- A rotation by 96 lanes. -/
theorem rot96_at (u : FVec Ideal S512x128 .f32) (r : Fin 512) (d : Fin 128) :
    dynamicRotate 1 96#32 none u rotates_S512x128_d1 (ix2 r d) = u (ix2 r (Fin.ofNat 128 ((d.val + 32) % 128))) := by
  refine (rot_at u 96#32 r d).trans (congrArg (fun q => u (ix2 r q)) (Fin.ext ?_))
  show (d.val + 128 - 96) % 128 = (d.val + 32) % 128 % 128
  omega

/-- A rotation by 32 lanes. -/
theorem rot32_at (u : FVec Ideal S512x128 .f32) (r : Fin 512) (d : Fin 128) :
    dynamicRotate 1 32#32 none u rotates_S512x128_d1 (ix2 r d) = u (ix2 r (Fin.ofNat 128 ((d.val + 96) % 128))) := by
  refine (rot_at u 32#32 r d).trans (congrArg (fun q => u (ix2 r q)) (Fin.ext ?_))
  show (d.val + 128 - 32) % 128 = (d.val + 96) % 128 % 128
  omega

/-- A slice of 128 columns, at an index. -/
theorem slice_at (Q : FVec Ideal S512x3072 .f32) (o : ℕ) (hs : S512x3072.Slices ![0, o] S512x128) (r : Fin 512) (d : Fin 128) :
    extractStridedSlice S512x128 ![0, o] Q hs (ix2 r d) = col Q r (o + d.val) := by
  have ho : o + 128 ≤ 3072 := hs.2 1
  have hd := d.isLt
  pointwise [col]
  exact congrArg (fun q => Q (ix2 r q)) (Fin.ext (show o + d.val = (o + d.val) % 3072 by omega))

/-- A table's block is read as it is. -/
theorem tab5 (C : Vec Ideal S512x128 .f32) : k0_pay5 C = C := by
  funext i
  obtain ⟨r, d, rfl⟩ : ∃ (r : Fin 512) (d : Fin 128), i = ix2 r d := ⟨i 0, i 1, by funext a; fin_cases a <;> rfl⟩
  pointwise [k0_pay5]
/-- A table's block is read as it is. -/
theorem tab6 (C : Vec Ideal S512x128 .f32) : k0_pay6 C = C := tab5 C
/-- A table's block is read as it is. -/
theorem tab7 (C : Vec Ideal S512x128 .f32) : k0_pay7 C = C := tab5 C

/-- A store of plain queries. -/
theorem piece_plain (Q : Vec Ideal S512x3072 .f32) (C L H : Vec Ideal S512x128 .f32) {o : ℕ} (hs : S512x3072.Slices ![0, o] S512x128) (x : S512x128.Idx) (y : S512x3072.Idx)
    (ho : o % 256 = 0) (h0 : (y 0).val = (x 0).val) (h1 : (y 1).val = o + (x 1).val) :
    truncf (F := Ideal) (s := S512x128) (φ := .f32) .bf16 (mulf (extractStridedSlice S512x128 ![0, o] Q hs) (broadcast S512x128 (Scalar.ofBits (F := Ideal) .f32 0x3DD53B95#32))) bitsLt_bf16_f32 x
      = qBlk Q C L H (y 0) (y 1).val := by
  obtain ⟨r, d, rfl⟩ : ∃ (r : Fin 512) (d : Fin 128), x = ix2 r d := ⟨x 0, x 1, by funext a; fin_cases a <;> rfl⟩
  have hd := d.isLt
  have e0 : y 0 = r := Fin.ext h0
  have e1 : (y 1).val = o + d.val := h1
  show extractStridedSlice S512x128 ![0, o] Q hs (ix2 r d) * scaleWord = _
  unfold qBlk
  rw [slice_at, e0, e1, if_pos (by omega)]

/-- A store of rotated queries. -/
theorem piece_turned (Q : Vec Ideal S512x3072 .f32) (C L H : Vec Ideal S512x128 .f32) {o : ℕ} (hs : S512x3072.Slices ![0, o] S512x128) (x : S512x128.Idx) (y : S512x3072.Idx)
    (ho : o % 256 = 128) (h0 : (y 0).val = (x 0).val) (h1 : (y 1).val = o + (x 1).val) :
    truncf (F := Ideal) (s := S512x128) (φ := .f32) .bf16 (mulf (addf (addf (mulf (extractStridedSlice S512x128 ![0, o] Q hs) (k0_pay5 C))
        (mulf (dynamicRotate 1 96#32 none (extractStridedSlice S512x128 ![0, o] Q hs) rotates_S512x128_d1) (k0_pay6 L)))
        (mulf (dynamicRotate 1 32#32 none (extractStridedSlice S512x128 ![0, o] Q hs) rotates_S512x128_d1) (k0_pay7 H)))
        (broadcast S512x128 (Scalar.ofBits (F := Ideal) .f32 0x3DD53B95#32))) bitsLt_bf16_f32 x
      = qBlk Q C L H (y 0) (y 1).val := by
  obtain ⟨r, d, rfl⟩ : ∃ (r : Fin 512) (d : Fin 128), x = ix2 r d := ⟨x 0, x 1, by funext a; fin_cases a <;> rfl⟩
  have hd := d.isLt
  have e0 : y 0 = r := Fin.ext h0
  have e1 : (y 1).val = o + d.val := h1
  have hl : d = Fin.ofNat 128 d.val := Fin.ext (show d.val = d.val % 128 by omega)
  rw [tab5, tab6, tab7]
  show (extractStridedSlice S512x128 ![0, o] Q hs (ix2 r d) * C (ix2 r d)
    + dynamicRotate 1 96#32 none (extractStridedSlice S512x128 ![0, o] Q hs) rotates_S512x128_d1 (ix2 r d) * L (ix2 r d)
    + dynamicRotate 1 32#32 none (extractStridedSlice S512x128 ![0, o] Q hs) rotates_S512x128_d1 (ix2 r d) * H (ix2 r d)) * scaleWord = _
  unfold qBlk turn lane
  rw [rot96_at, rot32_at, slice_at, slice_at, slice_at, e0, e1, if_neg (by omega)]
  have k0 : (o + d.val) / 256 * 256 + 128 = o := by omega
  have k1 : (o + d.val) % 256 - 128 = d.val := by omega
  have k2 : ∀ a, (Fin.ofNat 128 (a % 128)).val = a % 128 := fun a => Nat.mod_mod _ _
  simp only [k0, k1, k2]
  rw [← hl]

/-- Keys' block: of each head the plain lanes and the rotated key's. -/
def kBlk (K : Vec Ideal S512x3072 .f32) (P : FVec Ideal S512x128 .bf16) (r : Fin 512) (n : ℕ) : EReal :=
  if n % 256 < 128 then col K r n else P (ix2 r (Fin.ofNat 128 (n % 256 - 128)))

/-- Values' block: of each head the values and ones. -/
def vBlk (K : Vec Ideal S512x3072 .f32) (r : Fin 512) (n : ℕ) : EReal :=
  if n % 256 < 128 then col K r (n + 128) else 1

/-- A store of plain keys. -/
theorem piece_key (K : Vec Ideal S512x3072 .f32) (P : FVec Ideal S512x128 .bf16) {o : ℕ} (hs : S512x3072.Slices ![0, o] S512x128) (x : S512x128.Idx) (y : S512x3072.Idx)
    (ho : o % 256 = 0) (h0 : (y 0).val = (x 0).val) (h1 : (y 1).val = o + (x 1).val) :
    truncf (F := Ideal) (s := S512x128) (φ := .f32) .bf16 (extractStridedSlice S512x128 ![0, o] K hs) bitsLt_bf16_f32 x = kBlk K P (y 0) (y 1).val := by
  obtain ⟨r, d, rfl⟩ : ∃ (r : Fin 512) (d : Fin 128), x = ix2 r d := ⟨x 0, x 1, by funext a; fin_cases a <;> rfl⟩
  have hd := d.isLt
  have e0 : y 0 = r := Fin.ext h0
  have e1 : (y 1).val = o + d.val := h1
  show extractStridedSlice S512x128 ![0, o] K hs (ix2 r d) = _
  unfold kBlk
  rw [slice_at, e0, e1, if_pos (by omega)]

/-- A store of the rotated key. -/
theorem piece_rotary (K : Vec Ideal S512x3072 .f32) (P : FVec Ideal S512x128 .bf16) {o : ℕ} (x : S512x128.Idx) (y : S512x3072.Idx)
    (ho : o % 256 = 128) (h0 : (y 0).val = (x 0).val) (h1 : (y 1).val = o + (x 1).val) :
    P x = kBlk K P (y 0) (y 1).val := by
  obtain ⟨r, d, rfl⟩ : ∃ (r : Fin 512) (d : Fin 128), x = ix2 r d := ⟨x 0, x 1, by funext a; fin_cases a <;> rfl⟩
  have hd := d.isLt
  have e0 : y 0 = r := Fin.ext h0
  have e1 : (y 1).val = o + d.val := h1
  unfold kBlk
  rw [e0, e1, if_neg (by omega)]
  exact congrArg (fun q => P (ix2 r q)) (Fin.ext (show d.val = ((o + d.val) % 256 - 128) % 128 by omega))

/-- A store of values. -/
theorem piece_value (K : Vec Ideal S512x3072 .f32) {o : ℕ} (hs : S512x3072.Slices ![0, o + 128] S512x128) (x : S512x128.Idx) (y : S512x3072.Idx)
    (ho : o % 256 = 0) (h0 : (y 0).val = (x 0).val) (h1 : (y 1).val = o + (x 1).val) :
    truncf (F := Ideal) (s := S512x128) (φ := .f32) .bf16 (extractStridedSlice S512x128 ![0, o + 128] K hs) bitsLt_bf16_f32 x = vBlk K (y 0) (y 1).val := by
  obtain ⟨r, d, rfl⟩ : ∃ (r : Fin 512) (d : Fin 128), x = ix2 r d := ⟨x 0, x 1, by funext a; fin_cases a <;> rfl⟩
  have hd := d.isLt
  have e0 : y 0 = r := Fin.ext h0
  have e1 : (y 1).val = o + d.val := h1
  show extractStridedSlice S512x128 ![0, o + 128] K hs (ix2 r d) = _
  unfold vBlk
  rw [slice_at, e0, e1, if_pos (by omega)]
  exact congrArg (col K r) (by omega)

/-- The sixteen-bit word of one. -/
theorem one_word16 : Ideal.ofBits .bf16 0x3F80#16 = (1 : EReal) := by
  unfold Ideal.ofBits Ideal.ieee
  simp
  rw [← EReal.coe_mul, ← EReal.coe_one, EReal.coe_eq_coe_iff]
  norm_num

/-- A store of ones. -/
theorem piece_one (K : Vec Ideal S512x3072 .f32) {o : ℕ} (x : S512x128.Idx) (y : S512x3072.Idx)
    (ho : o % 256 = 128) (h0 : (y 0).val = (x 0).val) (h1 : (y 1).val = o + (x 1).val) :
    broadcast S512x128 (Scalar.ofBits (F := Ideal) .bf16 0x3F80#16) x = vBlk K (y 0) (y 1).val := by
  have hd : (x 1).val < 128 := (x 1).isLt
  unfold vBlk
  rw [if_neg (by omega)]
  exact one_word16

/-- An entry of a row, by the mean of the row's squares and a weight. -/
def normed (x q w g : EReal) : EReal := x * Ideal.rsqrt (Ideal.div q w + Ideal.ofBits .f32 0x358637BD#32) * g

/-- A column of the queries' part of a row. -/
def qcol (k : Fin 768) : Fin 1280 := ⟨k.val, by have := k.isLt; omega⟩
/-- A column of the keys' and values' part of a row. -/
def vcol (k : Fin 512) : Fin 1280 := ⟨768 + k.val, by have := k.isLt; omega⟩

/-- The queries of a block, at an index. -/
theorem pay3_at (P : Vec Ideal S512x1280 .f32) (g : Vec Ideal S1x768 .f32) (w : Vec Ideal S768x3072 .bf16) (r : Fin 512) (n : Fin 3072) :
    k0_pay3 P g w (ix2 r n) = (∑ k : Fin 768, normed (P (ix2 r (qcol k))) (∑ j : Fin 768, P (ix2 r (qcol j)) * P (ix2 r (qcol j)) : EReal) (Ideal.ofBits .f32 0x44400000#32) (g (ix2 0 k)) * w (ix2 k n) : EReal) := by
  pointwise [k0_pay3, normed]
  rfl

/-- The keys and values of a block, at an index. -/
theorem pay4_at (P : Vec Ideal S512x1280 .f32) (g : Vec Ideal S1x512 .f32) (w : Vec Ideal S512x3072 .bf16) (r : Fin 512) (n : Fin 3072) :
    k0_pay4 P g w (ix2 r n) = (∑ k : Fin 512, normed (P (ix2 r (vcol k))) (∑ j : Fin 512, P (ix2 r (vcol j)) * P (ix2 r (vcol j)) : EReal) (Ideal.ofBits .f32 0x44000000#32) (g (ix2 0 k)) * w (ix2 k n) : EReal) := by
  pointwise [k0_pay4, normed]
  rfl

/-- The rotary columns of a block, before the rotation. -/
def rawKey (u : Vec Ideal S512x4096 .bf16) (w : Vec Ideal S1x128x4096 .f32) (r : Fin 512) (d : ℕ) : EReal :=
  ∑ k : Fin 4096, u (ix2 r k) * w (ix3 0 (Fin.ofNat 128 d) k)

/-- The product of the rotary columns, as a block. -/
def rawMat (u : Vec Ideal S512x4096 .bf16) (w : Vec Ideal S1x128x4096 .f32) : FVec Ideal S512x128 .f32 :=
  matmul (F := Ideal) (φ₁ := .bf16) (φ₂ := .bf16) dot_S512x4096_S128x4096_S512x128_1_1_0_0_n_n none (shapeCast S512x4096 u shapeCasts_S512x4096_S512x4096 : FVec Ideal S512x4096 .bf16)
    (truncf (F := Ideal) (φ := .f32) .bf16 (shapeCast S128x4096 w shapeCasts_S1x128x4096_S128x4096) bitsLt_bf16_f32) (constant S512x128 .f32 0x00000000#32)

/-- That block, at an index. -/
theorem rawMat_at (u : Vec Ideal S512x4096 .bf16) (w : Vec Ideal S1x128x4096 .f32) (r : Fin 512) (d : Fin 128) : rawMat u w (ix2 r d) = ∑ k : Fin 4096, (u (ix2 r k) * w (ix3 0 d k) : EReal) := by
  pointwise [rawMat]

/-- The rotated key of a block, at an index. -/
theorem pay8_at (C L H : Vec Ideal S512x128 .f32) (u : Vec Ideal S512x4096 .bf16) (w : Vec Ideal S1x128x4096 .f32) (r : Fin 512) (d : ℕ) (hd : d < 128) :
    k0_pay8 C L H u w (ix2 r (Fin.ofNat 128 d)) = turn (rawKey u w r) (lane C r) (lane L r) (lane H r) d := by
  have h : k0_pay8 C L H u w (ix2 r (Fin.ofNat 128 d)) = rawMat u w (ix2 r (Fin.ofNat 128 d)) * k0_pay5 C (ix2 r (Fin.ofNat 128 d))
    + dynamicRotate 1 96#32 none (rawMat u w) rotates_S512x128_d1 (ix2 r (Fin.ofNat 128 d)) * k0_pay6 L (ix2 r (Fin.ofNat 128 d))
    + dynamicRotate 1 32#32 none (rawMat u w) rotates_S512x128_d1 (ix2 r (Fin.ofNat 128 d)) * k0_pay7 H (ix2 r (Fin.ofNat 128 d)) := rfl
  have hv : (Fin.ofNat 128 d).val = d := Nat.mod_eq_of_lt hd
  rw [h, rot96_at, rot32_at, rawMat_at, rawMat_at, rawMat_at, tab5, tab6, tab7, hv]
  rfl

variable (m : (ℓ : Loc nD τ sig) → Buf (Elt Ideal) ℓ)

set_option maxHeartbeats 2000000 in
/-- The queries' block of a point. -/
theorem q_blk (c : Dev nD) (t : Fin cfg0.N) (y : S512x3072.Idx) :
    (outsAt0 m c t).1 y = qBlk (k0_pay3 (iblk m c 0 t) (iblk m c 3 t) (iblk m c 5 t)) (iblk m c 7 t) (iblk m c 8 t) (iblk m c 9 t) (y 0) (y 1).val := by
  unfold outsAt0 out0_A_10
  dsimp only
  frame_out
  canon_tiles x h
  all_goals
    generalize k0_pay3 (iblk m c 0 t) (iblk m c 3 t) (iblk m c 5 t) = Q
    generalize iblk m c 7 t = C
    generalize iblk m c 8 t = L
    generalize iblk m c 9 t = H
    first
      | refine Eq.trans ?_ (piece_plain Q C L H (by decide) x y (by decide) h0 h1)
      | refine Eq.trans ?_ (piece_turned Q C L H (by decide) x y (by decide) h0 h1)
      | refine Eq.trans ?_ (piece_plain Q C L H (o := 0) (by decide) x y (by decide) h0 (by omega))
    rfl

set_option maxHeartbeats 2000000 in
/-- The keys' block of a point. -/
theorem k_blk (c : Dev nD) (t : Fin cfg0.N) (y : S512x3072.Idx) :
    (outsAt0 m c t).2.1 y = kBlk (k0_pay4 (iblk m c 0 t) (iblk m c 4 t) (iblk m c 6 t)) (k0_pay8 (iblk m c 7 t) (iblk m c 8 t) (iblk m c 9 t) (iblk m c 1 t) (X0_2 m c t)) (y 0) (y 1).val := by
  unfold outsAt0 out0_A_11
  dsimp only
  frame_out
  canon_tiles x h
  all_goals
    generalize k0_pay4 (iblk m c 0 t) (iblk m c 4 t) (iblk m c 6 t) = K
    generalize k0_pay8 (iblk m c 7 t) (iblk m c 8 t) (iblk m c 9 t) (iblk m c 1 t) (X0_2 m c t) = P
    first
      | refine Eq.trans ?_ (piece_key K P (by decide) x y (by decide) h0 h1)
      | refine Eq.trans ?_ (piece_rotary K P x y (by decide) h0 h1)
      | refine Eq.trans ?_ (piece_key K P (o := 0) (by decide) x y (by decide) h0 (by omega))
    rfl

set_option maxHeartbeats 2000000 in
/-- The values' block of a point. -/
theorem v_blk (c : Dev nD) (t : Fin cfg0.N) (y : S512x3072.Idx) :
    (outsAt0 m c t).2.2 y = vBlk (k0_pay4 (iblk m c 0 t) (iblk m c 4 t) (iblk m c 6 t)) (y 0) (y 1).val := by
  unfold outsAt0 out0_A_12
  dsimp only
  frame_out
  canon_tiles x h
  all_goals
    try generalize k0_pay4 (iblk m c 0 t) (iblk m c 4 t) (iblk m c 6 t) = K
    first
      | refine Eq.trans ?_ (piece_value K (by decide) x y (by decide) h0 h1)
      | refine Eq.trans ?_ (piece_one K x y (by decide) h0 h1)
      | refine Eq.trans ?_ (piece_value K (o := 0) (by decide) x y (by decide) h0 (by omega))
    rfl

end Cert.Kernel11Ideal.Prep
end
-- ==== Proof.PrepHost.lean ====
module

public import proofs.«01_k».proof.Proof.Gen.Kernel11Ideal.Value
public import Idealize.ShloMosaic.Lib.Pipeline.ValueKit
public import Idealize.ShloMosaic.Lib.Pointwise
public import Idealize.ShloMosaic.Lib.VecWindow
public import Idealize.ShloMosaic.Lib.Claim
public import Idealize.ShloMosaic.Lib.KernelVsHost
public import Idealize.ShloMosaic.Lib.Pipeline.ReadBack
public import proofs.«01_k».proof.Proof.PrepValue

/-! The arrays that host code prepares for the preparation's call, read at an index: the transposed input weights, the
norms' rows, the regrouped query weights and the rotary tables with their signs and their repetition. -/

@[expose] public section

set_option maxRecDepth 16384

noncomputable section

namespace Cert.Kernel11Ideal.Prep

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ)

/-- The projected rows. -/
abbrev PA (c : Dev nD) : Vec Ideal S8704x3840 .f32 := m ((c : Thread nD τ).loc main_arg0)
/-- The rows. -/
abbrev UU (c : Dev nD) : Vec Ideal S8704x4096 .f32 := m ((c : Thread nD τ).loc main_arg1)
/-- The input weights. -/
abbrev WW (c : Dev nD) : Vec Ideal S2x4096x6976 .f32 := m ((c : Thread nD τ).loc main_arg2)
/-- The queries' weights of the norm. -/
abbrev QN (c : Dev nD) : Vec Ideal S2x768 .f32 := m ((c : Thread nD τ).loc main_arg3)
/-- The queries' weights. -/
abbrev UQ (c : Dev nD) : Vec Ideal S2x768x2304 .f32 := m ((c : Thread nD τ).loc main_arg4)
/-- The keys' and values' weights of the norm. -/
abbrev KN (c : Dev nD) : Vec Ideal S2x512 .f32 := m ((c : Thread nD τ).loc main_arg5)
/-- The keys' and values' weights. -/
abbrev UKV (c : Dev nD) : Vec Ideal S2x512x3072 .f32 := m ((c : Thread nD τ).loc main_arg6)
/-- The cosines. -/
abbrev CO (c : Dev nD) : Vec Ideal S4096x32 .f32 := m ((c : Thread nD τ).loc main_arg7)
/-- The sines. -/
abbrev SI (c : Dev nD) : Vec Ideal S4096x32 .f32 := m ((c : Thread nD τ).loc main_arg8)

/-- The cast rows are the rows. -/
theorem v0_at (c : Dev nD) (i : S8704x4096.Idx) : (V m c main_v0 i : EReal) = UU m c i := by
  entry_read
  rfl

/-- The transposed weights, at an index. -/
theorem v1_at (c : Dev nD) (x : Fin 6976) (k : Fin 4096) : (V m c main_v1 (ix3 0 x k) : EReal) = WW m c (ix3 0 k x) := by
  entry_read
  refine congrArg (WW m c) (funext fun a => ?_)
  fin_cases a <;> rfl

/-- A layer's weights of the queries' norm, as a row. -/
def normRow (g : Vec Ideal S2x768 .f32) : Vec Ideal S1x768 .f32 :=
  broadcastInDim S1x768 ![1] bcast_S768_S1x768_1 (shapeCast S768 (extractStridedSlice S1x768 ![0, 0] g slices_S2x768_S1x768_0_0) shapeCasts_S1x768_S768)

/-- That row, at an index. -/
theorem normRow_at (g : Vec Ideal S2x768 .f32) (k : Fin 768) : normRow g (ix2 0 k) = g (ix2 0 k) := by
  pointwise [normRow]

/-- A layer's weights of the keys' and values' norm, as a row. -/
def normRowK (g : Vec Ideal S2x512 .f32) : Vec Ideal S1x512 .f32 :=
  broadcastInDim S1x512 ![1] bcast_S512_S1x512_1 (shapeCast S512 (extractStridedSlice S1x512 ![0, 0] g slices_S2x512_S1x512_0_0) shapeCasts_S1x512_S512)

/-- That row, at an index. -/
theorem normRowK_at (g : Vec Ideal S2x512 .f32) (k : Fin 512) : normRowK g (ix2 0 k) = g (ix2 0 k) := by
  pointwise [normRowK]

/-- A layer's weights of the keys and values. -/
def layerK (w : Vec Ideal S2x512x3072 .f32) : Vec Ideal S512x3072 .bf16 :=
  truncf (F := Ideal) (φ := .f32) .bf16 (shapeCast S512x3072 (extractStridedSlice S1x512x3072 ![0, 0, 0] w slices_S2x512x3072_S1x512x3072_0_0_0) shapeCasts_S1x512x3072_S512x3072) bitsLt_bf16_f32

/-- Those weights, at an index. -/
theorem layerK_at (w : Vec Ideal S2x512x3072 .f32) (k : Fin 512) (n : Fin 3072) : layerK w (ix2 k n) = w (ix3 0 k n) := by
  pointwise [layerK]

/-- A layer's weights of the queries, by heads. -/
def heads (w : Vec Ideal S2x768x2304 .f32) : Vec Ideal S768x12x192 .f32 :=
  shapeCast S768x12x192 (shapeCast S768x2304 (extractStridedSlice S1x768x2304 ![0, 0, 0] w slices_S2x768x2304_S1x768x2304_0_0_0) shapeCasts_S1x768x2304_S768x2304) shapeCasts_S768x2304_S768x12x192

/-- Those weights, at an index. -/
theorem heads_at (w : Vec Ideal S2x768x2304 .f32) (k : Fin 768) (h : Fin 12) (d : Fin 192) (n : Fin 2304) (hn : n.val = h.val * 192 + d.val) :
    heads w (ix3 k h d) = w (ix3 0 k n) := by
  pointwise [heads]
  exact congrArg (fun q => w (ix3 0 k q)) (Fin.ext hn.symm)

/-- The heads' weights, filled up with zeros. -/
def filled (w : Vec Ideal S768x12x192 .f32) : Vec Ideal S768x12x256 .f32 :=
  pad S768x12x256 ![0, 0, 0] ![0, 0, 64] ![0, 0, 0] w (sitofp (F := Ideal) .f32 (constantI S_ 32 0#32)) pads_S768x12x192_S768x12x256_000_000_0640 h_S_

/-- The filled weights, at an index. -/
theorem filled_at (w : Vec Ideal S768x12x192 .f32) (k : Fin 768) (h : Fin 12) (d : Fin 256) :
    filled w (ix3 k h d) = if hd : d.val < 192 then w (ix3 k h ⟨d.val, hd⟩) else 0 := by
  unfold filled
  split
  · rename_i hd
    exact pad_apply_of_inside _ _ _ _ _ _ _ _ (ix3 k h ⟨d.val, hd⟩) (fun a => by fin_cases a <;> simp <;> rfl)
  · rename_i hd
    refine (pad_apply_of_not_inside _ _ _ _ _ _ _ _ 2 (fun hh => hd ?_)).trans ?_
    · exact lt_of_le_of_lt (by simp) hh.2.2
    · show (((0 : ℤ) : ℝ) : EReal) = 0
      simp

/-- The filled weights, side by side. -/
def packed (w : Vec Ideal S768x12x256 .f32) : Vec Ideal S768x3072 .bf16 :=
  truncf (F := Ideal) (φ := .f32) .bf16 (shapeCast S768x3072 w shapeCasts_S768x12x256_S768x3072) bitsLt_bf16_f32

/-- Those, at an index. -/
theorem packed_at (w : Vec Ideal S768x12x256 .f32) (k : Fin 768) (n : Fin 3072) :
    packed w (ix2 k n) = w (ix3 k ⟨n.val / 256, by have := n.isLt; omega⟩ ⟨n.val % 256, Nat.mod_lt _ (by decide)⟩) := by
  pointwise [packed]

/-- Two tables of 32 lanes and zeros, then a constant block. -/
def table (a b : Vec Ideal S4096x32 .f32) (e : Vec Ideal S512x128 .f32) : Vec Ideal S4608x128 .f32 :=
  concatenate S4608x128 0 [⟨S4096x128, concatenate S4096x128 1 [⟨S4096x64, concatenate S4096x64 1 [⟨S4096x32, a⟩, ⟨S4096x32, b⟩] concatenates_S4096x32_S4096x32_S4096x64_d1⟩,
    ⟨S4096x64, broadcastInDim S4096x64 ![] bcast_S_S4096x64 (constant (F := Ideal) S_ .f32 0x00000000#32)⟩] concatenates_S4096x64_S4096x64_S4096x128_d1⟩, ⟨S512x128, e⟩] concatenates_S4096x128_S512x128_S4608x128_d0

/-- The word of zero. -/
theorem zero_word : Ideal.ofBits .f32 0x00000000#32 = (0 : EReal) := by
  unfold Ideal.ofBits Ideal.ieee
  simp

/-- Such a table, at an index. -/
theorem table_at (a b : Vec Ideal S4096x32 .f32) (e : Vec Ideal S512x128 .f32) (R : Fin 4608) (d : Fin 128) : table a b e (ix2 R d)
    = if hR : R.val < 4096 then (if h1 : d.val < 32 then a (ix2 ⟨R.val, hR⟩ ⟨d.val, h1⟩) else if h2 : d.val < 64 then b (ix2 ⟨R.val, hR⟩ ⟨d.val - 32, by omega⟩) else 0)
      else e (ix2 ⟨R.val - 4096, by have := R.isLt; omega⟩ d) := by
  pointwise [table]
  split_ifs <;> first | rfl | omega

/-- Sixty-four lanes of ones, then zeros. -/
def ones : Vec Ideal S512x128 .f32 :=
  concatenate S512x128 1 [⟨S512x64, broadcastInDim S512x64 ![] bcast_S_S512x64 (constant (F := Ideal) S_ .f32 0x3F800000#32)⟩,
    ⟨S512x64, broadcastInDim S512x64 ![] bcast_S_S512x64 (constant (F := Ideal) S_ .f32 0x00000000#32)⟩] concatenates_S512x64_S512x64_S512x128_d1

/-- That block, at an index. -/
theorem ones_at (r : Fin 512) (d : Fin 128) : ones (ix2 r d) = if d.val < 64 then (1 : EReal) else 0 := by
  pointwise [ones]
  split_ifs <;> rfl

/-- Zeros. -/
def zeros : Vec Ideal S512x128 .f32 := broadcastInDim S512x128 ![] bcast_S_S512x128 (constant (F := Ideal) S_ .f32 0x00000000#32)

/-- That block, at an index. -/
theorem zeros_at (r : Fin 512) (d : Fin 128) : zeros (ix2 r d) = (0 : EReal) := by
  pointwise [zeros]

/-- Thirty-two lanes of zeros. -/
def zeros32 : Vec Ideal S4096x32 .f32 := broadcastInDim S4096x32 ![] bcast_S_S4096x32 (constant (F := Ideal) S_ .f32 0x00000000#32)

/-- The norms' weights and the layers', in the call. -/
theorem v4_eq (c : Dev nD) : V m c main_v4 = normRow (QN m c) := by
  entry_read
  rfl
/-- The keys' and values' weights of the norm, in the call. -/
theorem v7_eq (c : Dev nD) : V m c main_v7 = normRowK (KN m c) := by
  entry_read
  rfl
/-- The keys' and values' weights, in the call. -/
theorem v16_eq (c : Dev nD) : V m c main_v16 = layerK (UKV m c) := by
  entry_read
  rfl
/-- The queries' weights, in the call. -/
theorem v13_eq (c : Dev nD) : V m c main_v13 = packed (filled (heads (UQ m c))) := by
  entry_read
  rfl
set_option maxHeartbeats 4000000 in
/-- The table of the cosines, in the call. -/
theorem v29_eq (c : Dev nD) : V m c main_v29 = table (CO m c) (CO m c) ones := by
  entry_read
  rfl
set_option maxHeartbeats 4000000 in
/-- The table of the lower sines, in the call. -/
theorem v31_eq (c : Dev nD) : V m c main_v31 = table (Host.negf (F := Ideal) (φ := .f32) (SI m c)) zeros32 zeros := by
  entry_read
  rfl
set_option maxHeartbeats 4000000 in
/-- The table of the upper sines, in the call. -/
theorem v33_eq (c : Dev nD) : V m c main_v33 = table zeros32 (SI m c) zeros := by
  entry_read
  rfl

end Cert.Kernel11Ideal.Prep
end
-- ==== Proof.PrepArray.lean ====
module

public import proofs.«01_k».proof.Proof.Gen.Kernel11Ideal.Value
public import Idealize.ShloMosaic.Lib.Pipeline.ValueKit
public import Idealize.ShloMosaic.Lib.Pointwise
public import Idealize.ShloMosaic.Lib.VecWindow
public import Idealize.ShloMosaic.Lib.Claim
public import Idealize.ShloMosaic.Lib.KernelVsHost
public import Idealize.ShloMosaic.Lib.Pipeline.ReadBack
public import proofs.«01_k».proof.Proof.PrepHost

/-! The three arrays that the preparation leaves, queries, keys and values, each as one expression of the arguments
at an index, and the run that leaves them. -/

@[expose] public section

set_option maxRecDepth 16384

noncomputable section

namespace Cert.Kernel11Ideal.Prep

open Cert.Kernel11Ideal Cert.Kernel11Ideal.Gen Idealize.ShloMosaic Idealize.ShloMosaic.TcCoe Idealize.SL.Sem
open Idealize.ShloMosaic.Pipeline (Dat)

/-- A column of the queries' part of a projected row. -/
def qsrc (k : Fin 768) : Fin 3840 := ⟨2560 + k.val, by have := k.isLt; omega⟩
/-- A column of the keys' and values' part of a projected row. -/
def vsrc (k : Fin 512) : Fin 3840 := ⟨3328 + k.val, by have := k.isLt; omega⟩

/-- Column `n` of the queries of a row. -/
def qd (P : Vec Ideal S8704x3840 .f32) (g : Vec Ideal S2x768 .f32) (w : Vec Ideal S2x768x2304 .f32) (R : Fin 8704) (n : ℕ) : EReal :=
  ∑ k : Fin 768, normed (P (ix2 R (qsrc k))) (∑ j : Fin 768, P (ix2 R (qsrc j)) * P (ix2 R (qsrc j)) : EReal) (Ideal.ofBits .f32 0x44400000#32) (g (ix2 0 k)) * w (ix3 0 k (Fin.ofNat 2304 n))

/-- Column `n` of the keys and values of a row. -/
def vd (P : Vec Ideal S8704x3840 .f32) (g : Vec Ideal S2x512 .f32) (w : Vec Ideal S2x512x3072 .f32) (R : Fin 8704) (n : ℕ) : EReal :=
  ∑ k : Fin 512, normed (P (ix2 R (vsrc k))) (∑ j : Fin 512, P (ix2 R (vsrc j)) * P (ix2 R (vsrc j)) : EReal) (Ideal.ofBits .f32 0x44000000#32) (g (ix2 0 k)) * w (ix3 0 k (Fin.ofNat 3072 n))

/-- Lane `d` of the rotary key of a row. -/
def kd (U : Vec Ideal S8704x4096 .f32) (W : Vec Ideal S2x4096x6976 .f32) (R : Fin 8704) (d : ℕ) : EReal :=
  ∑ k : Fin 4096, U (ix2 R k) * W (ix3 0 k (Fin.ofNat 6976 (3840 + d)))

/-- An entry of a table of 32 lanes at a row. -/
def ang (T : Vec Ideal S4096x32 .f32) (R : Fin 8704) (d : ℕ) : EReal := T (ix2 (Fin.ofNat 4096 R.val) (Fin.ofNat 32 d))

/-- Lane `d` of a row's 64 rotary lanes, rotated if the row is a latent's. -/
def rotated (f : ℕ → EReal) (co si : Vec Ideal S4096x32 .f32) (R : Fin 8704) (d : ℕ) : EReal :=
  if R.val < 8192 then
    (if d < 32 then f d * ang co R d - f (d + 32) * ang si R d else f d * ang co R (d - 32) + f (d - 32) * ang si R (d - 32))
  else f d

/-- Packed queries. -/
def qArr (P : Vec Ideal S8704x3840 .f32) (g : Vec Ideal S2x768 .f32) (w : Vec Ideal S2x768x2304 .f32) (co si : Vec Ideal S4096x32 .f32) : Vec Ideal S8704x3072 .bf16 :=
  fun j => (if (j 1).val % 256 < 128 then qd P g w (j 0) ((j 1).val / 256 * 192 + (j 1).val % 256)
    else if (j 1).val % 256 < 192 then rotated (fun d => qd P g w (j 0) ((j 1).val / 256 * 192 + 128 + d)) co si (j 0) ((j 1).val % 256 - 128) else 0) * scaleWord

/-- Packed keys. -/
def kArr (P : Vec Ideal S8704x3840 .f32) (U : Vec Ideal S8704x4096 .f32) (W : Vec Ideal S2x4096x6976 .f32) (g : Vec Ideal S2x512 .f32) (w : Vec Ideal S2x512x3072 .f32) (co si : Vec Ideal S4096x32 .f32) :
    Vec Ideal S8704x3072 .bf16 :=
  fun j => if (j 1).val % 256 < 128 then vd P g w (j 0) (j 1).val
    else if (j 1).val % 256 < 192 then rotated (kd U W (j 0)) co si (j 0) ((j 1).val % 256 - 128) else 0

/-- Packed values. -/
def vArr (P : Vec Ideal S8704x3840 .f32) (g : Vec Ideal S2x512 .f32) (w : Vec Ideal S2x512x3072 .f32) : Vec Ideal S8704x3072 .bf16 :=
  fun j => if (j 1).val % 256 < 128 then vd P g w (j 0) ((j 1).val + 128) else 1

variable (m : (ℓ : Loc nD τ sig) → Buf (Elt Ideal) ℓ)

/-- Where the blocks of a point sit. -/
theorem idx_all : ∀ t : Fin cfg0.N, win0_0.index t = ![t.val, 2] ∧ win0_1.index t = ![t.val, 0] ∧ win0_2.index t = ![0, 30, 0] ∧ win0_3.index t = ![0, 0] ∧ win0_4.index t = ![0, 0]
    ∧ win0_5.index t = ![0, 0] ∧ win0_6.index t = ![0, 0] :=
  (by decide +kernel : ∀ t : Fin grid0.N, win0_0.index t = ![t.val, 2] ∧ win0_1.index t = ![t.val, 0] ∧ win0_2.index t = ![0, 30, 0] ∧ win0_3.index t = ![0, 0] ∧ win0_4.index t = ![0, 0]
    ∧ win0_5.index t = ![0, 0] ∧ win0_6.index t = ![0, 0])

/-- Where the tables' blocks of a point sit. -/
theorem idx_tab : ∀ t : Fin cfg0.N, win0_7.index t = ![if t.val < 16 then t.val % 8 else 8, 0] ∧ win0_8.index t = ![if t.val < 16 then t.val % 8 else 8, 0] ∧ win0_9.index t = ![if t.val < 16 then t.val % 8 else 8, 0] :=
  (by decide +kernel : ∀ t : Fin grid0.N, win0_7.index t = ![if t.val < 16 then t.val % 8 else 8, 0] ∧ win0_8.index t = ![if t.val < 16 then t.val % 8 else 8, 0] ∧ win0_9.index t = ![if t.val < 16 then t.val % 8 else 8, 0])

/-- Where the output blocks of a point sit. -/
theorem idx_out : ∀ t : Fin cfg0.N, win0_10.index t = ![t.val, 0] ∧ win0_11.index t = ![t.val, 0] ∧ win0_12.index t = ![t.val, 0] :=
  (by decide +kernel : ∀ t : Fin grid0.N, win0_10.index t = ![t.val, 0] ∧ win0_11.index t = ![t.val, 0] ∧ win0_12.index t = ![t.val, 0])

/-- A point's projected rows. -/
theorem p_blk (c : Dev nD) (t : Fin cfg0.N) (r : Fin 512) (k : Fin 1280) (R : Fin 8704) (x : Fin 3840) (hR : R.val = t.val * 512 + r.val) (hx : x.val = 2560 + k.val) :
    iblk m c 0 t (ix2 r k) = PA m c (ix2 R x) := by
  have hi := (idx_all t).1
  blk_ext [iblk, V_main_arg0 m c, hi, hR, hx]

/-- A point's rows. -/
theorem u_blk (c : Dev nD) (t : Fin cfg0.N) (r : Fin 512) (k : Fin 4096) (R : Fin 8704) (hR : R.val = t.val * 512 + r.val) :
    iblk m c 1 t (ix2 r k) = UU m c (ix2 R k) := by
  rw [← v0_at]
  have hi := (idx_all t).2.1
  blk_ext [iblk, hi, hR]

/-- A point's rotary columns of the input weights. -/
theorem w_blk (c : Dev nD) (t : Fin cfg0.N) (d : Fin 128) (k : Fin 4096) (x : Fin 6976) (hx : x.val = 3840 + d.val) :
    X0_2 m c t (ix3 0 d k) = WW m c (ix3 0 k x) := by
  rw [← v1_at]
  have hi := (idx_all t).2.2.1
  unfold X0_2 Pipeline.Window.fill
  rw [dif_pos (moved0_2 t _)]
  blk_ext [iblk, hi, hx]

/-- A point's weights of the queries' norm. -/
theorem g_blk (c : Dev nD) (t : Fin cfg0.N) (k : Fin 768) : iblk m c 3 t (ix2 0 k) = QN m c (ix2 0 k) := by
  rw [← normRow_at (QN m c), ← v4_eq]
  have hi := (idx_all t).2.2.2.1
  blk_ext [iblk, hi]

/-- A point's weights of the keys' and values' norm. -/
theorem gk_blk (c : Dev nD) (t : Fin cfg0.N) (k : Fin 512) : iblk m c 4 t (ix2 0 k) = KN m c (ix2 0 k) := by
  rw [← normRowK_at (KN m c), ← v7_eq]
  have hi := (idx_all t).2.2.2.2.1
  blk_ext [iblk, hi]

/-- A point's weights of the queries. -/
theorem uq_blk (c : Dev nD) (t : Fin cfg0.N) (k : Fin 768) (n : Fin 3072) : iblk m c 5 t (ix2 k n)
    = if n.val % 256 < 192 then UQ m c (ix3 0 k (Fin.ofNat 2304 (n.val / 256 * 192 + n.val % 256))) else (0 : EReal) := by
  have e : iblk m c 5 t (ix2 k n) = V m c main_v13 (ix2 k n) := by
    have hi := (idx_all t).2.2.2.2.2.1
    blk_ext [iblk, hi]
  have hn := n.isLt
  rw [e, v13_eq, packed_at, filled_at]
  by_cases h : n.val % 256 < 192
  · rw [dif_pos h, if_pos h]
    exact heads_at _ _ _ _ _ (show (n.val / 256 * 192 + n.val % 256) % 2304 = n.val / 256 * 192 + n.val % 256 by omega)
  · rw [dif_neg h, if_neg h]

/-- A point's weights of the keys and values. -/
theorem ukv_blk (c : Dev nD) (t : Fin cfg0.N) (k : Fin 512) (n : Fin 3072) : iblk m c 6 t (ix2 k n) = UKV m c (ix3 0 k n) := by
  rw [← layerK_at (UKV m c), ← v16_eq]
  have hi := (idx_all t).2.2.2.2.2.2
  blk_ext [iblk, hi]

/-- The row of the tables a row reads. -/
def trow (R : Fin 8704) : Fin 4608 := ⟨if R.val < 8192 then R.val % 4096 else 4096 + R.val % 512, by split <;> omega⟩

/-- Where a point's table rows sit. -/
theorem trow_val (t : Fin cfg0.N) (r : Fin 512) (R : Fin 8704) (hR : R.val = t.val * 512 + r.val) :
    (trow R).val = (if t.val < 16 then t.val % 8 else 8) * 512 + r.val := by
  have hr := r.isLt
  have hN := R.isLt
  unfold trow
  dsimp only
  split <;> split <;> omega

/-- A point's first table. -/
theorem c_blk (c : Dev nD) (t : Fin cfg0.N) (r : Fin 512) (d : Fin 128) (R : Fin 8704) (hR : R.val = t.val * 512 + r.val) :
    iblk m c 7 t (ix2 r d) = table (CO m c) (CO m c) ones (ix2 (trow R) d) := by
  rw [← v29_eq]
  have hi := (idx_tab t).1
  have hx := trow_val t r R hR
  blk_ext [iblk, hi, hx]

/-- A point's second table. -/
theorem l_blk (c : Dev nD) (t : Fin cfg0.N) (r : Fin 512) (d : Fin 128) (R : Fin 8704) (hR : R.val = t.val * 512 + r.val) :
    iblk m c 8 t (ix2 r d) = table (Host.negf (F := Ideal) (φ := .f32) (SI m c)) zeros32 zeros (ix2 (trow R) d) := by
  rw [← v31_eq]
  have hi := (idx_tab t).2.1
  have hx := trow_val t r R hR
  blk_ext [iblk, hi, hx]

/-- A point's third table. -/
theorem h_blk (c : Dev nD) (t : Fin cfg0.N) (r : Fin 512) (d : Fin 128) (R : Fin 8704) (hR : R.val = t.val * 512 + r.val) :
    iblk m c 9 t (ix2 r d) = table zeros32 (SI m c) zeros (ix2 (trow R) d) := by
  rw [← v33_eq]
  have hi := (idx_tab t).2.2
  have hx := trow_val t r R hR
  blk_ext [iblk, hi, hx]

/-- A lane of a row rotated by the tables is the lane rotated. -/
theorem turn_tables (f f' : ℕ → EReal) (co si : Vec Ideal S4096x32 .f32) (C L H : ℕ → EReal) (R : Fin 8704)
    (hf : ∀ d, d < 64 → f d = f' d)
    (hC : ∀ d, d < 128 → C d = table co co ones (ix2 (trow R) (Fin.ofNat 128 d)))
    (hL : ∀ d, d < 128 → L d = table (Host.negf (F := Ideal) (φ := .f32) si) zeros32 zeros (ix2 (trow R) (Fin.ofNat 128 d)))
    (hH : ∀ d, d < 128 → H d = table zeros32 si zeros (ix2 (trow R) (Fin.ofNat 128 d))) (d : ℕ) (hd : d < 128) :
    turn f C L H d = if d < 64 then rotated f' co si R d else 0 := by
  have hv : (Fin.ofNat 128 d).val = d := Nat.mod_eq_of_lt hd
  have hz : ∀ i, zeros32 i = (0 : EReal) := fun i => zero_word
  unfold turn rotated
  rw [hC d hd, hL d hd, hH d hd, table_at, table_at, table_at]
  simp only [hv]
  by_cases hR : R.val < 8192
  · have ht : (trow R).val = R.val % 4096 := if_pos hR
    have h4 : (trow R).val < 4096 := by omega
    have er : (⟨(trow R).val, h4⟩ : Fin 4096) = Fin.ofNat 4096 R.val := Fin.ext ht
    simp only [dif_pos h4, if_pos hR, hz, er]
    by_cases h1 : d < 32
    · have e1 : (⟨d, h1⟩ : Fin 32) = Fin.ofNat 32 d := Fin.ext (Nat.mod_eq_of_lt h1).symm
      have e2 : (d + 32) % 128 = d + 32 := by omega
      simp only [dif_pos h1, if_pos h1, if_pos (show d < 64 by omega), e1, e2, mul_zero, add_zero]
      rw [hf d (by omega), hf (d + 32) (by omega), sub_eq_add_neg, ← mul_neg]
      rfl
    · by_cases h2 : d < 64
      · have e1 : (⟨d - 32, by omega⟩ : Fin 32) = Fin.ofNat 32 (d - 32) := Fin.ext (Nat.mod_eq_of_lt (show d - 32 < 32 by omega)).symm
        have e2 : (d + 96) % 128 = d - 32 := by omega
        simp only [dif_neg h1, if_neg h1, dif_pos h2, if_pos h2, e1, e2, mul_zero, add_zero]
        rw [hf d h2, hf (d - 32) (by omega)]
        rfl
      · simp only [dif_neg h1, dif_neg h2, if_neg h2, mul_zero, add_zero]
  · have ht : (trow R).val = 4096 + R.val % 512 := if_neg hR
    have h4 : ¬ (trow R).val < 4096 := by omega
    simp only [dif_neg h4, if_neg hR, zeros_at, ones_at, hv, mul_zero, add_zero]
    by_cases h2 : d < 64
    · rw [if_pos h2, if_pos h2, mul_one, hf d h2]
    · rw [if_neg h2, if_neg h2, mul_zero]

/-- A column of a point's queries. -/
theorem q_col (c : Dev nD) (t : Fin cfg0.N) (r : Fin 512) (n : ℕ) (hn : n < 3072) (R : Fin 8704) (hR : R.val = t.val * 512 + r.val) :
    col (k0_pay3 (iblk m c 0 t) (iblk m c 3 t) (iblk m c 5 t)) r n = if n % 256 < 192 then qd (PA m c) (QN m c) (UQ m c) R (n / 256 * 192 + n % 256) else 0 := by
  have hv : (Fin.ofNat 3072 n).val = n := Nat.mod_eq_of_lt hn
  have hp : ∀ k : Fin 768, iblk m c 0 t (ix2 r (qcol k)) = PA m c (ix2 R (qsrc k)) := fun k => p_blk m c t r _ R _ hR rfl
  unfold col qd
  rw [pay3_at]
  simp only [hp, g_blk, uq_blk, hv]
  by_cases h : n % 256 < 192
  · simp only [if_pos h]
  · simp only [if_neg h, mul_zero, Finset.sum_const_zero]

/-- A column of a point's keys and values. -/
theorem v_col (c : Dev nD) (t : Fin cfg0.N) (r : Fin 512) (n : ℕ) (R : Fin 8704) (hR : R.val = t.val * 512 + r.val) :
    col (k0_pay4 (iblk m c 0 t) (iblk m c 4 t) (iblk m c 6 t)) r n = vd (PA m c) (KN m c) (UKV m c) R n := by
  have hp : ∀ k : Fin 512, iblk m c 0 t (ix2 r (vcol k)) = PA m c (ix2 R (vsrc k)) := fun k => p_blk m c t r _ R _ hR (by show 3328 + k.val = 2560 + (768 + k.val); omega)
  unfold col vd
  rw [pay4_at]
  simp only [hp, gk_blk, ukv_blk]

/-- A lane of a point's rotary key. -/
theorem k_lane (c : Dev nD) (t : Fin cfg0.N) (r : Fin 512) (d : ℕ) (hd : d < 128) (R : Fin 8704) (hR : R.val = t.val * 512 + r.val) :
    k0_pay8 (iblk m c 7 t) (iblk m c 8 t) (iblk m c 9 t) (iblk m c 1 t) (X0_2 m c t) (ix2 r (Fin.ofNat 128 d))
      = if d < 64 then rotated (kd (UU m c) (WW m c) R) (CO m c) (SI m c) R d else (0 : EReal) := by
  rw [pay8_at _ _ _ _ _ _ _ hd]
  refine turn_tables _ _ _ _ _ _ _ R (fun d h => ?_) (fun d h => c_blk m c t r _ R hR) (fun d h => l_blk m c t r _ R hR) (fun d h => h_blk m c t r _ R hR) d hd
  unfold rawKey kd
  have hw : ∀ k, X0_2 m c t (ix3 0 (Fin.ofNat 128 d) k) = WW m c (ix3 0 k (Fin.ofNat 6976 (3840 + d))) := fun k =>
    w_blk m c t _ k _ (show (3840 + d) % 6976 = 3840 + d % 128 by omega)
  simp only [u_blk m c t r _ R hR, hw]

/-- The queries the call leaves. -/
theorem final_q (c : Dev nD) : (dats m 0 c).arrAt 10 cfg0.N = qArr (PA m c) (QN m c) (UQ m c) (CO m c) (SI m c) := by
  refine (dats m 0 c).arrAt_eq_of_covers 10 _ (by decide +kernel) fun t hf y => ?_
  have hi := (idx_out t).1
  blk_simp
  rw [after0_10]
  obtain ⟨r, d, rfl⟩ : ∃ (r : Fin 512) (d : Fin 3072), y = ix2 r d := ⟨y 0, y 1, by funext a; fin_cases a <;> rfl⟩
  have e0 : ((win0_10.blk t).view.emb (ix2 r d) 0).val = t.val * 512 + r.val := by
    blk_simp [hi]
  have e1 : ((win0_10.blk t).view.emb (ix2 r d) 1).val = d.val := by
    blk_simp [hi]
  generalize (win0_10.blk t).view.emb (ix2 r d) = j at e0 e1 ⊢
  refine (q_blk m c t (ix2 r d)).trans ?_
  have hd := d.isLt
  unfold qBlk qArr
  rw [e1]
  refine congrArg (fun z : EReal => z * scaleWord) ?_
  show (if d.val % 256 < 128 then col _ r d.val else turn (fun e => col _ r (d.val / 256 * 256 + 128 + e)) (lane _ r) (lane _ r) (lane _ r) (d.val % 256 - 128)) = _
  by_cases h : d.val % 256 < 128
  · rw [if_pos h, if_pos h, q_col m c t r _ hd (j 0) e0, if_pos (by omega)]
  · rw [if_neg h, if_neg h]
    refine (turn_tables _ (fun e => qd (PA m c) (QN m c) (UQ m c) (j 0) (d.val / 256 * 192 + 128 + e)) _ _ _ _ _ (j 0) (fun e he => ?_) (fun e h => c_blk m c t r _ (j 0) e0) (fun e h => l_blk m c t r _ (j 0) e0) (fun e h => h_blk m c t r _ (j 0) e0) _ (by omega)).trans ?_
    · show col _ r (d.val / 256 * 256 + 128 + e) = _
      rw [q_col m c t r _ (by omega) (j 0) e0, if_pos (by omega)]
      exact congrArg (qd _ _ _ _) (by omega)
    · by_cases h2 : d.val % 256 < 192
      · rw [if_pos h2, if_pos (by omega)]
      · rw [if_neg h2, if_neg (by omega)]

/-- The keys the call leaves. -/
theorem final_k (c : Dev nD) : (dats m 0 c).arrAt 11 cfg0.N = kArr (PA m c) (UU m c) (WW m c) (KN m c) (UKV m c) (CO m c) (SI m c) := by
  refine (dats m 0 c).arrAt_eq_of_covers 11 _ (by decide +kernel) fun t hf y => ?_
  have hi := (idx_out t).2.1
  blk_simp
  rw [after0_11]
  obtain ⟨r, d, rfl⟩ : ∃ (r : Fin 512) (d : Fin 3072), y = ix2 r d := ⟨y 0, y 1, by funext a; fin_cases a <;> rfl⟩
  have e0 : ((win0_11.blk t).view.emb (ix2 r d) 0).val = t.val * 512 + r.val := by
    blk_simp [hi]
  have e1 : ((win0_11.blk t).view.emb (ix2 r d) 1).val = d.val := by
    blk_simp [hi]
  generalize (win0_11.blk t).view.emb (ix2 r d) = j at e0 e1 ⊢
  refine (k_blk m c t (ix2 r d)).trans ?_
  have hd := d.isLt
  unfold kBlk kArr
  rw [e1]
  show (if d.val % 256 < 128 then col _ r d.val else (k0_pay8 (F := Ideal) _ _ _ _ _ (ix2 r (Fin.ofNat 128 (d.val % 256 - 128))) : EReal)) = _
  by_cases h : d.val % 256 < 128
  · rw [if_pos h, if_pos h, v_col m c t r _ (j 0) e0]
  · rw [if_neg h, if_neg h, k_lane m c t r _ (by omega) (j 0) e0]
    by_cases h2 : d.val % 256 < 192
    · rw [if_pos h2, if_pos (by omega)]
    · rw [if_neg h2, if_neg (by omega)]

/-- The values the call leaves. -/
theorem final_v (c : Dev nD) : (dats m 0 c).arrAt 12 cfg0.N = vArr (PA m c) (KN m c) (UKV m c) := by
  refine (dats m 0 c).arrAt_eq_of_covers 12 _ (by decide +kernel) fun t hf y => ?_
  have hi := (idx_out t).2.2
  blk_simp
  rw [after0_12]
  obtain ⟨r, d, rfl⟩ : ∃ (r : Fin 512) (d : Fin 3072), y = ix2 r d := ⟨y 0, y 1, by funext a; fin_cases a <;> rfl⟩
  have e0 : ((win0_12.blk t).view.emb (ix2 r d) 0).val = t.val * 512 + r.val := by
    blk_simp [hi]
  have e1 : ((win0_12.blk t).view.emb (ix2 r d) 1).val = d.val := by
    blk_simp [hi]
  generalize (win0_12.blk t).view.emb (ix2 r d) = j at e0 e1 ⊢
  refine (v_blk m c t (ix2 r d)).trans ?_
  unfold vBlk vArr
  rw [e1]
  show (if d.val % 256 < 128 then col _ r (d.val + 128) else 1) = _
  rw [v_col m c t r _ (j 0) e0]

/-- The program ends with those arrays in its results and its arguments as they were. -/
theorem run_value (ρ : Dev nD → PrngReg) : θ_run (defs (F := Ideal)) (onTc (τ := τ) (main (F := Ideal))) ⟨m, fun _ => 0, ρ⟩
    (fun r => ∀ c : Dev nD, r.2.mem ((c.tc : Thread nD τ).loc main_v34_0) = qArr (PA m c) (QN m c) (UQ m c) (CO m c) (SI m c)
      ∧ r.2.mem ((c.tc : Thread nD τ).loc main_v34_1) = kArr (PA m c) (UU m c) (WW m c) (KN m c) (UKV m c) (CO m c) (SI m c)
      ∧ r.2.mem ((c.tc : Thread nD τ).loc main_v34_2) = vArr (PA m c) (KN m c) (UKV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (final_q m c), (h c).2.1.trans (final_k m c), (h c).2.2.1.trans (final_v m c), (h c).2.2.2⟩) (Cert.Kernel11Ideal.Value.run_blocks m ρ)

end Cert.Kernel11Ideal.Prep
end
-- ==== Proof.PrepRef.lean ====
module

public import proofs.«01_k».proof.Proof.Gen.Kernel11Ideal.Value
public import Idealize.ShloMosaic.Lib.Pipeline.ValueKit
public import Idealize.ShloMosaic.Lib.Pointwise
public import Idealize.ShloMosaic.Lib.VecWindow
public import Idealize.ShloMosaic.Lib.Claim
public import Idealize.ShloMosaic.Lib.KernelVsHost
public import Idealize.ShloMosaic.Lib.Pipeline.ReadBack
public import proofs.«01_k».proof.Proof.PrepArray
public import proofs.«01_k».proof.Proof.Gen.Reference11Ideal.Read

/-! The three arrays of the preparation's reference are those that the kernel leaves. -/

@[expose] public section

set_option maxRecDepth 16384

noncomputable section

namespace Cert.Kernel11Ideal.Prep

open Cert.Kernel11Ideal Cert.Kernel11Ideal.Gen Idealize.ShloMosaic Idealize.ShloMosaic.TcCoe Idealize.SL.Sem
open Idealize.ShloMosaic.Pipeline (Dat)

open Cert.Reference11Ideal.Read

variable (x0 : Vec Ideal S8704x3840 .f32) (x1 : Vec Ideal S8704x4096 .f32) (x2 : Vec Ideal S2x4096x6976 .f32) (x3 : Vec Ideal S2x768 .f32)
  (x4 : Vec Ideal S2x768x2304 .f32) (x5 : Vec Ideal S2x512 .f32) (x6 : Vec Ideal S2x512x3072 .f32) (x7 x8 : Vec Ideal S4096x32 .f32)

/-- An index of a rank-3 array, from its coordinates. -/
theorem at3 {n k l : ℕ} (i : (⟨3, ![n, k, l]⟩ : Shape).Idx) (a : Fin n) (b : Fin k) (d : Fin l) (h0 : (i 0).val = a.val) (h1 : (i 1).val = b.val)
    (h2 : (i 2).val = d.val) : i = ix3 a b d := by
  funext e
  fin_cases e
  · exact Fin.ext h0
  · exact Fin.ext h1
  · exact Fin.ext h2

/-- The reference's queries, before the heads. -/
theorem ref_q (R : Fin 8704) (n : Fin 2304) : val_main_v19 (F := Ideal) x0 x3 x4 (ix2 R n) = qd x0 x3 x4 R n.val := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_cst, val_main_cst_0, val_main_cst_1]
  have e : Fin.ofNat 2304 n.val = n := Fin.ext (Nat.mod_eq_of_lt n.isLt)
  unfold qd
  rw [e]
  rfl

/-- The reference's keys and values, before the heads. -/
theorem ref_v (R : Fin 8704) (n : Fin 3072) : val_main_v38 (F := Ideal) x0 x5 x6 (ix2 R n) = vd x0 x5 x6 R n.val := by
  pointwise [val_main_v1, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_cst_2, val_main_cst_3, val_main_cst_4]
  have e : Fin.ofNat 3072 n.val = n := Fin.ext (Nat.mod_eq_of_lt n.isLt)
  unfold vd
  rw [e]
  rfl

/-- The reference's rotary key, before the rotation. -/
theorem ref_k (R : Fin 8704) (d : Fin 64) : val_main_v43 (F := Ideal) x1 x2 (ix2 R d) = kd x1 x2 R d.val := by
  pointwise [val_main_v40, val_main_v41, val_main_v42, val_main_v43]
  have hd := d.isLt
  have e : Fin.ofNat 6976 (3840 + d.val) = ⟨3840 + d.val, by omega⟩ := Fin.ext (Nat.mod_eq_of_lt (by omega))
  unfold kd
  rw [e]

/-- The reference's heads of queries. -/
theorem ref_q3 (R : Fin 8704) (h : Fin 12) (d : Fin 192) : val_main_v20 (F := Ideal) x0 x3 x4 (ix3 R h d) = qd x0 x3 x4 R (h.val * 192 + d.val) := by
  pointwise [val_main_v20]
  rw [ref_q]

/-- The reference's heads of keys and values. -/
theorem ref_v3 (R : Fin 8704) (h : Fin 12) (d : Fin 256) : val_main_v39 (F := Ideal) x0 x5 x6 (ix3 R h d) = vd x0 x5 x6 R (h.val * 256 + d.val) := by
  pointwise [val_main_v39]
  rw [ref_v]

/-- The latents' rotary queries, before the rotation. -/
theorem ref_q4 (b : Fin 2) (s : Fin 4096) (h : Fin 12) (d : Fin 64) (R : Fin 8704) (hR : R.val = b.val * 4096 + s.val) :
    val_main_v46 (F := Ideal) x0 x3 x4 (ix4 b s h d) = qd x0 x3 x4 R (h.val * 192 + 128 + d.val) := by
  have e : val_main_v46 (F := Ideal) x0 x3 x4 (ix4 b s h d) = val_main_v20 (F := Ideal) x0 x3 x4 (ix3 R h ⟨128 + d.val, by have := d.isLt; omega⟩) := by
    rw [val_main_v46_apply, val_main_v45_apply, val_main_v44_apply]
    have hb := b.isLt
    have hs := s.isLt
    have hh := h.isLt
    have hd := d.isLt
    refine congrArg (val_main_v20 (F := Ideal) x0 x3 x4) (at3 _ _ _ _ ?_ ?_ ?_)
    · show (((b.val * 4096 + s.val) * 12 + h.val) * 64 + d.val) / 768 = R.val; omega
    · show (((b.val * 4096 + s.val) * 12 + h.val) * 64 + d.val) / 64 % 12 = h.val; omega
    · show 128 + (((b.val * 4096 + s.val) * 12 + h.val) * 64 + d.val) % 64 = 128 + d.val; omega
  rw [e, ref_q3]
  exact congrArg (qd x0 x3 x4 R) (by show h.val * 192 + (128 + d.val) = _; omega)

/-- The latents' rotary queries, rotated. -/
theorem ref_q65 (b : Fin 2) (s : Fin 4096) (h : Fin 12) (d : Fin 64) (R : Fin 8704) (hR : R.val = b.val * 4096 + s.val) :
    val_main_v65 (F := Ideal) x0 x3 x4 x7 x8 (ix4 b s h d) = rotated (fun e => qd x0 x3 x4 R (h.val * 192 + 128 + e)) x7 x8 R d.val := by
  have hd := d.isLt
  have e : val_main_v65 (F := Ideal) x0 x3 x4 x7 x8 (ix4 b s h d) = if h1 : d.val < 32 then
      val_main_v46 (F := Ideal) x0 x3 x4 (ix4 b s h d) * x7 (ix2 s ⟨d.val, h1⟩) - val_main_v46 (F := Ideal) x0 x3 x4 (ix4 b s h ⟨32 + d.val, by omega⟩) * x8 (ix2 s ⟨d.val, h1⟩)
    else val_main_v46 (F := Ideal) x0 x3 x4 (ix4 b s h ⟨32 + (d.val - 32), by omega⟩) * x7 (ix2 s ⟨d.val - 32, by omega⟩)
      + val_main_v46 (F := Ideal) x0 x3 x4 (ix4 b s h ⟨d.val - 32, by omega⟩) * x8 (ix2 s ⟨d.val - 32, by omega⟩) := by
    pointwise [val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65]
  rw [e]
  clear e
  have hb := b.isLt
  have hs := s.isLt
  have eR : s = Fin.ofNat 4096 R.val := Fin.ext (show s.val = R.val % 4096 by omega)
  unfold rotated ang
  rw [if_pos (by omega), ← eR]
  by_cases h1 : d.val < 32
  · have e1 : (⟨d.val, h1⟩ : Fin 32) = Fin.ofNat 32 d.val := Fin.ext (Nat.mod_eq_of_lt h1).symm
    rw [dif_pos h1, if_pos h1, e1, ref_q4 _ _ _ b s h _ R hR, ref_q4 _ _ _ b s h _ R hR]
    rw [show h.val * 192 + 128 + (32 + d.val) = h.val * 192 + 128 + (d.val + 32) by omega]
  · have e1 : (⟨d.val - 32, by omega⟩ : Fin 32) = Fin.ofNat 32 (d.val - 32) := Fin.ext (Nat.mod_eq_of_lt (show d.val - 32 < 32 by omega)).symm
    rw [dif_neg h1, if_neg h1, e1, ref_q4 _ _ _ b s h _ R hR, ref_q4 _ _ _ b s h _ R hR]
    rw [show h.val * 192 + 128 + (32 + (d.val - 32)) = h.val * 192 + 128 + d.val by omega]

/-- The reference's rotated queries. -/
theorem ref_qp (R : Fin 8704) (h : Fin 12) (d : Fin 64) : val_main_v87 (F := Ideal) x0 x3 x4 x7 x8 (ix3 R h d)
    = rotated (fun e => qd x0 x3 x4 R (h.val * 192 + 128 + e)) x7 x8 R d.val := by
  have hR := R.isLt
  have hh := h.isLt
  have hd := d.isLt
  have e : val_main_v87 (F := Ideal) x0 x3 x4 x7 x8 (ix3 R h d) = if hl : R.val < 8192 then val_main_v85 (F := Ideal) x0 x3 x4 x7 x8 (ix3 ⟨R.val, hl⟩ h d)
      else val_main_v86 (F := Ideal) x0 x3 x4 (ix3 ⟨R.val - 8192, by omega⟩ h d) := by
    pointwise [val_main_v87]
  rw [e]
  clear e
  by_cases hl : R.val < 8192
  · rw [dif_pos hl, val_main_v85_apply]
    rw [← ref_q65 x0 x3 x4 x7 x8 (⟨R.val / 4096, by omega⟩ : Fin 2) (⟨R.val % 4096, by omega⟩ : Fin 4096) h d R (by show R.val = R.val / 4096 * 4096 + R.val % 4096; omega)]
    refine congrArg (val_main_v65 (F := Ideal) x0 x3 x4 x7 x8) (funext fun a => ?_)
    fin_cases a
    · exact Fin.ext (show ((R.val * 12 + h.val) * 64 + d.val) / 3145728 = R.val / 4096 by omega)
    · exact Fin.ext (show ((R.val * 12 + h.val) * 64 + d.val) / 768 % 4096 = R.val % 4096 by omega)
    · exact Fin.ext (show ((R.val * 12 + h.val) * 64 + d.val) / 64 % 12 = h.val by omega)
    · exact Fin.ext (show ((R.val * 12 + h.val) * 64 + d.val) % 64 = d.val by omega)
  · rw [dif_neg hl, val_main_v86_apply, val_main_v44_apply]
    unfold rotated
    rw [if_neg hl]
    show _ = qd x0 x3 x4 R (h.val * 192 + 128 + d.val)
    rw [← show qd x0 x3 x4 R (h.val * 192 + (128 + d.val)) = qd x0 x3 x4 R (h.val * 192 + 128 + d.val) from congrArg (qd x0 x3 x4 R) (by omega)]
    rw [← ref_q3 x0 x3 x4 R h ⟨128 + d.val, by omega⟩]
    refine congrArg (val_main_v20 (F := Ideal) x0 x3 x4) (at3 _ _ _ _ ?_ ?_ ?_)
    · show 8192 + (R.val - 8192) = R.val; omega
    · rfl
    · rfl

/-- The reference's rotated key. -/
theorem ref_kp (R : Fin 8704) (d : Fin 64) : val_main_v90 (F := Ideal) x1 x2 x7 x8 (ix2 R d) = rotated (kd x1 x2 R) x7 x8 R d.val := by
  have hR := R.isLt
  have hd := d.isLt
  have e : val_main_v90 (F := Ideal) x1 x2 x7 x8 (ix2 R d) = if hl : R.val < 8192 then (if h1 : d.val < 32 then
        val_main_v43 (F := Ideal) x1 x2 (ix2 ⟨R.val / 4096 * 4096 + R.val % 4096, by omega⟩ d) * x7 (ix2 ⟨R.val % 4096, by omega⟩ ⟨d.val, h1⟩)
          - val_main_v43 (F := Ideal) x1 x2 (ix2 ⟨R.val / 4096 * 4096 + R.val % 4096, by omega⟩ ⟨32 + d.val, by omega⟩) * x8 (ix2 ⟨R.val % 4096, by omega⟩ ⟨d.val, h1⟩)
      else val_main_v43 (F := Ideal) x1 x2 (ix2 ⟨R.val / 4096 * 4096 + R.val % 4096, by omega⟩ ⟨32 + (d.val - 32), by omega⟩) * x7 (ix2 ⟨R.val % 4096, by omega⟩ ⟨d.val - 32, by omega⟩)
          + val_main_v43 (F := Ideal) x1 x2 (ix2 ⟨R.val / 4096 * 4096 + R.val % 4096, by omega⟩ ⟨d.val - 32, by omega⟩) * x8 (ix2 ⟨R.val % 4096, by omega⟩ ⟨d.val - 32, by omega⟩))
    else val_main_v43 (F := Ideal) x1 x2 (ix2 ⟨8192 + (R.val - 8192), by omega⟩ d) := by
    pointwise [val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v88, val_main_v89, val_main_v90]
  rw [e]
  clear e
  unfold rotated ang
  by_cases hl : R.val < 8192
  · have e0 : (⟨R.val / 4096 * 4096 + R.val % 4096, by omega⟩ : Fin 8704) = R := Fin.ext (by show R.val / 4096 * 4096 + R.val % 4096 = R.val; omega)
    have er : (⟨R.val % 4096, by omega⟩ : Fin 4096) = Fin.ofNat 4096 R.val := rfl
    rw [dif_pos hl, if_pos hl, e0, er]
    by_cases h1 : d.val < 32
    · have e1 : (⟨d.val, h1⟩ : Fin 32) = Fin.ofNat 32 d.val := Fin.ext (Nat.mod_eq_of_lt h1).symm
      rw [dif_pos h1, if_pos h1, e1, ref_k, ref_k, show d.val + 32 = 32 + d.val by omega]
    · have e1 : (⟨d.val - 32, by omega⟩ : Fin 32) = Fin.ofNat 32 (d.val - 32) := Fin.ext (Nat.mod_eq_of_lt (show d.val - 32 < 32 by omega)).symm
      rw [dif_neg h1, if_neg h1, e1, ref_k, ref_k]
      dsimp only
      rw [show 32 + (d.val - 32) = d.val by omega]
  · have e0 : (⟨8192 + (R.val - 8192), by omega⟩ : Fin 8704) = R := Fin.ext (by show 8192 + (R.val - 8192) = R.val; omega)
    rw [dif_neg hl, if_neg hl, e0, ref_k]

/-- The reference's packed queries. -/
theorem ref_eq_q : val_main_v106 (F := Ideal) x0 x3 x4 x7 x8 = qArr x0 x3 x4 x7 x8 := by
  funext j
  obtain ⟨R, n, rfl⟩ : ∃ (R : Fin 8704) (n : Fin 3072), j = ix2 R n := ⟨j 0, j 1, by funext a; fin_cases a <;> rfl⟩
  have hn := n.isLt
  pointwise [val_main_v91, val_main_v94, val_main_v95, val_main_v96, val_main_v97, val_main_v98, val_main_v105, val_main_v106, val_main_cst_5, val_main_cst_6]
  refine congrArg (fun z : EReal => z * scaleWord) ?_
  show _ = (if n.val % 256 < 128 then qd x0 x3 x4 R (n.val / 256 * 192 + n.val % 256)
    else if n.val % 256 < 192 then rotated (fun e => qd x0 x3 x4 R (n.val / 256 * 192 + 128 + e)) x7 x8 R (n.val % 256 - 128) else 0)
  simp only [ref_q3, ref_qp]
  split_ifs <;> first | rfl | omega

/-- The reference's packed keys. -/
theorem ref_eq_k : val_main_v108 (F := Ideal) x0 x1 x2 x5 x6 x7 x8 = kArr x0 x1 x2 x5 x6 x7 x8 := by
  funext j
  obtain ⟨R, n, rfl⟩ : ∃ (R : Fin 8704) (n : Fin 3072), j = ix2 R n := ⟨j 0, j 1, by funext a; fin_cases a <;> rfl⟩
  have hn := n.isLt
  pointwise [val_main_v91, val_main_v92, val_main_v93, val_main_v99, val_main_v100, val_main_v101, val_main_v107, val_main_v108, val_main_cst_5]
  show _ = (if n.val % 256 < 128 then vd x0 x5 x6 R n.val
    else if n.val % 256 < 192 then rotated (kd x1 x2 R) x7 x8 R (n.val % 256 - 128) else 0)
  simp only [ref_v3, ref_kp, show n.val / 256 * 256 + n.val % 256 = n.val by omega]
  split_ifs <;> first | rfl | omega

/-- The reference's packed values. -/
theorem ref_eq_v : val_main_v110 (F := Ideal) x0 x5 x6 = vArr x0 x5 x6 := by
  funext j
  obtain ⟨R, n, rfl⟩ : ∃ (R : Fin 8704) (n : Fin 3072), j = ix2 R n := ⟨j 0, j 1, by funext a; fin_cases a <;> rfl⟩
  have hn := n.isLt
  pointwise [val_main_v102, val_main_v103, val_main_v104, val_main_v109, val_main_v110, val_main_cst_7]
  show _ = (if n.val % 256 < 128 then vd x0 x5 x6 R (n.val + 128) else 1)
  simp only [ref_v3, show n.val / 256 * 256 + (128 + n.val % 256) = n.val + 128 by omega]
  split_ifs <;> rfl

end Cert.Kernel11Ideal.Prep
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_qk
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.AttnPre
public import proofs.«01_k».proof.Proof.UpValue
public import proofs.«01_k».proof.Proof.DownValue
public import proofs.«01_k».proof.Proof.NormValue
public import proofs.«01_k».proof.Proof.MixValue
public import proofs.«01_k».proof.Proof.ProjValue
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.ProjCValue
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.ModValue
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.ConvValue
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.AdaValue
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.PrepRef
public import Idealize.ShloMosaic.Adequacy
public import Idealize.ShloMosaic.Init

@[expose] public section

noncomputable section

namespace Cert.Proof

open Idealize.ShloMosaic Idealize.SL.Sem Cert.Kernel

/-- The reference runs, leaves its arguments unchanged and, declaring no semaphore, leaves none raised. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run m g)

/-- The reference's frame again, where the precondition holds. -/
theorem frame_reference_finite : Cert.quiescent_ReferenceIdeal_pre_finite_qk := fun m g _ => frame_reference m g trivial

/-- The attention call leaves the reference's attention of the same queries, keys and values, where the latent queries
    and all keys are finite. -/
theorem algebraic : Cert.algebraic_KernelIdeal_ReferenceIdeal_pre_finite_qk := by
  pair_intro
  · run_from Cert.KernelIdeal.Value.run_blocks m g
  · run_from Cert.ReferenceIdeal.Value.run m' g'
    rw [Cert.ReferenceIdeal.Read.val_main_v23_eq]
    obtain ⟨e0, e1, e2, e3, e4, e5, e6, e7, e8, e9⟩ := hagree c
    rw [e0, e1, e2, e3, e4, e7, e8, e9]
    obtain ⟨h0, h1, h2, h3, h7, h8⟩ := Cert.KernelIdeal.Attn.pre_real m hpre c
    refine Eq.trans ?_ (Cert.KernelIdeal.Attn.final m c).symm
    rw [Cert.KernelIdeal.Attn.qq_eq, Cert.KernelIdeal.Attn.kk_eq, Cert.KernelIdeal.Attn.vv_eq]
    exact (Cert.KernelIdeal.Attn.attn_eq _ _ _ _ _ _ _ _ _ _ h0 h1 h2 h3 h7 h8).symm

/-- The two printings of the up-projection have one body table. -/
theorem bodies_same : Cert.Kernel2.defs₀ (F := Bits) = Cert.Kernel2Ideal.defs₀ (F := Bits) := by
  refine congrArg Defs.onTc ?_
  funext l x
  match l, x with
  | 0, (t, s) => rfl

/-- And so the same definitions. -/
theorem defs_same : Cert.Kernel2.defs (F := Bits) = Cert.Kernel2Ideal.defs (F := Bits) :=
  congrArg (Pipeline.defs (Cert.Kernel2Ideal.pcfgs (F := Bits))) bodies_same

/-- The up-projection's call ends with its arguments unchanged and its counters at zero, over the machine's numbers. -/
theorem frame_kernel2 : Cert.quiescent_Kernel2 := fun m ρ _ => by
  rw [defs_same]
  exact (θ_run Cert.Kernel2Ideal.defs _ _).mono (fun _ h => h) (Cert.Kernel2Ideal.Up.frame_main (F := Bits) m ρ)

/-- The reference of the up-projection runs and leaves its arguments unchanged. -/
theorem frame_reference2 : Cert.quiescent_Reference2Ideal := fun m g _ =>
  (θ_run Cert.Reference2Ideal.defs _ _).mono
    (fun r h => ⟨fun c => (h c).2, sem_eq_zero_of_no_sems (by decide) r.2⟩)
    (Cert.Reference2Ideal.Value.run m g)

/-- The up-projection's call leaves the reference's gated product of the same rows and weights, whatever they are. -/
theorem algebraic2 : Cert.algebraic_Kernel2Ideal_Reference2Ideal := by
  pair_intro
  · run_from Cert.Kernel2Ideal.Up.run_value m g
  · run_from Cert.Reference2Ideal.Value.run m' g'
    rw [Cert.Reference2Ideal.Read.val_main_v7_eq]
    exact Cert.Kernel2Ideal.Up.ref_eq _ _

/-- The two printings of the down-projection have one body table. -/
theorem bodies_same3 : Cert.Kernel3.defs₀ (F := Bits) = Cert.Kernel3Ideal.defs₀ (F := Bits) := by
  refine congrArg Defs.onTc ?_
  funext l x
  match l, x with
  | 0, (t, s) => rfl

/-- And so the same definitions. -/
theorem defs_same3 : Cert.Kernel3.defs (F := Bits) = Cert.Kernel3Ideal.defs (F := Bits) :=
  congrArg (Pipeline.defs (Cert.Kernel3Ideal.pcfgs (F := Bits))) bodies_same3

/-- The down-projection's call ends with its arguments unchanged and its counters at zero, over the machine's numbers. -/
theorem frame_kernel3 : Cert.quiescent_Kernel3 := fun m ρ _ => by
  rw [defs_same3]
  exact (θ_run Cert.Kernel3Ideal.defs _ _).mono (fun _ h => h) (Cert.Kernel3Ideal.Down.frame_main (F := Bits) m ρ)

/-- The reference of the down-projection runs and leaves its arguments unchanged. -/
theorem frame_reference3 : Cert.quiescent_Reference3Ideal := fun m g _ =>
  (θ_run Cert.Reference3Ideal.defs _ _).mono
    (fun r h => ⟨fun c => (h c).2, sem_eq_zero_of_no_sems (by decide) r.2⟩)
    (Cert.Reference3Ideal.Value.run m g)

/-- The down-projection's call leaves the reference's rows: the residual plus half the gate times the product, whatever
    the rows, the residual, the table and the weights are. -/
theorem algebraic3 : Cert.algebraic_Kernel3Ideal_Reference3Ideal := by
  pair_intro
  · run_from Cert.Kernel3Ideal.Down.run_value m g
  · run_from Cert.Reference3Ideal.Value.run m' g'
    rw [Cert.Reference3Ideal.Read.val_main_v29_eq]
    rw [(hagree c).2.2.2]
    exact Cert.Kernel3Ideal.Down.ref_eq _ _ _ _

/-- The reference of the last normalisation runs and leaves its arguments unchanged. -/
theorem frame_reference4 : Cert.quiescent_Reference4Ideal := fun m g _ =>
  (θ_run Cert.Reference4Ideal.defs _ _).mono
    (fun r h => ⟨fun c => (h c).2, sem_eq_zero_of_no_sems (by decide) r.2⟩)
    (Cert.Reference4Ideal.Value.run m g)

/-- The last normalisation's call leaves the reference's rows of the same rows and weight, whatever they are. -/
theorem algebraic4 : Cert.algebraic_Kernel4Ideal_Reference4Ideal := by
  pair_intro
  · run_from Cert.Kernel4Ideal.Norm.run_value m g
  · run_from Cert.Reference4Ideal.Value.run m' g'
    rw [Cert.Reference4Ideal.Read.val_main_v12_eq]
    exact Cert.Kernel4Ideal.Norm.ref_eq _ _

/-- The two printings of the projection out of the mixing have one body table. -/
theorem bodies_same5 : Cert.Kernel5.defs₀ (F := Bits) = Cert.Kernel5Ideal.defs₀ (F := Bits) := by
  refine congrArg Defs.onTc ?_
  funext l x
  match l, x with
  | 0, (t, s) => rfl

/-- And so the same definitions. -/
theorem defs_same5 : Cert.Kernel5.defs (F := Bits) = Cert.Kernel5Ideal.defs (F := Bits) :=
  congrArg (Pipeline.defs (Cert.Kernel5Ideal.pcfgs (F := Bits))) bodies_same5

/-- The call of the projection out of the mixing ends with its arguments unchanged and its counters at zero, over the machine's numbers. -/
theorem frame_kernel5 : Cert.quiescent_Kernel5 := fun m ρ _ => by
  rw [defs_same5]
  exact (θ_run Cert.Kernel5Ideal.defs _ _).mono (fun _ h => h) (Cert.Kernel5Ideal.Mix.frame_main (F := Bits) m ρ)

/-- The reference of the projection out of the mixing runs and leaves its arguments unchanged. -/
theorem frame_reference5 : Cert.quiescent_Reference5Ideal := fun m g _ =>
  (θ_run Cert.Reference5Ideal.defs _ _).mono
    (fun r h => ⟨fun c => (h c).2, sem_eq_zero_of_no_sems (by decide) r.2⟩)
    (Cert.Reference5Ideal.Value.run m g)

/-- The projection out of the mixing leaves the reference's rows: the residual plus the gate times the product, whatever the
    heads' outputs, the residual, the table and the weights are. -/
theorem algebraic5 : Cert.algebraic_Kernel5Ideal_Reference5Ideal := by
  pair_intro
  · run_from Cert.Kernel5Ideal.Mix.run_value m g
  · run_from Cert.Reference5Ideal.Value.run m' g'
    rw [Cert.Reference5Ideal.Read.val_main_v13_eq]
    exact Cert.Kernel5Ideal.Mix.ref_eq _ _ _ _ _ _

/-- The two printings of the projection into the attention heads have one body table. -/
theorem bodies_same6 : Cert.Kernel6.defs₀ (F := Bits) = Cert.Kernel6Ideal.defs₀ (F := Bits) := by
  refine congrArg Defs.onTc ?_
  funext l x
  match l, x with
  | 0, (t, s) => rfl

/-- And so the same definitions. -/
theorem defs_same6 : Cert.Kernel6.defs (F := Bits) = Cert.Kernel6Ideal.defs (F := Bits) :=
  congrArg (Pipeline.defs (Cert.Kernel6Ideal.pcfgs (F := Bits))) bodies_same6

/-- The call of the projection into the attention heads ends with its arguments unchanged and its counters at zero, over the machine's numbers. -/
theorem frame_kernel6 : Cert.quiescent_Kernel6 := fun m ρ _ => by
  rw [defs_same6]
  exact (θ_run Cert.Kernel6Ideal.defs _ _).mono (fun _ h => h) (Cert.Kernel6Ideal.Proj.frame_main (F := Bits) m ρ)

/-- The reference of the projection into the attention heads runs and leaves its arguments unchanged. -/
theorem frame_reference6 : Cert.quiescent_Reference6Ideal := fun m g _ =>
  (θ_run Cert.Reference6Ideal.defs _ _).mono
    (fun r h => ⟨fun c => (h c).2, sem_eq_zero_of_no_sems (by decide) r.2⟩)
    (Cert.Reference6Ideal.Value.run m g)

/-- The projection into the attention heads leaves the reference's product of the same rows and weights, whatever they are. -/
theorem algebraic6 : Cert.algebraic_Kernel6Ideal_Reference6Ideal := by
  pair_intro
  · run_from Cert.Kernel6Ideal.Proj.run_value m g
  · run_from Cert.Reference6Ideal.Value.run m' g'
    exact Cert.Kernel6Ideal.Proj.ref_eq _ _

/-- The two printings of the projection into the short convolution have one body table. -/
theorem bodies_same7 : Cert.Kernel7.defs₀ (F := Bits) = Cert.Kernel7Ideal.defs₀ (F := Bits) := by
  refine congrArg Defs.onTc ?_
  funext l x
  match l, x with
  | 0, (t, s) => rfl

/-- And so the same definitions. -/
theorem defs_same7 : Cert.Kernel7.defs (F := Bits) = Cert.Kernel7Ideal.defs (F := Bits) :=
  congrArg (Pipeline.defs (Cert.Kernel7Ideal.pcfgs (F := Bits))) bodies_same7

/-- The call of the projection into the short convolution ends with its arguments unchanged and its counters at zero, over the machine's numbers. -/
theorem frame_kernel7 : Cert.quiescent_Kernel7 := fun m ρ _ => by
  rw [defs_same7]
  exact (θ_run Cert.Kernel7Ideal.defs _ _).mono (fun _ h => h) (Cert.Kernel7Ideal.ProjC.frame_main (F := Bits) m ρ)

/-- The reference of the projection into the short convolution runs and leaves its arguments unchanged. -/
theorem frame_reference7 : Cert.quiescent_Reference7Ideal := fun m g _ =>
  (θ_run Cert.Reference7Ideal.defs _ _).mono
    (fun r h => ⟨fun c => (h c).2, sem_eq_zero_of_no_sems (by decide) r.2⟩)
    (Cert.Reference7Ideal.Value.run m g)

/-- The projection into the short convolution leaves the reference's product of the same rows and weights, whatever they are. -/
theorem algebraic7 : Cert.algebraic_Kernel7Ideal_Reference7Ideal := by
  pair_intro
  · run_from Cert.Kernel7Ideal.ProjC.run_value m g
  · run_from Cert.Reference7Ideal.Value.run m' g'
    exact Cert.Kernel7Ideal.ProjC.ref_eq _ _

/-- The reference of the modulation runs and leaves its arguments unchanged. -/
theorem frame_reference8 : Cert.quiescent_Reference8Ideal := fun m g _ =>
  (θ_run Cert.Reference8Ideal.defs _ _).mono
    (fun r h => ⟨fun c => (h c).2, sem_eq_zero_of_no_sems (by decide) r.2⟩)
    (Cert.Reference8Ideal.Value.run m g)

/-- The modulation leaves the reference's rows of the same rows and table, whatever they are. -/
theorem algebraic8 : Cert.algebraic_Kernel8Ideal_Reference8Ideal := by
  pair_intro
  · run_from Cert.Kernel8Ideal.Modulate.run_value m g
  · run_from Cert.Reference8Ideal.Value.run m' g'
    rw [Cert.Reference8Ideal.Read.val_main_v49_eq]
    exact Cert.Kernel8Ideal.Modulate.ref_eq _ _

/-- The reference of the gated short convolution runs and leaves its arguments unchanged. -/
theorem frame_reference9 : Cert.quiescent_Reference9Ideal := fun m g _ =>
  (θ_run Cert.Reference9Ideal.defs _ _).mono
    (fun r h => ⟨fun c => (h c).2, sem_eq_zero_of_no_sems (by decide) r.2⟩)
    (Cert.Reference9Ideal.Value.run m g)

/-- The gated short convolution leaves the reference's rows of the same projections, taps and bias, whatever they are. -/
theorem algebraic9 : Cert.algebraic_Kernel9Ideal_Reference9Ideal := by
  pair_intro
  · run_from Cert.Kernel9Ideal.Conv.run_value m g
  · run_from Cert.Reference9Ideal.Value.run m' g'
    rw [Cert.Reference9Ideal.Read.val_main_v36_eq]
    rw [(hagree c).1, (hagree c).2.1, (hagree c).2.2]
    exact Cert.Kernel9Ideal.Conv.ref_eq _ _ _

/-- The reference of the product that makes the modulation vectors runs and leaves its arguments unchanged. -/
theorem frame_reference10 : Cert.quiescent_Reference10Ideal := fun m g _ =>
  (θ_run Cert.Reference10Ideal.defs _ _).mono
    (fun r h => ⟨fun c => (h c).2, sem_eq_zero_of_no_sems (by decide) r.2⟩)
    (Cert.Reference10Ideal.Value.run m g)

/-- The product that makes the modulation vectors leaves the reference's table of the same conditions, weights and bias, whatever they are. -/
theorem algebraic10 : Cert.algebraic_Kernel10Ideal_Reference10Ideal := by
  pair_intro
  · run_from Cert.Kernel10Ideal.Ada.run_value m g
  · run_from Cert.Reference10Ideal.Value.run m' g'
    rw [Cert.Reference10Ideal.Read.val_main_v9_eq]
    exact Cert.Kernel10Ideal.Ada.ref_eq _ _ _ _

/-- The reference of the packing of queries, keys and values runs and leaves its arguments unchanged. -/
theorem frame_reference11 : Cert.quiescent_Reference11Ideal := fun m g _ =>
  (θ_run Cert.Reference11Ideal.defs _ _).mono
    (fun r h => ⟨fun c => (h c).2.2.2, sem_eq_zero_of_no_sems (by decide) r.2⟩)
    (Cert.Reference11Ideal.Value.run m g)

/-- The packing leaves the reference's queries, keys and values of the same rows, weights and tables, whatever they are. -/
theorem algebraic11 : Cert.algebraic_Kernel11Ideal_Reference11Ideal := by
  pair_intro
  · run_from Cert.Kernel11Ideal.Prep.run_value m g
  · run_from Cert.Reference11Ideal.Value.run m' g'
    · rw [Cert.Reference11Ideal.Read.val_main_v106_eq]
      obtain ⟨e0, e1, e2, e3, e4, e5, e6, e7, e8⟩ := hagree c
      rw [e0, e3, e4, e7, e8]
      exact Cert.Kernel11Ideal.Prep.ref_eq_q _ _ _ _ _
    · rw [Cert.Reference11Ideal.Read.val_main_v108_eq]
      obtain ⟨e0, e1, e2, e3, e4, e5, e6, e7, e8⟩ := hagree c
      rw [e0, e1, e2, e5, e6, e7, e8]
      exact Cert.Kernel11Ideal.Prep.ref_eq_k _ _ _ _ _ _ _
    · refine (Cert.Reference11Ideal.Read.val_main_v110_eq (F := Ideal) _ _ _).trans ?_
      obtain ⟨e0, e1, e2, e3, e4, e5, e6, e7, e8⟩ := hagree c
      rw [e5, e6]
      exact Cert.Kernel11Ideal.Prep.ref_eq_v _ _ _

/-- The claims, one by one. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Pre_finite_qk.Gen.facts,
  fun m ρ _ => Cert.Kernel.Gen.frame m ρ,
  fun m ρ _ => Cert.KernelIdeal.Gen.frame m ρ,
  fun m ρ _ => Cert.KernelIdeal.Gen.frame m ρ,
  frame_reference, frame_reference_finite,
  frame_kernel2, fun m ρ _ => Cert.Kernel2Ideal.Up.frame_main m ρ, frame_reference2,
  frame_kernel3, fun m ρ _ => Cert.Kernel3Ideal.Down.frame_main m ρ, frame_reference3,
  fun m ρ _ => Cert.Kernel4.Gen.frame m ρ, fun m ρ _ => Cert.Kernel4Ideal.Gen.frame m ρ, frame_reference4,
  frame_kernel5, fun m ρ _ => Cert.Kernel5Ideal.Mix.frame_main m ρ, frame_reference5,
  frame_kernel6, fun m ρ _ => Cert.Kernel6Ideal.Proj.frame_main m ρ, frame_reference6,
  frame_kernel7, fun m ρ _ => Cert.Kernel7Ideal.ProjC.frame_main m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  trivial, algebraic, trivial, algebraic2, trivial, algebraic3, trivial, algebraic4, trivial, algebraic5, trivial, algebraic6, trivial, algebraic7, trivial, algebraic8, trivial, algebraic9, trivial, algebraic10, trivial, algebraic11⟩

end Cert.Proof

end
